-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def preserves_Kernel_KernelIdeal : Prop :=
  IdealRules.named_const.Statement Cert.KernelIdeal.κ "c2" .f32 0x3E16C740#32 (((3424635 / 33554432) * (Real.log 2)⁻¹ : ℝ) : EReal)
  ∧ IdealRules.named_const.Statement Cert.KernelIdeal.κ "mask" .f32 0xFF7FFFFF#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v0) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v35) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)) (v2 : (c : Dev Cert.Kernel7Ideal.nD) → Buf (Elt Ideal) ((c.tc : Thread Cert.Kernel7Ideal.nD Cert.Kernel7Ideal.τ).loc Cert.Kernel7Ideal.main_v15_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_v15_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v27) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v8)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v8) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v7) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v5)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v5) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v14)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v14) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v10) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v26)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v26) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v14)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v14) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v9) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v7)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v7) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v12)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v12) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v7)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v7) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S8192x16x64 : Shape := ⟨3, ![8192, 16, 64]⟩
abbrev S8192x16x32 : Shape := ⟨3, ![8192, 16, 32]⟩
abbrev S8192x32 : Shape := ⟨2, ![8192, 32]⟩
abbrev S_ : Shape := ⟨0, ![]⟩

class Facts : Prop where
  bcast_S_S8192x16x64 : S_.BroadcastsInDim S8192x16x64 (![] : Fin 0 → Fin S8192x16x64.rank)
  bcast_S_S8192x16x32 : S_.BroadcastsInDim S8192x16x32 (![] : Fin 0 → Fin S8192x16x32.rank)
  bcast_S_S8192x32 : S_.BroadcastsInDim S8192x32 (![] : Fin 0 → Fin S8192x32.rank)

variable [Facts]

def fn {F : FTy → Type} [FloatOps F] (main_arg0 : FVec F S8192x16x64 .f32) (main_arg1 : FVec F S8192x16x32 .f32) (main_arg2 : FVec F S8192x16x64 .f32) (main_arg3 : FVec F S8192x32 .f32) (main_arg4 : FVec F S8192x16x64 .f32) (main_arg5 : FVec F S8192x16x64 .f32) : IVec S8192x16x64 1 × IVec S8192x16x32 1 × IVec S8192x16x64 1 × IVec S8192x32 1 × IVec S8192x16x64 1 × IVec S8192x16x64 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_v3 : FVec F S8192x16x32 .f32 := Host.absf main_arg1
  let main_cst_0 : FVec F S_ .f32 := constant S_ .f32 0x7F800000#32
  let main_v4 : FVec F S8192x16x32 .f32 := broadcastInDim S8192x16x32 ![] bcast_S_S8192x16x32 main_cst_0
  let main_v5 : IVec S8192x16x32 1 := cmpf .olt main_v3 main_v4
  let main_v6 : FVec F S8192x16x64 .f32 := Host.absf main_arg2
  let main_cst_1 : FVec F S_ .f32 := constant S_ .f32 0x7F800000#32
  let main_v7 : FVec F S8192x16x64 .f32 := broadcastInDim S8192x16x64 ![] bcast_S_S8192x16x64 main_cst_1
  let main_v8 : IVec S8192x16x64 1 := cmpf .olt main_v6 main_v7
  let main_v9 : FVec F S8192x32 .f32 := Host.absf main_arg3
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_v12 : FVec F S8192x16x64 .f32 := Host.absf main_arg4
  let main_cst_3 : FVec F S_ .f32 := constant S_ .f32 0x7F800000#32
  let main_v13 : FVec F S8192x16x64 .f32 := broadcastInDim S8192x16x64 ![] bcast_S_S8192x16x64 main_cst_3
  let main_v14 : IVec S8192x16x64 1 := cmpf .olt main_v12 main_v13
  let main_v15 : FVec F S8192x16x64 .f32 := Host.absf main_arg5
  let main_cst_4 : FVec F S_ .f32 := constant S_ .f32 0x7F800000#32
  let main_v16 : FVec F S8192x16x64 .f32 := broadcastInDim S8192x16x64 ![] bcast_S_S8192x16x64 main_cst_4
  let main_v17 : IVec S8192x16x64 1 := cmpf .olt main_v15 main_v16
  (main_v2, main_v5, main_v8, main_v11, main_v14, main_v17)
-- ==== Pre_finite6.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩

class Facts : Prop where
  bcast_S_S1024 : S_.BroadcastsInDim S1024 (![] : Fin 0 → Fin S1024.rank)
  bcast_S_S1024x5632 : S_.BroadcastsInDim S1024x5632 (![] : Fin 0 → Fin S1024x5632.rank)

variable [Facts]

def fn {F : FTy → Type} [FloatOps F] (main_arg0 : FVec F S8192x1024 .f32) (main_arg1 : FVec F S1024 .f32) (main_arg2 : FVec F S1024 .f32) (main_arg3 : FVec F S1024 .f32) (main_arg4 : FVec F S1024x5632 .f32) : IVec S1024 1 × IVec S1024 1 × IVec S1024 1 × IVec S1024x5632 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg4
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  (main_v2, main_v5, main_v8, main_v11)
-- ==== Pre_finite7.lean ====
abbrev S8192x1024 : Shape := ⟨2, ![8192, 1024]⟩
abbrev S8192x5632 : Shape := ⟨2, ![8192, 5632]⟩
abbrev S1024 : Shape := ⟨1, ![1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S8192x5632 : S_.BroadcastsInDim S8192x5632 (![] : Fin 0 → Fin S8192x5632.rank)
  bcast_S_S1024 : S_.BroadcastsInDim S1024 (![] : Fin 0 → Fin S1024.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x5632 .f32) (main_arg2 : FVec F S1024 .f32) (main_arg3 : FVec F S2816x1024 .f32) : IVec S8192x1024 1 × IVec S8192x5632 1 × IVec S1024 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x5632 .f32 := Host.absf main_arg1
  let main_cst_0 : FVec F S_ .f32 := constant S_ .f32 0x7F800000#32
  let main_v4 : FVec F S8192x5632 .f32 := broadcastInDim S8192x5632 ![] bcast_S_S8192x5632 main_cst_0
  let main_v5 : IVec S8192x5632 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Kernel.lean ====
abbrev S8192x16x64 : Shape := ⟨3, ![8192, 16, 64]⟩
abbrev S8192x16x32 : Shape := ⟨3, ![8192, 16, 32]⟩
abbrev S8192x32 : Shape := ⟨2, ![8192, 32]⟩
abbrev S16x8192x8192 : Shape := ⟨3, ![16, 8192, 8192]⟩
abbrev S8192x8192x16 : Shape := ⟨3, ![8192, 8192, 16]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x8192x64 : Shape := ⟨3, ![16, 8192, 64]⟩
abbrev S8192x16x96 : Shape := ⟨3, ![8192, 16, 96]⟩
abbrev S8192x16x128 : Shape := ⟨3, ![8192, 16, 128]⟩
abbrev S8192x32x128 : Shape := ⟨3, ![8192, 32, 128]⟩
abbrev S8192x128 : Shape := ⟨2, ![8192, 128]⟩
abbrev S8192x2048 : Shape := ⟨2, ![8192, 2048]⟩
abbrev S8192x4096 : Shape := ⟨2, ![8192, 4096]⟩
abbrev S16x16x1x512 : Shape := ⟨4, ![16, 16, 1, 512]⟩
abbrev S16x8x1x1024 : Shape := ⟨4, ![16, 8, 1, 1024]⟩
abbrev S512x128 : Shape := ⟨2, ![512, 128]⟩
abbrev S1x8x1x1024 : Shape := ⟨4, ![1, 8, 1, 1024]⟩
abbrev S8x128x1024 : Shape := ⟨3, ![8, 128, 1024]⟩
abbrev S128x512 : Shape := ⟨2, ![128, 512]⟩
abbrev S1024x128 : Shape := ⟨2, ![1024, 128]⟩
abbrev S512x1024 : Shape := ⟨2, ![512, 1024]⟩
abbrev S1x1x1x1024 : Shape := ⟨4, ![1, 1, 1, 1024]⟩
abbrev S1x1024 : Shape := ⟨2, ![1, 1024]⟩
abbrev S1x128x1024 : Shape := ⟨3, ![1, 128, 1024]⟩
abbrev S128x1024 : Shape := ⟨2, ![128, 1024]⟩

abbrev nBuf : Space → Nat
  | .hbm => 78
  | .vmem => 23
  | .smem => 0
  | _ => 0

abbrev bufTy : (tb : Table) → Fin (tcTables nBuf tb) → BufTy
  | .hbm, ⟨0, _⟩ => ⟨S8192x16x64, .f32⟩
  | .hbm, ⟨1, _⟩ => ⟨S8192x16x32, .f32⟩
  | .hbm, ⟨2, _⟩ => ⟨S8192x16x64, .f32⟩
  | .hbm, ⟨3, _⟩ => ⟨S8192x32, .f32⟩
  | .hbm, ⟨4, _⟩ => ⟨S8192x16x64, .f32⟩
  | .hbm, ⟨5, _⟩ => ⟨S8192x16x64, .f32⟩
  | .hbm, ⟨6, _⟩ => ⟨S16x8192x8192, .f32⟩
  | .hbm, ⟨7, _⟩ => ⟨S8192x8192x16, .f32⟩
  | .hbm, ⟨8, _⟩ => ⟨S16x8192x8192, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S16x8192x8192, .i1⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x1, .f32⟩
  | .hbm, ⟨35, _⟩ => ⟨S16x8192x1, .f32⟩
  | .hbm, ⟨36, _⟩ => ⟨S_, .f32⟩
  | .hbm, ⟨37, _⟩ => ⟨S_, .f32⟩
  | .hbm, ⟨38, _⟩ => ⟨S16x8192x1, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S16x8192x64, .f32⟩
  | .hbm, ⟨43, _⟩ => ⟨S16x8192x64, .f32⟩
  | .hbm, ⟨44, _⟩ => ⟨S16x8192x64, .f32⟩
  | .hbm, ⟨45, _⟩ => ⟨S_, .f32⟩
  | .hbm, ⟨46, _⟩ => ⟨S16x8192, .f32⟩
  | .hbm, ⟨47, _⟩ => ⟨S8192x16x96, .f32⟩
  | .hbm, ⟨48, _⟩ => ⟨S_, .i32⟩
  | .hbm, ⟨49, _⟩ => ⟨S_, .f32⟩
  | .hbm, ⟨50, _⟩ => ⟨S8192x16x128, .f32⟩
  | .hbm, ⟨51, _⟩ => ⟨S_, .i32⟩
  | .hbm, ⟨52, _⟩ => ⟨S_, .f32⟩
  | .hbm, ⟨53, _⟩ => ⟨S8192x16x128, .f32⟩
  | .hbm, ⟨54, _⟩ => ⟨S_, .i32⟩
  | .hbm, ⟨55, _⟩ => ⟨S_, .f32⟩
  | .hbm, ⟨56, _⟩ => ⟨S8192x16x128, .f32⟩
  | .hbm, ⟨57, _⟩ => ⟨S8192x32x128, .f32⟩
  | .hbm, ⟨58, _⟩ => ⟨S_, .i32⟩
  | .hbm, ⟨59, _⟩ => ⟨S_, .f32⟩
  | .hbm, ⟨60, _⟩ => ⟨S8192x128, .f32⟩
  | .hbm, ⟨61, _⟩ => ⟨S_, .i32⟩
  | .hbm, ⟨62, _⟩ => ⟨S_, .f32⟩
  | .hbm, ⟨63, _⟩ => ⟨S8192x16x128, .f32⟩
  | .hbm, ⟨64, _⟩ => ⟨S8192x2048, .f32⟩
  | .hbm, ⟨65, _⟩ => ⟨S8192x2048, .bf16⟩
  | .hbm, ⟨66, _⟩ => ⟨S8192x4096, .f32⟩
  | .hbm, ⟨67, _⟩ => ⟨S8192x4096, .bf16⟩
  | .hbm, ⟨68, _⟩ => ⟨S8192x128, .bf16⟩
  | .hbm, ⟨69, _⟩ => ⟨S8192x2048, .f32⟩
  | .hbm, ⟨70, _⟩ => ⟨S8192x2048, .bf16⟩
  | .hbm, ⟨71, _⟩ => ⟨S16x16x1x512, .f32⟩
  | .hbm, ⟨72, _⟩ => ⟨S16x16x1x512, .f32⟩
  | .hbm, ⟨73, _⟩ => ⟨S16x8x1x1024, .f32⟩
  | .hbm, ⟨74, _⟩ => ⟨S16x8x1x1024, .f32⟩
  | .hbm, ⟨75, _⟩ => ⟨S8192x2048, .f32⟩
  | .hbm, ⟨76, _⟩ => ⟨S8192x2048, .f32⟩
  | .hbm, ⟨77, _⟩ => ⟨S8192x2048, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S1x8x1x1024, .f32⟩
  | .local _ .vmem, ⟨11, _⟩ => ⟨S1x8x1x1024, .f32⟩
  | .local _ .vmem, ⟨12, _⟩ => ⟨S1x8x1x1024, .f32⟩
  | .local _ .vmem, ⟨13, _⟩ => ⟨S1x8x1x1024, .f32⟩
  | .local _ .vmem, ⟨14, _⟩ => ⟨S8192x128, .f32⟩
  | .local _ .vmem, ⟨15, _⟩ => ⟨S8192x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S8x128x1024, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_c : Ref sig .tc := ⟨.hbm, 48, rfl⟩
abbrev main_call1_v0 : Ref sig .tc := ⟨.hbm, 49, rfl⟩
abbrev main_v33 : Ref sig .tc := ⟨.hbm, 50, rfl⟩
abbrev main_c_5 : Ref sig .tc := ⟨.hbm, 51, rfl⟩
abbrev main_call2_v0 : Ref sig .tc := ⟨.hbm, 52, rfl⟩
abbrev main_v34 : Ref sig .tc := ⟨.hbm, 53, rfl⟩
abbrev main_c_6 : Ref sig .tc := ⟨.hbm, 54, rfl⟩
abbrev main_call3_v0 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_call4_v0 : Ref sig .tc := ⟨.hbm, 59, rfl⟩
abbrev main_v37 : Ref sig .tc := ⟨.hbm, 60, rfl⟩
abbrev main_c_8 : Ref sig .tc := ⟨.hbm, 61, rfl⟩
abbrev main_call5_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v50_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c0_i32_11 : BitVec 32 := 0#32
  let v22 : BitVec 1 := Scalar.cmpi .sgt arg1 c0_i32_11
  let v23 : BitVec 32 := Scalar.extui v22
  let c0_i32_12 : BitVec 32 := 0#32
  let v24 : BitVec 1 := Scalar.cmpi .slt arg1 c0_i32_12
  let v25 : BitVec 32 := Scalar.extui v24
  let v26 : BitVec 32 := Scalar.subi v23 v25
  let c2_i32 : BitVec 32 := 2#32
  let c0_i32_13 : BitVec 32 := 0#32
  let v27 : BitVec 1 := Scalar.cmpi .sgt c2_i32 c0_i32_13
  let v28 : BitVec 32 := Scalar.extui v27
  let c0_i32_14 : BitVec 32 := 0#32
  let v29 : BitVec 1 := Scalar.cmpi .slt c2_i32 c0_i32_14
  let v30 : BitVec 32 := Scalar.extui v29
  let v31 : BitVec 32 := Scalar.subi v28 v30
  let v32 : BitVec 1 := Scalar.cmpi .ne v26 v31
  let v33 : BitVec 32 := Scalar.remsi arg1 c2_i32
  let c0_i32_15 : BitVec 32 := 0#32
  let v34 : BitVec 1 := Scalar.cmpi .ne v33 c0_i32_15
  let v35 : BitVec 1 := Scalar.andi v32 v34
  let v21 : BitVec 32 := Scalar.divsi arg1 c2_i32
  let c1_i32 : BitVec 32 := 1#32
  let v36 : BitVec 32 := Scalar.subi v21 c1_i32
  let v37 : BitVec 32 := Scalar.select v35 v36 v21
  let c1024_i32 : BitVec 32 := 1024#32
  let v38 : BitVec 32 := Scalar.muli v37 c1024_i32
  v38
def k0_off1 (i : grid0.Coords) : Fin 2 → Nat :=
  let arg1 : BitVec 32 := BitVec.ofNat 32 (i 1).val
  let c0_i32_11 : BitVec 32 := 0#32
  let v22 : BitVec 1 := Scalar.cmpi .sgt arg1 c0_i32_11
  let v23 : BitVec 32 := Scalar.extui v22
  let c0_i32_12 : BitVec 32 := 0#32
  let v24 : BitVec 1 := Scalar.cmpi .slt arg1 c0_i32_12
  let v25 : BitVec 32 := Scalar.extui v24
  let v26 : BitVec 32 := Scalar.subi v23 v25
  let c2_i32 : BitVec 32 := 2#32
  let c0_i32_13 : BitVec 32 := 0#32
  let v27 : BitVec 1 := Scalar.cmpi .sgt c2_i32 c0_i32_13
  let v28 : BitVec 32 := Scalar.extui v27
  let c0_i32_14 : BitVec 32 := 0#32
  let v29 : BitVec 1 := Scalar.cmpi .slt c2_i32 c0_i32_14
  let v30 : BitVec 32 := Scalar.extui v29
  let v31 : BitVec 32 := Scalar.subi v28 v30
  let v32 : BitVec 1 := Scalar.cmpi .ne v26 v31
  let v33 : BitVec 32 := Scalar.remsi arg1 c2_i32
  let c0_i32_15 : BitVec 32 := 0#32
  let v34 : BitVec 1 := Scalar.cmpi .ne v33 c0_i32_15
  let v35 : BitVec 1 := Scalar.andi v32 v34
  let v21 : BitVec 32 := Scalar.divsi arg1 c2_i32
  let c1_i32 : BitVec 32 := 1#32
  let v36 : BitVec 32 := Scalar.subi v21 c1_i32
  let v37 : BitVec 32 := Scalar.select v35 v36 v21
  let c1024_i32 : BitVec 32 := 1024#32
  let v38 : BitVec 32 := Scalar.muli v37 c1024_i32
  let v39 : BitVec 32 := v38
  let v40 : Index := Scalar.indexCast v39
  let c0_16 : Index := 0#32
  ![v40.toNat, 0]
def k0_off2 (i : grid0.Coords) : Fin 4 → Nat :=
  let c0_27 : Index := 0#32
  let arg1 : BitVec 32 := BitVec.ofNat 32 (i 1).val
  let c0_i32_11 : BitVec 32 := 0#32
  let v22 : BitVec 1 := Scalar.cmpi .sgt arg1 c0_i32_11
  let v23 : BitVec 32 := Scalar.extui v22
  let c0_i32_12 : BitVec 32 := 0#32
  let v24 : BitVec 1 := Scalar.cmpi .slt arg1 c0_i32_12
  let v25 : BitVec 32 := Scalar.extui v24
  let v26 : BitVec 32 := Scalar.subi v23 v25
  let c2_i32 : BitVec 32 := 2#32
  let c0_i32_13 : BitVec 32 := 0#32
  let v27 : BitVec 1 := Scalar.cmpi .sgt c2_i32 c0_i32_13
  let v28 : BitVec 32 := Scalar.extui v27
  let c0_i32_14 : BitVec 32 := 0#32
  let v29 : BitVec 1 := Scalar.cmpi .slt c2_i32 c0_i32_14
  let v30 : BitVec 32 := Scalar.extui v29
  let v31 : BitVec 32 := Scalar.subi v28 v30
  let v32 : BitVec 1 := Scalar.cmpi .ne v26 v31
  let v33 : BitVec 32 := Scalar.remsi arg1 c2_i32
  let c0_i32_15 : BitVec 32 := 0#32
  let v34 : BitVec 1 := Scalar.cmpi .ne v33 c0_i32_15
  let v35 : BitVec 1 := Scalar.andi v32 v34
  let v21 : BitVec 32 := Scalar.divsi arg1 c2_i32
  let c1_i32 : BitVec 32 := 1#32
  let v36 : BitVec 32 := Scalar.subi v21 c1_i32
  let v37 : BitVec 32 := Scalar.select v35 v36 v21
  let v67 : Index := Scalar.indexCast v37
  let c0_28 : Index := 0#32
  let c0_29 : Index := 0#32
  ![0, v67.toNat, 0, 0]
def k0_off3 (i : grid0.Coords) : Fin 3 → Nat :=
  let arg1 : BitVec 32 := BitVec.ofNat 32 (i 1).val
  let c0_i32_11 : BitVec 32 := 0#32
  let v22 : BitVec 1 := Scalar.cmpi .sgt arg1 c0_i32_11
  let v23 : BitVec 32 := Scalar.extui v22
  let c0_i32_12 : BitVec 32 := 0#32
  let v24 : BitVec 1 := Scalar.cmpi .slt arg1 c0_i32_12
  let v25 : BitVec 32 := Scalar.extui v24
  let v26 : BitVec 32 := Scalar.subi v23 v25
  let c2_i32 : BitVec 32 := 2#32
  let c0_i32_13 : BitVec 32 := 0#32
  let v27 : BitVec 1 := Scalar.cmpi .sgt c2_i32 c0_i32_13
  let v28 : BitVec 32 := Scalar.extui v27
  let c0_i32_14 : BitVec 32 := 0#32
  let v29 : BitVec 1 := Scalar.cmpi .slt c2_i32 c0_i32_14
  let v30 : BitVec 32 := Scalar.extui v29
  let v31 : BitVec 32 := Scalar.subi v28 v30
  let v32 : BitVec 1 := Scalar.cmpi .ne v26 v31
  let v33 : BitVec 32 := Scalar.remsi arg1 c2_i32
  let c0_i32_15 : BitVec 32 := 0#32
  let v34 : BitVec 1 := Scalar.cmpi .ne v33 c0_i32_15
  let v35 : BitVec 1 := Scalar.andi v32 v34
  let v21 : BitVec 32 := Scalar.divsi arg1 c2_i32
  let c1_i32 : BitVec 32 := 1#32
  let v36 : BitVec 32 := Scalar.subi v21 c1_i32
  let v37 : BitVec 32 := Scalar.select v35 v36 v21
  let v96 : Index := Scalar.indexCast v37
  let c0_45 : Index := 0#32
  let c0_46 : Index := 0#32
  ![v96.toNat, 0, 0]
@[reducible] def k0_t1_loop (i : grid0.Coords) : Scf.Loop 32 :=
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c8_i32 : BitVec 32 := 8#32
  let v123 : BitVec 32 := Scalar.subi c8_i32 v122
  let c1_i32_59 : BitVec 32 := 1#32
  let v125 : BitVec 32 := Scalar.divsi v123 c1_i32_59
  let v126 : BitVec 32 := Scalar.muli v125 c1_i32_59
  let v127 : BitVec 32 := Scalar.addi v122 v126
  let c1_i32_60 : BitVec 32 := 1#32
  ⟨v122, v127, c1_i32_60⟩
def k0_mult2 (i : grid0.Coords) (k0_t1 : Fin (k0_t1_loop i).trips) : BitVec 32 :=
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c1_i32_60 : BitVec 32 := 1#32
  let arg15 : BitVec 32 := Scf.iv v122 c1_i32_60 k0_t1
  let c1024_i32_71 : BitVec 32 := 1024#32
  let v135 : BitVec 32 := Scalar.muli arg15 c1024_i32_71
  v135
def k0_off4 (i : grid0.Coords) (k0_t1 : Fin (k0_t1_loop i).trips) : Fin 2 → Nat :=
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c1_i32_60 : BitVec 32 := 1#32
  let arg15 : BitVec 32 := Scf.iv v122 c1_i32_60 k0_t1
  let c1024_i32_71 : BitVec 32 := 1024#32
  let v135 : BitVec 32 := Scalar.muli arg15 c1024_i32_71
  let v136 : BitVec 32 := v135
  let v137 : Index := Scalar.indexCast v136
  let c0_72 : Index := 0#32
  ![v137.toNat, 0]
def k0_off5 (i : grid0.Coords) (k0_t1 : Fin (k0_t1_loop i).trips) : Fin 4 → Nat :=
  let c0_76 : Index := 0#32
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c1_i32_60 : BitVec 32 := 1#32
  let arg15 : BitVec 32 := Scf.iv v122 c1_i32_60 k0_t1
  let v146 : Index := Scalar.indexCast arg15
  let c0_77 : Index := 0#32
  let c0_78 : Index := 0#32
  ![0, v146.toNat, 0, 0]
def k0_off6 (i : grid0.Coords) (k0_t1 : Fin (k0_t1_loop i).trips) : Fin 3 → Nat :=
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c1_i32_60 : BitVec 32 := 1#32
  let arg15 : BitVec 32 := Scf.iv v122 c1_i32_60 k0_t1
  let v175 : Index := Scalar.indexCast arg15
  let c0_94 : Index := 0#32
  let c0_95 : Index := 0#32
  ![v175.toNat, 0, 0]
@[reducible] def k0_t2_loop (i : grid0.Coords) : Scf.Loop 32 :=
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c8_i32 : BitVec 32 := 8#32
  let v123 : BitVec 32 := Scalar.subi c8_i32 v122
  let c1_i32_59 : BitVec 32 := 1#32
  let v125 : BitVec 32 := Scalar.divsi v123 c1_i32_59
  let v126 : BitVec 32 := Scalar.muli v125 c1_i32_59
  let v127 : BitVec 32 := Scalar.addi v122 v126
  let v124 : BitVec 32 := Scalar.addi v122 v123
  let c1_i32_61 : BitVec 32 := 1#32
  ⟨v127, v124, c1_i32_61⟩
def k0_mult3 (i : grid0.Coords) (k0_t2 : Fin (k0_t2_loop i).trips) : BitVec 32 :=
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c8_i32 : BitVec 32 := 8#32
  let v123 : BitVec 32 := Scalar.subi c8_i32 v122
  let c1_i32_59 : BitVec 32 := 1#32
  let v125 : BitVec 32 := Scalar.divsi v123 c1_i32_59
  let v126 : BitVec 32 := Scalar.muli v125 c1_i32_59
  let v127 : BitVec 32 := Scalar.addi v122 v126
  let c1_i32_61 : BitVec 32 := 1#32
  let arg15 : BitVec 32 := Scf.iv v127 c1_i32_61 k0_t2
  let c1024_i32_71 : BitVec 32 := 1024#32
  let v135 : BitVec 32 := Scalar.muli arg15 c1024_i32_71
  v135
def k0_off7 (i : grid0.Coords) (k0_t2 : Fin (k0_t2_loop i).trips) : Fin 2 → Nat :=
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c8_i32 : BitVec 32 := 8#32
  let v123 : BitVec 32 := Scalar.subi c8_i32 v122
  let c1_i32_59 : BitVec 32 := 1#32
  let v125 : BitVec 32 := Scalar.divsi v123 c1_i32_59
  let v126 : BitVec 32 := Scalar.muli v125 c1_i32_59
  let v127 : BitVec 32 := Scalar.addi v122 v126
  let c1_i32_61 : BitVec 32 := 1#32
  let arg15 : BitVec 32 := Scf.iv v127 c1_i32_61 k0_t2
  let c1024_i32_71 : BitVec 32 := 1024#32
  let v135 : BitVec 32 := Scalar.muli arg15 c1024_i32_71
  let v136 : BitVec 32 := v135
  let v137 : Index := Scalar.indexCast v136
  let c0_72 : Index := 0#32
  ![v137.toNat, 0]
def k0_off8 (i : grid0.Coords) (k0_t2 : Fin (k0_t2_loop i).trips) : Fin 4 → Nat :=
  let c0_76 : Index := 0#32
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c8_i32 : BitVec 32 := 8#32
  let v123 : BitVec 32 := Scalar.subi c8_i32 v122
  let c1_i32_59 : BitVec 32 := 1#32
  let v125 : BitVec 32 := Scalar.divsi v123 c1_i32_59
  let v126 : BitVec 32 := Scalar.muli v125 c1_i32_59
  let v127 : BitVec 32 := Scalar.addi v122 v126
  let c1_i32_61 : BitVec 32 := 1#32
  let arg15 : BitVec 32 := Scf.iv v127 c1_i32_61 k0_t2
  let v146 : Index := Scalar.indexCast arg15
  let c0_77 : Index := 0#32
  let c0_78 : Index := 0#32
  ![0, v146.toNat, 0, 0]
def k0_off9 (i : grid0.Coords) (k0_t2 : Fin (k0_t2_loop i).trips) : Fin 3 → Nat :=
  let arg1 : BitVec 32 := BitVec.ofNat 32 (i 1).val
  let c0_i32_51 : BitVec 32 := 0#32
  let v106 : BitVec 1 := Scalar.cmpi .sgt arg1 c0_i32_51
  let v107 : BitVec 32 := Scalar.extui v106
  let c0_i32_52 : BitVec 32 := 0#32
  let v108 : BitVec 1 := Scalar.cmpi .slt arg1 c0_i32_52
  let v109 : BitVec 32 := Scalar.extui v108
  let v110 : BitVec 32 := Scalar.subi v107 v109
  let c2_i32_50 : BitVec 32 := 2#32
  let c0_i32_53 : BitVec 32 := 0#32
  let v111 : BitVec 1 := Scalar.cmpi .sgt c2_i32_50 c0_i32_53
  let v112 : BitVec 32 := Scalar.extui v111
  let c0_i32_54 : BitVec 32 := 0#32
  let v113 : BitVec 1 := Scalar.cmpi .slt c2_i32_50 c0_i32_54
  let v114 : BitVec 32 := Scalar.extui v113
  let v115 : BitVec 32 := Scalar.subi v112 v114
  let v116 : BitVec 1 := Scalar.cmpi .ne v110 v115
  let v117 : BitVec 32 := Scalar.remsi arg1 c2_i32_50
  let c0_i32_55 : BitVec 32 := 0#32
  let v118 : BitVec 1 := Scalar.cmpi .ne v117 c0_i32_55
  let v119 : BitVec 1 := Scalar.andi v116 v118
  let v105 : BitVec 32 := Scalar.divsi arg1 c2_i32_50
  let c1_i32_56 : BitVec 32 := 1#32
  let v120 : BitVec 32 := Scalar.subi v105 c1_i32_56
  let v121 : BitVec 32 := Scalar.select v119 v120 v105
  let c1_i32_57 : BitVec 32 := 1#32
  let v122 : BitVec 32 := Scalar.addi v121 c1_i32_57
  let c8_i32 : BitVec 32 := 8#32
  let v123 : BitVec 32 := Scalar.subi c8_i32 v122
  let c1_i32_59 : BitVec 32 := 1#32
  let v125 : BitVec 32 := Scalar.divsi v123 c1_i32_59
  let v126 : BitVec 32 := Scalar.muli v125 c1_i32_59
  let v127 : BitVec 32 := Scalar.addi v122 v126
  let c1_i32_61 : BitVec 32 := 1#32
  let arg15 : BitVec 32 := Scf.iv v127 c1_i32_61 k0_t2
  let v175 : Index := Scalar.indexCast arg15
  let c0_94 : Index := 0#32
  let c0_95 : Index := 0#32
  ![v175.toNat, 0, 0]
def k0_cond2 (i : grid0.Coords) : BitVec 1 :=
  let arg1 : BitVec 32 := BitVec.ofNat 32 (i 1).val
  let c15_i32 : BitVec 32 := 15#32
  let v132 : BitVec 1 := Scalar.cmpi .eq arg1 c15_i32
  let v133 : BitVec 32 := Scalar.extui v132
  let c0_i32_70 : BitVec 32 := 0#32
  let v134 : BitVec 1 := Scalar.cmpi .ne v133 c0_i32_70
  v134

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "c2" => some (((3424635 / 33554432) * (Real.log 2)⁻¹ : ℝ) : EReal)
  | "mask" => some ⊥
  | _ => none
-- ==== ReferenceIdeal.lean ====
abbrev S8192x16x64 : Shape := ⟨3, ![8192, 16, 64]⟩
abbrev S8192x16x32 : Shape := ⟨3, ![8192, 16, 32]⟩
abbrev S8192x32 : Shape := ⟨2, ![8192, 32]⟩
abbrev S8192x16x96 : Shape := ⟨3, ![8192, 16, 96]⟩
abbrev S8192x1x32 : Shape := ⟨3, ![8192, 1, 32]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x64x8192 : Shape := ⟨3, ![16, 64, 8192]⟩
abbrev S16x8192x96 : Shape := ⟨3, ![16, 8192, 96]⟩
abbrev S8192x16x128 : Shape := ⟨3, ![8192, 16, 128]⟩
abbrev S8192x2048 : Shape := ⟨2, ![8192, 2048]⟩

abbrev nBuf : Space → Nat
  | .hbm => 108
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x16x32, .f32⟩
  | .hbm, ⟨2, _⟩ => ⟨S8192x16x64, .f32⟩
  | .hbm, ⟨3, _⟩ => ⟨S8192x32, .f32⟩
  | .hbm, ⟨4, _⟩ => ⟨S8192x16x64, .f32⟩
  | .hbm, ⟨5, _⟩ => ⟨S8192x16x64, .f32⟩
  | .hbm, ⟨6, _⟩ => ⟨S8192x16x96, .f32⟩
  | .hbm, ⟨7, _⟩ => ⟨S8192x1x32, .f32⟩
  | .hbm, ⟨8, _⟩ => ⟨S8192x16x32, .f32⟩
  | .hbm, ⟨9, _⟩ => ⟨S8192x16x96, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S8192, .i32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S16x8192x8192, .i1⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .i1⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x8192x1, .f32⟩
  | .hbm, ⟨63, _⟩ => ⟨S_, .f32⟩
  | .hbm, ⟨64, _⟩ => ⟨S16x8192x1, .f32⟩
  | .hbm, ⟨65, _⟩ => ⟨S16x8192x1, .f32⟩
  | .hbm, ⟨66, _⟩ => ⟨S16x64x8192, .f32⟩
  | .hbm, ⟨67, _⟩ => ⟨S8192x16x64, .f32⟩
  | .hbm, ⟨68, _⟩ => ⟨S16x64x8192, .f32⟩
  | .hbm, ⟨69, _⟩ => ⟨S16x8192x8192, .f32⟩
  | .hbm, ⟨70, _⟩ => ⟨S16x64x8192, .f32⟩
  | .hbm, ⟨71, _⟩ => ⟨S8192x16x64, .f32⟩
  | .hbm, ⟨72, _⟩ => ⟨S16x8192x8192, .f32⟩
  | .hbm, ⟨73, _⟩ => ⟨S16x8192x8192, .f32⟩
  | .hbm, ⟨74, _⟩ => ⟨S16x8192x8192, .f32⟩
  | .hbm, ⟨75, _⟩ => ⟨S_, .f32⟩
  | .hbm, ⟨76, _⟩ => ⟨S16x8192, .f32⟩
  | .hbm, ⟨77, _⟩ => ⟨S16x8192x1, .f32⟩
  | .hbm, ⟨78, _⟩ => ⟨S16x8192x1, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x8192, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192x8192, .f32⟩
  | .hbm, ⟨88, _⟩ => ⟨S16x8192x8192, .f32⟩
  | .hbm, ⟨89, _⟩ => ⟨S_, .f32⟩
  | .hbm, ⟨90, _⟩ => ⟨S16x8192x8192, .f32⟩
  | .hbm, ⟨91, _⟩ => ⟨S16x8192x8192, .f32⟩
  | .hbm, ⟨92, _⟩ => ⟨S16x8192x96, .f32⟩
  | .hbm, ⟨93, _⟩ => ⟨S8192x16x96, .f32⟩
  | .hbm, ⟨94, _⟩ => ⟨S16x8192x96, .f32⟩
  | .hbm, ⟨95, _⟩ => ⟨S8192x16x96, .f32⟩
  | .hbm, ⟨96, _⟩ => ⟨S_, .i32⟩
  | .hbm, ⟨97, _⟩ => ⟨S_, .f32⟩
  | .hbm, ⟨98, _⟩ => ⟨S8192x16x128, .f32⟩
  | .hbm, ⟨99, _⟩ => ⟨S8192x2048, .f32⟩
  | .hbm, ⟨100, _⟩ => ⟨S_, .i32⟩
  | .hbm, ⟨101, _⟩ => ⟨S_, .f32⟩
  | .hbm, ⟨102, _⟩ => ⟨S8192x16x128, .f32⟩
  | .hbm, ⟨103, _⟩ => ⟨S8192x2048, .f32⟩
  | .hbm, ⟨104, _⟩ => ⟨S_, .i32⟩
  | .hbm, ⟨105, _⟩ => ⟨S_, .f32⟩
  | .hbm, ⟨106, _⟩ => ⟨S8192x16x128, .f32⟩
  | .hbm, ⟨107, _⟩ => ⟨S8192x2048, .f32⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_v14_1 : Ref sig .tc := ⟨.hbm, 23, rfl⟩
abbrev main_call0_v2 : Ref sig .tc := ⟨.hbm, 24, rfl⟩
abbrev main_v14_0 : Ref sig .tc := ⟨.hbm, 25, rfl⟩
abbrev main_call0_cst : Ref sig .tc := ⟨.hbm, 26, rfl⟩
abbrev main_v14_2 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c : Ref sig .tc := ⟨.hbm, 96, rfl⟩
abbrev main_call2_v0 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_call3_v0 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_call4_v0 : Ref sig .tc := ⟨.hbm, 105, rfl⟩
abbrev main_v72 : Ref sig .tc := ⟨.hbm, 106, rfl⟩
abbrev main_v73 : Ref sig .tc := ⟨.hbm, 107, rfl⟩

abbrev nD : Nat := 1
abbrev τ : Topo := Topo.v7x

variable {F : FTy → Type} [FloatOps F]
-- ==== Kernel2.lean ====
abbrev S8192x1024 : Shape := ⟨2, ![8192, 1024]⟩
abbrev S1024x5632 : Shape := ⟨2, ![1024, 5632]⟩
abbrev S8192x5632 : Shape := ⟨2, ![8192, 5632]⟩
abbrev S8192x2x2816 : Shape := ⟨3, ![8192, 2, 2816]⟩
abbrev S2x8192x2816 : Shape := ⟨3, ![2, 8192, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .bf16⟩
  | .hbm, ⟨4, _⟩ => ⟨S8192x2x2816, .f32⟩
  | .hbm, ⟨5, _⟩ => ⟨S2x8192x2816, .f32⟩
  | .hbm, ⟨6, _⟩ => ⟨S2x8192x2816, .bf16⟩
  | .hbm, ⟨7, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x1024 : Shape := ⟨2, ![8192, 1024]⟩
abbrev S1024x5632 : Shape := ⟨2, ![1024, 5632]⟩
abbrev S8192x5632 : Shape := ⟨2, ![8192, 5632]⟩
abbrev S1024x4x1408 : Shape := ⟨3, ![1024, 4, 1408]⟩
abbrev S4x1024x1408 : Shape := ⟨3, ![4, 1024, 1408]⟩
abbrev S8192x2x2816 : Shape := ⟨3, ![8192, 2, 2816]⟩
abbrev S2x8192x2816 : Shape := ⟨3, ![2, 8192, 2816]⟩
abbrev S4x1x1x1024x1408 : Shape := ⟨5, ![4, 1, 1, 1024, 1408]⟩
abbrev S1x1024x1408 : Shape := ⟨3, ![1, 1024, 1408]⟩
abbrev S1x1x1x1024x1408 : Shape := ⟨5, ![1, 1, 1, 1024, 1408]⟩
abbrev S1024x1024 : Shape := ⟨2, ![1024, 1024]⟩
abbrev S1024x1408 : Shape := ⟨2, ![1024, 1408]⟩

abbrev nBuf : Space → Nat
  | .hbm => 11
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S8192x2x2816, .f32⟩
  | .hbm, ⟨7, _⟩ => ⟨S2x8192x2816, .f32⟩
  | .hbm, ⟨8, _⟩ => ⟨S2x8192x2816, .bf16⟩
  | .hbm, ⟨9, _⟩ => ⟨S4x1x1x1024x1408, .bf16⟩
  | .hbm, ⟨10, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1x1x1024x1408, .bf16⟩
  | .local _ .vmem, ⟨3, _⟩ => ⟨S1x1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32_10 : BitVec 32 := 3#32
  let v13 : BitVec 1 := Scalar.cmpi .eq arg1 c3_i32_10
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .f32⟩
  | .local _ .vmem, ⟨5, _⟩ => ⟨S2816x512, .f32⟩
  | .local _ .vmem, ⟨6, _⟩ => ⟨S2816x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x2816, .bf16⟩
  | .hbm, ⟨5, _⟩ => ⟨S2816x1024, .bf16⟩
  | .hbm, ⟨6, _⟩ => ⟨S1x1024, .f32⟩
  | .hbm, ⟨7, _⟩ => ⟨S8192x1024, .f32⟩
  | .hbm, ⟨8, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S4x1x1x1024x1408 : Shape := ⟨5, ![4, 1, 1, 1024, 1408]⟩
abbrev S2x8192x2816 : Shape := ⟨3, ![2, 8192, 2816]⟩
abbrev S8192x2816 : Shape := ⟨2, ![8192, 2816]⟩
abbrev S512x1024 : Shape := ⟨2, ![512, 1024]⟩
abbrev S1x1x1x1024x1408 : Shape := ⟨5, ![1, 1, 1, 1024, 1408]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S1x512x1408 : Shape := ⟨3, ![1, 512, 1408]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x4x1408, .f32⟩
  | .hbm, ⟨9, _⟩ => ⟨S4x1024x1408, .f32⟩
  | .hbm, ⟨10, _⟩ => ⟨S4x1024x1408, .bf16⟩
  | .hbm, ⟨11, _⟩ => ⟨S4x1x1x1024x1408, .bf16⟩
  | .hbm, ⟨12, _⟩ => ⟨S8192x1024, .bf16⟩
  | .hbm, ⟨13, _⟩ => ⟨S2x8192x2816, .bf16⟩
  | .hbm, ⟨14, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1x1x1024x1408, .bf16⟩
  | .local _ .vmem, ⟨6, _⟩ => ⟨S1x1x1x1024x1408, .bf16⟩
  | .local _ .vmem, ⟨7, _⟩ => ⟨S1x1x1x1024x1408, .bf16⟩
  | .local _ .vmem, ⟨8, _⟩ => ⟨S1x1x1x1024x1408, .bf16⟩
  | .local _ .vmem, ⟨9, _⟩ => ⟨S512x1024, .bf16⟩
  | .local _ .vmem, ⟨10, _⟩ => ⟨S512x1024, .bf16⟩
  | .local _ .vmem, ⟨11, _⟩ => ⟨S2x512x1408, .bf16⟩
  | .local _ .vmem, ⟨12, _⟩ => ⟨S2x512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  let c0_i32_3 : BitVec 32 := 0#32
  let c0_i32_4 : BitVec 32 := 0#32
  ![v0.toNat, c0_i32_0.toNat, c0_i32_1.toNat, c0_i32_2.toNat, c0_i32_3.toNat]

def cc0_transform_5 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1x1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x2x2816 : Shape := ⟨3, ![8192, 2, 2816]⟩
abbrev S2x8192x2816 : Shape := ⟨3, ![2, 8192, 2816]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x5632, .f32⟩
  | .hbm, ⟨56, _⟩ => ⟨S8192x1024, .bf16⟩
  | .hbm, ⟨57, _⟩ => ⟨S8192x2x2816, .f32⟩
  | .hbm, ⟨58, _⟩ => ⟨S2x8192x2816, .f32⟩
  | .hbm, ⟨59, _⟩ => ⟨S2x8192x2816, .bf16⟩
  | .hbm, ⟨60, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v24_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v24_1 : Ref sig .tc := ⟨.hbm, 44, rfl⟩
abbrev main_v24_0 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩

abbrev nD : Nat := 1
abbrev τ : Topo := Topo.v7x

variable {F : FTy → Type} [FloatOps F]
-- ==== Kernel7.lean ====
abbrev S8192x1024 : Shape := ⟨2, ![8192, 1024]⟩
abbrev S8192x5632 : Shape := ⟨2, ![8192, 5632]⟩
abbrev S1024 : Shape := ⟨1, ![1024]⟩
abbrev S2816x1024 : Shape := ⟨2, ![2816, 1024]⟩
abbrev S8192x2816 : Shape := ⟨2, ![8192, 2816]⟩
abbrev S_ : Shape := ⟨0, ![]⟩
abbrev S8192x2x2816 : Shape := ⟨3, ![8192, 2, 2816]⟩
abbrev S2x8192x2816 : Shape := ⟨3, ![2, 8192, 2816]⟩
abbrev S1x1024 : Shape := ⟨2, ![1, 1024]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 38
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024, .f32⟩
  | .hbm, ⟨3, _⟩ => ⟨S2816x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x5632, .f32⟩
  | .hbm, ⟨29, _⟩ => ⟨S8192x2x2816, .f32⟩
  | .hbm, ⟨30, _⟩ => ⟨S2x8192x2816, .f32⟩
  | .hbm, ⟨31, _⟩ => ⟨S2x8192x2816, .bf16⟩
  | .hbm, ⟨32, _⟩ => ⟨S8192x1024, .f32⟩
  | .hbm, ⟨33, _⟩ => ⟨S1x1024, .f32⟩
  | .hbm, ⟨34, _⟩ => ⟨S2816x1024, .bf16⟩
  | .hbm, ⟨35, _⟩ => ⟨S8192x1024, .bf16⟩
  | .hbm, ⟨36, _⟩ => ⟨S1x1024, .f32⟩
  | .hbm, ⟨37, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1408x1024, .bf16⟩
  | .local _ .vmem, ⟨6, _⟩ => ⟨S1408x1024, .bf16⟩
  | .local _ .vmem, ⟨7, _⟩ => ⟨S2x512x1408, .bf16⟩
  | .local _ .vmem, ⟨8, _⟩ => ⟨S2x512x1408, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S2x512x1408, .bf16⟩
  | .local _ .vmem, ⟨13, _⟩ => ⟨S2x512x1408, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_25 : BitVec 32 := 0#32
  let v44 : BitVec 1 := Scalar.cmpi .eq arg0 c0_i32_25
  let v45 : BitVec 32 := Scalar.extui v44
  let c0_i32_26 : BitVec 32 := 0#32
  let v46 : BitVec 1 := Scalar.cmpi .ne v45 c0_i32_26
  v46

def k0_cond3 (i : grid0.Coords) : BitVec 1 :=
  let arg0 : BitVec 32 := BitVec.ofNat 32 (i 0).val
  let c0_i32_27 : BitVec 32 := 0#32
  let v47 : BitVec 1 := Scalar.cmpi .ne arg0 c0_i32_27
  let v48 : BitVec 32 := Scalar.extui v47
  let c0_i32_28 : BitVec 32 := 0#32
  let v49 : BitVec 1 := Scalar.cmpi .ne v48 c0_i32_28
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S8192x1024 : Shape := ⟨2, ![8192, 1024]⟩
abbrev S8192x5632 : Shape := ⟨2, ![8192, 5632]⟩
abbrev S1024 : Shape := ⟨1, ![1024]⟩
abbrev S2816x1024 : Shape := ⟨2, ![2816, 1024]⟩
abbrev S8192x2816 : Shape := ⟨2, ![8192, 2816]⟩
abbrev S_ : Shape := ⟨0, ![]⟩
abbrev S1x1024 : Shape := ⟨2, ![1, 1024]⟩
abbrev S8192x2x2816 : Shape := ⟨3, ![8192, 2, 2816]⟩
abbrev S2x8192x2816 : Shape := ⟨3, ![2, 8192, 2816]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S1024, .f32⟩
  | .hbm, ⟨3, _⟩ => ⟨S2816x1024, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1024, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x5632, .f32⟩
  | .hbm, ⟨46, _⟩ => ⟨S8192x1024, .bf16⟩
  | .hbm, ⟨47, _⟩ => ⟨S1x1024, .f32⟩
  | .hbm, ⟨48, _⟩ => ⟨S8192x2x2816, .f32⟩
  | .hbm, ⟨49, _⟩ => ⟨S2x8192x2816, .f32⟩
  | .hbm, ⟨50, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== Kernel8.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .bf16⟩
  | .hbm, ⟨4, _⟩ => ⟨S1024x2048, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S8192x1024 : Shape := ⟨2, ![8192, 1024]⟩
abbrev S1024x512 : Shape := ⟨2, ![1024, 512]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x1024, .bf16⟩
  | .hbm, ⟨4, _⟩ => ⟨S8192x512, .bf16⟩
  | .hbm, ⟨5, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x512 : Shape := ⟨2, ![1024, 512]⟩
abbrev S8192x512 : Shape := ⟨2, ![8192, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .bf16⟩
  | .hbm, ⟨4, _⟩ => ⟨S1024x512, .bf16⟩
  | .hbm, ⟨5, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S8192x512, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x512 : Shape := ⟨2, ![1024, 512]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S8192x16x64 : Shape := ⟨3, ![8192, 16, 64]⟩
abbrev S_ : Shape := ⟨0, ![]⟩
abbrev S8192x16x128 : Shape := ⟨3, ![8192, 16, 128]⟩
abbrev S8192x2048 : Shape := ⟨2, ![8192, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x16x64, .f32⟩
  | .hbm, ⟨4, _⟩ => ⟨S_, .i32⟩
  | .hbm, ⟨5, _⟩ => ⟨S_, .f32⟩
  | .hbm, ⟨6, _⟩ => ⟨S8192x16x128, .f32⟩
  | .hbm, ⟨7, _⟩ => ⟨S8192x2048, .f32⟩
  | .hbm, ⟨8, _⟩ => ⟨S8192x1024, .bf16⟩
  | .hbm, ⟨9, _⟩ => ⟨S2048x1024, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S16x64x1024, .f32⟩
  | .hbm, ⟨7, _⟩ => ⟨S_, .i32⟩
  | .hbm, ⟨8, _⟩ => ⟨S_, .f32⟩
  | .hbm, ⟨9, _⟩ => ⟨S16x128x1024, .f32⟩
  | .hbm, ⟨10, _⟩ => ⟨S2048x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩
abbrev S8192x2048 : Shape := ⟨2, ![8192, 2048]⟩

abbrev nBuf : Space → Nat
  | .hbm => 11
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S16x64x1024, .bf16⟩
  | .hbm, ⟨6, _⟩ => ⟨S_, .i32⟩
  | .hbm, ⟨7, _⟩ => ⟨S_, .bf16⟩
  | .hbm, ⟨8, _⟩ => ⟨S16x128x1024, .bf16⟩
  | .hbm, ⟨9, _⟩ => ⟨S2048x1024, .bf16⟩
  | .hbm, ⟨10, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩
abbrev S8192x16x64 : Shape := ⟨3, ![8192, 16, 64]⟩
abbrev S_ : Shape := ⟨0, ![]⟩
abbrev S8192x16x128 : Shape := ⟨3, ![8192, 16, 128]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x16x64, .f32⟩
  | .hbm, ⟨6, _⟩ => ⟨S_, .i32⟩
  | .hbm, ⟨7, _⟩ => ⟨S_, .f32⟩
  | .hbm, ⟨8, _⟩ => ⟨S8192x16x128, .f32⟩
  | .hbm, ⟨9, _⟩ => ⟨S8192x2048, .f32⟩
  | .hbm, ⟨10, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel19.lean ====
abbrev S8192x512 : Shape := ⟨2, ![8192, 512]⟩
abbrev S512x1536 : Shape := ⟨2, ![512, 1536]⟩
abbrev S8192x1536 : Shape := ⟨2, ![8192, 1536]⟩
abbrev S8192x16x96 : Shape := ⟨3, ![8192, 16, 96]⟩
abbrev S_ : Shape := ⟨0, ![]⟩
abbrev S8192x16x128 : Shape := ⟨3, ![8192, 16, 128]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | .hbm, ⟨3, _⟩ => ⟨S8192x512, .bf16⟩
  | .hbm, ⟨4, _⟩ => ⟨S8192x1536, .bf16⟩
  | .hbm, ⟨5, _⟩ => ⟨S8192x16x96, .bf16⟩
  | .hbm, ⟨6, _⟩ => ⟨S_, .i32⟩
  | .hbm, ⟨7, _⟩ => ⟨S_, .bf16⟩
  | .hbm, ⟨8, _⟩ => ⟨S8192x16x128, .bf16⟩
  | .hbm, ⟨9, _⟩ => ⟨S8192x2048, .bf16⟩
  | .hbm, ⟨10, _⟩ => ⟨S512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x512 : Shape := ⟨2, ![8192, 512]⟩
abbrev S512x1536 : Shape := ⟨2, ![512, 1536]⟩
abbrev S8192x1536 : Shape := ⟨2, ![8192, 1536]⟩
abbrev S1536x512 : Shape := ⟨2, ![1536, 512]⟩
abbrev S512x16x96 : Shape := ⟨3, ![512, 16, 96]⟩
abbrev S_ : Shape := ⟨0, ![]⟩
abbrev S512x16x128 : Shape := ⟨3, ![512, 16, 128]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | .hbm, ⟨3, _⟩ => ⟨S8192x1536, .f32⟩
  | .hbm, ⟨4, _⟩ => ⟨S1536x512, .f32⟩
  | .hbm, ⟨5, _⟩ => ⟨S512x1536, .f32⟩
  | .hbm, ⟨6, _⟩ => ⟨S512x16x96, .f32⟩
  | .hbm, ⟨7, _⟩ => ⟨S_, .i32⟩
  | .hbm, ⟨8, _⟩ => ⟨S_, .f32⟩
  | .hbm, ⟨9, _⟩ => ⟨S512x16x128, .f32⟩
  | .hbm, ⟨10, _⟩ => ⟨S512x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel20.lean ====
abbrev S8192x512 : Shape := ⟨2, ![8192, 512]⟩
abbrev S512x1536 : Shape := ⟨2, ![512, 1536]⟩
abbrev S8192x1536 : Shape := ⟨2, ![8192, 1536]⟩
abbrev S8192x16x96 : Shape := ⟨3, ![8192, 16, 96]⟩
abbrev S_ : Shape := ⟨0, ![]⟩
abbrev S8192x16x128 : Shape := ⟨3, ![8192, 16, 128]⟩
abbrev S8192x2048 : Shape := ⟨2, ![8192, 2048]⟩
abbrev S512x16x96 : Shape := ⟨3, ![512, 16, 96]⟩
abbrev S512x16x128 : Shape := ⟨3, ![512, 16, 128]⟩
abbrev S512x2048 : Shape := ⟨2, ![512, 2048]⟩
abbrev S1024x2048 : Shape := ⟨2, ![1024, 2048]⟩
abbrev S1024x512 : Shape := ⟨2, ![1024, 512]⟩

abbrev nBuf : Space → Nat
  | .hbm => 16
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | .hbm, ⟨3, _⟩ => ⟨S8192x1536, .bf16⟩
  | .hbm, ⟨4, _⟩ => ⟨S8192x16x96, .bf16⟩
  | .hbm, ⟨5, _⟩ => ⟨S_, .i32⟩
  | .hbm, ⟨6, _⟩ => ⟨S_, .bf16⟩
  | .hbm, ⟨7, _⟩ => ⟨S8192x16x128, .bf16⟩
  | .hbm, ⟨8, _⟩ => ⟨S8192x2048, .bf16⟩
  | .hbm, ⟨9, _⟩ => ⟨S512x1536, .bf16⟩
  | .hbm, ⟨10, _⟩ => ⟨S512x16x96, .bf16⟩
  | .hbm, ⟨11, _⟩ => ⟨S_, .i32⟩
  | .hbm, ⟨12, _⟩ => ⟨S_, .bf16⟩
  | .hbm, ⟨13, _⟩ => ⟨S512x16x128, .bf16⟩
  | .hbm, ⟨14, _⟩ => ⟨S512x2048, .bf16⟩
  | .hbm, ⟨15, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x512 : Shape := ⟨2, ![8192, 512]⟩
abbrev S512x1536 : Shape := ⟨2, ![512, 1536]⟩
abbrev S8192x1536 : Shape := ⟨2, ![8192, 1536]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | .hbm, ⟨3, _⟩ => ⟨S8192x1536, .f32⟩
  | .hbm, ⟨4, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel21.lean ====
abbrev S8192x1024 : Shape := ⟨2, ![8192, 1024]⟩
abbrev S1024x1024 : Shape := ⟨2, ![1024, 1024]⟩
abbrev S8192x16x64 : Shape := ⟨3, ![8192, 16, 64]⟩
abbrev S_ : Shape := ⟨0, ![]⟩
abbrev S8192x16x128 : Shape := ⟨3, ![8192, 16, 128]⟩
abbrev S8192x2048 : Shape := ⟨2, ![8192, 2048]⟩
abbrev S16x64x1024 : Shape := ⟨3, ![16, 64, 1024]⟩
abbrev S16x128x1024 : Shape := ⟨3, ![16, 128, 1024]⟩
abbrev S2048x1024 : Shape := ⟨2, ![2048, 1024]⟩
abbrev S1024x2048 : Shape := ⟨2, ![1024, 2048]⟩

abbrev nBuf : Space → Nat
  | .hbm => 14
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x16x64, .f32⟩
  | .hbm, ⟨3, _⟩ => ⟨S_, .i32⟩
  | .hbm, ⟨4, _⟩ => ⟨S_, .f32⟩
  | .hbm, ⟨5, _⟩ => ⟨S8192x16x128, .f32⟩
  | .hbm, ⟨6, _⟩ => ⟨S8192x2048, .f32⟩
  | .hbm, ⟨7, _⟩ => ⟨S1024x1024, .bf16⟩
  | .hbm, ⟨8, _⟩ => ⟨S16x64x1024, .bf16⟩
  | .hbm, ⟨9, _⟩ => ⟨S_, .i32⟩
  | .hbm, ⟨10, _⟩ => ⟨S_, .bf16⟩
  | .hbm, ⟨11, _⟩ => ⟨S16x128x1024, .bf16⟩
  | .hbm, ⟨12, _⟩ => ⟨S2048x1024, .bf16⟩
  | .hbm, ⟨13, _⟩ => ⟨S8192x1024, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S8192x512 : Shape := ⟨2, ![8192, 512]⟩
abbrev S512x1536 : Shape := ⟨2, ![512, 1536]⟩
abbrev S512x16x96 : Shape := ⟨3, ![512, 16, 96]⟩
abbrev S_ : Shape := ⟨0, ![]⟩
abbrev S512x16x128 : Shape := ⟨3, ![512, 16, 128]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x512, .bf16⟩
  | .hbm, ⟨3, _⟩ => ⟨S512x1536, .bf16⟩
  | .hbm, ⟨4, _⟩ => ⟨S512x16x96, .bf16⟩
  | .hbm, ⟨5, _⟩ => ⟨S_, .i32⟩
  | .hbm, ⟨6, _⟩ => ⟨S_, .bf16⟩
  | .hbm, ⟨7, _⟩ => ⟨S512x16x128, .bf16⟩
  | .hbm, ⟨8, _⟩ => ⟨S512x2048, .bf16⟩
  | .hbm, ⟨9, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x512 : Shape := ⟨2, ![8192, 512]⟩
abbrev S512x1536 : Shape := ⟨2, ![512, 1536]⟩
abbrev S8192x1536 : Shape := ⟨2, ![8192, 1536]⟩
abbrev S8192x16x96 : Shape := ⟨3, ![8192, 16, 96]⟩
abbrev S_ : Shape := ⟨0, ![]⟩
abbrev S8192x16x128 : Shape := ⟨3, ![8192, 16, 128]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | .hbm, ⟨3, _⟩ => ⟨S8192x16x96, .f32⟩
  | .hbm, ⟨4, _⟩ => ⟨S_, .i32⟩
  | .hbm, ⟨5, _⟩ => ⟨S_, .f32⟩
  | .hbm, ⟨6, _⟩ => ⟨S8192x16x128, .f32⟩
  | .hbm, ⟨7, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel23.lean ====
abbrev S8192x256 : Shape := ⟨2, ![8192, 256]⟩
abbrev S256x2048 : Shape := ⟨2, ![256, 2048]⟩
abbrev S8192x2048 : Shape := ⟨2, ![8192, 2048]⟩
abbrev S8192x16x128 : Shape := ⟨3, ![8192, 16, 128]⟩
abbrev S8192x16x64 : Shape := ⟨3, ![8192, 16, 64]⟩
abbrev S8192x1024 : Shape := ⟨2, ![8192, 1024]⟩
abbrev S_ : Shape := ⟨0, ![]⟩
abbrev S8192x4096 : Shape := ⟨2, ![8192, 4096]⟩
abbrev S256x4096 : Shape := ⟨2, ![256, 4096]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 22
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x256, .bf16⟩
  | .hbm, ⟨4, _⟩ => ⟨S8192x2048, .bf16⟩
  | .hbm, ⟨5, _⟩ => ⟨S8192x16x128, .bf16⟩
  | .hbm, ⟨6, _⟩ => ⟨S8192x16x64, .bf16⟩
  | .hbm, ⟨7, _⟩ => ⟨S8192x1024, .bf16⟩
  | .hbm, ⟨8, _⟩ => ⟨S8192x16x64, .bf16⟩
  | .hbm, ⟨9, _⟩ => ⟨S_, .i32⟩
  | .hbm, ⟨10, _⟩ => ⟨S_, .bf16⟩
  | .hbm, ⟨11, _⟩ => ⟨S8192x16x128, .bf16⟩
  | .hbm, ⟨12, _⟩ => ⟨S8192x2048, .bf16⟩
  | .hbm, ⟨13, _⟩ => ⟨S8192x16x64, .bf16⟩
  | .hbm, ⟨14, _⟩ => ⟨S8192x1024, .bf16⟩
  | .hbm, ⟨15, _⟩ => ⟨S8192x16x64, .bf16⟩
  | .hbm, ⟨16, _⟩ => ⟨S_, .i32⟩
  | .hbm, ⟨17, _⟩ => ⟨S_, .bf16⟩
  | .hbm, ⟨18, _⟩ => ⟨S8192x16x128, .bf16⟩
  | .hbm, ⟨19, _⟩ => ⟨S8192x2048, .bf16⟩
  | .hbm, ⟨20, _⟩ => ⟨S8192x4096, .bf16⟩
  | .hbm, ⟨21, _⟩ => ⟨S256x4096, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x256 : Shape := ⟨2, ![8192, 256]⟩
abbrev S256x2048 : Shape := ⟨2, ![256, 2048]⟩
abbrev S8192x2048 : Shape := ⟨2, ![8192, 2048]⟩
abbrev S2048x256 : Shape := ⟨2, ![2048, 256]⟩
abbrev S256x16x128 : Shape := ⟨3, ![256, 16, 128]⟩
abbrev S256x16x64 : Shape := ⟨3, ![256, 16, 64]⟩
abbrev S_ : Shape := ⟨0, ![]⟩
abbrev S256x4096 : Shape := ⟨2, ![256, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .f32⟩
  | .hbm, ⟨4, _⟩ => ⟨S2048x256, .f32⟩
  | .hbm, ⟨5, _⟩ => ⟨S256x2048, .f32⟩
  | .hbm, ⟨6, _⟩ => ⟨S256x16x128, .f32⟩
  | .hbm, ⟨7, _⟩ => ⟨S256x16x64, .f32⟩
  | .hbm, ⟨8, _⟩ => ⟨S_, .i32⟩
  | .hbm, ⟨9, _⟩ => ⟨S_, .f32⟩
  | .hbm, ⟨10, _⟩ => ⟨S256x16x128, .f32⟩
  | .hbm, ⟨11, _⟩ => ⟨S256x2048, .f32⟩
  | .hbm, ⟨12, _⟩ => ⟨S256x16x64, .f32⟩
  | .hbm, ⟨13, _⟩ => ⟨S_, .i32⟩
  | .hbm, ⟨14, _⟩ => ⟨S_, .f32⟩
  | .hbm, ⟨15, _⟩ => ⟨S256x16x128, .f32⟩
  | .hbm, ⟨16, _⟩ => ⟨S256x2048, .f32⟩
  | .hbm, ⟨17, _⟩ => ⟨S256x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Kernel24.lean ====
abbrev S8192x256 : Shape := ⟨2, ![8192, 256]⟩
abbrev S256x2048 : Shape := ⟨2, ![256, 2048]⟩
abbrev S8192x2048 : Shape := ⟨2, ![8192, 2048]⟩
abbrev S8192x16x128 : Shape := ⟨3, ![8192, 16, 128]⟩
abbrev S8192x16x64 : Shape := ⟨3, ![8192, 16, 64]⟩
abbrev S8192x1024 : Shape := ⟨2, ![8192, 1024]⟩
abbrev S_ : Shape := ⟨0, ![]⟩
abbrev S8192x4096 : Shape := ⟨2, ![8192, 4096]⟩
abbrev S256x16x128 : Shape := ⟨3, ![256, 16, 128]⟩
abbrev S256x16x64 : Shape := ⟨3, ![256, 16, 64]⟩
abbrev S256x1024 : Shape := ⟨2, ![256, 1024]⟩
abbrev S256x4096 : Shape := ⟨2, ![256, 4096]⟩
abbrev S1024x4096 : Shape := ⟨2, ![1024, 4096]⟩
abbrev S1024x256 : Shape := ⟨2, ![1024, 256]⟩

abbrev nBuf : Space → Nat
  | .hbm => 38
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .bf16⟩
  | .hbm, ⟨4, _⟩ => ⟨S8192x16x128, .bf16⟩
  | .hbm, ⟨5, _⟩ => ⟨S8192x16x64, .bf16⟩
  | .hbm, ⟨6, _⟩ => ⟨S8192x1024, .bf16⟩
  | .hbm, ⟨7, _⟩ => ⟨S8192x16x64, .bf16⟩
  | .hbm, ⟨8, _⟩ => ⟨S_, .i32⟩
  | .hbm, ⟨9, _⟩ => ⟨S_, .bf16⟩
  | .hbm, ⟨10, _⟩ => ⟨S8192x16x128, .bf16⟩
  | .hbm, ⟨11, _⟩ => ⟨S8192x2048, .bf16⟩
  | .hbm, ⟨12, _⟩ => ⟨S8192x16x64, .bf16⟩
  | .hbm, ⟨13, _⟩ => ⟨S8192x1024, .bf16⟩
  | .hbm, ⟨14, _⟩ => ⟨S8192x16x64, .bf16⟩
  | .hbm, ⟨15, _⟩ => ⟨S_, .i32⟩
  | .hbm, ⟨16, _⟩ => ⟨S_, .bf16⟩
  | .hbm, ⟨17, _⟩ => ⟨S8192x16x128, .bf16⟩
  | .hbm, ⟨18, _⟩ => ⟨S8192x2048, .bf16⟩
  | .hbm, ⟨19, _⟩ => ⟨S8192x4096, .bf16⟩
  | .hbm, ⟨20, _⟩ => ⟨S256x2048, .bf16⟩
  | .hbm, ⟨21, _⟩ => ⟨S256x16x128, .bf16⟩
  | .hbm, ⟨22, _⟩ => ⟨S256x16x64, .bf16⟩
  | .hbm, ⟨23, _⟩ => ⟨S256x1024, .bf16⟩
  | .hbm, ⟨24, _⟩ => ⟨S256x16x64, .bf16⟩
  | .hbm, ⟨25, _⟩ => ⟨S_, .i32⟩
  | .hbm, ⟨26, _⟩ => ⟨S_, .bf16⟩
  | .hbm, ⟨27, _⟩ => ⟨S256x16x128, .bf16⟩
  | .hbm, ⟨28, _⟩ => ⟨S256x2048, .bf16⟩
  | .hbm, ⟨29, _⟩ => ⟨S256x16x64, .bf16⟩
  | .hbm, ⟨30, _⟩ => ⟨S256x1024, .bf16⟩
  | .hbm, ⟨31, _⟩ => ⟨S256x16x64, .bf16⟩
  | .hbm, ⟨32, _⟩ => ⟨S_, .i32⟩
  | .hbm, ⟨33, _⟩ => ⟨S_, .bf16⟩
  | .hbm, ⟨34, _⟩ => ⟨S256x16x128, .bf16⟩
  | .hbm, ⟨35, _⟩ => ⟨S256x2048, .bf16⟩
  | .hbm, ⟨36, _⟩ => ⟨S256x4096, .bf16⟩
  | .hbm, ⟨37, _⟩ => ⟨S8192x256, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S1024x256, .f32⟩
  | .local _ .vmem, ⟨4, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_call2_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call3_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .f32⟩
  | .hbm, ⟨4, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel25.lean ====
abbrev S8192x256 : Shape := ⟨2, ![8192, 256]⟩
abbrev S256x2048 : Shape := ⟨2, ![256, 2048]⟩
abbrev S256x16x128 : Shape := ⟨3, ![256, 16, 128]⟩
abbrev S256x16x64 : Shape := ⟨3, ![256, 16, 64]⟩
abbrev S256x1024 : Shape := ⟨2, ![256, 1024]⟩
abbrev S_ : Shape := ⟨0, ![]⟩
abbrev S256x4096 : Shape := ⟨2, ![256, 4096]⟩
abbrev S8192x4096 : Shape := ⟨2, ![8192, 4096]⟩
abbrev S1024x256 : Shape := ⟨2, ![1024, 256]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .bf16⟩
  | .hbm, ⟨3, _⟩ => ⟨S256x2048, .bf16⟩
  | .hbm, ⟨4, _⟩ => ⟨S256x16x128, .bf16⟩
  | .hbm, ⟨5, _⟩ => ⟨S256x16x64, .bf16⟩
  | .hbm, ⟨6, _⟩ => ⟨S256x1024, .bf16⟩
  | .hbm, ⟨7, _⟩ => ⟨S256x16x64, .bf16⟩
  | .hbm, ⟨8, _⟩ => ⟨S_, .i32⟩
  | .hbm, ⟨9, _⟩ => ⟨S_, .bf16⟩
  | .hbm, ⟨10, _⟩ => ⟨S256x16x128, .bf16⟩
  | .hbm, ⟨11, _⟩ => ⟨S256x2048, .bf16⟩
  | .hbm, ⟨12, _⟩ => ⟨S256x16x64, .bf16⟩
  | .hbm, ⟨13, _⟩ => ⟨S256x1024, .bf16⟩
  | .hbm, ⟨14, _⟩ => ⟨S256x16x64, .bf16⟩
  | .hbm, ⟨15, _⟩ => ⟨S_, .i32⟩
  | .hbm, ⟨16, _⟩ => ⟨S_, .bf16⟩
  | .hbm, ⟨17, _⟩ => ⟨S256x16x128, .bf16⟩
  | .hbm, ⟨18, _⟩ => ⟨S256x2048, .bf16⟩
  | .hbm, ⟨19, _⟩ => ⟨S256x4096, .bf16⟩
  | .hbm, ⟨20, _⟩ => ⟨S8192x4096, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x256 : Shape := ⟨2, ![8192, 256]⟩
abbrev S256x2048 : Shape := ⟨2, ![256, 2048]⟩
abbrev S8192x2048 : Shape := ⟨2, ![8192, 2048]⟩
abbrev S8192x16x128 : Shape := ⟨3, ![8192, 16, 128]⟩
abbrev S8192x16x64 : Shape := ⟨3, ![8192, 16, 64]⟩
abbrev S_ : Shape := ⟨0, ![]⟩
abbrev S8192x4096 : Shape := ⟨2, ![8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x16x128, .f32⟩
  | .hbm, ⟨4, _⟩ => ⟨S8192x16x64, .f32⟩
  | .hbm, ⟨5, _⟩ => ⟨S_, .i32⟩
  | .hbm, ⟨6, _⟩ => ⟨S_, .f32⟩
  | .hbm, ⟨7, _⟩ => ⟨S8192x16x128, .f32⟩
  | .hbm, ⟨8, _⟩ => ⟨S8192x2048, .f32⟩
  | .hbm, ⟨9, _⟩ => ⟨S8192x16x64, .f32⟩
  | .hbm, ⟨10, _⟩ => ⟨S_, .i32⟩
  | .hbm, ⟨11, _⟩ => ⟨S_, .f32⟩
  | .hbm, ⟨12, _⟩ => ⟨S8192x16x128, .f32⟩
  | .hbm, ⟨13, _⟩ => ⟨S8192x2048, .f32⟩
  | .hbm, ⟨14, _⟩ => ⟨S8192x4096, .f32⟩
  | .hbm, ⟨15, _⟩ => ⟨S8192x4096, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel26.lean ====
abbrev S8192x1024 : Shape := ⟨2, ![8192, 1024]⟩
abbrev S1024x288 : Shape := ⟨2, ![1024, 288]⟩
abbrev S8192x288 : Shape := ⟨2, ![8192, 288]⟩
abbrev S8192x256 : Shape := ⟨2, ![8192, 256]⟩
abbrev S_ : Shape := ⟨0, ![]⟩
abbrev S8192x64 : Shape := ⟨2, ![8192, 64]⟩
abbrev S8192x32 : Shape := ⟨2, ![8192, 32]⟩
abbrev S8192x384 : Shape := ⟨2, ![8192, 384]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 13
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x288, .f32⟩
  | .hbm, ⟨2, _⟩ => ⟨S8192x288, .f32⟩
  | .hbm, ⟨3, _⟩ => ⟨S8192x1024, .bf16⟩
  | .hbm, ⟨4, _⟩ => ⟨S8192x288, .bf16⟩
  | .hbm, ⟨5, _⟩ => ⟨S8192x256, .bf16⟩
  | .hbm, ⟨6, _⟩ => ⟨S_, .bf16⟩
  | .hbm, ⟨7, _⟩ => ⟨S8192x64, .bf16⟩
  | .hbm, ⟨8, _⟩ => ⟨S8192x32, .bf16⟩
  | .hbm, ⟨9, _⟩ => ⟨S_, .bf16⟩
  | .hbm, ⟨10, _⟩ => ⟨S8192x32, .bf16⟩
  | .hbm, ⟨11, _⟩ => ⟨S8192x384, .bf16⟩
  | .hbm, ⟨12, _⟩ => ⟨S1024x384, .f32⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S1024x288 : Shape := ⟨2, ![1024, 288]⟩
abbrev S8192x288 : Shape := ⟨2, ![8192, 288]⟩
abbrev S288x1024 : Shape := ⟨2, ![288, 1024]⟩
abbrev S1024x256 : Shape := ⟨2, ![1024, 256]⟩
abbrev S1024x32 : Shape := ⟨2, ![1024, 32]⟩
abbrev S_ : Shape := ⟨0, ![]⟩
abbrev S1024x128 : Shape := ⟨2, ![1024, 128]⟩
abbrev S1024x384 : Shape := ⟨2, ![1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x288, .f32⟩
  | .hbm, ⟨2, _⟩ => ⟨S8192x288, .f32⟩
  | .hbm, ⟨3, _⟩ => ⟨S8192x288, .f32⟩
  | .hbm, ⟨4, _⟩ => ⟨S288x1024, .f32⟩
  | .hbm, ⟨5, _⟩ => ⟨S1024x288, .f32⟩
  | .hbm, ⟨6, _⟩ => ⟨S1024x256, .f32⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel27.lean ====
abbrev S8192x1024 : Shape := ⟨2, ![8192, 1024]⟩
abbrev S1024x288 : Shape := ⟨2, ![1024, 288]⟩
abbrev S8192x288 : Shape := ⟨2, ![8192, 288]⟩
abbrev S8192x256 : Shape := ⟨2, ![8192, 256]⟩
abbrev S_ : Shape := ⟨0, ![]⟩
abbrev S8192x64 : Shape := ⟨2, ![8192, 64]⟩
abbrev S8192x32 : Shape := ⟨2, ![8192, 32]⟩
abbrev S8192x384 : Shape := ⟨2, ![8192, 384]⟩
abbrev S1024x256 : Shape := ⟨2, ![1024, 256]⟩
abbrev S1024x64 : Shape := ⟨2, ![1024, 64]⟩
abbrev S1024x32 : Shape := ⟨2, ![1024, 32]⟩
abbrev S1024x384 : Shape := ⟨2, ![1024, 384]⟩
abbrev S1024x1024 : Shape := ⟨2, ![1024, 1024]⟩

abbrev nBuf : Space → Nat
  | .hbm => 20
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x288, .f32⟩
  | .hbm, ⟨2, _⟩ => ⟨S8192x288, .f32⟩
  | .hbm, ⟨3, _⟩ => ⟨S8192x288, .bf16⟩
  | .hbm, ⟨4, _⟩ => ⟨S8192x256, .bf16⟩
  | .hbm, ⟨5, _⟩ => ⟨S_, .bf16⟩
  | .hbm, ⟨6, _⟩ => ⟨S8192x64, .bf16⟩
  | .hbm, ⟨7, _⟩ => ⟨S8192x32, .bf16⟩
  | .hbm, ⟨8, _⟩ => ⟨S_, .bf16⟩
  | .hbm, ⟨9, _⟩ => ⟨S8192x32, .bf16⟩
  | .hbm, ⟨10, _⟩ => ⟨S8192x384, .bf16⟩
  | .hbm, ⟨11, _⟩ => ⟨S1024x288, .bf16⟩
  | .hbm, ⟨12, _⟩ => ⟨S1024x256, .bf16⟩
  | .hbm, ⟨13, _⟩ => ⟨S_, .bf16⟩
  | .hbm, ⟨14, _⟩ => ⟨S1024x64, .bf16⟩
  | .hbm, ⟨15, _⟩ => ⟨S1024x32, .bf16⟩
  | .hbm, ⟨16, _⟩ => ⟨S_, .bf16⟩
  | .hbm, ⟨17, _⟩ => ⟨S1024x32, .bf16⟩
  | .hbm, ⟨18, _⟩ => ⟨S1024x384, .bf16⟩
  | .hbm, ⟨19, _⟩ => ⟨S8192x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x1024 : Shape := ⟨2, ![8192, 1024]⟩
abbrev S1024x288 : Shape := ⟨2, ![1024, 288]⟩
abbrev S8192x288 : Shape := ⟨2, ![8192, 288]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x288, .f32⟩
  | .hbm, ⟨2, _⟩ => ⟨S8192x288, .f32⟩
  | .hbm, ⟨3, _⟩ => ⟨S8192x288, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel28.lean ====
abbrev S8192x1024 : Shape := ⟨2, ![8192, 1024]⟩
abbrev S1024x288 : Shape := ⟨2, ![1024, 288]⟩
abbrev S1024x256 : Shape := ⟨2, ![1024, 256]⟩
abbrev S_ : Shape := ⟨0, ![]⟩
abbrev S1024x64 : Shape := ⟨2, ![1024, 64]⟩
abbrev S1024x32 : Shape := ⟨2, ![1024, 32]⟩
abbrev S1024x384 : Shape := ⟨2, ![1024, 384]⟩
abbrev S8192x384 : Shape := ⟨2, ![8192, 384]⟩
abbrev S1024x1024 : Shape := ⟨2, ![1024, 1024]⟩

abbrev nBuf : Space → Nat
  | .hbm => 12
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x288, .f32⟩
  | .hbm, ⟨2, _⟩ => ⟨S8192x1024, .bf16⟩
  | .hbm, ⟨3, _⟩ => ⟨S1024x288, .bf16⟩
  | .hbm, ⟨4, _⟩ => ⟨S1024x256, .bf16⟩
  | .hbm, ⟨5, _⟩ => ⟨S_, .bf16⟩
  | .hbm, ⟨6, _⟩ => ⟨S1024x64, .bf16⟩
  | .hbm, ⟨7, _⟩ => ⟨S1024x32, .bf16⟩
  | .hbm, ⟨8, _⟩ => ⟨S_, .bf16⟩
  | .hbm, ⟨9, _⟩ => ⟨S1024x32, .bf16⟩
  | .hbm, ⟨10, _⟩ => ⟨S1024x384, .bf16⟩
  | .hbm, ⟨11, _⟩ => ⟨S8192x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x1024 : Shape := ⟨2, ![8192, 1024]⟩
abbrev S1024x288 : Shape := ⟨2, ![1024, 288]⟩
abbrev S8192x288 : Shape := ⟨2, ![8192, 288]⟩
abbrev S8192x256 : Shape := ⟨2, ![8192, 256]⟩
abbrev S8192x32 : Shape := ⟨2, ![8192, 32]⟩
abbrev S_ : Shape := ⟨0, ![]⟩
abbrev S8192x128 : Shape := ⟨2, ![8192, 128]⟩
abbrev S8192x384 : Shape := ⟨2, ![8192, 384]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x288, .f32⟩
  | .hbm, ⟨2, _⟩ => ⟨S8192x288, .f32⟩
  | .hbm, ⟨3, _⟩ => ⟨S8192x256, .f32⟩
  | .hbm, ⟨4, _⟩ => ⟨S8192x32, .f32⟩
  | .hbm, ⟨5, _⟩ => ⟨S_, .i32⟩
  | .hbm, ⟨6, _⟩ => ⟨S_, .f32⟩
  | .hbm, ⟨7, _⟩ => ⟨S8192x128, .f32⟩
  | .hbm, ⟨8, _⟩ => ⟨S8192x384, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Offs.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's first branch: the head's first key tile. -/
abbrev first (i : grid0.Coords) : Prop :=
  (Scalar.cmpi .ne (Scalar.extui (Scalar.cmpi .eq (BitVec.ofNat 32 (i 1).val) 0#32)) 0#32) = 1#1

/-- The body's last branch: the head's last key tile. -/
abbrev last (i : grid0.Coords) : Prop := k0_cond2 i = 1#1

/-- The grid point of head 0 at key tile `j`: the body's offsets and bounds read a point's tile alone. -/
abbrev atTile (j : Fin 16) : grid0.Coords := fun a => match a with
  | ⟨0, _⟩ => (0 : Fin 16)
  | ⟨1, _⟩ => j

theorem off1_eq (i : grid0.Coords) : k0_off1 i = ![(i 1).val / 2 * 1024, 0] :=
  (by decide +kernel : ∀ j : Fin 16, k0_off1 (atTile j) = ![j.val / 2 * 1024, 0]) (i 1)

theorem off2_eq (i : grid0.Coords) : k0_off2 i = ![0, (i 1).val / 2, 0, 0] :=
  (by decide +kernel : ∀ j : Fin 16, k0_off2 (atTile j) = ![0, j.val / 2, 0, 0]) (i 1)

theorem off3_eq (i : grid0.Coords) : k0_off3 i = ![(i 1).val / 2, 0, 0] :=
  (by decide +kernel : ∀ j : Fin 16, k0_off3 (atTile j) = ![j.val / 2, 0, 0]) (i 1)

theorem trips1 (i : grid0.Coords) : (k0_t1_loop i).trips = 7 - (i 1).val / 2 :=
  (by decide +kernel : ∀ j : Fin 16, (k0_t1_loop (atTile j)).trips = 7 - j.val / 2) (i 1)

theorem trips2 (i : grid0.Coords) : (k0_t2_loop i).trips = 0 :=
  (by decide +kernel : ∀ j : Fin 16, (k0_t2_loop (atTile j)).trips = 0) (i 1)

theorem off4_eq (i : grid0.Coords) (k : Fin (k0_t1_loop i).trips) :
    k0_off4 i k = ![((i 1).val / 2 + 1 + k.val) * 1024, 0] :=
  (by decide +kernel : ∀ (j : Fin 16) (k : Fin (k0_t1_loop (atTile j)).trips),
    k0_off4 (atTile j) k = ![(j.val / 2 + 1 + k.val) * 1024, 0]) (i 1) k

theorem off5_eq (i : grid0.Coords) (k : Fin (k0_t1_loop i).trips) :
    k0_off5 i k = ![0, (i 1).val / 2 + 1 + k.val, 0, 0] :=
  (by decide +kernel : ∀ (j : Fin 16) (k : Fin (k0_t1_loop (atTile j)).trips),
    k0_off5 (atTile j) k = ![0, j.val / 2 + 1 + k.val, 0, 0]) (i 1) k

theorem off6_eq (i : grid0.Coords) (k : Fin (k0_t1_loop i).trips) :
    k0_off6 i k = ![(i 1).val / 2 + 1 + k.val, 0, 0] :=
  (by decide +kernel : ∀ (j : Fin 16) (k : Fin (k0_t1_loop (atTile j)).trips),
    k0_off6 (atTile j) k = ![j.val / 2 + 1 + k.val, 0, 0]) (i 1) k

theorem first_iff (i : grid0.Coords) : first i ↔ (i 1).val = 0 :=
  (by decide +kernel : ∀ j : Fin 16, first (atTile j) ↔ j.val = 0) (i 1)

theorem last_iff (i : grid0.Coords) : last i ↔ (i 1).val = 15 :=
  (by decide +kernel : ∀ j : Fin 16, last (atTile j) ↔ j.val = 15) (i 1)

instance closedOff3 (i : grid0.Coords) : ClosedOff (k0_off3 i) := ⟨_, off3_eq i⟩

end Cert.KernelIdeal.Attn

end
-- ==== Proof.Steps.lean ====
module

public import proofs.«01_k».proof.Proof.Gen.KernelIdeal.Frame
public import proofs.«01_k».proof.Proof.Offs
public import Idealize.ShloMosaic.Lib.VecWindow
public import Idealize.ShloMosaic.Lib.ValueIdx
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The body's arithmetic on whole tiles, apart from its memory

The body keeps three running arrays: the key tile's gradient, the value tile's gradient and the head's query gradient
(transposed, a slab of 1024 queries per step). One step takes one slab of queries. -/

/-- Rows `1024 n …` of a head's queries. -/
def rows {e : EltTy} (x : Vec F S8192x128 e) (n : Fin 8) : Vec F S1024x128 e := fun y => x (ix2 (⟨n.val * 1024 + (y 0).val, by have := n.isLt; have : (y 0).val < 1024 := (y 0).isLt; omega⟩ : Fin 8192) (y 1))

/-- Slab `n` of a head's per-query figures. -/
def stat (x : Vec F S1x8x1x1024 .f32) (n : Fin 8) : Vec F S1x1x1x1024 .f32 := fun y => x (ix4 (y 0) n (y 2) (y 3))

/-- Slab `n` of the queries' gradient. -/
def slab (D : Vec F S8x128x1024 .f32) (n : Fin 8) : Vec F S1x128x1024 .f32 := fun y => D (ix3 n (y 1) (y 2))

/-- The queries' gradient with slab `n` replaced. -/
def putSlab (D : Vec F S8x128x1024 .f32) (n : Fin 8) (w : Vec F S1x128x1024 .f32) : Vec F S8x128x1024 .f32 :=
  fun y => if (y 0).val = n.val then w (ix3 (0 : Fin 1) (y 1) (y 2)) else D y

/-- The three running arrays. -/
structure St (F : FTy → Type) where
  /-- the key tile's gradient -/
  dk : Vec F S512x128 .f32
  /-- the value tile's gradient -/
  dv : Vec F S512x128 .f32
  /-- the head's query gradient, transposed, slab by slab -/
  dq : Vec F S8x128x1024 .f32

/-- What a point reads: its key, value and shared-key tiles, and its head's queries, cotangents and figures. -/
structure Blk (F : FTy → Type) where
  k : Vec F S512x128 .bf16
  v : Vec F S512x128 .bf16
  pe : Vec F S512x128 .bf16
  q : Vec F S8192x128 .bf16
  g : Vec F S8192x128 .bf16
  lse : Vec F S1x8x1x1024 .f32
  dl : Vec F S1x8x1x1024 .f32

/-- One step on a slab of queries that all lie after the key tile. -/
def stepU (x : Blk F) (n : Fin 8) (s : St F) : St F where
  dk := k0_pay1 (k0_pay12 (k0_pay25 x.k x.pe) (k0_pay27 x.v) (rows x.q n) (rows x.g n) (stat x.lse n) (stat x.dl n) s.dk)
  dv := k0_pay10 (k0_pay25 x.k x.pe) (rows x.q n) (rows x.g n) (stat x.lse n) s.dv
  dq := putSlab s.dq n (k0_pay2 (k0_pay26 x.k x.pe) (k0_pay11 (k0_pay25 x.k x.pe) (k0_pay27 x.v) (rows x.q n) (rows x.g n) (stat x.lse n) (stat x.dl n)) (slab s.dq n))

/-- The step on the slab of queries that holds the key tile `j`: the causal mask is applied. -/
def stepM (j : ℕ) (x : Blk F) (n : Fin 8) (s : St F) : St F where
  dk := k0_pay37 (k0_pay27 x.v) (k0_pay31 (rows x.q n)) (k0_pay32 (rows x.g n)) (k0_pay33 (BitVec.ofNat 32 j) (k0_pay25 x.k x.pe) (rows x.q n) (stat x.lse n)) (stat x.dl n) s.dk
  dv := k0_pay35 (k0_pay32 (rows x.g n)) s.dv (k0_pay34 (BitVec.ofNat 32 j) (k0_pay25 x.k x.pe) (rows x.q n) (stat x.lse n)) (constant S512x128 .f32 0x00000000#32)
  dq := putSlab s.dq n (k0_pay38 (k0_pay26 x.k x.pe) (k0_pay27 x.v) (k0_pay32 (rows x.g n)) (k0_pay33 (BitVec.ofNat 32 j) (k0_pay25 x.k x.pe) (rows x.q n) (stat x.lse n)) (stat x.dl n) (slab s.dq n))

/-- The slab of queries that holds key tile `j`, and the `k`-th after it. -/
abbrev slabAt (j k : ℕ) : Fin 8 := Fin.ofNat 8 (j / 2 + k)

/-- The running arrays after the masked step and `k` further steps, from `s`. -/
def stepsFrom (j : ℕ) (x : Blk F) (s : St F) : ℕ → St F
  | 0 => s
  | k + 1 => stepU x (slabAt j (1 + k)) (stepsFrom j x s k)

/-- One point: the two tiles' gradients start from nought, the queries' gradient from `D`. -/
def point (j : ℕ) (x : Blk F) (D : Vec F S8x128x1024 .f32) : St F :=
  stepsFrom j x (stepM j x (slabAt j 0) ⟨k0_pay29, k0_pay30, D⟩) (7 - j / 2)

/-- The queries' gradient as it goes out: each slab transposed. -/
def flat (D : Vec F S8x128x1024 .f32) : Vec F S8192x128 .f32 :=
  fun y => D (ix3 (⟨(y 0).val / 1024, by have : (y 0).val < 8192 := (y 0).isLt; omega⟩ : Fin 8) (y 1) (⟨(y 0).val % 1024, Nat.mod_lt _ (by omega)⟩ : Fin 1024))

/-! ## Loads and stores at the body's offsets -/

section Mem

variable {sig' : RefSig} {κ : Kind} {sp : Space}

theorem readAt_rows {e : EltTy} (v : View sig' κ sp S8192x128 e) (f : v.ty.Contents (Elt F)) {off : Fin 2 → ℕ}
    (inb : ∀ a, off a + S1024x128.size a ≤ S8192x128.size a) (n : Fin 8) (h : off = ![n.val * 1024, 0]) :
    v.readAt (Elt F) (Rect.unit (s := S8192x128) off S1024x128.size inb).toLoadRect f = rows (v.read (Elt F) f) n := by
  subst h
  funext y
  exact congrArg (v.read (Elt F) f) (funext fun a => Fin.ext (by
    fin_cases a
    · show n.val * 1024 + 1 * (y 0).val = n.val * 1024 + (y 0).val
      omega
    · show 0 + 1 * (y 1).val = (y 1).val
      omega))

theorem readAt_stat (v : View sig' κ sp S1x8x1x1024 .f32) (f : v.ty.Contents (Elt F)) {off : Fin 4 → ℕ}
    (inb : ∀ a, off a + S1x1x1x1024.size a ≤ S1x8x1x1024.size a) (n : Fin 8) (h : off = ![0, n.val, 0, 0]) :
    v.readAt (Elt F) (Rect.unit (s := S1x8x1x1024) off S1x1x1x1024.size inb).toLoadRect f = stat (v.read (Elt F) f) n := by
  subst h
  funext y
  exact congrArg (v.read (Elt F) f) (funext fun a => Fin.ext (by
    fin_cases a
    · show 0 + 1 * (y 0).val = (y 0).val
      omega
    · have h1 : (y 1).val < 1 := (y 1).isLt
      show n.val + 1 * (y 1).val = n.val
      omega
    · show 0 + 1 * (y 2).val = (y 2).val
      omega
    · show 0 + 1 * (y 3).val = (y 3).val
      omega))

theorem readAt_slab (v : View sig' κ sp S8x128x1024 .f32) (f : v.ty.Contents (Elt F)) {off : Fin 3 → ℕ}
    (inb : ∀ a, off a + S1x128x1024.size a ≤ S8x128x1024.size a) (n : Fin 8) (h : off = ![n.val, 0, 0]) :
    v.readAt (Elt F) (Rect.unit (s := S8x128x1024) off S1x128x1024.size inb).toLoadRect f = slab (v.read (Elt F) f) n := by
  subst h
  funext y
  exact congrArg (v.read (Elt F) f) (funext fun a => Fin.ext (by
    fin_cases a
    · have h1 : (y 0).val < 1 := (y 0).isLt
      show n.val + 1 * (y 0).val = n.val
      omega
    · show 0 + 1 * (y 1).val = (y 1).val
      omega
    · show 0 + 1 * (y 2).val = (y 2).val
      omega))

theorem read_putSlab (v : View sig' κ sp S8x128x1024 .f32) (f : v.ty.Contents (Elt F)) {off : Fin 3 → ℕ}
    (inb : ∀ a, off a + S1x128x1024.size a ≤ S8x128x1024.size a) (n : Fin 8) (h : off = ![n.val, 0, 0])
    (w : Vec F S1x128x1024 .f32) (L : List (View.Piece (Elt F) S8x128x1024 .f32)) :
    v.read (Elt F) (v.writes (Elt F) f (⟨Rect.unit (s := S8x128x1024) off S1x128x1024.size inb, w⟩ :: L))
      = putSlab (v.read (Elt F) (v.writes (Elt F) f L)) n w := by
  funext y
  rw [View.read_writes_cons_unit v f inb w L y h]
  have h1 : (y 1).val < 128 := (y 1).isLt
  have h2 : (y 2).val < 1024 := (y 2).isLt
  unfold putSlab
  by_cases h0 : (y 0).val = n.val
  · rw [if_pos h0, dif_pos (fun a => by
      fin_cases a
      · show n.val ≤ (y 0).val ∧ (y 0).val < n.val + 1
        omega
      · show 0 ≤ (y 1).val ∧ (y 1).val < 0 + 128
        omega
      · show 0 ≤ (y 2).val ∧ (y 2).val < 0 + 1024
        omega)]
    exact congrArg w (funext fun a => Fin.ext (by
      fin_cases a
      · show (y 0).val - n.val = 0
        omega
      · show (y 1).val - 0 = (y 1).val
        omega
      · show (y 2).val - 0 = (y 2).val
        omega))
  · rw [if_neg h0, dif_neg (fun hall => h0 (by
      have h3 : n.val ≤ (y 0).val ∧ (y 0).val < n.val + 1 := hall 0
      omega))]

end Mem

end Cert.KernelIdeal.Attn

end
-- ==== Proof.LoopReads.lean ====
module

public import proofs.«01_k».proof.Proof.Gen.KernelIdeal.Frame
public import proofs.«01_k».proof.Proof.Steps
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Loop

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S8192x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S8x128x1024 .f32) (harg14 : arg14.IsWhole)
  (f5 : BufTy.Contents (Elt F) arg5.view.ty) (f6 : BufTy.Contents (Elt F) arg6.view.ty) (f7 : BufTy.Contents (Elt F) arg7.view.ty) (f8 : BufTy.Contents (Elt F) arg8.view.ty)
  (x2 x3 x4 : Vec F S512x128 .bf16) (v122 : BitVec 32)

/-- What a point reads, off its tiles' contents. -/
abbrev blkOf : Blk F := ⟨x2, x3, x4, arg5.view.read (Elt F) f5, arg6.view.read (Elt F) f6, arg7.view.read (Elt F) f7, arg8.view.read (Elt F) f8⟩

theorem slabAt_val {j k : ℕ} (h : j / 2 + k < 8) : (slabAt j k).val = j / 2 + k := Nat.mod_eq_of_lt h

theorem trip_dk (k : Fin (k0_t1_loop i).trips) (g12 : BufTy.Contents (Elt F) arg12.view.ty) (g13 : BufTy.Contents (Elt F) arg13.view.ty) (g14 : BufTy.Contents (Elt F) arg14.view.ty) :
    (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 k).1 g12 g13 g14
      = [⟨Rect.unit (s := S512x128) ![0, 0] S512x128.size inb_S512x128_S512x128_0_0,
          (stepU (blkOf arg5 arg6 arg7 arg8 f5 f6 f7 f8 x2 x3 x4) (slabAt (i 1).val (1 + k.val)) ⟨arg12.view.read (Elt F) g12, arg13.view.read (Elt F) g13, arg14.view.read (Elt F) g14⟩).dk⟩] := by
  have hk := k.isLt
  have ht := trips1 i
  have hn := slabAt_val (j := (i 1).val) (k := 1 + k.val) (by omega)
  unfold trip_k0_t1
  dsimp only
  unfold trip_k0_t1.sl.r_1
  rw [readAt_rows _ _ _ (slabAt (i 1).val (1 + k.val)) (by rw [off4_eq, hn, Nat.add_assoc]),
    readAt_rows _ _ _ (slabAt (i 1).val (1 + k.val)) (by rw [off4_eq, hn, Nat.add_assoc]),
    readAt_stat _ _ _ (slabAt (i 1).val (1 + k.val)) (by rw [off5_eq, hn, Nat.add_assoc]),
    readAt_stat _ _ _ (slabAt (i 1).val (1 + k.val)) (by rw [off5_eq, hn, Nat.add_assoc]),
    View.readAt_full]
  rfl

theorem trip_dv (k : Fin (k0_t1_loop i).trips) (g12 : BufTy.Contents (Elt F) arg12.view.ty) (g13 : BufTy.Contents (Elt F) arg13.view.ty) (g14 : BufTy.Contents (Elt F) arg14.view.ty) :
    (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 k).2.1 g12 g13 g14
      = [⟨Rect.unit (s := S512x128) ![0, 0] S512x128.size inb_S512x128_S512x128_0_0,
          (stepU (blkOf arg5 arg6 arg7 arg8 f5 f6 f7 f8 x2 x3 x4) (slabAt (i 1).val (1 + k.val)) ⟨arg12.view.read (Elt F) g12, arg13.view.read (Elt F) g13, arg14.view.read (Elt F) g14⟩).dv⟩] := by
  have hk := k.isLt
  have ht := trips1 i
  have hn := slabAt_val (j := (i 1).val) (k := 1 + k.val) (by omega)
  unfold trip_k0_t1
  dsimp only
  rw [readAt_rows _ _ _ (slabAt (i 1).val (1 + k.val)) (by rw [off4_eq, hn, Nat.add_assoc]),
    readAt_rows _ _ _ (slabAt (i 1).val (1 + k.val)) (by rw [off4_eq, hn, Nat.add_assoc]),
    readAt_stat _ _ _ (slabAt (i 1).val (1 + k.val)) (by rw [off5_eq, hn, Nat.add_assoc]),
    View.readAt_full]
  rfl

theorem trip_dq (k : Fin (k0_t1_loop i).trips) (g12 : BufTy.Contents (Elt F) arg12.view.ty) (g13 : BufTy.Contents (Elt F) arg13.view.ty) (g14 : BufTy.Contents (Elt F) arg14.view.ty) :
    arg14.view.read (Elt F) (arg14.view.writes (Elt F) g14 ((trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 k).2.2.1 g12 g13 g14))
      = (stepU (blkOf arg5 arg6 arg7 arg8 f5 f6 f7 f8 x2 x3 x4) (slabAt (i 1).val (1 + k.val)) ⟨arg12.view.read (Elt F) g12, arg13.view.read (Elt F) g13, arg14.view.read (Elt F) g14⟩).dq := by
  have hk := k.isLt
  have ht := trips1 i
  have hn := slabAt_val (j := (i 1).val) (k := 1 + k.val) (by omega)
  unfold trip_k0_t1
  dsimp only
  unfold trip_k0_t1.sl.r
  rw [read_putSlab _ _ _ (slabAt (i 1).val (1 + k.val)) (by rw [off6_eq, hn, Nat.add_assoc]),
    readAt_rows _ _ _ (slabAt (i 1).val (1 + k.val)) (by rw [off4_eq, hn, Nat.add_assoc]),
    readAt_rows _ _ _ (slabAt (i 1).val (1 + k.val)) (by rw [off4_eq, hn, Nat.add_assoc]),
    readAt_stat _ _ _ (slabAt (i 1).val (1 + k.val)) (by rw [off5_eq, hn, Nat.add_assoc]),
    readAt_stat _ _ _ (slabAt (i 1).val (1 + k.val)) (by rw [off5_eq, hn, Nat.add_assoc]),
    readAt_slab _ _ _ (slabAt (i 1).val (1 + k.val)) (by rw [off6_eq, hn, Nat.add_assoc]), View.writes_nil]
  rfl

/-- The loop's stores, read back: before trip `k` the three scratches hold `k` steps. -/
theorem loop_reads (g12 : BufTy.Contents (Elt F) arg12.view.ty) (g13 : BufTy.Contents (Elt F) arg13.view.ty) (g14 : BufTy.Contents (Elt F) arg14.view.ty) : ∀ k : ℕ, k ≤ (k0_t1_loop i).trips →
    (⟨arg12.view.read (Elt F) (arg12.view.writes (Elt F) g12 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 g12 g13 g14 k).1),
      arg13.view.read (Elt F) (arg13.view.writes (Elt F) g13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 g12 g13 g14 k).2.1),
      arg14.view.read (Elt F) (arg14.view.writes (Elt F) g14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 g12 g13 g14 k).2.2)⟩ : St F)
      = stepsFrom (i 1).val (blkOf arg5 arg6 arg7 arg8 f5 f6 f7 f8 x2 x3 x4) ⟨arg12.view.read (Elt F) g12, arg13.view.read (Elt F) g13, arg14.view.read (Elt F) g14⟩ k
  | 0, _ => by
    simp only [pb_k0_t1, View.writes_nil, stepsFrom]
  | k + 1, hk => by
    have ih := loop_reads g12 g13 g14 k (by omega)
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 g12 g13 g14 ⟨k, by omega⟩
    rw [show k + 1 = (⟨k, by omega⟩ : Fin (k0_t1_loop i).trips).val + 1 from rfl, e]
    dsimp only [tripL_k0_t1]
    rw [View.writes_append, View.writes_append, View.writes_append, trip_dk, trip_dv, trip_dq, View.read_writes_full, View.read_writes_full]
    rw [show (⟨k, by omega⟩ : Fin (k0_t1_loop i).trips).val + 1 = k + 1 from rfl]
    show _ = stepU _ (slabAt (i 1).val (1 + k)) (stepsFrom _ _ _ k)
    rw [← ih]

theorem loop_dk (g12 : BufTy.Contents (Elt F) arg12.view.ty) (g13 : BufTy.Contents (Elt F) arg13.view.ty) (g14 : BufTy.Contents (Elt F) arg14.view.ty) :
    arg12.view.read (Elt F) (arg12.view.writes (Elt F) g12 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 g12 g13 g14
        (Scf.trips (k0_t1_loop i).lb (k0_t1_loop i).ub (k0_t1_loop i).st)).1)
      = (stepsFrom (i 1).val (blkOf arg5 arg6 arg7 arg8 f5 f6 f7 f8 x2 x3 x4) ⟨arg12.view.read (Elt F) g12, arg13.view.read (Elt F) g13, arg14.view.read (Elt F) g14⟩ (7 - (i 1).val / 2)).dk := by
  rw [← trips1 i]
  exact congrArg St.dk (loop_reads (F := F) c i arg2 harg2 arg3 harg3 arg4 harg4 arg5 harg5 arg6 harg6 arg7 harg7 arg8 harg8 arg9 harg9 arg10 harg10 arg11 harg11 arg12 harg12 arg13 harg13 arg14 harg14 f5 f6 f7 f8 x2 x3 x4 v122 g12 g13 g14 (k0_t1_loop i).trips (Nat.le_refl _))

theorem loop_dv (g12 : BufTy.Contents (Elt F) arg12.view.ty) (g13 : BufTy.Contents (Elt F) arg13.view.ty) (g14 : BufTy.Contents (Elt F) arg14.view.ty) :
    arg13.view.read (Elt F) (arg13.view.writes (Elt F) g13 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 g12 g13 g14
        (Scf.trips (k0_t1_loop i).lb (k0_t1_loop i).ub (k0_t1_loop i).st)).2.1)
      = (stepsFrom (i 1).val (blkOf arg5 arg6 arg7 arg8 f5 f6 f7 f8 x2 x3 x4) ⟨arg12.view.read (Elt F) g12, arg13.view.read (Elt F) g13, arg14.view.read (Elt F) g14⟩ (7 - (i 1).val / 2)).dv := by
  rw [← trips1 i]
  exact congrArg St.dv (loop_reads (F := F) c i arg2 harg2 arg3 harg3 arg4 harg4 arg5 harg5 arg6 harg6 arg7 harg7 arg8 harg8 arg9 harg9 arg10 harg10 arg11 harg11 arg12 harg12 arg13 harg13 arg14 harg14 f5 f6 f7 f8 x2 x3 x4 v122 g12 g13 g14 (k0_t1_loop i).trips (Nat.le_refl _))

theorem loop_dq (g12 : BufTy.Contents (Elt F) arg12.view.ty) (g13 : BufTy.Contents (Elt F) arg13.view.ty) (g14 : BufTy.Contents (Elt F) arg14.view.ty) :
    arg14.view.read (Elt F) (arg14.view.writes (Elt F) g14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 (k0_pay25 x2 x4) (k0_pay26 x2 x4) (k0_pay27 x3) v122 f5 f6 f7 f8 g12 g13 g14
        (Scf.trips (k0_t1_loop i).lb (k0_t1_loop i).ub (k0_t1_loop i).st)).2.2)
      = (stepsFrom (i 1).val (blkOf arg5 arg6 arg7 arg8 f5 f6 f7 f8 x2 x3 x4) ⟨arg12.view.read (Elt F) g12, arg13.view.read (Elt F) g13, arg14.view.read (Elt F) g14⟩ (7 - (i 1).val / 2)).dq := by
  rw [← trips1 i]
  exact congrArg St.dq (loop_reads (F := F) c i arg2 harg2 arg3 harg3 arg4 harg4 arg5 harg5 arg6 harg6 arg7 harg7 arg8 harg8 arg9 harg9 arg10 harg10 arg11 harg11 arg12 harg12 arg13 harg13 arg14 harg14 f5 f6 f7 f8 x2 x3 x4 v122 g12 g13 g14 (k0_t1_loop i).trips (Nat.le_refl _))

end Loop

end Cert.KernelIdeal.Attn

end
-- ==== Proof.RunA.lean ====
module

public import proofs.«01_k».proof.Proof.Gen.KernelIdeal.Frame
public import proofs.«01_k».proof.Proof.Offs
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- THE BODY AT A HEAD'S FIRST KEY TILE, run at any contents: the queries' scratch starts from nought. -/
def runA (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S8192x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S8x128x1024 .f32) (harg14 : arg14.IsWhole)
    (h1 : first i) (h2 : ¬ last i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    Σ' (C10 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg10.view.ty), Σ' (C11 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg11.view.ty), { C14 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg14.view.ty // ∀ (E : Set ℕ) (K : PUnit → sProp 𝕄) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
          ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg10.view.loc (c : Thread nD τ) ↦[arg10.view.set]{fullShare} (C10 f10 f11 f12 f13 f14)) ∗ (arg11.view.loc (c : Thread nD τ) ↦[arg11.view.set]{fullShare} (C11 f10 f11 f12 f13 f14)) ∗ (∃ f, (arg12.view.loc (c : Thread nD τ) ↦[arg12.view.set]{fullShare} f)) ∗ (∃ f, (arg13.view.loc (c : Thread nD τ) ↦[arg13.view.set]{fullShare} f)) ∗ (arg14.view.loc (c : Thread nD τ) ↦[arg14.view.set]{fullShare} (C14 f10 f11 f12 f13 f14))) -∗ K ⟨⟩))
        ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K f10 f11 f12 f13 f14 => ?run⟩
  case run =>
    simp only [cc0_attn_bwd_eq_skeleton]; unfold cc0_attn_bwd_skel
    iintro ⟨H2, H3, H4, H5, H6, H7, H8, H10, H11, H12, H13, H14, Hk⟩
    sl_exec (disch := first | sl_exact h1 | sl_exact h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexists _; iexact H12
    isplitl [H13]; · iexists _; iexact H13
    iexact H14

end Cert.KernelIdeal.Attn

end
-- ==== Proof.RunB.lean ====
module

public import proofs.«01_k».proof.Proof.Gen.KernelIdeal.Frame
public import proofs.«01_k».proof.Proof.Offs
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- THE BODY AT A KEY TILE that is neither a head's first nor its last, run at any contents: what it leaves
    in the two tiles of the gradients and in the scratch of the queries' gradient. -/
def runB (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S8192x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S8x128x1024 .f32) (harg14 : arg14.IsWhole)
    (h1 : ¬ first i) (h2 : ¬ last i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    Σ' (C10 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg10.view.ty), Σ' (C11 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg11.view.ty), { C14 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg14.view.ty // ∀ (E : Set ℕ) (K : PUnit → sProp 𝕄) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
          ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg10.view.loc (c : Thread nD τ) ↦[arg10.view.set]{fullShare} (C10 f10 f11 f12 f13 f14)) ∗ (arg11.view.loc (c : Thread nD τ) ↦[arg11.view.set]{fullShare} (C11 f10 f11 f12 f13 f14)) ∗ (∃ f, (arg12.view.loc (c : Thread nD τ) ↦[arg12.view.set]{fullShare} f)) ∗ (∃ f, (arg13.view.loc (c : Thread nD τ) ↦[arg13.view.set]{fullShare} f)) ∗ (arg14.view.loc (c : Thread nD τ) ↦[arg14.view.set]{fullShare} (C14 f10 f11 f12 f13 f14))) -∗ K ⟨⟩))
        ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K f10 f11 f12 f13 f14 => ?run⟩
  case run =>
    simp only [cc0_attn_bwd_eq_skeleton]; unfold cc0_attn_bwd_skel
    iintro ⟨H2, H3, H4, H5, H6, H7, H8, H10, H11, H12, H13, H14, Hk⟩
    sl_exec (disch := first | sl_exact h1 | sl_exact h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexists _; iexact H12
    isplitl [H13]; · iexists _; iexact H13
    iexact H14

end Cert.KernelIdeal.Attn

end
-- ==== Proof.RunC.lean ====
module

public import proofs.«01_k».proof.Proof.Gen.KernelIdeal.Frame
public import proofs.«01_k».proof.Proof.Offs
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- THE BODY AT A HEAD'S LAST KEY TILE: the queries' gradient goes out too. -/
def runC (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S8192x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S8x128x1024 .f32) (harg14 : arg14.IsWhole)
    (h1 : ¬ first i) (h2 : last i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) :
    Σ' (C10 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg10.view.ty), Σ' (C11 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg11.view.ty), Σ' (C9 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg9.view.ty), { C14 : BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg14.view.ty // ∀ (E : Set ℕ) (K : PUnit → sProp 𝕄) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
          ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg10.view.loc (c : Thread nD τ) ↦[arg10.view.set]{fullShare} (C10 f9 f10 f11 f12 f13 f14)) ∗ (arg11.view.loc (c : Thread nD τ) ↦[arg11.view.set]{fullShare} (C11 f9 f10 f11 f12 f13 f14)) ∗ (arg9.view.loc (c : Thread nD τ) ↦[arg9.view.set]{fullShare} (C9 f9 f10 f11 f12 f13 f14)) ∗ (∃ f, (arg12.view.loc (c : Thread nD τ) ↦[arg12.view.set]{fullShare} f)) ∗ (∃ f, (arg13.view.loc (c : Thread nD τ) ↦[arg13.view.set]{fullShare} f)) ∗ (arg14.view.loc (c : Thread nD τ) ↦[arg14.view.set]{fullShare} (C14 f9 f10 f11 f12 f13 f14))) -∗ K ⟨⟩))
        ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K f9 f10 f11 f12 f13 f14 => ?run⟩
  case run =>
    simp only [cc0_attn_bwd_eq_skeleton]; unfold cc0_attn_bwd_skel
    iintro ⟨H2, H3, H4, H5, H6, H7, H8, H9, H10, H11, H12, H13, H14, Hk⟩
    sl_exec (disch := first | sl_exact h1 | sl_exact h2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H9]; · iexact H9
    isplitl [H12]; · iexists _; iexact H12
    isplitl [H13]; · iexists _; iexact H13
    iexact H14

end Cert.KernelIdeal.Attn

end
-- ==== Proof.AfterA.lean ====
module

public import Idealize.ShloMosaic.Lib.ValueLayout
public import proofs.«01_k».proof.Proof.Gen.KernelIdeal.Frame
public import proofs.«01_k».proof.Proof.LoopReads
public import proofs.«01_k».proof.Proof.RunA
public import proofs.«01_k».proof.Proof.RunB
public import proofs.«01_k».proof.Proof.RunC
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section A

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S8192x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S8x128x1024 .f32) (harg14 : arg14.IsWhole)
    (h1 : first i) (h2 : ¬ last i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty)
    (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

theorem A_v4 : runA.sl.v4 arg2 arg4 f2 f4 = k0_pay25 (arg2.view.read (Elt F) f2) (arg4.view.read (Elt F) f4) := by
  unfold runA.sl.v4 runA.sl.v1 runA.sl.v3
  rw [View.readAt_full, View.readAt_full]
  rfl

theorem A_v7 : runA.sl.v7 arg2 arg4 f2 f4 = k0_pay26 (arg2.view.read (Elt F) f2) (arg4.view.read (Elt F) f4) := by
  unfold runA.sl.v7 runA.sl.v6 runA.sl.v5 runA.sl.v4 runA.sl.v1 runA.sl.v3
  rw [View.readAt_full, View.readAt_full]
  rfl

theorem A_v9 : runA.sl.v9 arg3 f3 = k0_pay27 (arg3.view.read (Elt F) f3) := by
  unfold runA.sl.v9
  rw [View.readAt_full]
  rfl

theorem A_r : runA.sl.r i arg5 f5 = k0_pay31 (rows (arg5.view.read (Elt F) f5) (slabAt (i 1).val 0)) := by
  have hn := slabAt_val (j := (i 1).val) (k := 0) (by have : (i 1).val < 16 := (i 1).isLt; omega)
  unfold runA.sl.r
  rw [readAt_rows _ _ _ (slabAt (i 1).val 0) (by rw [off1_eq, hn, Nat.add_zero])]

theorem A_r1 : runA.sl.r_1 i arg6 f6 = k0_pay32 (rows (arg6.view.read (Elt F) f6) (slabAt (i 1).val 0)) := by
  have hn := slabAt_val (j := (i 1).val) (k := 0) (by have : (i 1).val < 16 := (i 1).isLt; omega)
  unfold runA.sl.r_1
  rw [readAt_rows _ _ _ (slabAt (i 1).val 0) (by rw [off1_eq, hn, Nat.add_zero])]

theorem A_r2 : runA.sl.r_2 i arg2 arg4 arg5 arg7 f2 f4 f5 f7
    = k0_pay33 (BitVec.ofNat 32 (i 1).val) (k0_pay25 (arg2.view.read (Elt F) f2) (arg4.view.read (Elt F) f4)) (rows (arg5.view.read (Elt F) f5) (slabAt (i 1).val 0)) (stat (arg7.view.read (Elt F) f7) (slabAt (i 1).val 0)) := by
  have hn := slabAt_val (j := (i 1).val) (k := 0) (by have : (i 1).val < 16 := (i 1).isLt; omega)
  unfold runA.sl.r_2
  rw [readAt_rows _ _ _ (slabAt (i 1).val 0) (by rw [off1_eq, hn, Nat.add_zero]), readAt_stat _ _ _ (slabAt (i 1).val 0) (by rw [off2_eq, hn, Nat.add_zero]), A_v4]

theorem A_r3 : runA.sl.r_3 i arg2 arg4 arg5 arg7 f2 f4 f5 f7
    = k0_pay34 (BitVec.ofNat 32 (i 1).val) (k0_pay25 (arg2.view.read (Elt F) f2) (arg4.view.read (Elt F) f4)) (rows (arg5.view.read (Elt F) f5) (slabAt (i 1).val 0)) (stat (arg7.view.read (Elt F) f7) (slabAt (i 1).val 0)) := by
  have hn := slabAt_val (j := (i 1).val) (k := 0) (by have : (i 1).val < 16 := (i 1).isLt; omega)
  unfold runA.sl.r_3
  rw [readAt_rows _ _ _ (slabAt (i 1).val 0) (by rw [off1_eq, hn, Nat.add_zero]), readAt_stat _ _ _ (slabAt (i 1).val 0) (by rw [off2_eq, hn, Nat.add_zero]), A_v4]

theorem A_v90 : runA.sl.v90 (F := F) arg12 = k0_pay29 := by
  unfold runA.sl.v90 runA.sl.H13_1
  rw [View.readCov_full]
  rfl

theorem A_v73 : runA.sl.v73 (F := F) arg13 = k0_pay30 := by
  unfold runA.sl.v73 runA.sl.H13_1
  rw [View.readCov_full]
  rfl

theorem A_fin (s : St F)
    (e1 : s.dk = arg12.view.read (Elt F) (arg12.view.writes (Elt F) arg12.view.junk (runA.sl.H12_2 i arg2 arg3 arg4 arg5 arg6 arg7 arg8 arg12 f2 f3 f4 f5 f6 f7 f8)))
    (e2 : s.dv = arg13.view.read (Elt F) (arg13.view.writes (Elt F) arg13.view.junk (runA.sl.H13_2 i arg2 arg4 arg5 arg6 arg7 arg13 f2 f4 f5 f6 f7)))
    (e3 : s.dq = arg14.view.read (Elt F) (arg14.view.writes (Elt F) arg14.view.junk (⟨Rect.unit (s := S8x128x1024) (k0_off3 i) S1x128x1024.size (k0_off3_inb i),
        runA.sl.v104 i arg2 arg3 arg4 arg5 arg6 arg7 arg8 arg14 f2 f3 f4 f5 f6 f7 f8⟩ :: runA.sl.H14_1))) :
    stepsFrom (i 1).val (blkOf arg5 arg6 arg7 arg8 f5 f6 f7 f8 (arg2.view.read (Elt F) f2) (arg3.view.read (Elt F) f3) (arg4.view.read (Elt F) f4)) s (7 - (i 1).val / 2) = point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ k0_pay28 := by
  have hn := slabAt_val (j := (i 1).val) (k := 0) (by have : (i 1).val < 16 := (i 1).isLt; omega)
  unfold point
  congr 1
  obtain ⟨a, b, d⟩ := s
  dsimp only at e1 e2 e3
  rw [e1, e2, e3]
  unfold runA.sl.H12_2 runA.sl.H13_2
  simp only [runA.sl.v104, runA.sl.v100, runA.sl.v99, runA.sl.v98, runA.sl.v95, runA.sl.v92, runA.sl.v91, runA.sl.v89, runA.sl.v88, runA.sl.v87, runA.sl.v86, runA.sl.v85, runA.sl.v84, runA.sl.v83, runA.sl.v80, runA.sl.v79, runA.sl.v76, runA.sl.v75]
  rw [View.read_writes_full, View.read_writes_full, read_putSlab _ _ _ (slabAt (i 1).val 0) (by rw [off3_eq, hn, Nat.add_zero]),
    readAt_slab _ _ _ (slabAt (i 1).val 0) (by rw [off3_eq, hn, Nat.add_zero]),
    readAt_stat _ _ _ (slabAt (i 1).val 0) (by rw [off2_eq, hn, Nat.add_zero]),
    A_r, A_r1, A_r2, A_r3, A_v7, A_v9, A_v90, A_v73, runA.sl.H14_1, View.read_writes_full]
  rfl

theorem A_dk : arg10.view.read (Elt F) ((runA (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).1 f10 f11 f12 f13 f14) = (point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ k0_pay28).dk := by
  unfold runA
  dsimp only
  rw [View.read_writes_full]
  unfold runA.sl.v128
  rw [show Scf.trips (k0_t2_loop i).lb (k0_t2_loop i).ub (k0_t2_loop i).st = 0 from trips2 i]
  rw [A_v4, A_v7, A_v9, pb_k0_t2.eq_1, List.nil_append]
  unfold View.readCov
  rw [View.readAt_full, View.writes_append, loop_dk]
  exact congrArg St.dk (A_fin i arg2 arg3 arg4 arg5 arg6 arg7 arg8 arg12 arg13 arg14 f2 f3 f4 f5 f6 f7 f8 _ rfl rfl rfl)

theorem A_dv : arg11.view.read (Elt F) ((runA (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.1 f10 f11 f12 f13 f14) = (point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ k0_pay28).dv := by
  unfold runA
  dsimp only
  rw [View.read_writes_full]
  unfold runA.sl.v130
  rw [show Scf.trips (k0_t2_loop i).lb (k0_t2_loop i).ub (k0_t2_loop i).st = 0 from trips2 i]
  rw [A_v4, A_v7, A_v9, pb_k0_t2.eq_1, List.nil_append]
  unfold View.readCov
  rw [View.readAt_full, View.writes_append, loop_dv]
  exact congrArg St.dv (A_fin i arg2 arg3 arg4 arg5 arg6 arg7 arg8 arg12 arg13 arg14 f2 f3 f4 f5 f6 f7 f8 _ rfl rfl rfl)

theorem A_dq : arg14.view.read (Elt F) ((runA (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.1 f10 f11 f12 f13 f14) = (point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ k0_pay28).dq := by
  unfold runA
  dsimp only
  rw [show Scf.trips (k0_t2_loop i).lb (k0_t2_loop i).ub (k0_t2_loop i).st = 0 from trips2 i]
  rw [A_v4, A_v7, A_v9, pb_k0_t2.eq_1, List.nil_append, View.writes_append]
  rw [loop_dq]
  exact congrArg St.dq (A_fin i arg2 arg3 arg4 arg5 arg6 arg7 arg8 arg12 arg13 arg14 f2 f3 f4 f5 f6 f7 f8 _ rfl rfl rfl)

end A

end Cert.KernelIdeal.Attn

end
-- ==== Proof.AfterB.lean ====
module

public import Idealize.ShloMosaic.Lib.ValueLayout
public import proofs.«01_k».proof.Proof.Gen.KernelIdeal.Frame
public import proofs.«01_k».proof.Proof.LoopReads
public import proofs.«01_k».proof.Proof.RunA
public import proofs.«01_k».proof.Proof.RunB
public import proofs.«01_k».proof.Proof.RunC
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section B

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S8192x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S8x128x1024 .f32) (harg14 : arg14.IsWhole)
    (h1 : ¬ first i) (h2 : ¬ last i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty)
    (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

theorem B_v4 : runB.sl.v4 arg2 arg4 f2 f4 = k0_pay25 (arg2.view.read (Elt F) f2) (arg4.view.read (Elt F) f4) := by
  unfold runB.sl.v4 runB.sl.v1 runB.sl.v3
  rw [View.readAt_full, View.readAt_full]
  rfl

theorem B_v7 : runB.sl.v7 arg2 arg4 f2 f4 = k0_pay26 (arg2.view.read (Elt F) f2) (arg4.view.read (Elt F) f4) := by
  unfold runB.sl.v7 runB.sl.v6 runB.sl.v5 runB.sl.v4 runB.sl.v1 runB.sl.v3
  rw [View.readAt_full, View.readAt_full]
  rfl

theorem B_v9 : runB.sl.v9 arg3 f3 = k0_pay27 (arg3.view.read (Elt F) f3) := by
  unfold runB.sl.v9
  rw [View.readAt_full]
  rfl

theorem B_r : runB.sl.r i arg5 f5 = k0_pay31 (rows (arg5.view.read (Elt F) f5) (slabAt (i 1).val 0)) := by
  have hn := slabAt_val (j := (i 1).val) (k := 0) (by have : (i 1).val < 16 := (i 1).isLt; omega)
  unfold runB.sl.r
  rw [readAt_rows _ _ _ (slabAt (i 1).val 0) (by rw [off1_eq, hn, Nat.add_zero])]

theorem B_r1 : runB.sl.r_1 i arg6 f6 = k0_pay32 (rows (arg6.view.read (Elt F) f6) (slabAt (i 1).val 0)) := by
  have hn := slabAt_val (j := (i 1).val) (k := 0) (by have : (i 1).val < 16 := (i 1).isLt; omega)
  unfold runB.sl.r_1
  rw [readAt_rows _ _ _ (slabAt (i 1).val 0) (by rw [off1_eq, hn, Nat.add_zero])]

theorem B_r2 : runB.sl.r_2 i arg2 arg4 arg5 arg7 f2 f4 f5 f7
    = k0_pay33 (BitVec.ofNat 32 (i 1).val) (k0_pay25 (arg2.view.read (Elt F) f2) (arg4.view.read (Elt F) f4)) (rows (arg5.view.read (Elt F) f5) (slabAt (i 1).val 0)) (stat (arg7.view.read (Elt F) f7) (slabAt (i 1).val 0)) := by
  have hn := slabAt_val (j := (i 1).val) (k := 0) (by have : (i 1).val < 16 := (i 1).isLt; omega)
  unfold runB.sl.r_2
  rw [readAt_rows _ _ _ (slabAt (i 1).val 0) (by rw [off1_eq, hn, Nat.add_zero]), readAt_stat _ _ _ (slabAt (i 1).val 0) (by rw [off2_eq, hn, Nat.add_zero]), B_v4]

theorem B_r3 : runB.sl.r_3 i arg2 arg4 arg5 arg7 f2 f4 f5 f7
    = k0_pay34 (BitVec.ofNat 32 (i 1).val) (k0_pay25 (arg2.view.read (Elt F) f2) (arg4.view.read (Elt F) f4)) (rows (arg5.view.read (Elt F) f5) (slabAt (i 1).val 0)) (stat (arg7.view.read (Elt F) f7) (slabAt (i 1).val 0)) := by
  have hn := slabAt_val (j := (i 1).val) (k := 0) (by have : (i 1).val < 16 := (i 1).isLt; omega)
  unfold runB.sl.r_3
  rw [readAt_rows _ _ _ (slabAt (i 1).val 0) (by rw [off1_eq, hn, Nat.add_zero]), readAt_stat _ _ _ (slabAt (i 1).val 0) (by rw [off2_eq, hn, Nat.add_zero]), B_v4]

theorem B_v90 : runB.sl.v90 (F := F) arg12 = k0_pay29 := by
  unfold runB.sl.v90 runB.sl.H13_1
  rw [View.readCov_full]
  rfl

theorem B_v73 : runB.sl.v73 (F := F) arg13 = k0_pay30 := by
  unfold runB.sl.v73 runB.sl.H13_1
  rw [View.readCov_full]
  rfl

theorem B_fin (s : St F)
    (e1 : s.dk = arg12.view.read (Elt F) (arg12.view.writes (Elt F) arg12.view.junk (runB.sl.H12_2 i arg2 arg3 arg4 arg5 arg6 arg7 arg8 arg12 f2 f3 f4 f5 f6 f7 f8)))
    (e2 : s.dv = arg13.view.read (Elt F) (arg13.view.writes (Elt F) arg13.view.junk (runB.sl.H13_2 i arg2 arg4 arg5 arg6 arg7 arg13 f2 f4 f5 f6 f7)))
    (e3 : s.dq = arg14.view.read (Elt F) (arg14.view.writes (Elt F) f14 (⟨Rect.unit (s := S8x128x1024) (k0_off3 i) S1x128x1024.size (k0_off3_inb i),
        runB.sl.v104 i arg2 arg3 arg4 arg5 arg6 arg7 arg8 arg14 f2 f3 f4 f5 f6 f7 f8 f14⟩ :: []))) :
    stepsFrom (i 1).val (blkOf arg5 arg6 arg7 arg8 f5 f6 f7 f8 (arg2.view.read (Elt F) f2) (arg3.view.read (Elt F) f3) (arg4.view.read (Elt F) f4)) s (7 - (i 1).val / 2) = point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ (arg14.view.read (Elt F) f14) := by
  have hn := slabAt_val (j := (i 1).val) (k := 0) (by have : (i 1).val < 16 := (i 1).isLt; omega)
  unfold point
  congr 1
  obtain ⟨a, b, d⟩ := s
  dsimp only at e1 e2 e3
  rw [e1, e2, e3]
  unfold runB.sl.H12_2 runB.sl.H13_2
  simp only [runB.sl.v104, runB.sl.v100, runB.sl.v99, runB.sl.v98, runB.sl.v95, runB.sl.v92, runB.sl.v91, runB.sl.v89, runB.sl.v88, runB.sl.v87, runB.sl.v86, runB.sl.v85, runB.sl.v84, runB.sl.v83, runB.sl.v80, runB.sl.v79, runB.sl.v76, runB.sl.v75]
  rw [View.read_writes_full, View.read_writes_full, read_putSlab _ _ _ (slabAt (i 1).val 0) (by rw [off3_eq, hn, Nat.add_zero]),
    readAt_slab _ _ _ (slabAt (i 1).val 0) (by rw [off3_eq, hn, Nat.add_zero]),
    readAt_stat _ _ _ (slabAt (i 1).val 0) (by rw [off2_eq, hn, Nat.add_zero]),
    B_r, B_r1, B_r2, B_r3, B_v7, B_v9, B_v90, B_v73, View.writes_nil]
  rfl

theorem B_dk : arg10.view.read (Elt F) ((runB (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).1 f10 f11 f12 f13 f14) = (point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ (arg14.view.read (Elt F) f14)).dk := by
  unfold runB
  dsimp only
  rw [View.read_writes_full]
  unfold runB.sl.v128
  rw [show Scf.trips (k0_t2_loop i).lb (k0_t2_loop i).ub (k0_t2_loop i).st = 0 from trips2 i]
  rw [B_v4, B_v7, B_v9, pb_k0_t2.eq_1, List.nil_append]
  unfold View.readCov
  rw [View.readAt_full, View.writes_append, loop_dk]
  exact congrArg St.dk (B_fin i arg2 arg3 arg4 arg5 arg6 arg7 arg8 arg12 arg13 arg14 f2 f3 f4 f5 f6 f7 f8 f14 _ rfl rfl rfl)

theorem B_dv : arg11.view.read (Elt F) ((runB (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.1 f10 f11 f12 f13 f14) = (point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ (arg14.view.read (Elt F) f14)).dv := by
  unfold runB
  dsimp only
  rw [View.read_writes_full]
  unfold runB.sl.v130
  rw [show Scf.trips (k0_t2_loop i).lb (k0_t2_loop i).ub (k0_t2_loop i).st = 0 from trips2 i]
  rw [B_v4, B_v7, B_v9, pb_k0_t2.eq_1, List.nil_append]
  unfold View.readCov
  rw [View.readAt_full, View.writes_append, loop_dv]
  exact congrArg St.dv (B_fin i arg2 arg3 arg4 arg5 arg6 arg7 arg8 arg12 arg13 arg14 f2 f3 f4 f5 f6 f7 f8 f14 _ rfl rfl rfl)

theorem B_dq : arg14.view.read (Elt F) ((runB (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.1 f10 f11 f12 f13 f14) = (point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ (arg14.view.read (Elt F) f14)).dq := by
  unfold runB
  dsimp only
  rw [show Scf.trips (k0_t2_loop i).lb (k0_t2_loop i).ub (k0_t2_loop i).st = 0 from trips2 i]
  rw [B_v4, B_v7, B_v9, pb_k0_t2.eq_1, List.nil_append, View.writes_append]
  rw [loop_dq]
  exact congrArg St.dq (B_fin i arg2 arg3 arg4 arg5 arg6 arg7 arg8 arg12 arg13 arg14 f2 f3 f4 f5 f6 f7 f8 f14 _ rfl rfl rfl)

end B

end Cert.KernelIdeal.Attn

end
-- ==== Proof.AfterC.lean ====
module

public import Idealize.ShloMosaic.Lib.ValueLayout
public import proofs.«01_k».proof.Proof.Gen.KernelIdeal.Frame
public import proofs.«01_k».proof.Proof.LoopReads
public import proofs.«01_k».proof.Proof.RunA
public import proofs.«01_k».proof.Proof.RunB
public import proofs.«01_k».proof.Proof.RunC
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The last point's store of the head's query gradient -/

/-- A slab as it goes out: its row `r`, lane `l` is the gradient's lane `l`, query `r`. -/
theorem pay6_slab (D : Vec F S8x128x1024 .f32) (n : Fin 8) (y : S1024x128.Idx) :
    k0_pay6 (slab D n) y = D (ix3 n (y 1) (y 0)) := by
  unfold k0_pay6
  dsimp only
  obtain ⟨p, q, rfl⟩ : ∃ (p : Fin 1024) (q : Fin 128), y = ix2 p q := ⟨y 0, y 1, eq_ix2 y⟩
  exact (transpose_ix2_apply _ _ p q).trans ((shapeCast_dropUnit_apply ![128, 1024] _ _ _).trans rfl)

theorem read_flat {sig' : RefSig} {κ : Kind} {sp : Space} (v : View sig' κ sp S8192x128 .f32) (f : v.ty.Contents (Elt F)) (D : Vec F S8x128x1024 .f32)
    (i0 : ∀ a, (![0, 0] : Fin 2 → ℕ) a + S1024x128.size a ≤ S8192x128.size a) (i1 : ∀ a, (![1024, 0] : Fin 2 → ℕ) a + S1024x128.size a ≤ S8192x128.size a) (i2 : ∀ a, (![2048, 0] : Fin 2 → ℕ) a + S1024x128.size a ≤ S8192x128.size a) (i3 : ∀ a, (![3072, 0] : Fin 2 → ℕ) a + S1024x128.size a ≤ S8192x128.size a) (i4 : ∀ a, (![4096, 0] : Fin 2 → ℕ) a + S1024x128.size a ≤ S8192x128.size a) (i5 : ∀ a, (![5120, 0] : Fin 2 → ℕ) a + S1024x128.size a ≤ S8192x128.size a) (i6 : ∀ a, (![6144, 0] : Fin 2 → ℕ) a + S1024x128.size a ≤ S8192x128.size a) (i7 : ∀ a, (![7168, 0] : Fin 2 → ℕ) a + S1024x128.size a ≤ S8192x128.size a) :
    v.read (Elt F) (v.writes (Elt F) f [⟨Rect.unit ![7168, 0] S1024x128.size i7, k0_pay6 (slab D 7)⟩, ⟨Rect.unit ![6144, 0] S1024x128.size i6, k0_pay6 (slab D 6)⟩, ⟨Rect.unit ![5120, 0] S1024x128.size i5, k0_pay6 (slab D 5)⟩, ⟨Rect.unit ![4096, 0] S1024x128.size i4, k0_pay6 (slab D 4)⟩, ⟨Rect.unit ![3072, 0] S1024x128.size i3, k0_pay6 (slab D 3)⟩, ⟨Rect.unit ![2048, 0] S1024x128.size i2, k0_pay6 (slab D 2)⟩, ⟨Rect.unit ![1024, 0] S1024x128.size i1, k0_pay6 (slab D 1)⟩, ⟨Rect.unit ![0, 0] S1024x128.size i0, k0_pay6 (slab D 0)⟩]) = flat D := by
  have key (n : Fin 8) (x : S1024x128.Idx) {y : S8192x128.Idx} (h : (y 0).val = n.val * 1024 + (x 0).val ∧ (y 1).val = (x 1).val) : k0_pay6 (slab D n) x = flat D y := by
    rw [pay6_slab]
    have hx : (x 0).val < 1024 := (x 0).isLt
    refine congrArg D (funext fun a => Fin.ext ?_)
    fin_cases a
    · show n.val = (y 0).val / 1024
      omega
    · exact h.2.symm
    · show (x 0).val = (y 0).val % 1024
      omega
  funext y
  have hy : (y 0).val < 8192 := (y 0).isLt
  by_cases h7 : 7168 ≤ (y 0).val
  · rw [View.read_writes_cons_rows_of_mem (size := S1024x128.size) v f _ _ _ y (ix2 (⟨(y 0).val - 7168, by omega⟩ : Fin 1024) (y 1)) rfl (show (y 0).val = 7168 + ((y 0).val - 7168) by omega) rfl]
    refine key 7 _ ⟨by show (y 0).val = 7 * 1024 + ((y 0).val - 7168); omega, rfl⟩
  rw [View.read_writes_cons_rows_of_not_mem (size := S1024x128.size) v f _ _ _ y (o := 7168) (W := 1024) rfl rfl (Or.inl (by omega))]
  by_cases h6 : 6144 ≤ (y 0).val
  · rw [View.read_writes_cons_rows_of_mem (size := S1024x128.size) v f _ _ _ y (ix2 (⟨(y 0).val - 6144, by omega⟩ : Fin 1024) (y 1)) rfl (show (y 0).val = 6144 + ((y 0).val - 6144) by omega) rfl]
    refine key 6 _ ⟨by show (y 0).val = 6 * 1024 + ((y 0).val - 6144); omega, rfl⟩
  rw [View.read_writes_cons_rows_of_not_mem (size := S1024x128.size) v f _ _ _ y (o := 6144) (W := 1024) rfl rfl (Or.inl (by omega))]
  by_cases h5 : 5120 ≤ (y 0).val
  · rw [View.read_writes_cons_rows_of_mem (size := S1024x128.size) v f _ _ _ y (ix2 (⟨(y 0).val - 5120, by omega⟩ : Fin 1024) (y 1)) rfl (show (y 0).val = 5120 + ((y 0).val - 5120) by omega) rfl]
    refine key 5 _ ⟨by show (y 0).val = 5 * 1024 + ((y 0).val - 5120); omega, rfl⟩
  rw [View.read_writes_cons_rows_of_not_mem (size := S1024x128.size) v f _ _ _ y (o := 5120) (W := 1024) rfl rfl (Or.inl (by omega))]
  by_cases h4 : 4096 ≤ (y 0).val
  · rw [View.read_writes_cons_rows_of_mem (size := S1024x128.size) v f _ _ _ y (ix2 (⟨(y 0).val - 4096, by omega⟩ : Fin 1024) (y 1)) rfl (show (y 0).val = 4096 + ((y 0).val - 4096) by omega) rfl]
    refine key 4 _ ⟨by show (y 0).val = 4 * 1024 + ((y 0).val - 4096); omega, rfl⟩
  rw [View.read_writes_cons_rows_of_not_mem (size := S1024x128.size) v f _ _ _ y (o := 4096) (W := 1024) rfl rfl (Or.inl (by omega))]
  by_cases h3 : 3072 ≤ (y 0).val
  · rw [View.read_writes_cons_rows_of_mem (size := S1024x128.size) v f _ _ _ y (ix2 (⟨(y 0).val - 3072, by omega⟩ : Fin 1024) (y 1)) rfl (show (y 0).val = 3072 + ((y 0).val - 3072) by omega) rfl]
    refine key 3 _ ⟨by show (y 0).val = 3 * 1024 + ((y 0).val - 3072); omega, rfl⟩
  rw [View.read_writes_cons_rows_of_not_mem (size := S1024x128.size) v f _ _ _ y (o := 3072) (W := 1024) rfl rfl (Or.inl (by omega))]
  by_cases h2 : 2048 ≤ (y 0).val
  · rw [View.read_writes_cons_rows_of_mem (size := S1024x128.size) v f _ _ _ y (ix2 (⟨(y 0).val - 2048, by omega⟩ : Fin 1024) (y 1)) rfl (show (y 0).val = 2048 + ((y 0).val - 2048) by omega) rfl]
    refine key 2 _ ⟨by show (y 0).val = 2 * 1024 + ((y 0).val - 2048); omega, rfl⟩
  rw [View.read_writes_cons_rows_of_not_mem (size := S1024x128.size) v f _ _ _ y (o := 2048) (W := 1024) rfl rfl (Or.inl (by omega))]
  by_cases h1 : 1024 ≤ (y 0).val
  · rw [View.read_writes_cons_rows_of_mem (size := S1024x128.size) v f _ _ _ y (ix2 (⟨(y 0).val - 1024, by omega⟩ : Fin 1024) (y 1)) rfl (show (y 0).val = 1024 + ((y 0).val - 1024) by omega) rfl]
    refine key 1 _ ⟨by show (y 0).val = 1 * 1024 + ((y 0).val - 1024); omega, rfl⟩
  rw [View.read_writes_cons_rows_of_not_mem (size := S1024x128.size) v f _ _ _ y (o := 1024) (W := 1024) rfl rfl (Or.inl (by omega))]
  rw [View.read_writes_cons_rows_of_mem (size := S1024x128.size) v f _ _ _ y (ix2 (⟨(y 0).val, by omega⟩ : Fin 1024) (y 1)) rfl (show (y 0).val = 0 + (y 0).val by omega) rfl]
  refine key 0 _ ⟨by show (y 0).val = 0 * 1024 + (y 0).val; omega, rfl⟩

section C

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S8192x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S8x128x1024 .f32) (harg14 : arg14.IsWhole)
    (h1 : ¬ first i) (h2 : last i)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)

theorem C_v4 : runC.sl.v4 arg2 arg4 f2 f4 = k0_pay25 (arg2.view.read (Elt F) f2) (arg4.view.read (Elt F) f4) := by
  unfold runC.sl.v4 runC.sl.v1 runC.sl.v3
  rw [View.readAt_full, View.readAt_full]
  rfl

theorem C_v7 : runC.sl.v7 arg2 arg4 f2 f4 = k0_pay26 (arg2.view.read (Elt F) f2) (arg4.view.read (Elt F) f4) := by
  unfold runC.sl.v7 runC.sl.v6 runC.sl.v5 runC.sl.v4 runC.sl.v1 runC.sl.v3
  rw [View.readAt_full, View.readAt_full]
  rfl

theorem C_v9 : runC.sl.v9 arg3 f3 = k0_pay27 (arg3.view.read (Elt F) f3) := by
  unfold runC.sl.v9
  rw [View.readAt_full]
  rfl

theorem C_r : runC.sl.r i arg5 f5 = k0_pay31 (rows (arg5.view.read (Elt F) f5) (slabAt (i 1).val 0)) := by
  have hn := slabAt_val (j := (i 1).val) (k := 0) (by have : (i 1).val < 16 := (i 1).isLt; omega)
  unfold runC.sl.r
  rw [readAt_rows _ _ _ (slabAt (i 1).val 0) (by rw [off1_eq, hn, Nat.add_zero])]

theorem C_r1 : runC.sl.r_1 i arg6 f6 = k0_pay32 (rows (arg6.view.read (Elt F) f6) (slabAt (i 1).val 0)) := by
  have hn := slabAt_val (j := (i 1).val) (k := 0) (by have : (i 1).val < 16 := (i 1).isLt; omega)
  unfold runC.sl.r_1
  rw [readAt_rows _ _ _ (slabAt (i 1).val 0) (by rw [off1_eq, hn, Nat.add_zero])]

theorem C_r2 : runC.sl.r_2 i arg2 arg4 arg5 arg7 f2 f4 f5 f7
    = k0_pay33 (BitVec.ofNat 32 (i 1).val) (k0_pay25 (arg2.view.read (Elt F) f2) (arg4.view.read (Elt F) f4)) (rows (arg5.view.read (Elt F) f5) (slabAt (i 1).val 0)) (stat (arg7.view.read (Elt F) f7) (slabAt (i 1).val 0)) := by
  have hn := slabAt_val (j := (i 1).val) (k := 0) (by have : (i 1).val < 16 := (i 1).isLt; omega)
  unfold runC.sl.r_2
  rw [readAt_rows _ _ _ (slabAt (i 1).val 0) (by rw [off1_eq, hn, Nat.add_zero]), readAt_stat _ _ _ (slabAt (i 1).val 0) (by rw [off2_eq, hn, Nat.add_zero]), C_v4]

theorem C_r3 : runC.sl.r_3 i arg2 arg4 arg5 arg7 f2 f4 f5 f7
    = k0_pay34 (BitVec.ofNat 32 (i 1).val) (k0_pay25 (arg2.view.read (Elt F) f2) (arg4.view.read (Elt F) f4)) (rows (arg5.view.read (Elt F) f5) (slabAt (i 1).val 0)) (stat (arg7.view.read (Elt F) f7) (slabAt (i 1).val 0)) := by
  have hn := slabAt_val (j := (i 1).val) (k := 0) (by have : (i 1).val < 16 := (i 1).isLt; omega)
  unfold runC.sl.r_3
  rw [readAt_rows _ _ _ (slabAt (i 1).val 0) (by rw [off1_eq, hn, Nat.add_zero]), readAt_stat _ _ _ (slabAt (i 1).val 0) (by rw [off2_eq, hn, Nat.add_zero]), C_v4]

theorem C_v90 : runC.sl.v90 (F := F) arg12 = k0_pay29 := by
  unfold runC.sl.v90 runC.sl.H13_1
  rw [View.readCov_full]
  rfl

theorem C_v73 : runC.sl.v73 (F := F) arg13 = k0_pay30 := by
  unfold runC.sl.v73 runC.sl.H13_1
  rw [View.readCov_full]
  rfl

theorem C_fin (s : St F)
    (e1 : s.dk = arg12.view.read (Elt F) (arg12.view.writes (Elt F) arg12.view.junk (runC.sl.H12_2 i arg2 arg3 arg4 arg5 arg6 arg7 arg8 arg12 f2 f3 f4 f5 f6 f7 f8)))
    (e2 : s.dv = arg13.view.read (Elt F) (arg13.view.writes (Elt F) arg13.view.junk (runC.sl.H13_2 i arg2 arg4 arg5 arg6 arg7 arg13 f2 f4 f5 f6 f7)))
    (e3 : s.dq = arg14.view.read (Elt F) (arg14.view.writes (Elt F) f14 (⟨Rect.unit (s := S8x128x1024) (k0_off3 i) S1x128x1024.size (k0_off3_inb i),
        runC.sl.v104 i arg2 arg3 arg4 arg5 arg6 arg7 arg8 arg14 f2 f3 f4 f5 f6 f7 f8 f14⟩ :: []))) :
    stepsFrom (i 1).val (blkOf arg5 arg6 arg7 arg8 f5 f6 f7 f8 (arg2.view.read (Elt F) f2) (arg3.view.read (Elt F) f3) (arg4.view.read (Elt F) f4)) s (7 - (i 1).val / 2) = point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ (arg14.view.read (Elt F) f14) := by
  have hn := slabAt_val (j := (i 1).val) (k := 0) (by have : (i 1).val < 16 := (i 1).isLt; omega)
  unfold point
  congr 1
  obtain ⟨a, b, d⟩ := s
  dsimp only at e1 e2 e3
  rw [e1, e2, e3]
  unfold runC.sl.H12_2 runC.sl.H13_2
  simp only [runC.sl.v104, runC.sl.v100, runC.sl.v99, runC.sl.v98, runC.sl.v95, runC.sl.v92, runC.sl.v91, runC.sl.v89, runC.sl.v88, runC.sl.v87, runC.sl.v86, runC.sl.v85, runC.sl.v84, runC.sl.v83, runC.sl.v80, runC.sl.v79, runC.sl.v76, runC.sl.v75]
  rw [View.read_writes_full, View.read_writes_full, read_putSlab _ _ _ (slabAt (i 1).val 0) (by rw [off3_eq, hn, Nat.add_zero]),
    readAt_slab _ _ _ (slabAt (i 1).val 0) (by rw [off3_eq, hn, Nat.add_zero]),
    readAt_stat _ _ _ (slabAt (i 1).val 0) (by rw [off2_eq, hn, Nat.add_zero]),
    C_r, C_r1, C_r2, C_r3, C_v7, C_v9, C_v90, C_v73, View.writes_nil]
  rfl

theorem C_dk : arg10.view.read (Elt F) ((runC (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).1 f9 f10 f11 f12 f13 f14) = (point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ (arg14.view.read (Elt F) f14)).dk := by
  unfold runC
  dsimp only
  rw [View.read_writes_full]
  unfold runC.sl.v128
  rw [show Scf.trips (k0_t2_loop i).lb (k0_t2_loop i).ub (k0_t2_loop i).st = 0 from trips2 i]
  rw [C_v4, C_v7, C_v9, pb_k0_t2.eq_1, List.nil_append]
  unfold View.readCov
  rw [View.readAt_full, View.writes_append, loop_dk]
  exact congrArg St.dk (C_fin i arg2 arg3 arg4 arg5 arg6 arg7 arg8 arg12 arg13 arg14 f2 f3 f4 f5 f6 f7 f8 f14 _ rfl rfl rfl)

theorem C_dv : arg11.view.read (Elt F) ((runC (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.1 f9 f10 f11 f12 f13 f14) = (point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ (arg14.view.read (Elt F) f14)).dv := by
  unfold runC
  dsimp only
  rw [View.read_writes_full]
  unfold runC.sl.v130
  rw [show Scf.trips (k0_t2_loop i).lb (k0_t2_loop i).ub (k0_t2_loop i).st = 0 from trips2 i]
  rw [C_v4, C_v7, C_v9, pb_k0_t2.eq_1, List.nil_append]
  unfold View.readCov
  rw [View.readAt_full, View.writes_append, loop_dv]
  exact congrArg St.dv (C_fin i arg2 arg3 arg4 arg5 arg6 arg7 arg8 arg12 arg13 arg14 f2 f3 f4 f5 f6 f7 f8 f14 _ rfl rfl rfl)

theorem C_dq : arg14.view.read (Elt F) ((runC (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.2.1 f9 f10 f11 f12 f13 f14) = (point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ (arg14.view.read (Elt F) f14)).dq := by
  unfold runC
  dsimp only
  rw [show Scf.trips (k0_t2_loop i).lb (k0_t2_loop i).ub (k0_t2_loop i).st = 0 from trips2 i]
  rw [C_v4, C_v7, C_v9, pb_k0_t2.eq_1, List.nil_append, View.writes_append]
  rw [loop_dq]
  exact congrArg St.dq (C_fin i arg2 arg3 arg4 arg5 arg6 arg7 arg8 arg12 arg13 arg14 f2 f3 f4 f5 f6 f7 f8 f14 _ rfl rfl rfl)

theorem C_out : arg9.view.read (Elt F) ((runC (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.1 f9 f10 f11 f12 f13 f14) = flat ((point (i 1).val ⟨arg2.view.read (Elt F) f2, arg3.view.read (Elt F) f3, arg4.view.read (Elt F) f4, arg5.view.read (Elt F) f5, arg6.view.read (Elt F) f6, arg7.view.read (Elt F) f7, arg8.view.read (Elt F) f8⟩ (arg14.view.read (Elt F) f14)).dq) := by
  have hD := C_dq c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f9 f10 f11 f12 f13 f14
  unfold runC at hD ⊢
  dsimp only at hD ⊢
  rw [← hD]
  unfold runC.sl.v137 runC.sl.v141 runC.sl.v145 runC.sl.v149 runC.sl.v153 runC.sl.v157 runC.sl.v159 runC.sl.v163
  unfold runC.sl.v136 runC.sl.v140 runC.sl.v144 runC.sl.v148 runC.sl.v152 runC.sl.v156
  unfold runC.sl.v135 runC.sl.v139 runC.sl.v143 runC.sl.v147 runC.sl.v151 runC.sl.v155
  clear hD
  generalize arg14.view.writes (Elt F) f14 _ = g
  rw [readAt_slab _ _ _ 0 (show (![0, 0, 0] : Fin 3 → ℕ) = ![((0 : Fin 8) : Fin 8).val, 0, 0] from rfl), readAt_slab _ _ _ 1 (show (![1, 0, 0] : Fin 3 → ℕ) = ![((1 : Fin 8) : Fin 8).val, 0, 0] from rfl), readAt_slab _ _ _ 2 (show (![2, 0, 0] : Fin 3 → ℕ) = ![((2 : Fin 8) : Fin 8).val, 0, 0] from rfl), readAt_slab _ _ _ 3 (show (![3, 0, 0] : Fin 3 → ℕ) = ![((3 : Fin 8) : Fin 8).val, 0, 0] from rfl), readAt_slab _ _ _ 4 (show (![4, 0, 0] : Fin 3 → ℕ) = ![((4 : Fin 8) : Fin 8).val, 0, 0] from rfl), readAt_slab _ _ _ 5 (show (![5, 0, 0] : Fin 3 → ℕ) = ![((5 : Fin 8) : Fin 8).val, 0, 0] from rfl), readAt_slab _ _ _ 6 (show (![6, 0, 0] : Fin 3 → ℕ) = ![((6 : Fin 8) : Fin 8).val, 0, 0] from rfl), readAt_slab _ _ _ 7 (show (![7, 0, 0] : Fin 3 → ℕ) = ![((7 : Fin 8) : Fin 8).val, 0, 0] from rfl)]
  exact read_flat _ _ _ _ _ _ _ _ _ _ _

end C

end Cert.KernelIdeal.Attn

end
-- ==== Proof.Body.lean ====
module

public import proofs.«01_k».proof.Proof.AfterA
public import proofs.«01_k».proof.Proof.AfterB
public import proofs.«01_k».proof.Proof.AfterC
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The body at a grid point, as one triple

From its tiles and whatever the head's query gradient then is, the body leaves the two tiles' gradients and the next
query gradient; the head's first tile starts the query gradient from nought, its last sends it out. -/

/-- The head's query gradient as a point finds it: nought at the head's first key tile. -/
def start (i : grid0.Coords) (D : Vec F S8x128x1024 .f32) : Vec F S8x128x1024 .f32 := if (i 1).val = 0 then k0_pay28 else D

section Body
variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S8192x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S8x128x1024 .f32) (harg14 : arg14.IsWhole) (x : Blk F) (D : Vec F S8x128x1024 .f32)
  (d9 : Vec F S8192x128 .f32) (d10 d11 : Vec F S512x128 .f32)

/-- What the body is called with. -/
def preOf : sProp 𝕄 :=
  iprop(owns (c : Thread nD τ) arg2 fullShare x.k ∗ owns (c : Thread nD τ) arg3 fullShare x.v ∗ owns (c : Thread nD τ) arg4 fullShare x.pe ∗ owns (c : Thread nD τ) arg5 fullShare x.q ∗ owns (c : Thread nD τ) arg6 fullShare x.g ∗ owns (c : Thread nD τ) arg7 fullShare x.lse ∗ owns (c : Thread nD τ) arg8 fullShare x.dl ∗ owns (c : Thread nD τ) arg9 fullShare d9 ∗ owns (c : Thread nD τ) arg10 fullShare d10 ∗ owns (c : Thread nD τ) arg11 fullShare d11 ∗ (∃ d, owns (c : Thread nD τ) arg12 fullShare d) ∗ (∃ d, owns (c : Thread nD τ) arg13 fullShare d) ∗ owns (c : Thread nD τ) arg14 fullShare D)

/-- What it leaves. -/
def postOf : sProp 𝕄 :=
  iprop(owns (c : Thread nD τ) arg2 fullShare x.k ∗ owns (c : Thread nD τ) arg3 fullShare x.v ∗ owns (c : Thread nD τ) arg4 fullShare x.pe ∗ owns (c : Thread nD τ) arg5 fullShare x.q ∗ owns (c : Thread nD τ) arg6 fullShare x.g ∗ owns (c : Thread nD τ) arg7 fullShare x.lse ∗ owns (c : Thread nD τ) arg8 fullShare x.dl ∗ owns (c : Thread nD τ) arg9 fullShare (if last i then flat (point (i 1).val x (start i D)).dq else d9) ∗ owns (c : Thread nD τ) arg10 fullShare (point (i 1).val x (start i D)).dk ∗ owns (c : Thread nD τ) arg11 fullShare (point (i 1).val x (start i D)).dv ∗ (∃ d, owns (c : Thread nD τ) arg12 fullShare d) ∗ (∃ d, owns (c : Thread nD τ) arg13 fullShare d) ∗ owns (c : Thread nD τ) arg14 fullShare (point (i 1).val x (start i D)).dq)

set_option maxHeartbeats 2000000 in
theorem bodyA (E : Set ℕ) (K : PUnit → sProp 𝕄) (h1 : first i) (h2 : ¬ last i) :
    iprop(preOf c arg2 arg3 arg4 arg5 arg6 arg7 arg8 arg9 arg10 arg11 arg12 arg13 arg14 x D d9 d10 d11 ∗ (postOf c i arg2 arg3 arg4 arg5 arg6 arg7 arg8 arg9 arg10 arg11 arg12 arg13 arg14 x D d9 -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  unfold preOf postOf
  rw [show start i D = k0_pay28 from if_pos ((first_iff i).mp h1), if_neg h2]
  unfold owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, ⟨%f12, %e12, H12⟩⟩, ⟨%d13, ⟨%f13, %e13, H13⟩⟩, ⟨%f14, %e14, H14⟩⟩, Hk⟩
  have hx : x = ⟨arg2.view.read (Elt F) f2, arg3.view.read (Elt F) f3, arg4.view.read (Elt F) f4, arg5.view.read (Elt F) f5, arg6.view.read (Elt F) f6, arg7.view.read (Elt F) f7, arg8.view.read (Elt F) f8⟩ := by
    rw [e2, e3, e4, e5, e6, e7, e8]
  have hdk := A_dk c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f10 f11 f12 f13 f14
  have hdv := A_dv c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f10 f11 f12 f13 f14
  have hdq := A_dq c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f10 f11 f12 f13 f14
  rw [← hx] at hdk hdv hdq
  iapply ((runA (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.2 E K f10 f11 f12 f13 f14)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iintro ⟨H2, H3, H4, H5, H6, H7, H8, H10, H11, ⟨%g12, H12⟩, ⟨%g13, H13⟩, H14⟩
  iapply Hk
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro; exact e5
  isplitl [H6]
  · iexists _; isplitr
    swap; · iexact H6
    ipureintro; exact e6
  isplitl [H7]
  · iexists _; isplitr
    swap; · iexact H7
    ipureintro; exact e7
  isplitl [H8]
  · iexists _; isplitr
    swap; · iexact H8
    ipureintro; exact e8
  isplitl [H9]
  · iexists _; isplitr
    swap; · iexact H9
    ipureintro; exact e9
  isplitl [H10]
  · iexists _; isplitr
    swap; · iexact H10
    ipureintro; exact hdk
  isplitl [H11]
  · iexists _; isplitr
    swap; · iexact H11
    ipureintro; exact hdv
  isplitl [H12]
  · iexists _; iexists _; isplitr
    swap; · iexact H12
    ipureintro; exact rfl
  isplitl [H13]
  · iexists _; iexists _; isplitr
    swap; · iexact H13
    ipureintro; exact rfl
  iexists _; isplitr
  swap; · iexact H14
  ipureintro; exact hdq

set_option maxHeartbeats 2000000 in
theorem bodyB (E : Set ℕ) (K : PUnit → sProp 𝕄) (h1 : ¬ first i) (h2 : ¬ last i) :
    iprop(preOf c arg2 arg3 arg4 arg5 arg6 arg7 arg8 arg9 arg10 arg11 arg12 arg13 arg14 x D d9 d10 d11 ∗ (postOf c i arg2 arg3 arg4 arg5 arg6 arg7 arg8 arg9 arg10 arg11 arg12 arg13 arg14 x D d9 -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  unfold preOf postOf
  rw [show start i D = D from if_neg (fun h => h1 ((first_iff i).mpr h)), if_neg h2]
  unfold owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, ⟨%f12, %e12, H12⟩⟩, ⟨%d13, ⟨%f13, %e13, H13⟩⟩, ⟨%f14, %e14, H14⟩⟩, Hk⟩
  have hx : x = ⟨arg2.view.read (Elt F) f2, arg3.view.read (Elt F) f3, arg4.view.read (Elt F) f4, arg5.view.read (Elt F) f5, arg6.view.read (Elt F) f6, arg7.view.read (Elt F) f7, arg8.view.read (Elt F) f8⟩ := by
    rw [e2, e3, e4, e5, e6, e7, e8]
  have hdk := B_dk c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f10 f11 f12 f13 f14
  have hdv := B_dv c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f10 f11 f12 f13 f14
  have hdq := B_dq c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f10 f11 f12 f13 f14
  rw [← hx] at hdk hdv hdq
  rw [e14] at hdk hdv hdq
  iapply ((runB (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.2 E K f10 f11 f12 f13 f14)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iintro ⟨H2, H3, H4, H5, H6, H7, H8, H10, H11, ⟨%g12, H12⟩, ⟨%g13, H13⟩, H14⟩
  iapply Hk
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro; exact e5
  isplitl [H6]
  · iexists _; isplitr
    swap; · iexact H6
    ipureintro; exact e6
  isplitl [H7]
  · iexists _; isplitr
    swap; · iexact H7
    ipureintro; exact e7
  isplitl [H8]
  · iexists _; isplitr
    swap; · iexact H8
    ipureintro; exact e8
  isplitl [H9]
  · iexists _; isplitr
    swap; · iexact H9
    ipureintro; exact e9
  isplitl [H10]
  · iexists _; isplitr
    swap; · iexact H10
    ipureintro; exact hdk
  isplitl [H11]
  · iexists _; isplitr
    swap; · iexact H11
    ipureintro; exact hdv
  isplitl [H12]
  · iexists _; iexists _; isplitr
    swap; · iexact H12
    ipureintro; exact rfl
  isplitl [H13]
  · iexists _; iexists _; isplitr
    swap; · iexact H13
    ipureintro; exact rfl
  iexists _; isplitr
  swap; · iexact H14
  ipureintro; exact hdq

set_option maxHeartbeats 2000000 in
theorem bodyC (E : Set ℕ) (K : PUnit → sProp 𝕄) (h1 : ¬ first i) (h2 : last i) :
    iprop(preOf c arg2 arg3 arg4 arg5 arg6 arg7 arg8 arg9 arg10 arg11 arg12 arg13 arg14 x D d9 d10 d11 ∗ (postOf c i arg2 arg3 arg4 arg5 arg6 arg7 arg8 arg9 arg10 arg11 arg12 arg13 arg14 x D d9 -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  unfold preOf postOf
  rw [show start i D = D from if_neg (fun h => h1 ((first_iff i).mpr h)), if_pos h2]
  unfold owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, ⟨%f12, %e12, H12⟩⟩, ⟨%d13, ⟨%f13, %e13, H13⟩⟩, ⟨%f14, %e14, H14⟩⟩, Hk⟩
  have hx : x = ⟨arg2.view.read (Elt F) f2, arg3.view.read (Elt F) f3, arg4.view.read (Elt F) f4, arg5.view.read (Elt F) f5, arg6.view.read (Elt F) f6, arg7.view.read (Elt F) f7, arg8.view.read (Elt F) f8⟩ := by
    rw [e2, e3, e4, e5, e6, e7, e8]
  have hdk := C_dk c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f9 f10 f11 f12 f13 f14
  have hdv := C_dv c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f9 f10 f11 f12 f13 f14
  have hdq := C_dq c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f9 f10 f11 f12 f13 f14
  rw [← hx] at hdk hdv hdq
  rw [e14] at hdk hdv hdq
  have hout := C_out c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8 f9 f10 f11 f12 f13 f14
  rw [← hx, e14] at hout
  iapply ((runC (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.2.2 E K f9 f10 f11 f12 f13 f14)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H10, H11, H9, ⟨%g12, H12⟩, ⟨%g13, H13⟩, H14⟩
  iapply Hk
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro; exact e5
  isplitl [H6]
  · iexists _; isplitr
    swap; · iexact H6
    ipureintro; exact e6
  isplitl [H7]
  · iexists _; isplitr
    swap; · iexact H7
    ipureintro; exact e7
  isplitl [H8]
  · iexists _; isplitr
    swap; · iexact H8
    ipureintro; exact e8
  isplitl [H9]
  · iexists _; isplitr
    swap; · iexact H9
    ipureintro; exact hout
  isplitl [H10]
  · iexists _; isplitr
    swap; · iexact H10
    ipureintro; exact hdk
  isplitl [H11]
  · iexists _; isplitr
    swap; · iexact H11
    ipureintro; exact hdv
  isplitl [H12]
  · iexists _; iexists _; isplitr
    swap; · iexact H12
    ipureintro; exact rfl
  isplitl [H13]
  · iexists _; iexists _; isplitr
    swap; · iexact H13
    ipureintro; exact rfl
  iexists _; isplitr
  swap; · iexact H14
  ipureintro; exact hdq

theorem body_at (E : Set ℕ) (K : PUnit → sProp 𝕄) :
    iprop(preOf c arg2 arg3 arg4 arg5 arg6 arg7 arg8 arg9 arg10 arg11 arg12 arg13 arg14 x D d9 d10 d11 ∗ (postOf c i arg2 arg3 arg4 arg5 arg6 arg7 arg8 arg9 arg10 arg11 arg12 arg13 arg14 x D d9 -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  by_cases h1 : first i
  · have h2 : ¬ last i := fun h => by
      have a := (first_iff i).mp h1
      have b := (last_iff i).mp h
      omega
    exact bodyA c i arg2 harg2 arg3 harg3 arg4 harg4 arg5 harg5 arg6 harg6 arg7 harg7 arg8 harg8 arg9 harg9 arg10 harg10 arg11 harg11 arg12 harg12 arg13 harg13 arg14 harg14 x D d9 d10 d11 E K h1 h2
  · by_cases h2 : last i
    · exact bodyC c i arg2 harg2 arg3 harg3 arg4 harg4 arg5 harg5 arg6 harg6 arg7 harg7 arg8 harg8 arg9 harg9 arg10 harg10 arg11 harg11 arg12 harg12 arg13 harg13 arg14 harg14 x D d9 d10 d11 E K h1 h2
    · exact bodyB c i arg2 harg2 arg3 harg3 arg4 harg4 arg5 harg5 arg6 harg6 arg7 harg7 arg8 harg8 arg9 harg9 arg10 harg10 arg11 harg11 arg12 harg12 arg13 harg13 arg14 harg14 x D d9 d10 d11 E K h1 h2

end Body

end Cert.KernelIdeal.Attn

end
-- ==== Proof.Track.lean ====
module

public import proofs.«01_k».proof.Proof.Gen.KernelIdeal.Frame
public import proofs.«01_k».proof.Proof.Body
public import Idealize.ShloMosaic.Lib.Claim
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points' coordinates -/

theorem coord1 (t : Fin cfg0.N) : (grid0.coords t 1).val = t.val % 16 := by
  have e : (grid0.coords t 1).val = t.val / 1 % 16 := Pipeline.Grid.coords_val t 1 (by decide) rfl
  rw [e, Nat.div_one]

/-! ## The head's query gradient from point to point -/

/-- What point `t` reads. -/
def blkAt (c : Dev nD) (t : Fin cfg0.N) : Blk F :=
  ⟨iblk m c 0 t, iblk m c 1 t, iblk m c 2 t, iblk m c 3 t, iblk m c 4 t, iblk m c 5 t, iblk m c 6 t⟩

/-- The head's query gradient before point `n` (at a head's first point the body starts it afresh). -/
def dqAt (c : Dev nD) : (n : ℕ) → n ≤ cfg0.N → Vec F S8x128x1024 .f32
  | 0, _ => k0_pay28
  | n + 1, h => (point (grid0.coords ⟨n, h⟩ 1).val (blkAt m c ⟨n, h⟩) (start (grid0.coords ⟨n, h⟩) (dqAt c n (Nat.le_of_lt h)))).dq

/-- What point `t` leaves in the three running arrays. -/
def outAt (c : Dev nD) (t : Fin cfg0.N) : St F :=
  point (grid0.coords t 1).val (blkAt m c t) (start (grid0.coords t) (dqAt m c t.val (Nat.le_of_lt t.isLt)))

/-! ## The region's invariant -/

/-- Each window's current staging buffer, and the scratch buffers. -/
abbrev mem0 (t : Fin cfg0.N) : Memref sig .tc .vmem S512x128 .bf16 := win0_0.stage (cfg0.slots t 0)
abbrev mem1 (t : Fin cfg0.N) : Memref sig .tc .vmem S512x128 .bf16 := win0_1.stage (cfg0.slots t 1)
abbrev mem2 (t : Fin cfg0.N) : Memref sig .tc .vmem S512x128 .bf16 := win0_2.stage (cfg0.slots t 2)
abbrev mem3 (t : Fin cfg0.N) : Memref sig .tc .vmem S8192x128 .bf16 := win0_3.stage (cfg0.slots t 3)
abbrev mem4 (t : Fin cfg0.N) : Memref sig .tc .vmem S8192x128 .bf16 := win0_4.stage (cfg0.slots t 4)
abbrev mem5 (t : Fin cfg0.N) : Memref sig .tc .vmem S1x8x1x1024 .f32 := win0_5.stage (cfg0.slots t 5)
abbrev mem6 (t : Fin cfg0.N) : Memref sig .tc .vmem S1x8x1x1024 .f32 := win0_6.stage (cfg0.slots t 6)
abbrev mem7 (t : Fin cfg0.N) : Memref sig .tc .vmem S8192x128 .f32 := win0_7.stage (cfg0.slots t 7)
abbrev mem8 (t : Fin cfg0.N) : Memref sig .tc .vmem S512x128 .f32 := win0_8.stage (cfg0.slots t 8)
abbrev mem9 (t : Fin cfg0.N) : Memref sig .tc .vmem S512x128 .f32 := win0_9.stage (cfg0.slots t 9)
abbrev scr0 : Memref sig .tc .vmem S512x128 .f32 := Memref.whole cc0_scratch0
abbrev scr1 : Memref sig .tc .vmem S512x128 .f32 := Memref.whole cc0_scratch1
abbrev scr2 : Memref sig .tc .vmem S8x128x1024 .f32 := Memref.whole cc0_scratch2

theorem PhiA_eq (c : Dev nD) : (Pipeline.ΦA spec0 c : sProp 𝕄)
    = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- Before point `n`: the two tiles' buffers at anything, the head's query gradient at `dqAt` unless a head begins. -/
def PhiS (c : Dev nD) (n : ℕ) (h : n ≤ cfg0.N) : sProp 𝕄 :=
  iprop(iprop((∃ d, owns (c : Thread nD τ) scr0 fullShare d) ∗ (∃ d, owns (c : Thread nD τ) scr1 fullShare d)
    ∗ (∃ d, ⌜n % 16 ≠ 0 → d = dqAt m c n h⌝ ∗ owns (c : Thread nD τ) scr2 fullShare d)) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => flat (outAt m c t).dq
    | ⟨8, _⟩ => (outAt m c t).dk
    | ⟨9, _⟩ => (outAt m c t).dv
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = flat (outAt m c t).dq := by dsimp only [dats]
theorem after8 (c : Dev nD) (t : Fin cfg0.N) : (dats m 0 c).after 8 t = (outAt m c t).dk := by dsimp only [dats]
theorem after9 (c : Dev nD) (t : Fin cfg0.N) : (dats m 0 c).after 9 t = (outAt m c t).dv := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d))
    ∗ (∃ d, owns (c : Thread nD τ) (mem9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem last_coords (t : Fin cfg0.N) : last (grid0.coords t) ↔ t.val % 16 = 15 :=
  (last_iff (grid0.coords t)).trans (by rw [coord1])

/-- The query gradient's window goes back at a head's last point, and stays as found at the others. -/
theorem leaves7 (c : Dev nD) (t : Fin cfg0.N) (d : (cfg0.win 7).block.Idx → Elt F (cfg0.win 7).elt) :
    owns (c : Thread nD τ) (mem7 t) fullShare (if last (grid0.coords t) then flat (outAt m c t).dq else (dats m 0 c).before 7 t d)
      ⊢ (dats m 0 c).leavesExact 7 t := by
  by_cases h : last (grid0.coords t)
  · rw [if_pos h]
    have hi : cfg0.idle 7 (grid0.coords t) = false := by
      show (!(k0_cond2 (grid0.coords t) == 1#1)) = false
      rw [show k0_cond2 (grid0.coords t) = 1#1 from h]; rfl
    rw [show (dats m 0 c).leavesExact 7 t = owns (c : Thread nD τ) (mem7 t) fullShare ((dats m 0 c).after 7 t) from by
      unfold Dat.leavesExact; rw [hi], after7]
  · rw [if_neg h]
    have hi : cfg0.idle 7 (grid0.coords t) = true := by
      show (!(k0_cond2 (grid0.coords t) == 1#1)) = true
      rw [Bool.not_eq_true', beq_eq_false_iff_ne]
      exact h
    have hf : (cfg0.win 7).flush t = false := by
      rw [Bool.eq_false_iff]
      exact fun hf => h ((last_coords t).mpr ((flush0_7 t).mp hf))
    rw [Dat.leavesExact_idle _ 7 t hi hf]
    iintro H
    iexists d
    iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_castSucc m c t]
  rw [show (dats m 0 c).leavesExact 0 t = owns (c : Thread nD τ) (mem0 t) fullShare ((dats m 0 c).after 0 t) from by
    unfold Dat.leavesExact; rw [show cfg0.idle 0 (grid0.coords t) = false from rfl], after0]
  rw [show (dats m 0 c).leavesExact 1 t = owns (c : Thread nD τ) (mem1 t) fullShare ((dats m 0 c).after 1 t) from by
    unfold Dat.leavesExact; rw [show cfg0.idle 1 (grid0.coords t) = false from rfl], after1]
  rw [show (dats m 0 c).leavesExact 2 t = owns (c : Thread nD τ) (mem2 t) fullShare ((dats m 0 c).after 2 t) from by
    unfold Dat.leavesExact; rw [show cfg0.idle 2 (grid0.coords t) = false from rfl], after2]
  rw [show (dats m 0 c).leavesExact 3 t = owns (c : Thread nD τ) (mem3 t) fullShare ((dats m 0 c).after 3 t) from by
    unfold Dat.leavesExact; rw [show cfg0.idle 3 (grid0.coords t) = false from rfl], after3]
  rw [show (dats m 0 c).leavesExact 4 t = owns (c : Thread nD τ) (mem4 t) fullShare ((dats m 0 c).after 4 t) from by
    unfold Dat.leavesExact; rw [show cfg0.idle 4 (grid0.coords t) = false from rfl], after4]
  rw [show (dats m 0 c).leavesExact 5 t = owns (c : Thread nD τ) (mem5 t) fullShare ((dats m 0 c).after 5 t) from by
    unfold Dat.leavesExact; rw [show cfg0.idle 5 (grid0.coords t) = false from rfl], after5]
  rw [show (dats m 0 c).leavesExact 6 t = owns (c : Thread nD τ) (mem6 t) fullShare ((dats m 0 c).after 6 t) from by
    unfold Dat.leavesExact; rw [show cfg0.idle 6 (grid0.coords t) = false from rfl], after6]
  rw [show (dats m 0 c).leavesExact 8 t = owns (c : Thread nD τ) (mem8 t) fullShare ((dats m 0 c).after 8 t) from by
    unfold Dat.leavesExact; rw [show cfg0.idle 8 (grid0.coords t) = false from rfl], after8]
  rw [show (dats m 0 c).leavesExact 9 t = owns (c : Thread nD τ) (mem9 t) fullShare ((dats m 0 c).after 9 t) from by
    unfold Dat.leavesExact; rw [show cfg0.idle 9 (grid0.coords t) = false from rfl], after9]
  unfold PhiS
  iintro ⟨⟨⟨HS0, HS1, ⟨%D, %hD, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hs : start (grid0.coords t) D = start (grid0.coords t) (dqAt m c t.val (Nat.le_of_lt t.isLt)) := by
    unfold start
    by_cases h0 : (grid0.coords t 1).val = 0
    · rw [if_pos h0, if_pos h0]
    · rw [if_neg h0, if_neg h0]
      exact hD (by rw [coord1] at h0; exact h0)
  iapply (body_at c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) (mem8 t) (hstage0_8 ((cfg0.slots t 8).cast nbuf0_8)) (mem9 t) (hstage0_9 ((cfg0.slots t 9).cast nbuf0_9)) scr0 (Memref.isWhole_whole _) scr1 (Memref.isWhole_whole _) scr2 (Memref.isWhole_whole _) (blkAt m c t) D ((dats m 0 c).before 7 t d7) ((dats m 0 c).before 8 t d8) ((dats m 0 c).before 9 t d9) Set.univ _)
  unfold preOf
  isplitl [H0 H1 H2 H3 H4 H5 H6 H7 H8 H9 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  unfold postOf
  rw [hs]
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexists _
      isplitr
      swap; · iexact HS2
      ipureintro
      exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7 m c t d7); iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨HS0, HS1, ⟨%D, HS2⟩⟩, Hg⟩
  isplitr [Hg]
  · isplitl [HS0]; · iexact HS0
    isplitl [HS1]; · iexact HS1
    iexists D
    isplitr
    swap; · iexact HS2
    ipureintro
    exact fun h => absurd rfl h
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨HS0, HS1, ⟨%D, %hD, HS2⟩⟩, Hg⟩
  isplitr [Hg]
  · isplitl [HS0]; · iexact HS0
    isplitl [HS1]; · iexact HS1
    iexists D
    iexact HS2
  iexact Hg

/-! ## The run and the frame -/

set_option backward.isDefEq.respectTransparency.types false in
/-- The launch: every array as the proof data say, every other buffer as the region found it, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m) (hQ' := fun _ h => h)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Attn

end
-- ==== Proof.Words.Track.lean ====
module

public import proofs.«01_k».proof.Proof.Gen.Kernel.Frame
public import proofs.«01_k».proof.Proof.Words.RunA
public import proofs.«01_k».proof.Proof.Words.RunB
public import proofs.«01_k».proof.Proof.Words.RunC
public import Idealize.ShloMosaic.Lib.Claim
public import Idealize.ShloMosaic.Lib.Pipeline.FrameBody
public import Idealize.ShloMosaic.Lib.Tactic

@[expose] public section

set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The frame of the kernel with its floats as words

The frame says nothing of what the outputs hold, so the body is taken from any contents of its buffers to any. -/

/-- A buffer held at some contents. -/
def held {S : Shape} {e : EltTy} (c : Dev nD) (a : Memref sig .tc .vmem S e) : sProp 𝕄 := iprop(∃ X, owns (c : Thread nD τ) a fullShare X)

section Body
variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S8192x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S8x128x1024 .f32) (harg14 : arg14.IsWhole)

/-- All thirteen buffers, each held at some contents. -/
def allHeld : sProp 𝕄 :=
  iprop(held (F := F) c arg2 ∗ held (F := F) c arg3 ∗ held (F := F) c arg4 ∗ held (F := F) c arg5 ∗ held (F := F) c arg6 ∗ held (F := F) c arg7 ∗ held (F := F) c arg8 ∗ held (F := F) c arg9 ∗ held (F := F) c arg10 ∗ held (F := F) c arg11 ∗ held (F := F) c arg12 ∗ held (F := F) c arg13 ∗ held (F := F) c arg14)

set_option maxHeartbeats 2000000 in
theorem bodyA (E : Set ℕ) (K : PUnit → sProp 𝕄) (h1 : first i) (h2 : ¬ last i) :
    iprop(allHeld (F := F) c arg2 arg3 arg4 arg5 arg6 arg7 arg8 arg9 arg10 arg11 arg12 arg13 arg14 ∗ (allHeld (F := F) c arg2 arg3 arg4 arg5 arg6 arg7 arg8 arg9 arg10 arg11 arg12 arg13 arg14 -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  unfold allHeld held owns
  iintro ⟨⟨⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩, ⟨%d7, ⟨%f7, %e7, H7⟩⟩, ⟨%d8, ⟨%f8, %e8, H8⟩⟩, ⟨%d9, ⟨%f9, %e9, H9⟩⟩, ⟨%d10, ⟨%f10, %e10, H10⟩⟩, ⟨%d11, ⟨%f11, %e11, H11⟩⟩, ⟨%d12, ⟨%f12, %e12, H12⟩⟩, ⟨%d13, ⟨%f13, %e13, H13⟩⟩, ⟨%d14, ⟨%f14, %e14, H14⟩⟩⟩, Hk⟩
  iapply ((runA (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.2 E K f10 f11 f12 f13 f14)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iintro ⟨H2, H3, H4, H5, H6, H7, H8, H10, H11, ⟨%g12, H12⟩, ⟨%g13, H13⟩, H14⟩
  iapply Hk
  isplitl [H2]
  · iexists _; iexists _; isplitr
    swap; · iexact H2
    ipureintro; exact rfl
  isplitl [H3]
  · iexists _; iexists _; isplitr
    swap; · iexact H3
    ipureintro; exact rfl
  isplitl [H4]
  · iexists _; iexists _; isplitr
    swap; · iexact H4
    ipureintro; exact rfl
  isplitl [H5]
  · iexists _; iexists _; isplitr
    swap; · iexact H5
    ipureintro; exact rfl
  isplitl [H6]
  · iexists _; iexists _; isplitr
    swap; · iexact H6
    ipureintro; exact rfl
  isplitl [H7]
  · iexists _; iexists _; isplitr
    swap; · iexact H7
    ipureintro; exact rfl
  isplitl [H8]
  · iexists _; iexists _; isplitr
    swap; · iexact H8
    ipureintro; exact rfl
  isplitl [H9]
  · iexists _; iexists _; isplitr
    swap; · iexact H9
    ipureintro; exact rfl
  isplitl [H10]
  · iexists _; iexists _; isplitr
    swap; · iexact H10
    ipureintro; exact rfl
  isplitl [H11]
  · iexists _; iexists _; isplitr
    swap; · iexact H11
    ipureintro; exact rfl
  isplitl [H12]
  · iexists _; iexists _; isplitr
    swap; · iexact H12
    ipureintro; exact rfl
  isplitl [H13]
  · iexists _; iexists _; isplitr
    swap; · iexact H13
    ipureintro; exact rfl
  iexists _; iexists _; isplitr
  swap; · iexact H14
  ipureintro; exact rfl

set_option maxHeartbeats 2000000 in
theorem bodyB (E : Set ℕ) (K : PUnit → sProp 𝕄) (h1 : ¬ first i) (h2 : ¬ last i) :
    iprop(allHeld (F := F) c arg2 arg3 arg4 arg5 arg6 arg7 arg8 arg9 arg10 arg11 arg12 arg13 arg14 ∗ (allHeld (F := F) c arg2 arg3 arg4 arg5 arg6 arg7 arg8 arg9 arg10 arg11 arg12 arg13 arg14 -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  unfold allHeld held owns
  iintro ⟨⟨⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩, ⟨%d7, ⟨%f7, %e7, H7⟩⟩, ⟨%d8, ⟨%f8, %e8, H8⟩⟩, ⟨%d9, ⟨%f9, %e9, H9⟩⟩, ⟨%d10, ⟨%f10, %e10, H10⟩⟩, ⟨%d11, ⟨%f11, %e11, H11⟩⟩, ⟨%d12, ⟨%f12, %e12, H12⟩⟩, ⟨%d13, ⟨%f13, %e13, H13⟩⟩, ⟨%d14, ⟨%f14, %e14, H14⟩⟩⟩, Hk⟩
  iapply ((runB (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.2 E K f10 f11 f12 f13 f14)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  isplitl [H14]; · iexact H14
  iintro ⟨H2, H3, H4, H5, H6, H7, H8, H10, H11, ⟨%g12, H12⟩, ⟨%g13, H13⟩, H14⟩
  iapply Hk
  isplitl [H2]
  · iexists _; iexists _; isplitr
    swap; · iexact H2
    ipureintro; exact rfl
  isplitl [H3]
  · iexists _; iexists _; isplitr
    swap; · iexact H3
    ipureintro; exact rfl
  isplitl [H4]
  · iexists _; iexists _; isplitr
    swap; · iexact H4
    ipureintro; exact rfl
  isplitl [H5]
  · iexists _; iexists _; isplitr
    swap; · iexact H5
    ipureintro; exact rfl
  isplitl [H6]
  · iexists _; iexists _; isplitr
    swap; · iexact H6
    ipureintro; exact rfl
  isplitl [H7]
  · iexists _; iexists _; isplitr
    swap; · iexact H7
    ipureintro; exact rfl
  isplitl [H8]
  · iexists _; iexists _; isplitr
    swap; · iexact H8
    ipureintro; exact rfl
  isplitl [H9]
  · iexists _; iexists _; isplitr
    swap; · iexact H9
    ipureintro; exact rfl
  isplitl [H10]
  · iexists _; iexists _; isplitr
    swap; · iexact H10
    ipureintro; exact rfl
  isplitl [H11]
  · iexists _; iexists _; isplitr
    swap; · iexact H11
    ipureintro; exact rfl
  isplitl [H12]
  · iexists _; iexists _; isplitr
    swap; · iexact H12
    ipureintro; exact rfl
  isplitl [H13]
  · iexists _; iexists _; isplitr
    swap; · iexact H13
    ipureintro; exact rfl
  iexists _; iexists _; isplitr
  swap; · iexact H14
  ipureintro; exact rfl

set_option maxHeartbeats 2000000 in
theorem bodyC (E : Set ℕ) (K : PUnit → sProp 𝕄) (h1 : ¬ first i) (h2 : last i) :
    iprop(allHeld (F := F) c arg2 arg3 arg4 arg5 arg6 arg7 arg8 arg9 arg10 arg11 arg12 arg13 arg14 ∗ (allHeld (F := F) c arg2 arg3 arg4 arg5 arg6 arg7 arg8 arg9 arg10 arg11 arg12 arg13 arg14 -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  unfold allHeld held owns
  iintro ⟨⟨⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩, ⟨%d7, ⟨%f7, %e7, H7⟩⟩, ⟨%d8, ⟨%f8, %e8, H8⟩⟩, ⟨%d9, ⟨%f9, %e9, H9⟩⟩, ⟨%d10, ⟨%f10, %e10, H10⟩⟩, ⟨%d11, ⟨%f11, %e11, H11⟩⟩, ⟨%d12, ⟨%f12, %e12, H12⟩⟩, ⟨%d13, ⟨%f13, %e13, H13⟩⟩, ⟨%d14, ⟨%f14, %e14, H14⟩⟩⟩, Hk⟩
  iapply ((runC (F := F) c i arg2 harg2 arg3 harg3 arg4 harg4 arg5 harg5 arg6 harg6 arg7 harg7 arg8 harg8 arg9 harg9 arg10 harg10 arg11 harg11 arg12 harg12 arg13 harg13 arg14 harg14 h1 h2 f2 f3 f4 f5 f6 f7 f8).2.2.2.2 E K f9 f10 f11 f12 f13 f14)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H10, H11, H9, ⟨%g12, H12⟩, ⟨%g13, H13⟩, H14⟩
  iapply Hk
  isplitl [H2]
  · iexists _; iexists _; isplitr
    swap; · iexact H2
    ipureintro; exact rfl
  isplitl [H3]
  · iexists _; iexists _; isplitr
    swap; · iexact H3
    ipureintro; exact rfl
  isplitl [H4]
  · iexists _; iexists _; isplitr
    swap; · iexact H4
    ipureintro; exact rfl
  isplitl [H5]
  · iexists _; iexists _; isplitr
    swap; · iexact H5
    ipureintro; exact rfl
  isplitl [H6]
  · iexists _; iexists _; isplitr
    swap; · iexact H6
    ipureintro; exact rfl
  isplitl [H7]
  · iexists _; iexists _; isplitr
    swap; · iexact H7
    ipureintro; exact rfl
  isplitl [H8]
  · iexists _; iexists _; isplitr
    swap; · iexact H8
    ipureintro; exact rfl
  isplitl [H9]
  · iexists _; iexists _; isplitr
    swap; · iexact H9
    ipureintro; exact rfl
  isplitl [H10]
  · iexists _; iexists _; isplitr
    swap; · iexact H10
    ipureintro; exact rfl
  isplitl [H11]
  · iexists _; iexists _; isplitr
    swap; · iexact H11
    ipureintro; exact rfl
  isplitl [H12]
  · iexists _; iexists _; isplitr
    swap; · iexact H12
    ipureintro; exact rfl
  isplitl [H13]
  · iexists _; iexists _; isplitr
    swap; · iexact H13
    ipureintro; exact rfl
  iexists _; iexists _; isplitr
  swap; · iexact H14
  ipureintro; exact rfl

theorem body_at (E : Set ℕ) (K : PUnit → sProp 𝕄) :
    iprop(allHeld (F := F) c arg2 arg3 arg4 arg5 arg6 arg7 arg8 arg9 arg10 arg11 arg12 arg13 arg14 ∗ (allHeld (F := F) c arg2 arg3 arg4 arg5 arg6 arg7 arg8 arg9 arg10 arg11 arg12 arg13 arg14 -∗ K ⟨⟩))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14) K := by
  by_cases h1 : first i
  · have h2 : ¬ last i := fun h => by
      have a := (first_iff i).mp h1
      have b := (last_iff i).mp h
      omega
    exact bodyA c i arg2 harg2 arg3 harg3 arg4 harg4 arg5 harg5 arg6 harg6 arg7 harg7 arg8 harg8 arg9 harg9 arg10 harg10 arg11 harg11 arg12 harg12 arg13 harg13 arg14 harg14 E K h1 h2
  · by_cases h2 : last i
    · exact bodyC c i arg2 harg2 arg3 harg3 arg4 harg4 arg5 harg5 arg6 harg6 arg7 harg7 arg8 harg8 arg9 harg9 arg10 harg10 arg11 harg11 arg12 harg12 arg13 harg13 arg14 harg14 E K h1 h2
    · exact bodyB c i arg2 harg2 arg3 harg3 arg4 harg4 arg5 harg5 arg6 harg6 arg7 harg7 arg8 harg8 arg9 harg9 arg10 harg10 arg11 harg11 arg12 harg12 arg13 harg13 arg14 harg14 E K h1 h2

end Body

variable (m : (ℓ : Loc nD τ sig) → Buf (Elt F) ℓ) (ρ : Dev nD → PrngReg)

/-- Each window's current staging buffer, and the scratch buffers. -/
abbrev mem0 (t : Fin cfg0.N) : Memref sig .tc .vmem S512x128 .bf16 := win0_0.stage (cfg0.slots t 0)
abbrev mem1 (t : Fin cfg0.N) : Memref sig .tc .vmem S512x128 .bf16 := win0_1.stage (cfg0.slots t 1)
abbrev mem2 (t : Fin cfg0.N) : Memref sig .tc .vmem S512x128 .bf16 := win0_2.stage (cfg0.slots t 2)
abbrev mem3 (t : Fin cfg0.N) : Memref sig .tc .vmem S8192x128 .bf16 := win0_3.stage (cfg0.slots t 3)
abbrev mem4 (t : Fin cfg0.N) : Memref sig .tc .vmem S8192x128 .bf16 := win0_4.stage (cfg0.slots t 4)
abbrev mem5 (t : Fin cfg0.N) : Memref sig .tc .vmem S1x8x1x1024 .f32 := win0_5.stage (cfg0.slots t 5)
abbrev mem6 (t : Fin cfg0.N) : Memref sig .tc .vmem S1x8x1x1024 .f32 := win0_6.stage (cfg0.slots t 6)
abbrev mem7 (t : Fin cfg0.N) : Memref sig .tc .vmem S8192x128 .f32 := win0_7.stage (cfg0.slots t 7)
abbrev mem8 (t : Fin cfg0.N) : Memref sig .tc .vmem S512x128 .f32 := win0_8.stage (cfg0.slots t 8)
abbrev mem9 (t : Fin cfg0.N) : Memref sig .tc .vmem S512x128 .f32 := win0_9.stage (cfg0.slots t 9)
abbrev scr0 : Memref sig .tc .vmem S512x128 .f32 := Memref.whole cc0_scratch0
abbrev scr1 : Memref sig .tc .vmem S512x128 .f32 := Memref.whole cc0_scratch1
abbrev scr2 : Memref sig .tc .vmem S8x128x1024 .f32 := Memref.whole cc0_scratch2

theorem PhiA_eq (c : Dev nD) : (Pipeline.ΦA spec0 c : sProp 𝕄)
    = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The pipeline's proof data: nothing is said of any block. -/
def dats (_ : Fin 1) (c : Dev nD) : Dat τ (Elt F) Unit ℕ (UR sig nD τ) ℕ cfg0 c where
  A w := V m c (Pipeline.arrRef spec0 w)
  after _ _ := fun _ => Classical.choice inferInstance
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

def stagesHeld (c : Dev nD) (t : Fin cfg0.N) : sProp 𝕄 :=
  iprop((∃ X, owns (c : Thread nD τ) (mem0 t) fullShare X)
    ∗ (∃ X, owns (c : Thread nD τ) (mem1 t) fullShare X)
    ∗ (∃ X, owns (c : Thread nD τ) (mem2 t) fullShare X)
    ∗ (∃ X, owns (c : Thread nD τ) (mem3 t) fullShare X)
    ∗ (∃ X, owns (c : Thread nD τ) (mem4 t) fullShare X)
    ∗ (∃ X, owns (c : Thread nD τ) (mem5 t) fullShare X)
    ∗ (∃ X, owns (c : Thread nD τ) (mem6 t) fullShare X)
    ∗ (∃ X, owns (c : Thread nD τ) (mem7 t) fullShare X)
    ∗ (∃ X, owns (c : Thread nD τ) (mem8 t) fullShare X)
    ∗ (∃ X, owns (c : Thread nD τ) (mem9 t) fullShare X))

set_option maxHeartbeats 4000000 in
theorem sound_body (c : Dev nD) (t : Fin cfg0.N) :
    iprop((dats m 0 c).Φ t.castSucc ∗ (dats m 0 c).owesAt () t.castSucc ∗ stagesHeld c t)
      ⊢ wp frame (wpE (defs₀ (F := F)) Variants.none c none) Set.univ (bodyAt0 t)
        (fun _ => iprop((dats m 0 c).Φ t.succ ∗ (dats m 0 c).owesAt () t.succ ∗ stagesHeld c t)) := by
  unfold stagesHeld bodyAt0
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  iintro ⟨⟨⟨HS0, HS1, HS2⟩, Hg⟩, Ho, H0, H1, H2, H3, H4, H5, H6, H7, H8, H9⟩
  iapply (body_at c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) (mem8 t) (hstage0_8 ((cfg0.slots t 8).cast nbuf0_8)) (mem9 t) (hstage0_9 ((cfg0.slots t 9).cast nbuf0_9)) scr0 (Memref.isWhole_whole _) scr1 (Memref.isWhole_whole _) scr2 (Memref.isWhole_whole _) Set.univ _)
  unfold allHeld held
  isplitl [H0 H1 H2 H3 H4 H5 H6 H7 H8 H9 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ (fun _ => true) := fun t => by
  rw [bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => (∀ c : Dev nD, ∀ b ∈ Pipeline.restRefs sig spec0, r.2.mem ((c.tc : Thread nD τ).loc b) = V m c b) ∧ r.2.sem = fun _ => 0) :=
  Pipeline.θ_run_frame_track_forget_shared (Q' := _) cfgs (dats m) (0 : Fin 1) launch₀0 defs₀ Variants.none (fun _ => true) m ρ main
    (hbody := fun c => (body_obligation m c).loose) (hq := fun _ _ _ => rfl)
    (howed := fun _ _ => rfl) (V := V m) (hmain := hmain m Variants.none) (hA := A_eq m) (hin := fun _ => .rfl) (hout := fun _ => .rfl)
    (hQ' := fun _ h => ⟨fun c => (h.1 c).2, h.2⟩)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c main_arg0 (Pipeline.mem_restRefs_of main_arg0 (by decide) (by decide))).trans (V_main_arg0 m c), (h.1 c main_arg1 (Pipeline.mem_restRefs_of main_arg1 (by decide) (by decide))).trans (V_main_arg1 m c), (h.1 c main_arg2 (Pipeline.mem_restRefs_of main_arg2 (by decide) (by decide))).trans (V_main_arg2 m c), (h.1 c main_arg3 (Pipeline.mem_restRefs_of main_arg3 (by decide) (by decide))).trans (V_main_arg3 m c), (h.1 c main_arg4 (Pipeline.mem_restRefs_of main_arg4 (by decide) (by decide))).trans (V_main_arg4 m c), (h.1 c main_arg5 (Pipeline.mem_restRefs_of main_arg5 (by decide) (by decide))).trans (V_main_arg5 m c)⟩, h.2⟩) (run_main m ρ)

end Cert.Kernel.Attn

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Track
public import proofs.«01_k».proof.Proof.Words.Track
public import Idealize.ShloMosaic.Lib.Quiescent

@[expose] public section

noncomputable section

/-! # The three frames, and the idealized kernel's two constants -/

namespace Cert.Proof

open Idealize.ShloMosaic Idealize.SL.Sem

/-- The kernel with its floats as words ends, its arguments unchanged, every counter at zero. -/
theorem frame_kernel : Cert.quiescent_Kernel := fun m ρ _ => Cert.Kernel.Attn.frame m ρ

/-- The same of the idealized kernel. -/
theorem frame_ideal : Cert.quiescent_KernelIdeal := fun m ρ _ => Cert.KernelIdeal.Attn.frame m ρ

/-- The same of the reference: its run reads its arguments back, and it declares no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The two named constants are the words' ideal values. -/
theorem preserved : Cert.preserves_Kernel_KernelIdeal :=
  ⟨IdealRules.named_const.statement Cert.KernelIdeal.κ "c2" .f32 0x3E16C740#32 _ rfl,
    IdealRules.named_const.statement Cert.KernelIdeal.κ "mask" .f32 0xFF7FFFFF#32 _ rfl⟩

end Cert.Proof

end
-- ==== Proof.Blocks.lean ====
module

public import Mathlib.Algebra.BigOperators.Fin
public import Mathlib.Logic.Equiv.Fin.Basic

/-! # A long sum as a sum of block sums -/

@[expose] public section

noncomputable section

namespace Cert.Math

open scoped BigOperators

/-- The place of entry `r` of block `q`. -/
theorem place_lt {n w N : ℕ} (hN : n * w = N) (q : Fin n) (r : Fin w) : q.val * w + r.val < N := by
  have h : (q.val + 1) * w ≤ n * w := Nat.mul_le_mul_right _ q.isLt
  rw [Nat.succ_mul] at h
  omega

/-- A sum over `n` blocks of `w` entries, in any commutative monoid: the extended reals are one. -/
theorem sum_blocks {M : Type*} [AddCommMonoid M] (n w N : ℕ) (hN : n * w = N) (f : Fin N → M) :
    ∑ i, f i = ∑ q : Fin n, ∑ r : Fin w, f ⟨q.val * w + r.val, place_lt hN q r⟩ := by
  subst hN
  rw [← finProdFinEquiv.sum_comp, Fintype.sum_prod_type]
  refine Finset.sum_congr rfl fun q _ => Finset.sum_congr rfl fun r _ => congrArg f (Fin.ext ?_)
  show r.val + w * q.val = q.val * w + r.val
  rw [Nat.mul_comm, Nat.add_comm]

end Cert.Math
-- ==== Proof.Mm2.lean ====
module

public import proofs.«01_k».proof.Defs
public import proofs.«01_k».proof.Proof.Blocks
public import proofs.«01_k».proof.Proof.Gen.Kernel2.Frame
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

/-! # The gradient of the feed-forward block's first weight -/

@[expose] public section

set_option maxRecDepth 16384

noncomputable section

namespace Cert.Kernel2Ideal.Grad

open Cert.Kernel2Ideal Cert.Kernel2Ideal.Gen Cert.Kernel2Ideal.Value
open Idealize.ShloMosaic Idealize.ShloMosaic.TcCoe
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]
variable (d : Dev nD) (i : grid0.Coords) (M1 : Memref sig .tc .vmem S2048x1024 .bf16) (h1 : M1.IsWhole)
  (M2 : Memref sig .tc .vmem S1x2048x1408 .bf16) (h2 : M2.IsWhole) (M3 : Memref sig .tc .vmem S1x1024x1408 .f32) (h3 : M3.IsWhole)
  (M4 : Memref sig .tc .vmem S1024x1408 .f32) (h4 : M4.IsWhole)
  (x0 : Vec F S2048x1024 .bf16) (x1 : Vec F S1x2048x1408 .bf16) (xs : Vec F S1024x1408 .f32)

/-- The first point of a run leaves its product on top of zero. -/
theorem first_eq (hc0 : cond0_0 i) (hc1 : ¬cond0_1 i) :
    sout0_A_0 d i M1 h1 M2 h2 M3 h3 M4 h4 hc0 hc1 x0 x1 = k0_pay2 k0_pay1 x0 x1 := by
  unfold sout0_A_0
  rw [View.read_writes_eq_canon _ _ _ (scover0_A_0 d i M1 h1 M2 h2 M3 h3 M4 h4 hc0 hc1 x0 x1)]
  unfold kernelRun0_A
  dsimp only
  sl_unfold_words
  rw [View.canon_cons_unit_zero (S := S1024x1408) hz, View.readCov_unit_zero (S := S1024x1408) _ hz]
  simp only [View.readAt_eq_ld, h1.read_unread, h2.read_unread, View.ld_unit_zero (S := S2048x1024) hz, View.ld_unit_zero (S := S1x2048x1408) hz3]

/-- A point between adds its product to what the point before left. -/
theorem mid_eq (hc0 : ¬cond0_0 i) (hc1 : ¬cond0_1 i) :
    sout0_B_0 d i M1 h1 M2 h2 M3 h3 M4 h4 hc0 hc1 x0 x1 xs = k0_pay2 xs x0 x1 := by
  unfold sout0_B_0
  rw [View.read_writes_eq_canon _ _ _ (scover0_B_0 d i M1 h1 M2 h2 M3 h3 M4 h4 hc0 hc1 x0 x1 xs)]
  unfold kernelRun0_B
  dsimp only
  rw [View.canon_unit_zero hz]
  simp only [View.readAt_eq_ld, h1.read_unread, h2.read_unread, h4.read_unread, View.ld_unit_zero (S := S2048x1024) hz, View.ld_unit_zero (S := S1x2048x1408) hz3,
    View.ld_unit_zero (S := S1024x1408) hz]

/-- The last point of a run writes the sum back. -/
theorem last_eq (hc0 : ¬cond0_0 i) (hc1 : cond0_1 i) :
    out0_C_2 d i M1 h1 M2 h2 M3 h3 M4 h4 hc0 hc1 x0 x1 xs = k0_pay3 (k0_pay2 xs x0 x1) := by
  unfold out0_C_2
  rw [View.read_writes_eq_canon _ _ _ (cover0_C_2 d i M1 h1 M2 h2 M3 h3 M4 h4 hc0 hc1 x0 x1 xs)]
  unfold kernelRun0_C
  dsimp only
  sl_unfold_words
  rw [View.canon_unit_zero hz3, View.readCov_unit_zero (S := S1024x1408) _ hz]
  simp only [View.readAt_eq_ld, h1.read_unread, h2.read_unread, h4.read_unread, View.ld_unit_zero (S := S2048x1024) hz, View.ld_unit_zero (S := S1x2048x1408) hz3,
    View.ld_unit_zero (S := S1024x1408) hz]
end

theorem pay2_at (acc : Vec Ideal S1024x1408 .f32) (x : Vec Ideal S2048x1024 .bf16) (y : Vec Ideal S1x2048x1408 .bf16) (a : Fin 1024) (b : Fin 1408) :
    (k0_pay2 acc x y (ix2 a b) : EReal) = acc (ix2 a b) + ∑ r : Fin 2048, (x (ix2 r a) : EReal) * y (ix3 0 r b) := by
  pointwise [k0_pay2]

theorem pay1_at (a : Fin 1024) (b : Fin 1408) : (k0_pay1 (F := Ideal) (ix2 a b) : EReal) = 0 := by
  pointwise [k0_pay1]

theorem pay3_at (v : Vec Ideal S1024x1408 .f32) (a : Fin 1024) (b : Fin 1408) : k0_pay3 v (ix3 0 a b) = v (ix2 a b) := by
  pointwise [k0_pay3]

theorem idx0 : ∀ t : Fin cfg0.N, win0_0.index t = ![t.val % 4, 0] :=
  (by decide +kernel : ∀ t : Fin grid0.N, _)
theorem idx1 : ∀ t : Fin cfg0.N, win0_1.index t = ![t.val / 8, t.val % 4, t.val / 4 % 2] :=
  (by decide +kernel : ∀ t : Fin grid0.N, _)

variable (m : (ℓ : Loc nD τ sig) → Buf (Elt Ideal) ℓ) (d : Dev nD)

/-- The activations and the cotangent, as launched. -/
abbrev hn : Vec Ideal S8192x1024 .f32 := m ((d.tc : Thread nD τ).loc main_arg0)
abbrev ct : Vec Ideal S8192x5632 .f32 := m ((d.tc : Thread nD τ).loc main_arg2)

/-- The point that takes row block `k` for the weight's quarter `j`. -/
abbrev pt (j k : Fin 4) : Fin cfg0.N := ⟨4 * j.val + k.val, lt_of_lt_of_eq (by omega) N_0.symm⟩
abbrev row (k : Fin 4) (r : Fin 2048) : Fin 8192 := ⟨k.val * 2048 + r.val, by omega⟩
abbrev col (j : Fin 4) (b : Fin 1408) : Fin 5632 := ⟨j.val * 1408 + b.val, by omega⟩

theorem V_hn : V m d main_v0 = truncf (F := Ideal) .bf16 (hn m d) bitsLt_bf16_f32 := by
  show StableHlo.after _ _ _ = _
  after_results_simp

theorem V_ct : V m d main_v3 = truncf (F := Ideal) .bf16 (transpose S2x8192x2816 [1, 0, 2]
    (shapeCast S8192x2x2816 (ct m d) shapeCasts_S8192x5632_S8192x2x2816) transposes_S8192x2x2816_S2x8192x2816_1_0_2) bitsLt_bf16_f32 := by
  show StableHlo.after _ _ _ = _
  after_results_simp
  rfl

theorem halves_at (y : Vec Ideal S8192x5632 .f32) (p : Fin 2) (i : Fin 8192) (b : Fin 2816) :
    truncf (F := Ideal) .bf16 (transpose S2x8192x2816 [1, 0, 2]
      (shapeCast S8192x2x2816 y shapeCasts_S8192x5632_S8192x2x2816) transposes_S8192x2x2816_S2x8192x2816_1_0_2) bitsLt_bf16_f32 (ix3 p i b)
      = y (ix2 i ⟨p.val * 2816 + b.val, by omega⟩) := by
  pointwise

/-- The two blocks a point reads. -/
abbrev blk0 (t : Fin cfg0.N) : Vec Ideal S2048x1024 .bf16 := iblk m d 0 t
abbrev blk1 (t : Fin cfg0.N) : Vec Ideal S1x2048x1408 .bf16 := iblk m d 1 t

theorem in0 (j k : Fin 4) (r : Fin 2048) (a : Fin 1024) : blk0 m d (pt j k) (ix2 r a)
    = (V m d main_v0 : Vec Ideal S8192x1024 .bf16) (ix2 (row k r) a) := by
  have e : (4 * j.val + k.val) % 4 = k.val := by omega
  blk_ext [iblk, idx0 (pt j k), e] <;> rfl

theorem in1 (j k : Fin 4) (r : Fin 2048) (b : Fin 1408) : blk1 m d (pt j k) (ix3 0 r b)
    = (V m d main_v3 : Vec Ideal S2x8192x2816 .bf16) (ix3 ⟨j.val / 2, by omega⟩ (row k r) ⟨j.val % 2 * 1408 + b.val, by omega⟩) := by
  have e : (4 * j.val + k.val) % 4 = k.val := by omega
  have e1 : (4 * j.val + k.val) / 8 = j.val / 2 := by omega
  have e2 : (4 * j.val + k.val) / 4 % 2 = j.val % 2 := by omega
  blk_ext [iblk, idx1 (pt j k), e, e1, e2] <;> rfl

/-- What the point's product is, at an index. -/
def part (j k : Fin 4) (a : Fin 1024) (b : Fin 1408) : EReal :=
  ∑ r : Fin 2048, (hn m d (ix2 (row k r) a) : EReal) * ct m d (ix2 (row k r) (col j b))

theorem part_eq (j k : Fin 4) (a : Fin 1024) (b : Fin 1408) :
    (∑ r : Fin 2048, (blk0 m d (pt j k) (ix2 r a) : EReal) * blk1 m d (pt j k) (ix3 0 r b))
      = part m d j k a b := by
  refine Finset.sum_congr rfl fun r _ => ?_
  rw [in0, in1, V_hn, V_ct, halves_at]
  refine congrArg (fun i : Fin 5632 => (hn m d (ix2 (row k r) a) : EReal) * ct m d (ix2 (row k r) i)) (Fin.ext ?_)
  show j.val / 2 * 2816 + (j.val % 2 * 1408 + b.val) = j.val * 1408 + b.val
  omega

/-- The scratch after the point. -/
abbrev scr (j k : Fin 4) : Vec Ideal S1024x1408 .f32 := (outsAt0 m d (pt j k).val (pt j k).isLt).2

theorem scr0 (j : Fin 4) (a : Fin 1024) (b : Fin 1408) : (scr m d j 0 (ix2 a b) : EReal) = 0 + part m d j 0 a b := by
  have h0 : (pt j 0).val % 4 = 0 := by show (4 * j.val + 0) % 4 = 0; omega
  have h1 : ¬ (pt j 0).val % 4 = 3 := by omega
  unfold scr
  rw [outsAt0_A m d (pt j 0) h0 h1]
  dsimp only
  rw [first_eq, pay2_at, pay1_at, part_eq]

theorem prev (j : Fin 4) (n : ℕ) (hn : n + 1 < 4) (h : (pt j ⟨n + 1, hn⟩).val - 1 < cfg0.N) :
    outsAt0 m d ((pt j ⟨n + 1, hn⟩).val - 1) h = outsAt0 m d (pt j ⟨n, by omega⟩).val (pt j ⟨n, by omega⟩).isLt := by
  congr 1

theorem scrS (j : Fin 4) (n : ℕ) (hn : n + 1 < 3) (a : Fin 1024) (b : Fin 1408) :
    (scr m d j ⟨n + 1, by omega⟩ (ix2 a b) : EReal) = scr m d j ⟨n, by omega⟩ (ix2 a b) + part m d j ⟨n + 1, by omega⟩ a b := by
  have h0 : ¬ (pt j ⟨n + 1, by omega⟩).val % 4 = 0 := by show ¬ (4 * j.val + (n + 1)) % 4 = 0; omega
  have h1 : ¬ (pt j ⟨n + 1, by omega⟩).val % 4 = 3 := by show ¬ (4 * j.val + (n + 1)) % 4 = 3; omega
  unfold scr
  rw [outsAt0_B m d (pt j ⟨n + 1, by omega⟩) h0 h1]
  dsimp only
  rw [mid_eq, pay2_at, part_eq, prev]

theorem out_eq (j : Fin 4) (a : Fin 1024) (b : Fin 1408) :
    ((outsAt0 m d (pt j 3).val (pt j 3).isLt).1 (ix3 0 a b) : EReal) = scr m d j 2 (ix2 a b) + part m d j 3 a b := by
  have h0 : ¬ (pt j 3).val % 4 = 0 := by show ¬ (4 * j.val + 3) % 4 = 0; omega
  have h1 : (pt j 3).val % 4 = 3 := by show (4 * j.val + 3) % 4 = 3; omega
  rw [outsAt0_C m d (pt j 3) h0 h1]
  dsimp only
  rw [last_eq, pay3_at, pay2_at, part_eq]
  rw [show (3 : Fin 4) = ⟨2 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the tokens. -/
theorem result (j : Fin 4) (a : Fin 1024) (b : Fin 1408) :
    (G2 m d (ix3 j a b) : EReal) = ∑ i : Fin 8192, (hn m d (ix2 i a) : EReal) * ct m d (ix2 i (col j b)) := by
  have ep : pt2Of (ix3 j a b) = (pt j 3).val := by
    show 4 * (1 * (j.val / 1 - 0) + 1 * (a.val / 1024 - 0) + 1 * (b.val / 1408 - 0)) + 3 = 4 * j.val + 3
    omega
  have el : loc2Of (ix3 j a b) = ix3 0 a b := by
    funext x
    apply Fin.ext
    match x with
    | ⟨0, _⟩ => show j.val % 1 = 0; omega
    | ⟨1, _⟩ => show a.val % 1024 = a.val; omega
    | ⟨2, _⟩ => show b.val % 1408 = b.val; omega
  have hp : pt2Of (ix3 j a b) < cfg0.N := ep ▸ (pt j 3).isLt
  have e : G2 m d (ix3 j a b) = (outsAt0 m d (pt j 3).val (pt j 3).isLt).1 (ix3 0 a b) := by
    unfold G2
    rw [dif_pos hp, ← outsAt0_sweep m d _ hp, el, outs_congr m d _ _ hp (pt j 3).isLt ep]
  rw [e, out_eq, show (2 : Fin 4) = ⟨1 + 1, by omega⟩ from rfl, scrS m d j 1 (by omega), show (⟨1, by omega⟩ : Fin 4) = ⟨0 + 1, by omega⟩ from rfl, scrS m d j 0 (by omega)]
  rw [show (⟨0, by omega⟩ : Fin 4) = 0 from rfl, scr0, zero_add, Cert.Math.sum_blocks 4 2048 8192 rfl, Fin.sum_univ_four]
  rfl

end Cert.Kernel2Ideal.Grad

namespace Cert.Proof

open Idealize.ShloMosaic Idealize.ShloMosaic.TcCoe Idealize.SL.Sem

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem ref2_at (x : Vec Ideal Cert.Reference2Ideal.S8192x1024 .f32) (y : Vec Ideal Cert.Reference2Ideal.S8192x5632 .f32) (j : Fin 4) (a : Fin 1024) (b : Fin 1408) :
    (transpose Cert.Reference2Ideal.S4x1024x1408 [1, 0, 2] (shapeCast Cert.Reference2Ideal.S1024x4x1408 (transpose Cert.Reference2Ideal.S1024x5632 [1, 0]
      (Host.dotGeneral (F := Ideal) (φ₁ := .f32) (φ₂ := .f32) Cert.Reference2Ideal.dot_S8192x5632_S8192x1024_S5632x1024_0_0_1_1_n_n none y x) Cert.Reference2Ideal.Gen.transposes_S5632x1024_S1024x5632_1_0)
      Cert.Reference2Ideal.Gen.shapeCasts_S1024x5632_S1024x4x1408) Cert.Reference2Ideal.Gen.transposes_S1024x4x1408_S4x1024x1408_1_0_2 (ix3 j a b) : EReal)
      = ∑ i : Fin 8192, (y (ix2 i ⟨j.val * 1408 + b.val, by omega⟩) : EReal) * x (ix2 i a) := by
  pointwise

theorem same2 : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  funext i
  obtain ⟨j, a, b, rfl⟩ : ∃ (j : Fin 4) (a : Fin 1024) (b : Fin 1408), i = ix3 j a b := ⟨i 0, i 1, i 2, by funext x; match x with | ⟨0, _⟩ => rfl | ⟨1, _⟩ => rfl | ⟨2, _⟩ => rfl⟩
  refine (ref2_at _ _ j a b).trans ?_
  refine Eq.trans ?_ (Cert.Kernel2Ideal.Grad.result m c j a b).symm
  refine Finset.sum_congr rfl fun i _ => ?_
  rw [mul_comm]
  exact congrArg₂ (fun u v : EReal => u * v) (congrFun (hagree c).1 _) (congrFun (hagree c).2.2 _)

end Cert.Proof

end
-- ==== Proof.Mm3.lean ====
module

public import proofs.«01_k».proof.Defs
public import proofs.«01_k».proof.Proof.Blocks
public import proofs.«01_k».proof.Proof.Gen.Kernel3.Frame
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

/-! # The gradient of the feed-forward block's input: the part through the first weight -/

@[expose] public section

set_option maxRecDepth 16384

noncomputable section

namespace Cert.Kernel3Ideal.Grad

open Cert.Kernel3Ideal Cert.Kernel3Ideal.Gen Cert.Kernel3Ideal.Value
open Idealize.ShloMosaic Idealize.ShloMosaic.TcCoe
open scoped BigOperators

theorem hz : (![0, 0] : Fin 2 → Nat) = fun _ => 0 := funext fun a => by fin_cases a <;> rfl
theorem hz5 : (![0, 0, 0, 0, 0] : Fin 5 → Nat) = fun _ => 0 := funext fun a => by fin_cases a <;> rfl
theorem hz3 : (![0, 0, 0] : Fin 3 → Nat) = fun _ => 0 := funext fun a => by fin_cases a <;> rfl

section
variable {F : FTy → Type} [FloatOps F]
variable (d : Dev nD) (i : grid0.Coords) (M1 : Memref sig .tc .vmem S1x1024x1408 .bf16) (h1 : M1.IsWhole)
  (M2 : Memref sig .tc .vmem S1x1x1x1024x1408 .bf16) (h2 : M2.IsWhole) (M3 : Memref sig .tc .vmem S1024x1024 .f32) (h3 : M3.IsWhole)
  (M4 : Memref sig .tc .vmem S1024x1024 .f32) (h4 : M4.IsWhole)
  (x0 : Vec F S1x1024x1408 .bf16) (x1 : Vec F S1x1x1x1024x1408 .bf16) (xs : Vec F S1024x1024 .f32)

/-- The first point of a run leaves its product. -/
theorem first_eq (hc0 : cond0_0 i) (hc1 : ¬cond0_1 i) (hc2 : ¬cond0_2 i) :
    sout0_A_0 d i M1 h1 M2 h2 M3 h3 M4 h4 hc0 hc1 hc2 x0 x1 = k0_pay2 x0 x1 := by
  unfold sout0_A_0
  rw [View.read_writes_eq_canon _ _ _ (scover0_A_0 d i M1 h1 M2 h2 M3 h3 M4 h4 hc0 hc1 hc2 x0 x1)]
  unfold kernelRun0_A
  dsimp only
  rw [View.canon_unit_zero hz]
  simp only [View.readAt_eq_ld, h1.read_unread, h2.read_unread, View.ld_unit_zero (S := S1x1024x1408) hz3, View.ld_unit_zero (S := S1x1x1x1024x1408) hz5]

/-- A point between adds its product to what the point before left. -/
theorem mid_eq (hc0 : ¬cond0_0 i) (hc1 : cond0_1 i) (hc2 : ¬cond0_2 i) :
    sout0_B_0 d i M1 h1 M2 h2 M3 h3 M4 h4 hc0 hc1 hc2 x0 x1 xs = k0_pay3 x0 x1 xs := by
  unfold sout0_B_0
  rw [View.read_writes_eq_canon _ _ _ (scover0_B_0 d i M1 h1 M2 h2 M3 h3 M4 h4 hc0 hc1 hc2 x0 x1 xs)]
  unfold kernelRun0_B
  dsimp only
  rw [View.canon_unit_zero hz]
  simp only [View.readAt_eq_ld, h1.read_unread, h2.read_unread, h4.read_unread, View.ld_unit_zero (S := S1x1024x1408) hz3, View.ld_unit_zero (S := S1x1x1x1024x1408) hz5,
    View.ld_unit_zero (S := S1024x1024) hz]

/-- The last point of a run writes the sum back. -/
theorem last_eq (hc0 : ¬cond0_0 i) (hc1 : ¬cond0_1 i) (hc2 : cond0_2 i) :
    out0_C_2 d i M1 h1 M2 h2 M3 h3 M4 h4 hc0 hc1 hc2 x0 x1 xs = k0_pay4 x0 x1 xs := by
  unfold out0_C_2
  rw [View.read_writes_eq_canon _ _ _ (cover0_C_2 d i M1 h1 M2 h2 M3 h3 M4 h4 hc0 hc1 hc2 x0 x1 xs)]
  unfold kernelRun0_C
  dsimp only
  rw [View.canon_unit_zero hz]
  simp only [View.readAt_eq_ld, h1.read_unread, h2.read_unread, h4.read_unread, View.ld_unit_zero (S := S1x1024x1408) hz3, View.ld_unit_zero (S := S1x1x1x1024x1408) hz5,
    View.ld_unit_zero (S := S1024x1024) hz]
end

theorem pay2_at (x : Vec Ideal S1x1024x1408 .bf16) (y : Vec Ideal S1x1x1x1024x1408 .bf16) (a b : Fin 1024) :
    (k0_pay2 x y (ix2 a b) : EReal) = ∑ r : Fin 1408, (x (ix3 0 a r) : EReal) * y (ix5 0 0 0 b r) := by
  pointwise [k0_pay2, k0_pay1]

theorem pay3_at (x : Vec Ideal S1x1024x1408 .bf16) (y : Vec Ideal S1x1x1x1024x1408 .bf16) (acc : Vec Ideal S1024x1024 .f32) (a b : Fin 1024) :
    (k0_pay3 x y acc (ix2 a b) : EReal) = acc (ix2 a b) + ∑ r : Fin 1408, (x (ix3 0 a r) : EReal) * y (ix5 0 0 0 b r) := by
  pointwise [k0_pay3, k0_pay1]

theorem pay4_at (x : Vec Ideal S1x1024x1408 .bf16) (y : Vec Ideal S1x1x1x1024x1408 .bf16) (acc : Vec Ideal S1024x1024 .f32) (a b : Fin 1024) :
    (k0_pay4 x y acc (ix2 a b) : EReal) = acc (ix2 a b) + ∑ r : Fin 1408, (x (ix3 0 a r) : EReal) * y (ix5 0 0 0 b r) := by
  pointwise [k0_pay4, k0_pay1]

theorem idx0 : ∀ t : Fin cfg0.N, win0_0.index t = ![t.val % 4 / 2, t.val / 4, t.val % 2] :=
  (by decide +kernel : ∀ t : Fin grid0.N, _)
theorem idx1 : ∀ t : Fin cfg0.N, win0_1.index t = ![t.val % 4, 0, 0, 0, 0] :=
  (by decide +kernel : ∀ t : Fin grid0.N, _)

variable (m : (ℓ : Loc nD τ sig) → Buf (Elt Ideal) ℓ) (d : Dev nD)

/-- The weight and the cotangent, as launched. -/
abbrev w13 : Vec Ideal S1024x5632 .f32 := m ((d.tc : Thread nD τ).loc main_arg1)
abbrev ct : Vec Ideal S8192x5632 .f32 := m ((d.tc : Thread nD τ).loc main_arg2)

/-- The point that takes the weight's quarter `k` for row block `q`. -/
abbrev pt (q : Fin 8) (k : Fin 4) : Fin cfg0.N := ⟨4 * q.val + k.val, lt_of_lt_of_eq (by omega) N_0.symm⟩
abbrev row (q : Fin 8) (a : Fin 1024) : Fin 8192 := ⟨q.val * 1024 + a.val, by omega⟩
abbrev col (k : Fin 4) (r : Fin 1408) : Fin 5632 := ⟨k.val * 1408 + r.val, by omega⟩

theorem V_ct : V m d main_v5 = truncf (F := Ideal) .bf16 (transpose S2x8192x2816 [1, 0, 2]
    (shapeCast S8192x2x2816 (ct m d) shapeCasts_S8192x5632_S8192x2x2816) transposes_S8192x2x2816_S2x8192x2816_1_0_2) bitsLt_bf16_f32 := by
  show StableHlo.after _ _ _ = _
  after_results_simp
  rfl

theorem V_w13 : V m d main_v6 = shapeCast S4x1x1x1024x1408 (truncf (F := Ideal) .bf16 (transpose S4x1024x1408 [1, 0, 2]
    (shapeCast S1024x4x1408 (w13 m d) shapeCasts_S1024x5632_S1024x4x1408) transposes_S1024x4x1408_S4x1024x1408_1_0_2) bitsLt_bf16_f32)
    shapeCasts_S4x1024x1408_S4x1x1x1024x1408 := by
  show StableHlo.after _ _ _ = _
  after_results_simp
  rfl

theorem halves_at (y : Vec Ideal S8192x5632 .f32) (p : Fin 2) (i : Fin 8192) (b : Fin 2816) :
    truncf (F := Ideal) .bf16 (transpose S2x8192x2816 [1, 0, 2]
      (shapeCast S8192x2x2816 y shapeCasts_S8192x5632_S8192x2x2816) transposes_S8192x2x2816_S2x8192x2816_1_0_2) bitsLt_bf16_f32 (ix3 p i b)
      = y (ix2 i ⟨p.val * 2816 + b.val, by omega⟩) := by
  pointwise

theorem quarters_at (y : Vec Ideal S1024x5632 .f32) (k : Fin 4) (b : Fin 1024) (r : Fin 1408) :
    shapeCast S4x1x1x1024x1408 (truncf (F := Ideal) .bf16 (transpose S4x1024x1408 [1, 0, 2]
      (shapeCast S1024x4x1408 y shapeCasts_S1024x5632_S1024x4x1408) transposes_S1024x4x1408_S4x1024x1408_1_0_2) bitsLt_bf16_f32)
      shapeCasts_S4x1024x1408_S4x1x1x1024x1408 (ix5 k 0 0 b r) = y (ix2 b (col k r)) := by
  pointwise

/-- The two blocks a point reads. -/
abbrev blk0 (t : Fin cfg0.N) : Vec Ideal S1x1024x1408 .bf16 := iblk m d 0 t
abbrev blk1 (t : Fin cfg0.N) : Vec Ideal S1x1x1x1024x1408 .bf16 := iblk m d 1 t

theorem in0 (q : Fin 8) (k : Fin 4) (a : Fin 1024) (r : Fin 1408) : blk0 m d (pt q k) (ix3 0 a r)
    = (V m d main_v5 : Vec Ideal S2x8192x2816 .bf16) (ix3 ⟨k.val / 2, by omega⟩ (row q a) ⟨k.val % 2 * 1408 + r.val, by omega⟩) := by
  have e : (4 * q.val + k.val) % 4 / 2 = k.val / 2 := by omega
  have e1 : (4 * q.val + k.val) / 4 = q.val := by omega
  have e2 : (4 * q.val + k.val) % 2 = k.val % 2 := by omega
  blk_ext [iblk, idx0 (pt q k), e, e1, e2] <;> rfl

theorem in1 (q : Fin 8) (k : Fin 4) (b : Fin 1024) (r : Fin 1408) : blk1 m d (pt q k) (ix5 0 0 0 b r)
    = (V m d main_v6 : Vec Ideal S4x1x1x1024x1408 .bf16) (ix5 k 0 0 b r) := by
  have e : (4 * q.val + k.val) % 4 = k.val := by omega
  blk_ext [iblk, idx1 (pt q k), e] <;> rfl

/-- What the point's product is, at an index. -/
def part (q : Fin 8) (k : Fin 4) (a b : Fin 1024) : EReal :=
  ∑ r : Fin 1408, (ct m d (ix2 (row q a) (col k r)) : EReal) * w13 m d (ix2 b (col k r))

theorem part_eq (q : Fin 8) (k : Fin 4) (a b : Fin 1024) :
    (∑ r : Fin 1408, (blk0 m d (pt q k) (ix3 0 a r) : EReal) * blk1 m d (pt q k) (ix5 0 0 0 b r)) = part m d q k a b := by
  refine Finset.sum_congr rfl fun r _ => ?_
  rw [in0, in1, V_ct, V_w13, halves_at, quarters_at]
  refine congrArg (fun i : Fin 5632 => (ct m d (ix2 (row q a) i) : EReal) * w13 m d (ix2 b (col k r))) (Fin.ext ?_)
  show k.val / 2 * 2816 + (k.val % 2 * 1408 + r.val) = k.val * 1408 + r.val
  omega

/-- The scratch after the point. -/
abbrev scr (q : Fin 8) (k : Fin 4) : Vec Ideal S1024x1024 .f32 := (outsAt0 m d (pt q k).val (pt q k).isLt).2

theorem scr0 (q : Fin 8) (a b : Fin 1024) : (scr m d q 0 (ix2 a b) : EReal) = part m d q 0 a b := by
  have h0 : (pt q 0).val % 4 = 0 := by show (4 * q.val + 0) % 4 = 0; omega
  have h1 : ¬ (1 ≤ (pt q 0).val % 4 ∧ (pt q 0).val % 4 ≤ 2) := by omega
  have h2 : ¬ (pt q 0).val % 4 = 3 := by omega
  unfold scr
  rw [outsAt0_A m d (pt q 0) h0 h1 h2]
  dsimp only
  rw [first_eq, pay2_at, part_eq]

theorem prev (q : Fin 8) (n : ℕ) (hn : n + 1 < 4) (h : (pt q ⟨n + 1, hn⟩).val - 1 < cfg0.N) :
    outsAt0 m d ((pt q ⟨n + 1, hn⟩).val - 1) h = outsAt0 m d (pt q ⟨n, by omega⟩).val (pt q ⟨n, by omega⟩).isLt := by
  congr 1

theorem scrS (q : Fin 8) (n : ℕ) (hn : n + 1 < 3) (a b : Fin 1024) :
    (scr m d q ⟨n + 1, by omega⟩ (ix2 a b) : EReal) = scr m d q ⟨n, by omega⟩ (ix2 a b) + part m d q ⟨n + 1, by omega⟩ a b := by
  have e : (pt q ⟨n + 1, by omega⟩).val % 4 = n + 1 := by show (4 * q.val + (n + 1)) % 4 = n + 1; omega
  have h0 : ¬ (pt q ⟨n + 1, by omega⟩).val % 4 = 0 := by omega
  have h1 : 1 ≤ (pt q ⟨n + 1, by omega⟩).val % 4 ∧ (pt q ⟨n + 1, by omega⟩).val % 4 ≤ 2 := by omega
  have h2 : ¬ (pt q ⟨n + 1, by omega⟩).val % 4 = 3 := by omega
  unfold scr
  rw [outsAt0_B m d (pt q ⟨n + 1, by omega⟩) h0 h1 h2]
  dsimp only
  rw [mid_eq, pay3_at, part_eq, prev]

theorem out_eq (q : Fin 8) (a b : Fin 1024) :
    ((outsAt0 m d (pt q 3).val (pt q 3).isLt).1 (ix2 a b) : EReal) = scr m d q 2 (ix2 a b) + part m d q 3 a b := by
  have e : (pt q 3).val % 4 = 3 := by show (4 * q.val + 3) % 4 = 3; omega
  have h0 : ¬ (pt q 3).val % 4 = 0 := by omega
  have h1 : ¬ (1 ≤ (pt q 3).val % 4 ∧ (pt q 3).val % 4 ≤ 2) := by omega
  rw [outsAt0_C m d (pt q 3) h0 h1 e]
  dsimp only
  rw [last_eq, pay4_at, part_eq]
  rw [show (3 : Fin 4) = ⟨2 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the weight's columns. -/
theorem result (q : Fin 8) (a b : Fin 1024) :
    (G2 m d (ix2 (row q a) b) : EReal) = ∑ i : Fin 5632, (ct m d (ix2 (row q a) i) : EReal) * w13 m d (ix2 b i) := by
  have ep : pt2Of (ix2 (row q a) b) = (pt q 3).val := by
    show 4 * (1 * ((q.val * 1024 + a.val) / 1024 - 0) + 1 * (b.val / 1024 - 0)) + 3 = 4 * q.val + 3
    omega
  have el : loc2Of (ix2 (row q a) b) = ix2 a b := by
    funext x
    apply Fin.ext
    match x with
    | ⟨0, _⟩ => show (q.val * 1024 + a.val) % 1024 = a.val; omega
    | ⟨1, _⟩ => show b.val % 1024 = b.val; omega
  have hp : pt2Of (ix2 (row q a) b) < cfg0.N := ep ▸ (pt q 3).isLt
  have e : G2 m d (ix2 (row q a) b) = (outsAt0 m d (pt q 3).val (pt q 3).isLt).1 (ix2 a b) := by
    unfold G2
    rw [dif_pos hp, ← outsAt0_sweep m d _ hp, el, outs_congr m d _ _ hp (pt q 3).isLt ep]
  rw [e, out_eq, show (2 : Fin 4) = ⟨1 + 1, by omega⟩ from rfl, scrS m d q 1 (by omega), show (⟨1, by omega⟩ : Fin 4) = ⟨0 + 1, by omega⟩ from rfl, scrS m d q 0 (by omega)]
  rw [show (⟨0, by omega⟩ : Fin 4) = 0 from rfl, scr0, Cert.Math.sum_blocks 4 1408 5632 rfl, Fin.sum_univ_four]
  rfl

end Cert.Kernel3Ideal.Grad

namespace Cert.Proof

open Idealize.ShloMosaic Idealize.ShloMosaic.TcCoe Idealize.SL.Sem

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem ref3_at (w : Vec Ideal Cert.Reference3Ideal.S1024x5632 .f32) (y : Vec Ideal Cert.Reference3Ideal.S8192x5632 .f32) (n : Fin 8192) (b : Fin 1024) :
    (Host.dotGeneral (F := Ideal) (φ₁ := .f32) (φ₂ := .f32) Cert.Reference3Ideal.dot_S8192x5632_S1024x5632_S8192x1024_1_1_0_0_n_n none y w (ix2 n b) : EReal)
      = ∑ i : Fin 5632, (y (ix2 n i) : EReal) * w (ix2 b i) := by
  pointwise

theorem same3 : Cert.algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  funext i
  obtain ⟨q, a, b, rfl⟩ : ∃ (q : Fin 8) (a b : Fin 1024), i = ix2 (Cert.Kernel3Ideal.Grad.row q a) b := by
    have hi : (i 0).val < 8192 := (i 0).isLt
    refine ⟨⟨(i 0).val / 1024, by omega⟩, ⟨(i 0).val % 1024, by omega⟩, i 1, ?_⟩
    funext x
    match x with
    | ⟨0, _⟩ => exact Fin.ext (show (i 0).val = (i 0).val / 1024 * 1024 + (i 0).val % 1024 by omega)
    | ⟨1, _⟩ => rfl
  refine (ref3_at _ _ _ b).trans ?_
  refine Eq.trans ?_ (Cert.Kernel3Ideal.Grad.result m c q a b).symm
  refine Finset.sum_congr rfl fun i _ => ?_
  exact congrArg₂ (fun u v : EReal => u * v) (congrFun (hagree c).2.2 _) (congrFun (hagree c).2.1 _)

end Cert.Proof

end
-- ==== Proof.Mm4.lean ====
module

public import proofs.«01_k».proof.Defs
public import proofs.«01_k».proof.Proof.Blocks
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

/-! # The gradient of the feed-forward block's second weight -/

@[expose] public section

set_option maxRecDepth 16384

noncomputable section

namespace Cert.Kernel4Ideal.Grad

open Cert.Kernel4Ideal Cert.Kernel4Ideal.Gen Cert.Kernel4Ideal.Value
open Idealize.ShloMosaic Idealize.ShloMosaic.TcCoe
open scoped BigOperators

theorem hz : (![0, 0] : Fin 2 → Nat) = fun _ => 0 := funext fun a => by fin_cases a <;> rfl

section
variable {F : FTy → Type} [FloatOps F]
variable (d : Dev nD) (i : grid0.Coords) (M1 : Memref sig .tc .vmem S1024x2816 .bf16) (h1 : M1.IsWhole)
  (M2 : Memref sig .tc .vmem S1024x512 .bf16) (h2 : M2.IsWhole) (M3 : Memref sig .tc .vmem S2816x512 .f32) (h3 : M3.IsWhole)
  (M4 : Memref sig .tc .vmem S2816x512 .f32) (h4 : M4.IsWhole)
  (x0 : Vec F S1024x2816 .bf16) (x1 : Vec F S1024x512 .bf16) (xs : Vec F S2816x512 .f32)

/-- The first point of a run leaves its product on top of zero. -/
theorem first_eq (hc0 : cond0_0 i) (hc1 : ¬cond0_1 i) :
    sout0_A_0 d i M1 h1 M2 h2 M3 h3 M4 h4 hc0 hc1 x0 x1 = k0_pay2 x0 x1 k0_pay1 := by
  unfold sout0_A_0
  rw [View.read_writes_eq_canon _ _ _ (scover0_A_0 d i M1 h1 M2 h2 M3 h3 M4 h4 hc0 hc1 x0 x1)]
  unfold kernelRun0_A
  dsimp only
  sl_unfold_words
  rw [View.canon_cons_unit_zero (S := S2816x512) hz, View.readCov_unit_zero (S := S2816x512) _ hz]
  simp only [View.readAt_eq_ld, h1.read_unread, h2.read_unread, View.ld_unit_zero (S := S1024x2816) hz, View.ld_unit_zero (S := S1024x512) hz]

/-- A point between adds its product to what the point before left. -/
theorem mid_eq (hc0 : ¬cond0_0 i) (hc1 : ¬cond0_1 i) :
    sout0_B_0 d i M1 h1 M2 h2 M3 h3 M4 h4 hc0 hc1 x0 x1 xs = k0_pay2 x0 x1 xs := by
  unfold sout0_B_0
  rw [View.read_writes_eq_canon _ _ _ (scover0_B_0 d i M1 h1 M2 h2 M3 h3 M4 h4 hc0 hc1 x0 x1 xs)]
  unfold kernelRun0_B
  dsimp only
  rw [View.canon_unit_zero hz]
  simp only [View.readAt_eq_ld, h1.read_unread, h2.read_unread, h4.read_unread, View.ld_unit_zero (S := S1024x2816) hz, View.ld_unit_zero (S := S1024x512) hz,
    View.ld_unit_zero (S := S2816x512) hz]

/-- The last point of a run writes the sum back. -/
theorem last_eq (hc0 : ¬cond0_0 i) (hc1 : cond0_1 i) :
    out0_C_2 d i M1 h1 M2 h2 M3 h3 M4 h4 hc0 hc1 x0 x1 xs = k0_pay2 x0 x1 xs := by
  unfold out0_C_2
  rw [View.read_writes_eq_canon _ _ _ (cover0_C_2 d i M1 h1 M2 h2 M3 h3 M4 h4 hc0 hc1 x0 x1 xs)]
  unfold kernelRun0_C
  dsimp only
  sl_unfold_words
  rw [View.canon_unit_zero hz, View.readCov_unit_zero (S := S2816x512) _ hz]
  simp only [View.readAt_eq_ld, h1.read_unread, h2.read_unread, h4.read_unread, View.ld_unit_zero (S := S1024x2816) hz, View.ld_unit_zero (S := S1024x512) hz,
    View.ld_unit_zero (S := S2816x512) hz]
end

theorem pay2_at (acc : Vec Ideal S2816x512 .f32) (x : Vec Ideal S1024x2816 .bf16) (y : Vec Ideal S1024x512 .bf16) (a : Fin 2816) (b : Fin 512) :
    (k0_pay2 x y acc (ix2 a b) : EReal) = acc (ix2 a b) + ∑ r : Fin 1024, (x (ix2 r a) : EReal) * y (ix2 r b) := by
  pointwise [k0_pay2]

theorem pay1_at (a : Fin 2816) (b : Fin 512) : (k0_pay1 (F := Ideal) (ix2 a b) : EReal) = 0 := by
  pointwise [k0_pay1]

theorem idx0 : ∀ t : Fin cfg0.N, win0_0.index t = ![t.val % 8, 0] :=
  (by decide +kernel : ∀ t : Fin grid0.N, _)
theorem idx1 : ∀ t : Fin cfg0.N, win0_1.index t = ![t.val % 8, t.val / 8] :=
  (by decide +kernel : ∀ t : Fin grid0.N, _)

variable (m : (ℓ : Loc nD τ sig) → Buf (Elt Ideal) ℓ) (d : Dev nD)

/-- The gated activations and the cotangent, as launched. -/
abbrev act : Vec Ideal S8192x2816 .f32 := m ((d.tc : Thread nD τ).loc main_arg0)
abbrev ct : Vec Ideal S8192x1024 .f32 := m ((d.tc : Thread nD τ).loc main_arg2)

/-- The point that takes row block `k` for the weight's half `j`. -/
abbrev pt (j : Fin 2) (k : Fin 8) : Fin cfg0.N := ⟨8 * j.val + k.val, lt_of_lt_of_eq (by omega) N_0.symm⟩
abbrev row (k : Fin 8) (r : Fin 1024) : Fin 8192 := ⟨k.val * 1024 + r.val, by omega⟩
abbrev col (j : Fin 2) (b : Fin 512) : Fin 1024 := ⟨j.val * 512 + b.val, by omega⟩

theorem V_act : V m d main_v0 = truncf (F := Ideal) .bf16 (act m d) bitsLt_bf16_f32 := by
  show StableHlo.after _ _ _ = _
  after_results_simp

theorem V_ct : V m d main_v1 = truncf (F := Ideal) .bf16 (ct m d) bitsLt_bf16_f32 := by
  show StableHlo.after _ _ _ = _
  after_results_simp

/-- The two blocks a point reads. -/
abbrev blk0 (t : Fin cfg0.N) : Vec Ideal S1024x2816 .bf16 := iblk m d 0 t
abbrev blk1 (t : Fin cfg0.N) : Vec Ideal S1024x512 .bf16 := iblk m d 1 t

theorem in0 (j : Fin 2) (k : Fin 8) (r : Fin 1024) (a : Fin 2816) : blk0 m d (pt j k) (ix2 r a)
    = (V m d main_v0 : Vec Ideal S8192x2816 .bf16) (ix2 (row k r) a) := by
  have e : (8 * j.val + k.val) % 8 = k.val := by omega
  blk_ext [iblk, idx0 (pt j k), e] <;> rfl

theorem in1 (j : Fin 2) (k : Fin 8) (r : Fin 1024) (b : Fin 512) : blk1 m d (pt j k) (ix2 r b)
    = (V m d main_v1 : Vec Ideal S8192x1024 .bf16) (ix2 (row k r) (col j b)) := by
  have e : (8 * j.val + k.val) % 8 = k.val := by omega
  have e1 : (8 * j.val + k.val) / 8 = j.val := by omega
  blk_ext [iblk, idx1 (pt j k), e, e1] <;> rfl

/-- What the point's product is, at an index. -/
def part (j : Fin 2) (k : Fin 8) (a : Fin 2816) (b : Fin 512) : EReal :=
  ∑ r : Fin 1024, (act m d (ix2 (row k r) a) : EReal) * ct m d (ix2 (row k r) (col j b))

theorem part_eq (j : Fin 2) (k : Fin 8) (a : Fin 2816) (b : Fin 512) :
    (∑ r : Fin 1024, (blk0 m d (pt j k) (ix2 r a) : EReal) * blk1 m d (pt j k) (ix2 r b)) = part m d j k a b := by
  refine Finset.sum_congr rfl fun r _ => ?_
  rw [in0, in1, V_act, V_ct]
  rfl

/-- The scratch after the point. -/
abbrev scr (j : Fin 2) (k : Fin 8) : Vec Ideal S2816x512 .f32 := (outsAt0 m d (pt j k).val (pt j k).isLt).2

theorem scr0 (j : Fin 2) (a : Fin 2816) (b : Fin 512) : (scr m d j 0 (ix2 a b) : EReal) = 0 + part m d j 0 a b := by
  have h0 : (pt j 0).val % 8 = 0 := by show (8 * j.val + 0) % 8 = 0; omega
  have h1 : ¬ (pt j 0).val % 8 = 7 := by omega
  unfold scr
  rw [outsAt0_A m d (pt j 0) h0 h1]
  dsimp only
  rw [first_eq, pay2_at, pay1_at, part_eq]

theorem prev (j : Fin 2) (n : ℕ) (hn : n + 1 < 8) (h : (pt j ⟨n + 1, hn⟩).val - 1 < cfg0.N) :
    outsAt0 m d ((pt j ⟨n + 1, hn⟩).val - 1) h = outsAt0 m d (pt j ⟨n, by omega⟩).val (pt j ⟨n, by omega⟩).isLt := by
  congr 1

theorem scrS (j : Fin 2) (n : ℕ) (hn : n + 1 < 7) (a : Fin 2816) (b : Fin 512) :
    (scr m d j ⟨n + 1, by omega⟩ (ix2 a b) : EReal) = scr m d j ⟨n, by omega⟩ (ix2 a b) + part m d j ⟨n + 1, by omega⟩ a b := by
  have h0 : ¬ (pt j ⟨n + 1, by omega⟩).val % 8 = 0 := by show ¬ (8 * j.val + (n + 1)) % 8 = 0; omega
  have h1 : ¬ (pt j ⟨n + 1, by omega⟩).val % 8 = 7 := by show ¬ (8 * j.val + (n + 1)) % 8 = 7; omega
  unfold scr
  rw [outsAt0_B m d (pt j ⟨n + 1, by omega⟩) h0 h1]
  dsimp only
  rw [mid_eq, pay2_at, part_eq, prev]

/-- The scratch after a point: the products of the run so far. -/
theorem scr_sum (j : Fin 2) (n : ℕ) (hn : n < 7) (a : Fin 2816) (b : Fin 512) :
    (scr m d j ⟨n, by omega⟩ (ix2 a b) : EReal) = ∑ k : Fin (n + 1), part m d j ⟨k.val, by omega⟩ a b := by
  induction n with
  | zero => exact (scr0 m d j a b).trans (by rw [zero_add, Fin.sum_univ_one]; rfl)
  | succ n ih => rw [scrS m d j n hn, ih (by omega)]; exact (Fin.sum_univ_castSucc (fun k : Fin (n + 1 + 1) => part m d j ⟨k.val, by omega⟩ a b)).symm

theorem out_eq (j : Fin 2) (a : Fin 2816) (b : Fin 512) :
    ((outsAt0 m d (pt j 7).val (pt j 7).isLt).1 (ix2 a b) : EReal) = scr m d j 6 (ix2 a b) + part m d j 7 a b := by
  have h0 : ¬ (pt j 7).val % 8 = 0 := by show ¬ (8 * j.val + 7) % 8 = 0; omega
  have h1 : (pt j 7).val % 8 = 7 := by show (8 * j.val + 7) % 8 = 7; omega
  rw [outsAt0_C m d (pt j 7) h0 h1]
  dsimp only
  rw [last_eq, pay2_at, part_eq]
  rw [show (7 : Fin 8) = ⟨6 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the tokens. -/
theorem result (j : Fin 2) (a : Fin 2816) (b : Fin 512) :
    (G2 m d (ix2 a (col j b)) : EReal) = ∑ i : Fin 8192, (act m d (ix2 i a) : EReal) * ct m d (ix2 i (col j b)) := by
  have ep : pt2Of (ix2 a (col j b)) = (pt j 7).val := by
    show 8 * (2 * (a.val / 2816 - 0) + 1 * ((j.val * 512 + b.val) / 512 - 0)) + 7 = 8 * j.val + 7
    omega
  have el : loc2Of (ix2 a (col j b)) = ix2 a b := by
    funext x
    apply Fin.ext
    match x with
    | ⟨0, _⟩ => show a.val % 2816 = a.val; omega
    | ⟨1, _⟩ => show (j.val * 512 + b.val) % 512 = b.val; omega
  have hp : pt2Of (ix2 a (col j b)) < cfg0.N := ep ▸ (pt j 7).isLt
  have e : G2 m d (ix2 a (col j b)) = (outsAt0 m d (pt j 7).val (pt j 7).isLt).1 (ix2 a b) := by
    unfold G2
    rw [dif_pos hp, ← outsAt0_sweep m d _ hp, el, outs_congr m d _ _ hp (pt j 7).isLt ep]
  rw [e, out_eq, Cert.Math.sum_blocks 8 1024 8192 rfl, Fin.sum_univ_castSucc]
  exact congrArg (fun s : EReal => s + part m d j 7 a b) (scr_sum m d j 6 (by omega) a b)

end Cert.Kernel4Ideal.Grad

namespace Cert.Proof

open Idealize.ShloMosaic Idealize.ShloMosaic.TcCoe Idealize.SL.Sem

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem ref4_at (x : Vec Ideal Cert.Reference4Ideal.S8192x2816 .f32) (y : Vec Ideal Cert.Reference4Ideal.S8192x1024 .f32) (a : Fin 2816) (e : Fin 1024) :
    (transpose Cert.Reference4Ideal.S2816x1024 [1, 0] (Host.dotGeneral (F := Ideal) (φ₁ := .f32) (φ₂ := .f32)
      Cert.Reference4Ideal.dot_S8192x1024_S8192x2816_S1024x2816_0_0_1_1_n_n none y x) Cert.Reference4Ideal.Gen.transposes_S1024x2816_S2816x1024_1_0 (ix2 a e) : EReal)
      = ∑ i : Fin 8192, (y (ix2 i e) : EReal) * x (ix2 i a) := by
  pointwise

theorem same4 : Cert.algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  rw [(h c).1]
  funext i
  obtain ⟨j, a, b, rfl⟩ : ∃ (j : Fin 2) (a : Fin 2816) (b : Fin 512), i = ix2 a (Cert.Kernel4Ideal.Grad.col j b) := by
    have hi : (i 1).val < 1024 := (i 1).isLt
    refine ⟨⟨(i 1).val / 512, by omega⟩, i 0, ⟨(i 1).val % 512, by omega⟩, ?_⟩
    funext x
    match x with
    | ⟨0, _⟩ => rfl
    | ⟨1, _⟩ => exact Fin.ext (show (i 1).val = (i 1).val / 512 * 512 + (i 1).val % 512 by omega)
  refine (ref4_at _ _ a _).trans ?_
  refine Eq.trans ?_ (Cert.Kernel4Ideal.Grad.result m c j a b).symm
  refine Finset.sum_congr rfl fun i _ => ?_
  rw [mul_comm]
  exact congrArg₂ (fun u v : EReal => u * v) (congrFun (hagree c).1 _) (congrFun (hagree c).2.2 _)

end Cert.Proof

end
-- ==== Proof.Mm5.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

/-! # The feed-forward block's second product, with the gate and the residual -/

@[expose] public section

set_option maxRecDepth 16384

noncomputable section

namespace Cert.Kernel5Ideal.Fwd

open Cert.Kernel5Ideal Cert.Kernel5Ideal.Gen Cert.Kernel5Ideal.Value
open Idealize.ShloMosaic Idealize.ShloMosaic.TcCoe
open scoped BigOperators

theorem hz : (![0, 0] : Fin 2 → Nat) = fun _ => 0 := funext fun a => by fin_cases a <;> rfl

theorem out5_eq (x0 : Vec Ideal S512x2816 .bf16) (x1 : Vec Ideal S2816x1024 .bf16) (x2 : Vec Ideal S512x1024 .f32) (x3 : Vec Ideal S1x1024 .f32) :
    out0_5 x0 x1 x2 x3 = k0_pay1 x0 x1 := by
  unfold out0_5
  rw [View.canon_unit_zero hz, View.ld_unit_zero (S := S512x2816) hz, View.ld_unit_zero (S := S2816x1024) hz]

theorem out4_eq (x0 : Vec Ideal S512x2816 .bf16) (x1 : Vec Ideal S2816x1024 .bf16) (x2 : Vec Ideal S512x1024 .f32) (x3 : Vec Ideal S1x1024 .f32) :
    out0_4 x0 x1 x2 x3 = k0_pay2 x0 x1 x2 x3 := by
  unfold out0_4
  rw [View.canon_unit_zero hz, View.ld_unit_zero (S := S512x2816) hz, View.ld_unit_zero (S := S2816x1024) hz, View.ld_unit_zero (S := S512x1024) hz,
    View.ld_unit_zero (S := S1x1024) hz]

/-- One half, as its float word says it. -/
abbrev half : EReal := Scalar.ofBits (F := Ideal) .f32 0x3F000000#32

theorem pay1_at (x : Vec Ideal S512x2816 .bf16) (y : Vec Ideal S2816x1024 .bf16) (r : Fin 512) (b : Fin 1024) :
    (k0_pay1 x y (ix2 r b) : EReal) = ∑ k : Fin 2816, (x (ix2 r k) : EReal) * y (ix2 k b) := by
  refine Eq.trans (b := 0 + ∑ k : Fin 2816, (x (ix2 r k) : EReal) * y (ix2 k b)) ?_ (zero_add _)
  pointwise [k0_pay1]

theorem pay2_at (x : Vec Ideal S512x2816 .bf16) (y : Vec Ideal S2816x1024 .bf16) (h : Vec Ideal S512x1024 .f32) (g : Vec Ideal S1x1024 .f32)
    (r : Fin 512) (b : Fin 1024) :
    (k0_pay2 x y h g (ix2 r b) : EReal) = h (ix2 r b) + (half * g (ix2 0 b)) * k0_pay1 x y (ix2 r b) := by
  pointwise [k0_pay2]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

variable (m : (ℓ : Loc nD τ sig) → Buf (Elt Ideal) ℓ) (d : Dev nD)

/-- The gated activations, the weight, the residual and the gate, as launched. -/
abbrev act : Vec Ideal S8192x2816 .f32 := m ((d.tc : Thread nD τ).loc main_arg0)
abbrev wt : Vec Ideal S2816x1024 .f32 := m ((d.tc : Thread nD τ).loc main_arg1)
abbrev res : Vec Ideal S8192x1024 .f32 := m ((d.tc : Thread nD τ).loc main_arg2)
abbrev gate : Vec Ideal S1024 .f32 := m ((d.tc : Thread nD τ).loc main_arg3)

theorem V_act : V m d main_v0 = truncf (F := Ideal) .bf16 (act m d) bitsLt_bf16_f32 := by
  show StableHlo.after _ _ _ = _
  after_results_simp

theorem V_wt : V m d main_v1 = truncf (F := Ideal) .bf16 (wt m d) bitsLt_bf16_f32 := by
  show StableHlo.after _ _ _ = _
  after_results_simp

theorem V_gate : V m d main_v2 = shapeCast S1x1024 (gate m d) shapeCasts_S1024_S1x1024 := by
  show StableHlo.after _ _ _ = _
  after_results_simp
  rfl

/-- The point that takes row block `k`, and a row of it. -/
abbrev pt (k : Fin 16) : Fin cfg0.N := ⟨k.val, lt_of_lt_of_eq k.isLt N_0.symm⟩
abbrev row (k : Fin 16) (r : Fin 512) : Fin 8192 := ⟨k.val * 512 + r.val, by omega⟩

abbrev blk0 (t : Fin cfg0.N) : Vec Ideal S512x2816 .bf16 := iblk m d 0 t
abbrev blk1 (t : Fin cfg0.N) : Vec Ideal S2816x1024 .bf16 := iblk m d 1 t
abbrev blk2 (t : Fin cfg0.N) : Vec Ideal S512x1024 .f32 := iblk m d 2 t
abbrev blk3 (t : Fin cfg0.N) : Vec Ideal S1x1024 .f32 := iblk m d 3 t

theorem in0 (k : Fin 16) (r : Fin 512) (a : Fin 2816) :
    blk0 m d (pt k) (ix2 r a) = (V m d main_v0 : Vec Ideal S8192x2816 .bf16) (ix2 (row k r) a) := by
  blk_ext [iblk, idx0 (pt k)] <;> rfl
theorem in1 (k : Fin 16) (a : Fin 2816) (b : Fin 1024) :
    blk1 m d (pt k) (ix2 a b) = (V m d main_v1 : Vec Ideal S2816x1024 .bf16) (ix2 a b) := by
  blk_ext [iblk, idx1 (pt k)] <;> rfl
theorem in2 (k : Fin 16) (r : Fin 512) (b : Fin 1024) :
    blk2 m d (pt k) (ix2 r b) = (V m d main_arg2 : Vec Ideal S8192x1024 .f32) (ix2 (row k r) b) := by
  blk_ext [iblk, idx2 (pt k)] <;> rfl
theorem in3 (k : Fin 16) (b : Fin 1024) :
    blk3 m d (pt k) (ix2 0 b) = (V m d main_v2 : Vec Ideal S1x1024 .f32) (ix2 0 b) := by
  blk_ext [iblk, idx3 (pt k)] <;> rfl

theorem gate_at (b : Fin 1024) : shapeCast S1x1024 (gate m d) shapeCasts_S1024_S1x1024 (ix2 0 b) = gate m d (ix1 b) := by
  pointwise

/-- The product at an index. -/
def prod (i : Fin 8192) (b : Fin 1024) : EReal := ∑ k : Fin 2816, (act m d (ix2 i k) : EReal) * wt m d (ix2 k b)

theorem prod_eq (k : Fin 16) (r : Fin 512) (b : Fin 1024) :
    (k0_pay1 (blk0 m d (pt k)) (blk1 m d (pt k)) (ix2 r b) : EReal) = prod m d (row k r) b := by
  rw [pay1_at]
  refine Finset.sum_congr rfl fun x _ => ?_
  rw [in0, in1, V_act, V_wt]
  rfl

theorem res_eq (k : Fin 16) (r : Fin 512) (b : Fin 1024) :
    (k0_pay2 (blk0 m d (pt k)) (blk1 m d (pt k)) (blk2 m d (pt k)) (blk3 m d (pt k)) (ix2 r b) : EReal)
      = res m d (ix2 (row k r) b) + (half * gate m d (ix1 b)) * prod m d (row k r) b := by
  rw [pay2_at, prod_eq, in2, in3, V_gate, gate_at, V_main_arg2]

/-- The two results. -/
def outY : FVec Ideal S8192x1024 .f32 := fun i => prod m d (i 0) (i 1)
def outH : FVec Ideal S8192x1024 .f32 := fun i => res m d i + (half * gate m d (ix1 (i 1))) * prod m d (i 0) (i 1)

theorem outY_at (i : Fin 8192) (b : Fin 1024) (y : S8192x1024.Idx) (h0 : (y 0).val = i.val) (h1 : (y 1).val = b.val) :
    (outY m d y : EReal) = prod m d i b := by
  have e : y = ix2 i b := funext fun a => match a with
    | ⟨0, _⟩ => Fin.ext h0
    | ⟨1, _⟩ => Fin.ext h1
  rw [e]; rfl

theorem outH_at (i : Fin 8192) (b : Fin 1024) (y : S8192x1024.Idx) (h0 : (y 0).val = i.val) (h1 : (y 1).val = b.val) :
    (outH m d y : EReal) = res m d (ix2 i b) + (half * gate m d (ix1 b)) * prod m d i b := by
  have e : y = ix2 i b := funext fun a => match a with
    | ⟨0, _⟩ => Fin.ext h0
    | ⟨1, _⟩ => Fin.ext h1
  rw [e]; rfl

theorem eta2 {a b : ℕ} (y : (⟨2, ![a, b]⟩ : Shape).Idx) : y = ix2 (y 0) (y 1) := by
  funext k
  fin_cases k <;> rfl

/-- A point's row block. -/
abbrev kOf (t : Fin cfg0.N) : Fin 16 := ⟨t.val, lt_of_lt_of_eq t.isLt N_0⟩

theorem final5 : (dats m 0 d).arrAt 5 cfg0.N = outY m d := by
  refine (dats m 0 d).arrAt_eq_of_covers 5 _ (by decide +kernel) fun t _ y => ?_
  blk_simp
  rw [after0_5, out5_eq]
  refine (congrArg (k0_pay1 (blk0 m d t) (blk1 m d t)) (eta2 y)).trans ((prod_eq m d (kOf t) (y 0) (y 1)).trans
    (outY_at m d (row (kOf t) (y 0)) (y 1) _ ?_ ?_).symm)
  · blk_simp [idx5 t]
  · blk_simp [idx5 t]

theorem final4 : (dats m 0 d).arrAt 4 cfg0.N = outH m d := by
  refine (dats m 0 d).arrAt_eq_of_covers 4 _ (by decide +kernel) fun t _ y => ?_
  blk_simp
  rw [after0_4, out4_eq]
  refine (congrArg (k0_pay2 (blk0 m d t) (blk1 m d t) (blk2 m d t) (blk3 m d t)) (eta2 y)).trans (Eq.trans ?_
    (outH_at m d (row (kOf t) (y 0)) (y 1) _ ?_ ?_).symm)
  · exact res_eq m d (kOf t) (y 0) (y 1)
  · blk_simp [idx4 t]
  · blk_simp [idx4 t]

end Cert.Kernel5Ideal.Fwd

namespace Cert.Proof

open Idealize.ShloMosaic Idealize.ShloMosaic.TcCoe Idealize.SL.Sem

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

section
open Cert.Reference5Ideal Cert.Reference5Ideal.Gen

theorem ref5_prod (x : Vec Ideal S8192x2816 .f32) (w : Vec Ideal S2816x1024 .f32) (i : Fin 8192) (b : Fin 1024) :
    (Host.dotGeneral (F := Ideal) (φ₁ := .f32) (φ₂ := .f32) dot_S8192x2816_S2816x1024_S8192x1024_1_0_0_1_n_n none x w (ix2 i b) : EReal)
      = ∑ k : Fin 2816, (x (ix2 i k) : EReal) * w (ix2 k b) := by
  pointwise

theorem ref5_res (p h : Vec Ideal S8192x1024 .f32) (g : Vec Ideal S1024 .f32) (i : Fin 8192) (b : Fin 1024) :
    (addf (F := Ideal) h (mulf (broadcastInDim S8192x1024 ![0, 1] bcast_S1x1024_S8192x1024_0_1 (mulf (broadcastInDim S1x1024 ![] bcast_S_S1x1024
      (constant S_ .f32 0x3F000000#32)) (broadcastInDim S1x1024 ![1] bcast_S1024_S1x1024_1 g))) p) (ix2 i b) : EReal)
      = h (ix2 i b) + (Cert.Kernel5Ideal.Fwd.half * g (ix1 b)) * p (ix2 i b) := by
  pointwise
end

theorem same5 : Cert.algebraic_Kernel5Ideal_Reference5Ideal := by
  intro m ρ m' ρ' _ hagree
  refine ⟨fun c => Cert.Kernel5Ideal.Fwd.outH m c, fun c => Cert.Kernel5Ideal.Fwd.outY m c, ?_, ?_⟩
  · refine (θ_run Cert.Kernel5Ideal.defs _ _).mono (fun _ h c => ?_) (Cert.Kernel5Ideal.Value.run_blocks (F := Ideal) m ρ)
    exact ⟨(h c).1.trans (Cert.Kernel5Ideal.Fwd.final4 m c), (h c).2.1.trans (Cert.Kernel5Ideal.Fwd.final5 m c), (h c).2.2⟩
  · refine (θ_run Cert.Reference5Ideal.defs _ _).mono (fun _ h c => ?_) (Cert.Reference5Ideal.Value.run (F := Ideal) m' ρ')
    refine ⟨(h c).1.trans ?_, (h c).2.1.trans ?_, (h c).2.2⟩
    · rw [(hagree c).1, (hagree c).2.1, (hagree c).2.2.1, (hagree c).2.2.2]
      funext y
      rw [Cert.Kernel5Ideal.Fwd.eta2 y]
      refine (ref5_res _ _ _ (y 0) (y 1)).trans ?_
      exact congrArg (fun p : EReal => Cert.Kernel5Ideal.Fwd.res m c (ix2 (y 0) (y 1))
        + (Cert.Kernel5Ideal.Fwd.half * Cert.Kernel5Ideal.Fwd.gate m c (ix1 (y 1))) * p) (ref5_prod _ _ (y 0) (y 1))
    · rw [(hagree c).1, (hagree c).2.1]
      funext y
      rw [Cert.Kernel5Ideal.Fwd.eta2 y]
      exact ref5_prod _ _ (y 0) (y 1)

end Cert.Proof

end
-- ==== Proof.Finite.lean ====
module

public import Idealize.ShloMosaic.PureOps.Ideal
public import Idealize.ShloMosaic.Lib.Pointwise

/-! # Finite numbers are real numbers -/

@[expose] public section

noncomputable section

namespace Cert.Proof

open Idealize.ShloMosaic

theorem top_word : Ideal.ofBits .f32 0x7F800000#32 = ⊤ := by
  simp [Ideal.ofBits, Ideal.ieee]

/-- A number whose absolute value is below infinity is a real number. -/
theorem real_of_lt (a : EReal) (h : Ideal.cmp .olt (max a (-a)) ⊤ = 1#1) : a = ((a.toReal : ℝ) : EReal) := by
  have h1 : max a (-a) < ⊤ := by
    by_contra hn
    have : Ideal.cmp .olt (max a (-a)) ⊤ = 0#1 := by
      unfold Ideal.cmp
      simp only [hn, decide_false]
      rfl
    rw [this] at h
    exact absurd h (by decide)
  have h2 : a ≠ ⊤ := fun e => by rw [e] at h1; exact absurd h1 (by simp)
  have h3 : a ≠ ⊥ := fun e => by rw [e] at h1; exact absurd h1 (by simp)
  exact (EReal.coe_toReal h2 h3).symm

section
variable {s : Shape} (hbc : (⟨0, ![]⟩ : Shape).BroadcastsInDim s (![] : Fin 0 → Fin s.rank)) (a : FVec Ideal s .f32)

theorem real_of_fin (h : cmpf .olt (Host.absf a) (broadcastInDim s ![] hbc (constant (⟨0, ![]⟩ : Shape) .f32 0x7F800000#32)) = fun _ => 1#1)
    (i : s.Idx) : a i = (((a i : EReal).toReal : ℝ) : EReal) := by
  refine real_of_lt (a i) ?_
  rw [← top_word]
  exact congrFun h i
end

end Cert.Proof

end
-- ==== Proof.Body6.lean ====
module

public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Tactic
public import Idealize.ShloMosaic.Lib.VecWindow
public import Idealize.ShloMosaic.Lib.WordCmp

/-! # The feed-forward's first product: the kernel's body at one grid point

A grid point is a block of 512 rows at one half of the columns. At the first half the body norms the rows, keeps them
in a scratch buffer and sends them out; at the second half it finds them there. At both it multiplies the normed rows
by the two weight blocks and leaves the gated product and its two derivatives. -/

@[expose] public section

set_option maxRecDepth 16384

noncomputable section

namespace Cert.Kernel6Ideal.Fwd

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's condition: the first half of the columns. -/
abbrev first (i : grid0.Coords) : Prop := k0_cond1 i = 1#1

/-- The two planes of the block of derivatives. -/
abbrev plane0 : Rect S2x512x1408 := Rect.unit (s := S2x512x1408) ![0, 0, 0] S1x512x1408.size inb_S2x512x1408_S1x512x1408_0_0_0
abbrev plane1 : Rect S2x512x1408 := Rect.unit (s := S2x512x1408) ![1, 0, 0] S1x512x1408.size inb_S2x512x1408_S1x512x1408_1_0_0

/-- The two planes cover the block. -/
theorem cover (p0 p1 : Vec F S1x512x1408 .bf16) (y : S2x512x1408.Idx) :
    ∃ pc ∈ ([⟨plane1, p1⟩, ⟨plane0, p0⟩] : List (View.Piece (Elt F) S2x512x1408 .bf16)), y ∈ pc.1.set :=
  View.cover_of_tiled [⟨plane1, p1⟩, ⟨plane0, p0⟩] S1x512x1408.size (by rfl) y

/-- The block of derivatives, from normed rows and the two weight blocks. -/
def derivs (n : Vec F S512x1024 .bf16) (u v : Vec F S1x1x1x1024x1408 .bf16) : Vec F S2x512x1408 .bf16 :=
  View.canon [⟨plane1, k0_pay8 n u⟩, ⟨plane0, k0_pay7 n u v⟩]

section Body
variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1x1024x1408 .bf16) (harg6 : arg6.IsWhole) (arg7 : Memref sig .tc .vmem S1x1x1x1024x1408 .bf16) (harg7 : arg7.IsWhole) (arg8 : Memref sig .tc .vmem S512x1024 .bf16) (harg8 : arg8.IsWhole) (arg9 : Memref sig .tc .vmem S2x512x1408 .bf16) (harg9 : arg9.IsWhole) (arg10 : Memref sig .tc .vmem S512x1408 .bf16) (harg10 : arg10.IsWhole) (arg11 : Memref sig .tc .vmem S512x1024 .bf16) (harg11 : arg11.IsWhole)
  (x0 : Vec F S512x1024 .f32) (x1 x2 x3 : Vec F S1x1024 .f32) (x4 x5 : Vec F S1x1x1x1024x1408 .bf16)

set_option maxHeartbeats 2000000 in
/-- The body at the first half. -/
theorem bodyA (E : Set ℕ) (K : PUnit → sProp 𝕄) (h1 : first i) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg11 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay1 x0 x1 x2 x3) ∗ owns (c : Thread nD τ) arg11 fullShare (k0_pay2 x0 x1 x2 x3) ∗ owns (c : Thread nD τ) arg9 fullShare (derivs (k0_pay2 x0 x1 x2 x3) x4 x5) ∗ owns (c : Thread nD τ) arg10 fullShare (k0_pay9 (k0_pay2 x0 x1 x2 x3) x4 x5)) -∗ K ⟨⟩))
      ⊢ wp frame (wpE (defs₀ (F := F)) Variants.none (c : Thread nD τ) none) E (cc0_ffn_w13 i arg2 harg2 arg3 harg3 arg4 harg4 arg5 harg5 arg6 harg6 arg7 harg7 arg8 harg8 arg9 harg9 arg10 harg10 arg11 harg11) K := by
  simp only [cc0_ffn_w13_eq_skeleton]; unfold cc0_ffn_w13_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d11, %f11, -, H11⟩, ⟨%d9, %f9, -, H9⟩, ⟨%d10, %f10, -, H10⟩, Hk⟩
  subst e2 e3 e4 e5 e6 e7
  sl_exec (disch := sl_exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_full, View.readAt_full, View.readAt_full, View.readAt_full, View.readAt_full]
    try rfl
  isplitl [H11]
  · iexists _; isplitr
    swap; · iexact H11
    ipureintro
    unfold bodyA.sl.H11_1
    rw [View.read_writes_full, View.readAt_full, View.readAt_full, View.readAt_full, View.readAt_full]
    try rfl
  isplitl [H9]
  · iexists _; isplitr
    swap; · iexact H9
    ipureintro
    rw [View.read_writes_eq_canon _ _ _ (cover _ _)]
    unfold derivs
    rw [show bodyA.sl.v3 c arg2 arg3 arg4 arg5 arg11 f2 f3 f4 f5 = k0_pay2 (arg2.view.read (Elt F) f2) (arg3.view.read (Elt F) f3) (arg4.view.read (Elt F) f4) (arg5.view.read (Elt F) f5) from by
      unfold bodyA.sl.v3 bodyA.sl.H11_1; rw [View.readCov_full, View.readAt_full, View.readAt_full, View.readAt_full, View.readAt_full]; try rfl, View.readAt_full, View.readAt_full]
    try rfl
  iexists _; isplitr
  swap; · iexact H10
  ipureintro
  rw [View.read_writes_full, show bodyA.sl.v3 c arg2 arg3 arg4 arg5 arg11 f2 f3 f4 f5 = k0_pay2 (arg2.view.read (Elt F) f2) (arg3.view.read (Elt F) f3) (arg4.view.read (Elt F) f4) (arg5.view.read (Elt F) f5) from by
      unfold bodyA.sl.v3 bodyA.sl.H11_1; rw [View.readCov_full, View.readAt_full, View.readAt_full, View.readAt_full, View.readAt_full]; try rfl, View.readAt_full, View.readAt_full]
  try rfl

set_option maxHeartbeats 2000000 in
/-- The body at the second half. -/
theorem bodyB (E : Set ℕ) (K : PUnit → sProp 𝕄) (h1 : ¬ first i) (d8 n : Vec F S512x1024 .bf16) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg11 fullShare n ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg11 fullShare n ∗ owns (c : Thread nD τ) arg9 fullShare (derivs (n) x4 x5) ∗ owns (c : Thread nD τ) arg10 fullShare (k0_pay9 (n) x4 x5)) -∗ K ⟨⟩))
      ⊢ wp frame (wpE (defs₀ (F := F)) Variants.none (c : Thread nD τ) none) E (cc0_ffn_w13 i arg2 harg2 arg3 harg3 arg4 harg4 arg5 harg5 arg6 harg6 arg7 harg7 arg8 harg8 arg9 harg9 arg10 harg10 arg11 harg11) K := by
  simp only [cc0_ffn_w13_eq_skeleton]; unfold cc0_ffn_w13_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f11, %e11, H11⟩, ⟨%d9, %f9, -, H9⟩, ⟨%d10, %f10, -, H10⟩, Hk⟩
  subst e2 e3 e4 e5 e6 e7 e8 e11
  sl_exec (disch := sl_exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H11]
  · iexists f11; isplitr; · ipureintro; rfl
    iexact H11
  isplitl [H9]
  · iexists _; isplitr
    swap; · iexact H9
    ipureintro
    rw [View.read_writes_eq_canon _ _ _ (cover _ _)]
    unfold derivs
    rw [View.readAt_full, View.readAt_full, View.readAt_full]
    try rfl
  iexists _; isplitr
  swap; · iexact H10
  ipureintro
  rw [View.read_writes_full, View.readAt_full, View.readAt_full, View.readAt_full]
  try rfl

end Body

end Cert.Kernel6Ideal.Fwd

end
-- ==== Proof.Track6.lean ====
module

public import proofs.«01_k».proof.Proof.Gen.Kernel6Ideal.Frame
public import proofs.«01_k».proof.Proof.Gen.Kernel6Ideal.Skeleton
public import proofs.«01_k».proof.Proof.Gen.Kernel6Ideal.Points
public import Idealize.ShloMosaic.Lib.Pipeline.FrameBody
public import proofs.«01_k».proof.Proof.Body6
public import Idealize.ShloMosaic.Lib.Claim
public import Idealize.ShloMosaic.Lib.Pipeline.ValueKit
public import Idealize.ShloMosaic.Lib.Tactic
public import Idealize.ShloMosaic.Lib.VecWindow
public import Idealize.ShloMosaic.Lib.WordCmp

/-! # The feed-forward's first product: the run from point to point, and the frame -/

@[expose] public section

set_option maxRecDepth 16384

noncomputable section

namespace Cert.Kernel6Ideal.Fwd

open Cert.Kernel6Ideal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem first_iff (t : Fin cfg0.N) : first (grid0.coords t) ↔ t.val % 2 = 0 :=
  (by decide +kernel : ∀ t : Fin grid0.N, first (grid0.coords t) ↔ t.val % 2 = 0) t

/-- The point before. -/
def prev (t : Fin cfg0.N) : Fin cfg0.N := ⟨t.val - 1, Nat.lt_of_le_of_lt (Nat.sub_le _ _) t.isLt⟩

/-- The normed rows of point `t`'s block, as kept and as sent out. -/
def kept (c : Dev nD) (t : Fin cfg0.N) : Vec F S512x1024 .bf16 :=
  k0_pay2 (iblk m c 0 t) (iblk m c 1 t) (iblk m c 2 t) (iblk m c 3 t)
def sent (c : Dev nD) (t : Fin cfg0.N) : Vec F S512x1024 .bf16 :=
  k0_pay1 (iblk m c 0 t) (iblk m c 1 t) (iblk m c 2 t) (iblk m c 3 t)

/-- A block read at two points with one index is one block. -/
theorem blk0_of_index (c : Dev nD) (t t' : Fin cfg0.N) (e : win0_0.index t' = win0_0.index t) : iblk m c 0 t' = iblk m c 0 t := by
  funext y
  show (V m c main_arg0 : Vec F S8192x1024 .f32) _ = (V m c main_arg0 : Vec F S8192x1024 .f32) _
  refine congrArg (V m c main_arg0 : Vec F S8192x1024 .f32) (funext fun a => Fin.ext ?_)
  show win0_0.index t' a * _ + 1 * _ = win0_0.index t a * _ + 1 * _
  rw [e]

/-- The two halves of a block of rows read the same rows. -/
theorem blk0_prev (c : Dev nD) (t : Fin cfg0.N) (h : t.val % 2 ≠ 0) : iblk m c 0 (prev t) = iblk m c 0 t :=
  blk0_of_index m c t (prev t)
    ((by decide +kernel : ∀ t : Fin grid0.N, t.val % 2 ≠ 0 → win0_0.index ⟨t.val - 1, Nat.lt_of_le_of_lt (Nat.sub_le _ _) t.isLt⟩ = win0_0.index t) t h)

theorem blk1_prev (c : Dev nD) (t : Fin cfg0.N) : iblk m c 1 (prev t) = iblk m c 1 t := rfl

theorem blk2_prev (c : Dev nD) (t : Fin cfg0.N) : iblk m c 2 (prev t) = iblk m c 2 t := rfl

theorem blk3_prev (c : Dev nD) (t : Fin cfg0.N) : iblk m c 3 (prev t) = iblk m c 3 t := rfl

theorem kept_prev (c : Dev nD) (t : Fin cfg0.N) (h : t.val % 2 ≠ 0) : kept m c (prev t) = kept m c t := by
  unfold kept; rw [blk0_prev m c t h, blk1_prev, blk2_prev, blk3_prev]

theorem sent_prev (c : Dev nD) (t : Fin cfg0.N) (h : t.val % 2 ≠ 0) : sent m c (prev t) = sent m c t := by
  unfold sent; rw [blk0_prev m c t h, blk1_prev, blk2_prev, blk3_prev]

/-! ## The region's invariant -/

/-- Each window's current staging buffer, and the scratch buffer. -/
abbrev mem0 (t : Fin cfg0.N) : Memref sig .tc .vmem S512x1024 .f32 := win0_0.stage (cfg0.slots t 0)
abbrev mem1 (t : Fin cfg0.N) : Memref sig .tc .vmem S1x1024 .f32 := win0_1.stage (cfg0.slots t 1)
abbrev mem2 (t : Fin cfg0.N) : Memref sig .tc .vmem S1x1024 .f32 := win0_2.stage (cfg0.slots t 2)
abbrev mem3 (t : Fin cfg0.N) : Memref sig .tc .vmem S1x1024 .f32 := win0_3.stage (cfg0.slots t 3)
abbrev mem4 (t : Fin cfg0.N) : Memref sig .tc .vmem S1x1x1x1024x1408 .bf16 := win0_4.stage (cfg0.slots t 4)
abbrev mem5 (t : Fin cfg0.N) : Memref sig .tc .vmem S1x1x1x1024x1408 .bf16 := win0_5.stage (cfg0.slots t 5)
abbrev mem6 (t : Fin cfg0.N) : Memref sig .tc .vmem S512x1024 .bf16 := win0_6.stage (cfg0.slots t 6)
abbrev mem7 (t : Fin cfg0.N) : Memref sig .tc .vmem S2x512x1408 .bf16 := win0_7.stage (cfg0.slots t 7)
abbrev mem8 (t : Fin cfg0.N) : Memref sig .tc .vmem S512x1408 .bf16 := win0_8.stage (cfg0.slots t 8)
abbrev scr0 : Memref sig .tc .vmem S512x1024 .bf16 := Memref.whole cc0_scratch0

theorem PhiA_eq (c : Dev nD) : (Pipeline.ΦA spec0 c : sProp 𝕄)
    = iprop((∃ d, owns (c : Thread nD τ) scr0 fullShare d) ∗ (∃ r, prngReg c r)) := by
  unfold Pipeline.ΦA; rw [scopedRest0_eq]; simp only [scr0, owns_whole]; try rfl

/-- Before point `n`: between the two halves of a block of rows the scratch buffer holds the normed rows. -/
def PhiS (c : Dev nD) (n : ℕ) (h : n ≤ cfg0.N) : sProp 𝕄 :=
  iprop((∃ d, ⌜∀ t : Fin cfg0.N, t.val = n → t.val % 2 ≠ 0 → d = kept m c t⌝ ∗ owns (c : Thread nD τ) scr0 fullShare d) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sent m c t
    | ⟨7, _⟩ => derivs (kept m c t) (iblk m c 4 t) (iblk m c 5 t)
    | ⟨8, _⟩ => k0_pay9 (kept m c t) (iblk m c 4 t) (iblk m c 5 t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = sent m c t := by dsimp only [dats]
theorem after7 (c : Dev nD) (t : Fin cfg0.N) : (dats m 0 c).after 7 t = derivs (kept m c t) (iblk m c 4 t) (iblk m c 5 t) := by dsimp only [dats]
theorem after8 (c : Dev nD) (t : Fin cfg0.N) : (dats m 0 c).after 8 t = k0_pay9 (kept m c t) (iblk m c 4 t) (iblk m c 5 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At the second half the window of normed rows still holds what the first half left. -/
theorem before6 (c : Dev nD) (t : Fin cfg0.N) (h : t.val % 2 ≠ 0) (d) : (dats m 0 c).before 6 t d = sent m c t := by
  have ht : t.val ≠ 0 := fun e => h (by rw [e])
  have hp : (prev t).val % 2 = 0 := by unfold prev; dsimp only; omega
  have hf : (cfg0.win 6).flush (prev t) = false := by
    rw [Bool.eq_false_iff]
    exact fun hf => absurd ((flush0_6 (prev t)).mp hf) (by omega)
  have hi : cfg0.idle 6 (grid0.coords (prev t)) = false := by
    show (!(k0_cond1 (grid0.coords (prev t)) == 1#1)) = false
    rw [show k0_cond1 (grid0.coords (prev t)) = 1#1 from (first_iff (prev t)).mpr hp]; rfl
  rw [(dats m 0 c).before_of_pos 6 t ht ((cfg0.win 6).fetch_out rfl t) d]
  show (if (cfg0.win 6).flush (prev t) = true then d else (dats m 0 c).left 6 (prev t) d) = _
  rw [hf, if_neg Bool.false_ne_true]
  unfold Dat.left
  rw [show cfg0.idle 6 (cfg0.grid.coords (prev t)) = false from hi]
  show (dats m 0 c).kept 6 (prev t) d = _
  unfold Dat.kept
  rw [after6, ← sent_prev m c t h]
  rw [Pipeline.fill_of_clip_none 6 _ (fun _ => rfl) d (sent m c (prev t)), Window.fill_cut]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves6_even (c : Dev nD) (t : Fin cfg0.N) (h : t.val % 2 = 0) :
    (dats m 0 c).leavesExact 6 t = owns (c : Thread nD τ) (mem6 t) fullShare (sent m c t) := by
  have hi : cfg0.idle 6 (grid0.coords t) = false := by
    show (!(k0_cond1 (grid0.coords t) == 1#1)) = false
    rw [show k0_cond1 (grid0.coords t) = 1#1 from (first_iff t).mpr h]; rfl
  rw [show (dats m 0 c).leavesExact 6 t = owns (c : Thread nD τ) (mem6 t) fullShare ((dats m 0 c).after 6 t) from by
    unfold Dat.leavesExact; rw [hi], after6]

theorem leaves6_odd (c : Dev nD) (t : Fin cfg0.N) (h : t.val % 2 ≠ 0) :
    (dats m 0 c).leavesExact 6 t = owns (c : Thread nD τ) (mem6 t) fullShare (sent m c t) := by
  have hi : cfg0.idle 6 (grid0.coords t) = true := by
    show (!(k0_cond1 (grid0.coords t) == 1#1)) = true
    rw [Bool.not_eq_true', beq_eq_false_iff_ne]
    exact fun e => h ((first_iff t).mp e)
  have hf : (cfg0.win 6).flush t = true := (flush0_6 t).mpr (by omega)
  rw [show (dats m 0 c).leavesExact 6 t = owns (c : Thread nD τ) (mem6 t) fullShare ((dats m 0 c).after 6 t) from by
    unfold Dat.leavesExact; rw [hi, hf], after6]

theorem leaves0 (c : Dev nD) (t : Fin cfg0.N) :
    (dats m 0 c).leavesExact 0 t = owns (c : Thread nD τ) (mem0 t) fullShare (iblk m c 0 t) := by
  rw [show (dats m 0 c).leavesExact 0 t = owns (c : Thread nD τ) (mem0 t) fullShare ((dats m 0 c).after 0 t) from by
    unfold Dat.leavesExact; rw [show cfg0.idle 0 (grid0.coords t) = false from rfl], after0]
theorem leaves1 (c : Dev nD) (t : Fin cfg0.N) :
    (dats m 0 c).leavesExact 1 t = owns (c : Thread nD τ) (mem1 t) fullShare (iblk m c 1 t) := by
  rw [show (dats m 0 c).leavesExact 1 t = owns (c : Thread nD τ) (mem1 t) fullShare ((dats m 0 c).after 1 t) from by
    unfold Dat.leavesExact; rw [show cfg0.idle 1 (grid0.coords t) = false from rfl], after1]
theorem leaves2 (c : Dev nD) (t : Fin cfg0.N) :
    (dats m 0 c).leavesExact 2 t = owns (c : Thread nD τ) (mem2 t) fullShare (iblk m c 2 t) := by
  rw [show (dats m 0 c).leavesExact 2 t = owns (c : Thread nD τ) (mem2 t) fullShare ((dats m 0 c).after 2 t) from by
    unfold Dat.leavesExact; rw [show cfg0.idle 2 (grid0.coords t) = false from rfl], after2]
theorem leaves3 (c : Dev nD) (t : Fin cfg0.N) :
    (dats m 0 c).leavesExact 3 t = owns (c : Thread nD τ) (mem3 t) fullShare (iblk m c 3 t) := by
  rw [show (dats m 0 c).leavesExact 3 t = owns (c : Thread nD τ) (mem3 t) fullShare ((dats m 0 c).after 3 t) from by
    unfold Dat.leavesExact; rw [show cfg0.idle 3 (grid0.coords t) = false from rfl], after3]
theorem leaves4 (c : Dev nD) (t : Fin cfg0.N) :
    (dats m 0 c).leavesExact 4 t = owns (c : Thread nD τ) (mem4 t) fullShare (iblk m c 4 t) := by
  rw [show (dats m 0 c).leavesExact 4 t = owns (c : Thread nD τ) (mem4 t) fullShare ((dats m 0 c).after 4 t) from by
    unfold Dat.leavesExact; rw [show cfg0.idle 4 (grid0.coords t) = false from rfl], after4]
theorem leaves5 (c : Dev nD) (t : Fin cfg0.N) :
    (dats m 0 c).leavesExact 5 t = owns (c : Thread nD τ) (mem5 t) fullShare (iblk m c 5 t) := by
  rw [show (dats m 0 c).leavesExact 5 t = owns (c : Thread nD τ) (mem5 t) fullShare ((dats m 0 c).after 5 t) from by
    unfold Dat.leavesExact; rw [show cfg0.idle 5 (grid0.coords t) = false from rfl], after5]
theorem leaves7 (c : Dev nD) (t : Fin cfg0.N) :
    (dats m 0 c).leavesExact 7 t = owns (c : Thread nD τ) (mem7 t) fullShare (derivs (kept m c t) (iblk m c 4 t) (iblk m c 5 t)) := by
  rw [show (dats m 0 c).leavesExact 7 t = owns (c : Thread nD τ) (mem7 t) fullShare ((dats m 0 c).after 7 t) from by
    unfold Dat.leavesExact; rw [show cfg0.idle 7 (grid0.coords t) = false from rfl], after7]
theorem leaves8 (c : Dev nD) (t : Fin cfg0.N) :
    (dats m 0 c).leavesExact 8 t = owns (c : Thread nD τ) (mem8 t) fullShare (k0_pay9 (kept m c t) (iblk m c 4 t) (iblk m c 5 t)) := by
  rw [show (dats m 0 c).leavesExact 8 t = owns (c : Thread nD τ) (mem8 t) fullShare ((dats m 0 c).after 8 t) from by
    unfold Dat.leavesExact; rw [show cfg0.idle 8 (grid0.coords t) = false from rfl], after8]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_castSucc m c t]
  rw [leaves0, leaves1, leaves2, leaves3, leaves4, leaves5, leaves7, leaves8]
  unfold PhiS
  by_cases h : t.val % 2 = 0
  · rw [leaves6_even m c t h]
    iintro ⟨⟨⟨%D, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyA c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) (mem8 t) (hstage0_8 ((cfg0.slots t 8).cast nbuf0_8)) scr0 (Memref.isWhole_whole _) (iblk m c 0 t) (iblk m c 1 t) (iblk m c 2 t) (iblk m c 3 t) (iblk m c 4 t) (iblk m c 5 t) Set.univ _ ((first_iff t).mpr h))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexists _; iexact HS
    isplitl [H7]; · iexists _; iexact H7
    isplitl [H8]; · iexists _; iexact H8
    iintro ⟨H0, H1, H2, H3, H4, H5, H6, HS, H7, H8⟩
    isplitl [HS Hg]
    · isplitl [HS]
      · iexists _
        isplitr
        swap; · iexact HS
        ipureintro
        intro t' e h'
        have hp : prev t' = t := Fin.ext (by unfold prev; dsimp only; omega)
        exact (congrArg (kept m c) hp).symm.trans (kept_prev m c t' h')
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves6_odd m c t h]
    simp only [before6 m c t h]
    iintro ⟨⟨⟨%D, %hD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain rfl := hD t rfl h
    iapply (bodyB c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) (mem8 t) (hstage0_8 ((cfg0.slots t 8).cast nbuf0_8)) scr0 (Memref.isWhole_whole _) (iblk m c 0 t) (iblk m c 1 t) (iblk m c 2 t) (iblk m c 3 t) (iblk m c 4 t) (iblk m c 5 t) Set.univ _ (fun e => h ((first_iff t).mp e)) (sent m c t) (kept m c t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [H7]; · iexists _; iexact H7
    isplitl [H8]; · iexists _; iexact H8
    iintro ⟨H0, H1, H2, H3, H4, H5, H6, HS, H7, H8⟩
    isplitl [HS Hg]
    · isplitl [HS]
      · iexists _
        isplitr
        swap; · iexact HS
        ipureintro
        intro t' e h'; exact absurd h' (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨%D, HS⟩, Hg⟩
  isplitr [Hg]
  · iexists D
    isplitr
    swap; · iexact HS
    ipureintro
    exact fun t e h => absurd (by rw [e]) h
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%D, -, HS⟩, Hg⟩
  isplitr [Hg]
  · iexists D
    iexact HS
  iexact Hg

/-! ## The run and the frame -/

set_option backward.isDefEq.respectTransparency.types false in
/-- The launch: every array as the proof data say, every other buffer as the region found it, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m) (hQ' := fun _ h => h)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel6Ideal.Fwd

end
-- ==== Proof.Norm6.lean ====
module

public import proofs.«01_k».proof.Proof.Gen.Kernel6Ideal.Skeleton
public import proofs.«01_k».proof.Proof.Gen.Reference6Ideal.Run
public import Idealize.ShloMosaic.Lib.Pointwise

/-! # The feed-forward's first product: what the body's terms and the reference's terms are at an index -/

@[expose] public section

set_option maxRecDepth 16384

noncomputable section

namespace Cert.Ffn

open Idealize.ShloMosaic Idealize.ShloMosaic.TcCoe
open scoped BigOperators

/-- The float words of 1, 1024 and the norm's small constant. -/
abbrev one : EReal := Scalar.ofBits (F := Ideal) .f32 0x3F800000#32
abbrev width : EReal := Scalar.ofBits (F := Ideal) .f32 0x44800000#32
abbrev eps : EReal := Scalar.ofBits (F := Ideal) .f32 0x358637BD#32

/-- A normed entry, from the row's entry and sum of squares, the gain, the shift and the scale. -/
def normed (x s g sh sc : EReal) : EReal := x * Ideal.rsqrt (Ideal.div s width + eps) * g * (one + sc) + sh

section Kernel
open Cert.Kernel6Ideal Cert.Kernel6Ideal.Gen

theorem pay1_at (x : Vec Ideal S512x1024 .f32) (g sh sc : Vec Ideal S1x1024 .f32) (r : Fin 512) (b : Fin 1024) :
    (k0_pay1 x g sh sc (ix2 r b) : EReal) = normed (x (ix2 r b)) (∑ k : Fin 1024, (x (ix2 r k) : EReal) * x (ix2 r k)) (g (ix2 0 b)) (sh (ix2 0 b)) (sc (ix2 0 b)) := by
  unfold normed
  pointwise [k0_pay1]

theorem pay2_at (x : Vec Ideal S512x1024 .f32) (g sh sc : Vec Ideal S1x1024 .f32) (r : Fin 512) (b : Fin 1024) :
    (k0_pay2 x g sh sc (ix2 r b) : EReal) = k0_pay1 x g sh sc (ix2 r b) := by
  pointwise [k0_pay2]

theorem pay3_at (n : Vec Ideal S512x1024 .bf16) (u : Vec Ideal S1x1x1x1024x1408 .bf16) (r : Fin 512) (q : Fin 1408) :
    (k0_pay3 n u (ix2 r q) : EReal) = ∑ k : Fin 1024, (n (ix2 r k) : EReal) * u (ix5 0 0 0 k q) := by
  refine Eq.trans (b := 0 + ∑ k : Fin 1024, (n (ix2 r k) : EReal) * u (ix5 0 0 0 k q)) ?_ (zero_add _)
  pointwise [k0_pay3]

theorem pay4_at (n : Vec Ideal S512x1024 .bf16) (u : Vec Ideal S1x1x1x1024x1408 .bf16) (r : Fin 512) (q : Fin 1408) :
    (k0_pay4 n u (ix2 r q) : EReal) = ∑ k : Fin 1024, (n (ix2 r k) : EReal) * u (ix5 0 0 0 k q) := by
  refine Eq.trans (b := 0 + ∑ k : Fin 1024, (n (ix2 r k) : EReal) * u (ix5 0 0 0 k q)) ?_ (zero_add _)
  pointwise [k0_pay4]

theorem pay6_at (n : Vec Ideal S512x1024 .bf16) (u : Vec Ideal S1x1x1x1024x1408 .bf16) (r : Fin 512) (q : Fin 1408) :
    (k0_pay6 n u (ix2 r q) : EReal) = k0_pay3 n u (ix2 r q) * Ideal.logistic (k0_pay3 n u (ix2 r q)) := by
  pointwise [k0_pay6, k0_pay5]

theorem pay7_at (n : Vec Ideal S512x1024 .bf16) (u v : Vec Ideal S1x1x1x1024x1408 .bf16) (r : Fin 512) (q : Fin 1408) :
    (k0_pay7 n u v (ix3 0 r q) : EReal) = k0_pay4 n v (ix2 r q) * (Ideal.logistic (k0_pay3 n u (ix2 r q)) + k0_pay6 n u (ix2 r q) * (one - Ideal.logistic (k0_pay3 n u (ix2 r q)))) := by
  pointwise [k0_pay7, k0_pay5]

theorem pay8_at (n : Vec Ideal S512x1024 .bf16) (u : Vec Ideal S1x1x1x1024x1408 .bf16) (r : Fin 512) (q : Fin 1408) :
    (k0_pay8 n u (ix3 0 r q) : EReal) = k0_pay6 n u (ix2 r q) := by
  pointwise [k0_pay8]

theorem pay9_at (n : Vec Ideal S512x1024 .bf16) (u v : Vec Ideal S1x1x1x1024x1408 .bf16) (r : Fin 512) (q : Fin 1408) :
    (k0_pay9 n u v (ix2 r q) : EReal) = k0_pay6 n u (ix2 r q) * k0_pay4 n v (ix2 r q) := by
  pointwise [k0_pay9]

end Kernel

end Cert.Ffn

end
-- ==== Proof.Mm6.lean ====
module

public import proofs.«01_k».proof.Proof.Track6
public import proofs.«01_k».proof.Proof.Norm6
public import Idealize.ShloMosaic.Lib.Pointwise
public import Idealize.ShloMosaic.Lib.Pipeline.ValueKit

/-! # The feed-forward's first product: the arrays its run leaves -/

@[expose] public section

set_option maxRecDepth 16384

noncomputable section

namespace Cert.Kernel6Ideal.Fwd

open Cert.Kernel6Ideal Cert.Kernel6Ideal.Gen Cert.Ffn
open Idealize.ShloMosaic Idealize.ShloMosaic.TcCoe
open scoped BigOperators

theorem idx0 : ∀ t : Fin cfg0.N, win0_0.index t = ![t.val / 2, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val % 2, 0, 0, 0, 0] := (by decide +kernel : ∀ t : Fin grid0.N, _)
theorem idx5 : ∀ t : Fin cfg0.N, win0_5.index t = ![2 + t.val % 2, 0, 0, 0, 0] := (by decide +kernel : ∀ t : Fin grid0.N, _)
theorem idx6 : ∀ t : Fin cfg0.N, win0_6.index t = ![t.val / 2, 0] := (by decide +kernel : ∀ t : Fin grid0.N, _)
theorem idx7 : ∀ t : Fin cfg0.N, win0_7.index t = ![0, t.val / 2, t.val % 2] := (by decide +kernel : ∀ t : Fin grid0.N, _)
theorem idx8 : ∀ t : Fin cfg0.N, win0_8.index t = ![t.val / 2, t.val % 2] := (by decide +kernel : ∀ t : Fin grid0.N, _)

variable (m : (ℓ : Loc nD τ sig) → Buf (Elt Ideal) ℓ) (d : Dev nD)

/-- The rows, the norm's gain, the shift, the scale and the weight, as launched. -/
abbrev xs : FVec Ideal S8192x1024 .f32 := m ((d.tc : Thread nD τ).loc main_arg0)
abbrev gain : FVec Ideal S1024 .f32 := m ((d.tc : Thread nD τ).loc main_arg1)
abbrev shift : FVec Ideal S1024 .f32 := m ((d.tc : Thread nD τ).loc main_arg2)
abbrev scale : FVec Ideal S1024 .f32 := m ((d.tc : Thread nD τ).loc main_arg3)
abbrev wt : FVec Ideal S1024x5632 .f32 := m ((d.tc : Thread nD τ).loc main_arg4)

theorem V_gain : V m d main_v0 = shapeCast S1x1024 (gain m d) shapeCasts_S1024_S1x1024 := by
  show StableHlo.after _ _ _ = _
  after_results_simp
  rfl

theorem V_shift : V m d main_v1 = shapeCast S1x1024 (shift m d) shapeCasts_S1024_S1x1024 := by
  show StableHlo.after _ _ _ = _
  after_results_simp
  rfl

theorem V_scale : V m d main_v2 = shapeCast S1x1024 (scale m d) shapeCasts_S1024_S1x1024 := by
  show StableHlo.after _ _ _ = _
  after_results_simp
  rfl

theorem V_wt : V m d main_v6 = shapeCast S4x1x1x1024x1408 (truncf (F := Ideal) .bf16 (transpose S4x1024x1408 [1, 0, 2]
    (shapeCast S1024x4x1408 (wt m d) shapeCasts_S1024x5632_S1024x4x1408) transposes_S1024x4x1408_S4x1024x1408_1_0_2) bitsLt_bf16_f32)
    shapeCasts_S4x1024x1408_S4x1x1x1024x1408 := by
  show StableHlo.after _ _ _ = _
  after_results_simp
  rfl

theorem row_at (v : FVec Ideal S1024 .f32) (b : Fin 1024) : shapeCast S1x1024 v shapeCasts_S1024_S1x1024 (ix2 0 b) = v (ix1 b) := by
  pointwise

theorem quarters_at (y : Vec Ideal S1024x5632 .f32) (k : Fin 4) (b : Fin 1024) (r : Fin 1408) :
    shapeCast S4x1x1x1024x1408 (truncf (F := Ideal) .bf16 (transpose S4x1024x1408 [1, 0, 2]
      (shapeCast S1024x4x1408 y shapeCasts_S1024x5632_S1024x4x1408) transposes_S1024x4x1408_S4x1024x1408_1_0_2) bitsLt_bf16_f32)
      shapeCasts_S4x1024x1408_S4x1x1x1024x1408 (ix5 k 0 0 b r) = y (ix2 b ⟨k.val * 1408 + r.val, by omega⟩) := by
  pointwise

/-- The row block and the column half of a point. -/
abbrev bOf (t : Fin cfg0.N) : Fin 16 := ⟨t.val / 2, by have := lt_of_lt_of_eq t.isLt N_0; omega⟩
abbrev hOf (t : Fin cfg0.N) : Fin 2 := ⟨t.val % 2, Nat.mod_lt _ (by decide)⟩

/-- A row of a block of rows, and a column of a half of the columns. -/
abbrev row (i : Fin 16) (r : Fin 512) : Fin 8192 := ⟨i.val * 512 + r.val, by omega⟩
abbrev col (j : Fin 2) (q : Fin 1408) : Fin 2816 := ⟨j.val * 1408 + q.val, by omega⟩

/-- The blocks a point reads. -/
abbrev blk0 (t : Fin cfg0.N) : Vec Ideal S512x1024 .f32 := iblk m d 0 t
abbrev blk1 (t : Fin cfg0.N) : Vec Ideal S1x1024 .f32 := iblk m d 1 t
abbrev blk2 (t : Fin cfg0.N) : Vec Ideal S1x1024 .f32 := iblk m d 2 t
abbrev blk3 (t : Fin cfg0.N) : Vec Ideal S1x1024 .f32 := iblk m d 3 t
abbrev blk4 (t : Fin cfg0.N) : Vec Ideal S1x1x1x1024x1408 .bf16 := iblk m d 4 t
abbrev blk5 (t : Fin cfg0.N) : Vec Ideal S1x1x1x1024x1408 .bf16 := iblk m d 5 t

theorem in0 (t : Fin cfg0.N) (r : Fin 512) (a : Fin 1024) :
    blk0 m d t (ix2 r a) = (V m d main_arg0 : Vec Ideal S8192x1024 .f32) (ix2 (row (bOf t) r) a) := by
  blk_ext [iblk, idx0 t] <;> rfl
theorem in1 (t : Fin cfg0.N) (b : Fin 1024) : blk1 m d t (ix2 0 b) = (V m d main_v0 : Vec Ideal S1x1024 .f32) (ix2 0 b) := by
  blk_ext [iblk, idx1 t] <;> rfl
theorem in2 (t : Fin cfg0.N) (b : Fin 1024) : blk2 m d t (ix2 0 b) = (V m d main_v1 : Vec Ideal S1x1024 .f32) (ix2 0 b) := by
  blk_ext [iblk, idx2 t] <;> rfl
theorem in3 (t : Fin cfg0.N) (b : Fin 1024) : blk3 m d t (ix2 0 b) = (V m d main_v2 : Vec Ideal S1x1024 .f32) (ix2 0 b) := by
  blk_ext [iblk, idx3 t] <;> rfl
theorem in4 (t : Fin cfg0.N) (b : Fin 1024) (q : Fin 1408) :
    blk4 m d t (ix5 0 0 0 b q) = (V m d main_v6 : Vec Ideal S4x1x1x1024x1408 .bf16) (ix5 ⟨t.val % 2, by omega⟩ 0 0 b q) := by
  blk_ext [iblk, idx4 t] <;> rfl
theorem in5 (t : Fin cfg0.N) (b : Fin 1024) (q : Fin 1408) :
    blk5 m d t (ix5 0 0 0 b q) = (V m d main_v6 : Vec Ideal S4x1x1x1024x1408 .bf16) (ix5 ⟨2 + t.val % 2, by omega⟩ 0 0 b q) := by
  blk_ext [iblk, idx5 t] <;> rfl

/-! ## The values -/

/-- A normed entry. -/
def nrm (i : Fin 8192) (b : Fin 1024) : EReal :=
  normed (xs m d (ix2 i b)) (∑ k : Fin 1024, (xs m d (ix2 i k) : EReal) * xs m d (ix2 i k)) (gain m d (ix1 b)) (shift m d (ix1 b)) (scale m d (ix1 b))

/-- An entry of the product with the weight. -/
def prod (i : Fin 8192) (q : Fin 5632) : EReal := ∑ k : Fin 1024, nrm m d i k * wt m d (ix2 k q)

/-- The product's two halves. -/
abbrev pa (i : Fin 8192) (q : Fin 2816) : EReal := prod m d i ⟨q.val, by omega⟩
abbrev pb (i : Fin 8192) (q : Fin 2816) : EReal := prod m d i ⟨2816 + q.val, by omega⟩

theorem sent_at (t : Fin cfg0.N) (r : Fin 512) (b : Fin 1024) : (sent m d t (ix2 r b) : EReal) = nrm m d (row (bOf t) r) b := by
  refine (pay1_at (blk0 m d t) (blk1 m d t) (blk2 m d t) (blk3 m d t) r b).trans ?_
  unfold nrm
  rw [in1, in2, in3, V_gain, V_shift, V_scale, row_at, row_at, row_at]
  simp only [in0]
  rw [V_main_arg0]

theorem kept_at (t : Fin cfg0.N) (r : Fin 512) (b : Fin 1024) : (kept m d t (ix2 r b) : EReal) = nrm m d (row (bOf t) r) b :=
  (pay2_at (blk0 m d t) (blk1 m d t) (blk2 m d t) (blk3 m d t) r b).trans (sent_at m d t r b)

theorem left_at (t : Fin cfg0.N) (r : Fin 512) (q : Fin 1408) :
    (k0_pay3 (kept m d t) (blk4 m d t) (ix2 r q) : EReal) = pa m d (row (bOf t) r) (col (hOf t) q) := by
  rw [pay3_at]
  refine Finset.sum_congr rfl fun k _ => ?_
  rw [kept_at, in4, V_wt, quarters_at]

theorem right_at (t : Fin cfg0.N) (r : Fin 512) (q : Fin 1408) :
    (k0_pay4 (kept m d t) (blk5 m d t) (ix2 r q) : EReal) = pb m d (row (bOf t) r) (col (hOf t) q) := by
  rw [pay4_at]
  refine Finset.sum_congr rfl fun k _ => ?_
  rw [kept_at, in5, V_wt, quarters_at]
  refine congrArg (fun i : Fin 5632 => nrm m d (row (bOf t) r) k * wt m d (ix2 k i)) (Fin.ext ?_)
  show (2 + t.val % 2) * 1408 + q.val = 2816 + (t.val % 2 * 1408 + q.val)
  omega

/-- The swish of the left half, the derivative by the left half, and the product of the swish with the right half. -/
def swish (i : Fin 8192) (q : Fin 2816) : EReal := pa m d i q * Ideal.logistic (pa m d i q)
def slope (i : Fin 8192) (q : Fin 2816) : EReal :=
  pb m d i q * (Ideal.logistic (pa m d i q) + swish m d i q * (one - Ideal.logistic (pa m d i q)))
def gated (i : Fin 8192) (q : Fin 2816) : EReal := swish m d i q * pb m d i q

theorem swish_at (t : Fin cfg0.N) (r : Fin 512) (q : Fin 1408) :
    (k0_pay6 (kept m d t) (blk4 m d t) (ix2 r q) : EReal) = swish m d (row (bOf t) r) (col (hOf t) q) := by
  rw [pay6_at, left_at]; rfl

theorem gated_at (t : Fin cfg0.N) (r : Fin 512) (q : Fin 1408) :
    (k0_pay9 (kept m d t) (blk4 m d t) (blk5 m d t) (ix2 r q) : EReal) = gated m d (row (bOf t) r) (col (hOf t) q) := by
  rw [pay9_at, swish_at, right_at]; rfl

/-- The derivatives' two planes. -/
def deriv (p : Fin 2) (i : Fin 8192) (q : Fin 2816) : EReal := if p = 0 then slope m d i q else swish m d i q

theorem plane1_at (n : Vec Ideal S512x1024 .bf16) (u v : Vec Ideal S1x1x1x1024x1408 .bf16) (r : Fin 512) (q : Fin 1408) :
    derivs n u v (ix3 1 r q) = k0_pay8 n u (ix3 0 r q) := by
  unfold derivs
  rw [show (ix3 1 r q : S2x512x1408.Idx) = plane1.emb (ix3 0 r q) from funext fun a => Fin.ext (by fin_cases a <;> simp [Rect.emb, Rect.unit])]
  exact View.canon_cons_emb _ _ _ _

theorem plane0_emb (r : Fin 512) (q : Fin 1408) : (ix3 0 r q : S2x512x1408.Idx) = plane0.emb (ix3 0 r q) :=
  funext fun a => Fin.ext (by fin_cases a <;> simp [Rect.emb, Rect.unit])

theorem plane0_not (r : Fin 512) (q : Fin 1408) : (ix3 0 r q : S2x512x1408.Idx) ∉ plane1.set :=
  Rect.not_mem_set_of_axis plane1 _ 0 1 1 rfl rfl rfl (Or.inl Nat.zero_lt_one)

/-- Off the last write, the earlier ones. -/
theorem miss (p : View.Piece (Elt Ideal) S2x512x1408 .bf16) (L : List (View.Piece (Elt Ideal) S2x512x1408 .bf16)) (y z : S2x512x1408.Idx)
    (e : y = z) (h : y ∉ p.1.set) : View.canon (p :: L) y = View.canon L z := by
  rw [View.canon_cons_of_not_mem p L h, e]

theorem planes_at (p0 p1 : Vec Ideal S1x512x1408 .bf16) (r : Fin 512) (q : Fin 1408) :
    View.canon ([⟨plane1, p1⟩, ⟨plane0, p0⟩] : List (View.Piece (Elt Ideal) S2x512x1408 .bf16)) (ix3 0 r q) = p0 (ix3 0 r q) := by
  rw [miss ⟨plane1, p1⟩ [⟨plane0, p0⟩] _ _ (plane0_emb r q) (plane0_not r q)]
  exact View.canon_cons_emb plane0 p0 [] (ix3 0 r q)

theorem plane0_at (n : Vec Ideal S512x1024 .bf16) (u v : Vec Ideal S1x1x1x1024x1408 .bf16) (r : Fin 512) (q : Fin 1408) :
    derivs n u v (ix3 0 r q) = k0_pay7 n u v (ix3 0 r q) := by
  unfold derivs
  exact planes_at (k0_pay7 n u v) (k0_pay8 n u) r q

theorem deriv_at (t : Fin cfg0.N) (p : Fin 2) (r : Fin 512) (q : Fin 1408) :
    (derivs (kept m d t) (blk4 m d t) (blk5 m d t) (ix3 p r q) : EReal) = deriv m d p (row (bOf t) r) (col (hOf t) q) := by
  match p with
  | 0 => rw [plane0_at, pay7_at, left_at, right_at, swish_at]; rfl
  | 1 => rw [plane1_at, pay8_at, swish_at]; rfl

/-! ## The three arrays -/

def outN : FVec Ideal S8192x1024 .bf16 := fun i => nrm m d (i 0) (i 1)
def outD : FVec Ideal S2x8192x2816 .bf16 := fun i => deriv m d (i 0) (i 1) (i 2)
def outT : FVec Ideal S8192x2816 .bf16 := fun i => gated m d (i 0) (i 1)

theorem outN_at (i : Fin 8192) (b : Fin 1024) (y : S8192x1024.Idx) (h0 : (y 0).val = i.val) (h1 : (y 1).val = b.val) :
    (outN m d y : EReal) = nrm m d i b := by
  have e : y = ix2 i b := funext fun a => match a with
    | ⟨0, _⟩ => Fin.ext h0
    | ⟨1, _⟩ => Fin.ext h1
  rw [e]; rfl

theorem outT_at (i : Fin 8192) (b : Fin 2816) (y : S8192x2816.Idx) (h0 : (y 0).val = i.val) (h1 : (y 1).val = b.val) :
    (outT m d y : EReal) = gated m d i b := by
  have e : y = ix2 i b := funext fun a => match a with
    | ⟨0, _⟩ => Fin.ext h0
    | ⟨1, _⟩ => Fin.ext h1
  rw [e]; rfl

theorem outD_at (p : Fin 2) (i : Fin 8192) (b : Fin 2816) (y : S2x8192x2816.Idx) (h0 : (y 0).val = p.val) (h1 : (y 1).val = i.val)
    (h2 : (y 2).val = b.val) : (outD m d y : EReal) = deriv m d p i b := by
  have e : y = ix3 p i b := funext fun a => match a with
    | ⟨0, _⟩ => Fin.ext h0
    | ⟨1, _⟩ => Fin.ext h1
    | ⟨2, _⟩ => Fin.ext h2
  rw [e]; rfl

theorem eta2 {a b : ℕ} (y : (⟨2, ![a, b]⟩ : Shape).Idx) : y = ix2 (y 0) (y 1) := by
  funext k
  fin_cases k <;> rfl

theorem eta3 {a b c : ℕ} (y : (⟨3, ![a, b, c]⟩ : Shape).Idx) : y = ix3 (y 0) (y 1) (y 2) := by
  funext k
  fin_cases k <;> rfl

theorem final6 : (dats m 0 d).arrAt 6 cfg0.N = outN m d := by
  refine (dats m 0 d).arrAt_eq_of_covers 6 _ (by decide +kernel) fun t _ y => ?_
  blk_simp
  rw [after6]
  refine (congrArg (sent m d t) (eta2 y)).trans ((sent_at m d t (y 0) (y 1)).trans (outN_at m d (row (bOf t) (y 0)) (y 1) _ ?_ ?_).symm)
  · blk_simp [idx6 t]
  · blk_simp [idx6 t]

theorem final7 : (dats m 0 d).arrAt 7 cfg0.N = outD m d := by
  refine (dats m 0 d).arrAt_eq_of_covers 7 _ (by decide +kernel) fun t _ y => ?_
  blk_simp
  rw [after7]
  refine (congrArg (derivs (kept m d t) (blk4 m d t) (blk5 m d t)) (eta3 y)).trans ((deriv_at m d t (y 0) (y 1) (y 2)).trans
    (outD_at m d (y 0) (row (bOf t) (y 1)) (col (hOf t) (y 2)) _ ?_ ?_ ?_).symm)
  · blk_simp [idx7 t]
  · blk_simp [idx7 t]
  · blk_simp [idx7 t]

theorem final8 : (dats m 0 d).arrAt 8 cfg0.N = outT m d := by
  refine (dats m 0 d).arrAt_eq_of_covers 8 _ (by decide +kernel) fun t _ y => ?_
  blk_simp
  rw [after8]
  refine (congrArg (k0_pay9 (kept m d t) (blk4 m d t) (blk5 m d t)) (eta2 y)).trans ((gated_at m d t (y 0) (y 1)).trans
    (outT_at m d (row (bOf t) (y 0)) (col (hOf t) (y 1)) _ ?_ ?_).symm)
  · blk_simp [idx8 t]
  · blk_simp [idx8 t]

end Cert.Kernel6Ideal.Fwd

end
-- ==== Proof.Ref6.lean ====
module

public import proofs.«01_k».proof.Proof.Norm6

/-! # The feed-forward's first product: the reference's terms, one operation after another -/

@[expose] public section

set_option maxRecDepth 16384

noncomputable section

namespace Cert.Ffn

open Idealize.ShloMosaic Idealize.ShloMosaic.TcCoe
open Cert.Reference6Ideal Cert.Reference6Ideal.Gen
open scoped BigOperators

/-- The normed, scaled and shifted rows. -/
def refN (h : FVec Ideal S8192x1024 .f32) (g sh sc : FVec Ideal S1024 .f32) : FVec Ideal S8192x1024 .f32 :=
  addf (mulf (mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (addf (broadcastInDim S1x1024 ![] bcast_S_S1x1024 (constant S_ .f32 0x3F800000#32)) (broadcastInDim S1x1024 ![1] bcast_S1024_S1x1024_1 sc))))
    (broadcastInDim S8192x1024 ![0, 1] bcast_S1x1024_S8192x1024_0_1 (broadcastInDim S1x1024 ![1] bcast_S1024_S1x1024_1 sh))

/-- Their product with the weight. -/
def refP (n : FVec Ideal S8192x1024 .f32) (w : FVec Ideal S1024x5632 .f32) : FVec Ideal S8192x5632 .f32 :=
  Host.dotGeneral dot_S8192x1024_S1024x5632_S8192x5632_1_0_0_1_n_n none n w

/-- The product's two halves. -/
def refA (p : FVec Ideal S8192x5632 .f32) : FVec Ideal S8192x2816 .f32 := extractStridedSlice S8192x2816 ![0, 0] p slices_S8192x5632_S8192x2816_0_0
def refB (p : FVec Ideal S8192x5632 .f32) : FVec Ideal S8192x2816 .f32 := extractStridedSlice S8192x2816 ![0, 2816] p slices_S8192x5632_S8192x2816_0_2816

/-- Ones. -/
def ones : FVec Ideal S8192x2816 .f32 := broadcastInDim S8192x2816 ![] bcast_S_S8192x2816 (constant S_ .f32 0x3F800000#32)

/-- The logistic function. -/
def refS (a : FVec Ideal S8192x2816 .f32) : FVec Ideal S8192x2816 .f32 := Host.divf ones (addf ones (Host.exp (Host.negf a)))

/-- The derivative's two halves. -/
def refDa (a b : FVec Ideal S8192x2816 .f32) : FVec Ideal S8192x2816 .f32 :=
  addf (mulf (mulf ones b) (refS a)) (mulf (mulf a (mulf ones b)) (mulf (refS a) (subf ones (refS a))))
def refDb (a : FVec Ideal S8192x2816 .f32) : FVec Ideal S8192x2816 .f32 := mulf (mulf a (refS a)) ones

/-- Two halves one beside the other, and then as two planes. -/
def refCat (u v : FVec Ideal S8192x2816 .f32) : FVec Ideal S8192x5632 .f32 :=
  concatenate S8192x5632 1 [⟨S8192x2816, u⟩, ⟨S8192x2816, v⟩] concatenates_S8192x2816_S8192x2816_S8192x5632_d1
def refPl (p : FVec Ideal S8192x5632 .f32) : FVec Ideal S2x8192x2816 .bf16 :=
  truncf .bf16 (transpose S2x8192x2816 [1, 0, 2] (shapeCast S8192x2x2816 p shapeCasts_S8192x5632_S8192x2x2816) transposes_S8192x2x2816_S2x8192x2816_1_0_2) bitsLt_bf16_f32

theorem refN_at (h : FVec Ideal S8192x1024 .f32) (g sh sc : FVec Ideal S1024 .f32) (i : Fin 8192) (b : Fin 1024) :
    (refN h g sh sc (ix2 i b) : EReal) = normed (h (ix2 i b)) (∑ k : Fin 1024, (h (ix2 i k) : EReal) * h (ix2 i k)) (g (ix1 b)) (sh (ix1 b)) (sc (ix1 b)) := by
  unfold normed
  pointwise [refN]

theorem refP_at (n : FVec Ideal S8192x1024 .f32) (w : FVec Ideal S1024x5632 .f32) (i : Fin 8192) (q : Fin 5632) :
    (refP n w (ix2 i q) : EReal) = ∑ k : Fin 1024, (n (ix2 i k) : EReal) * w (ix2 k q) := by
  pointwise [refP]

theorem refA_at (p : FVec Ideal S8192x5632 .f32) (i : Fin 8192) (q : Fin 2816) : refA p (ix2 i q) = p (ix2 i ⟨q.val, by omega⟩) := by
  pointwise [refA]
theorem refB_at (p : FVec Ideal S8192x5632 .f32) (i : Fin 8192) (q : Fin 2816) : refB p (ix2 i q) = p (ix2 i ⟨2816 + q.val, by omega⟩) := by
  pointwise [refB]

theorem refS_at (a : FVec Ideal S8192x2816 .f32) (i : Fin 8192) (q : Fin 2816) :
    (refS a (ix2 i q) : EReal) = Ideal.div one (one + Ideal.exp (-(a (ix2 i q)))) := by
  pointwise [refS, ones]

theorem refDa_at (a b : FVec Ideal S8192x2816 .f32) (i : Fin 8192) (q : Fin 2816) :
    (refDa a b (ix2 i q) : EReal) = (one * b (ix2 i q)) * refS a (ix2 i q) + (a (ix2 i q) * (one * b (ix2 i q))) * (refS a (ix2 i q) * (one - refS a (ix2 i q))) := by
  pointwise [refDa, ones]

theorem refDb_at (a : FVec Ideal S8192x2816 .f32) (i : Fin 8192) (q : Fin 2816) :
    (refDb a (ix2 i q) : EReal) = (a (ix2 i q) * refS a (ix2 i q)) * one := by
  pointwise [refDb, ones]

theorem refCat_left (u v : FVec Ideal S8192x2816 .f32) (i : Fin 8192) (q : Fin 2816) : refCat u v (ix2 i ⟨q.val, by omega⟩) = u (ix2 i q) := by
  pointwise [refCat]
theorem refCat_right (u v : FVec Ideal S8192x2816 .f32) (i : Fin 8192) (q : Fin 2816) : refCat u v (ix2 i ⟨2816 + q.val, by omega⟩) = v (ix2 i q) := by
  pointwise [refCat]
theorem refPl_at (p : FVec Ideal S8192x5632 .f32) (k : Fin 2) (i : Fin 8192) (q : Fin 2816) : refPl p (ix3 k i q) = p (ix2 i ⟨k.val * 2816 + q.val, by omega⟩) := by
  pointwise [refPl]

variable (m : (ℓ : Loc nD τ sig) → Buf (Elt Ideal) ℓ) (c : Dev nD)

/-- The reference's rows and product, of the arrays as launched. -/
abbrev rows : FVec Ideal S8192x1024 .f32 := refN (m ((c.tc : Thread nD τ).loc main_arg0)) (m ((c.tc : Thread nD τ).loc main_arg1)) (m ((c.tc : Thread nD τ).loc main_arg2)) (m ((c.tc : Thread nD τ).loc main_arg3))
abbrev prods : FVec Ideal S8192x5632 .f32 := refP (rows m c) (m ((c.tc : Thread nD τ).loc main_arg4))

theorem res34 : Value.res_main_v34 m c = refPl (refCat (refDa (refA (prods m c)) (refB (prods m c))) (refDb (refA (prods m c)))) := rfl
theorem res35 : Value.res_main_v35 m c = truncf .bf16 (mulf (mulf (refA (prods m c)) (refS (refA (prods m c)))) (refB (prods m c))) bitsLt_bf16_f32 := rfl

end Cert.Ffn

end
-- ==== Proof.Spec.lean ====
module

public import Mathlib.Analysis.SpecialFunctions.Log.Basic
public import Mathlib.Algebra.BigOperators.Fin

/-! # The gradients of causal attention, over the reals

What the two programs compute, head by head, with the heads' lanes padded to 128. -/

@[expose] public section

noncomputable section

namespace Cert.Math

open scoped BigOperators

/-- The arguments as real functions of row, head and lane. -/
structure Args where
  /-- queries, the heads' own lanes -/
  qn : Fin 8192 → Fin 16 → Fin 64 → ℝ
  /-- queries, the lanes matched with the shared key -/
  qp : Fin 8192 → Fin 16 → Fin 32 → ℝ
  /-- keys, the heads' own lanes -/
  kn : Fin 8192 → Fin 16 → Fin 64 → ℝ
  /-- the key all heads share -/
  kp : Fin 8192 → Fin 32 → ℝ
  /-- values -/
  v : Fin 8192 → Fin 16 → Fin 64 → ℝ
  /-- the output's cotangent -/
  g : Fin 8192 → Fin 16 → Fin 64 → ℝ

/-- The scores' factor: the float nearest to one over the square root of 96. -/
def s0 : ℝ := 3424635 / 33554432

variable (x : Args) (h : Fin 16)

/-- A query's product with a key. -/
def raw (q k : Fin 8192) : ℝ := (∑ d, x.qn q h d * x.kn k h d) + ∑ r, x.qp q h r * x.kp k r

/-- A key's weight for a query, nought for a later key. -/
def wgt (q k : Fin 8192) : ℝ := if k.val ≤ q.val then Real.exp (raw x h q k * s0) else 0

/-- A query's weights added up. -/
def tot (q : Fin 8192) : ℝ := ∑ k, wgt x h q k

/-- The softmax's probabilities. -/
def prob (q k : Fin 8192) : ℝ := wgt x h q k / tot x h q

/-- A probability's cotangent. -/
def dprob (q k : Fin 8192) : ℝ := ∑ d, x.g q h d * x.v k h d

/-- A query's probabilities times their cotangents, added up. -/
def delta (q : Fin 8192) : ℝ := ∑ k, prob x h q k * dprob x h q k

/-- The cotangent of a product of query and key. -/
def dsc (q k : Fin 8192) : ℝ := prob x h q k * (dprob x h q k - delta x h q) * s0

/-- A query, its lanes padded to 128. -/
def Q (q : Fin 8192) (c : Fin 128) : ℝ :=
  if h1 : c.val < 64 then x.qn q h ⟨c.val, h1⟩ else if h2 : c.val < 96 then x.qp q h ⟨c.val - 64, by omega⟩ else 0

/-- A key, its lanes padded to 128. -/
def K (k : Fin 8192) (c : Fin 128) : ℝ :=
  if h1 : c.val < 64 then x.kn k h ⟨c.val, h1⟩ else if h2 : c.val < 96 then x.kp k ⟨c.val - 64, by omega⟩ else 0

/-- A value, its lanes padded to 128. -/
def V (k : Fin 8192) (c : Fin 128) : ℝ := if h1 : c.val < 64 then x.v k h ⟨c.val, h1⟩ else 0

/-- The output's cotangent, its lanes padded to 128. -/
def G (q : Fin 8192) (c : Fin 128) : ℝ := if h1 : c.val < 64 then x.g q h ⟨c.val, h1⟩ else 0

/-- The queries' gradient. -/
def dQ (q : Fin 8192) (c : Fin 128) : ℝ := ∑ k, dsc x h q k * K x h k c

/-- The keys' gradient. -/
def dK (k : Fin 8192) (c : Fin 128) : ℝ := ∑ q, dsc x h q k * Q x h q c

/-- The values' gradient. -/
def dV (k : Fin 8192) (c : Fin 128) : ℝ := ∑ q, prob x h q k * G x h q c

theorem wgt_nonneg (q k : Fin 8192) : 0 ≤ wgt x h q k := by
  unfold wgt
  split
  · exact (Real.exp_pos _).le
  · exact le_rfl

theorem tot_pos (q : Fin 8192) : 0 < tot x h q := by
  unfold tot
  refine Finset.sum_pos' (fun k _ => wgt_nonneg x h q k) ⟨q, Finset.mem_univ _, ?_⟩
  unfold wgt
  rw [if_pos le_rfl]
  exact Real.exp_pos _

theorem prob_later {q k : Fin 8192} (hk : ¬ k.val ≤ q.val) : prob x h q k = 0 := by
  unfold prob wgt
  rw [if_neg hk, zero_div]

theorem dsc_later {q k : Fin 8192} (hk : ¬ k.val ≤ q.val) : dsc x h q k = 0 := by
  unfold dsc
  rw [prob_later x h hk, zero_mul, zero_mul]

/-- The probability as the kernel takes it: the exponential of the scaled product less the logarithm of the sum. -/
theorem prob_exp {q k : Fin 8192} (hk : k.val ≤ q.val) :
    Real.exp (raw x h q k * s0 - Real.log (tot x h q)) = prob x h q k := by
  unfold prob wgt
  rw [if_pos hk, Real.exp_sub, Real.exp_log (tot_pos x h q)]

/-- A sum over 128 lanes of which the first 64 and the next 32 are filled. -/
theorem sum_lanes (f : Fin 64 → ℝ) (f' : Fin 32 → ℝ) :
    (∑ c : Fin 128, if h1 : c.val < 64 then f ⟨c.val, h1⟩ else if h2 : c.val < 96 then f' ⟨c.val - 64, by omega⟩ else 0)
      = (∑ d, f d) + ∑ r, f' r := by
  have e : ∀ F : Fin (64 + (32 + 32)) → ℝ, ∑ c, F c = ∑ d : Fin 64, F (Fin.castAdd _ d)
      + (∑ r : Fin 32, F (Fin.natAdd 64 (Fin.castAdd 32 r)) + ∑ r : Fin 32, F (Fin.natAdd 64 (Fin.natAdd 32 r))) := fun F => by
    rw [Fin.sum_univ_add, Fin.sum_univ_add]
  refine (e _).trans ?_
  have z : ∑ r : Fin 32, (fun c : Fin 128 => if h1 : c.val < 64 then f ⟨c.val, h1⟩ else if h2 : c.val < 96 then f' ⟨c.val - 64, by omega⟩ else 0)
      (Fin.natAdd 64 (Fin.natAdd 32 r)) = 0 := by
    refine Finset.sum_eq_zero fun r _ => ?_
    dsimp only [Fin.val_natAdd]
    rw [dif_neg (by omega), dif_neg (by omega)]
  rw [z, add_zero]
  refine congrArg₂ (· + ·) (Finset.sum_congr rfl fun d _ => ?_) (Finset.sum_congr rfl fun r _ => ?_)
  · exact dif_pos (show (Fin.castAdd (32 + 32) d).val < 64 from d.isLt)
  · dsimp only [Fin.val_natAdd, Fin.val_castAdd]
    rw [dif_neg (by omega), dif_pos (by omega)]
    exact congrArg f' (Fin.ext (by show 64 + r.val - 64 = r.val; omega))

/-- The padded lanes' product is the query's product with the key. -/
theorem raw_lanes (q k : Fin 8192) : ∑ c, K x h k c * Q x h q c = raw x h q k := by
  unfold raw
  rw [← sum_lanes]
  refine Finset.sum_congr rfl fun c _ => ?_
  unfold K Q
  by_cases h1 : c.val < 64
  · simp only [dif_pos h1]; ring
  · simp only [dif_neg h1]
    by_cases h2 : c.val < 96
    · simp only [dif_pos h2]; ring
    · simp only [dif_neg h2]; ring

/-- The padded lanes' product of value and cotangent. -/
theorem dprob_lanes (q k : Fin 8192) : ∑ c, V x h k c * G x h q c = dprob x h q k := by
  unfold dprob
  rw [← add_zero (∑ d, x.g q h d * x.v k h d), ← show ∑ r : Fin 32, (fun _ : Fin 32 => (0 : ℝ)) r = 0 from Finset.sum_const_zero, ← sum_lanes]
  refine Finset.sum_congr rfl fun c _ => ?_
  unfold V G
  by_cases h1 : c.val < 64
  · simp only [dif_pos h1]; ring
  · simp only [dif_neg h1]
    by_cases h2 : c.val < 96
    · simp only [dif_pos h2]; ring
    · simp only [dif_neg h2]; ring

end Cert.Math

end
-- ==== Proof.Rows.lean ====
module

public import proofs.«01_k».proof.Proof.Spec
public import Idealize.ShloMosaic.Lib.Pointwise
public import Idealize.ShloMosaic.Lib.WordCmp

/-! # A row of the masked softmax, read at the extended reals

Both programs compute a row's weights from the row's largest score. Which real number that largest score is does not
matter: it cancels from the probabilities. So the facts below hold for any real number `M`. -/

@[expose] public section

noncomputable section

namespace Cert.Math

open Idealize.ShloMosaic
open scoped BigOperators

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The largest of numbers below `⊤`, one of which is above `⊥`, is a real number. -/
theorem max_real {n : Nat} (f : Fin n → EReal) (a : Fin n) (ht : ∀ k, f k < ⊤) (hb : ⊥ < f a) :
    ∃ M : ℝ, Finset.univ.fold max ⊥ f = (M : EReal) := by
  have h1 : Finset.univ.fold max ⊥ f < ⊤ := by
    rw [Finset.fold_max_lt]; exact ⟨bot_lt_top, fun k _ => ht k⟩
  have h2 : ⊥ < Finset.univ.fold max ⊥ f := by
    rw [Finset.lt_fold_max]; exact Or.inr ⟨a, Finset.mem_univ _, hb⟩
  exact ⟨_, (EReal.coe_toReal h1.ne h2.ne').symm⟩

/-- A masked score. -/
def score (x : Args) (h : Fin 16) (q k : Fin 8192) : EReal :=
  if k.val ≤ q.val then ((raw x h q k * s0 : ℝ) : EReal) else ⊥

theorem score_max (x : Args) (h : Fin 16) (q : Fin 8192) :
    ∃ M : ℝ, Finset.univ.fold max ⊥ (fun k => score x h q k) = (M : EReal) := by
  refine max_real _ q (fun k => ?_) ?_
  · unfold score; split
    · exact EReal.coe_lt_top _
    · exact bot_lt_top
  · unfold score; rw [if_pos le_rfl]; exact EReal.bot_lt_coe _

/-- The weight of a key next to the row's largest score. -/
theorem exp_score (x : Args) (h : Fin 16) (q k : Fin 8192) (M : ℝ) :
    Ideal.exp (score x h q k - (M : EReal)) = ((wgt x h q k * Real.exp (-M) : ℝ) : EReal) := by
  unfold score wgt
  split
  · rw [← EReal.coe_sub, Ideal.exp_coe, sub_eq_add_neg, Real.exp_add]
  · rw [EReal.bot_sub, Ideal.exp_bot, zero_mul, EReal.coe_zero]

theorem sum_exp (x : Args) (h : Fin 16) (q : Fin 8192) (M : ℝ) :
    ∑ k, ((wgt x h q k * Real.exp (-M) : ℝ) : EReal) = ((tot x h q * Real.exp (-M) : ℝ) : EReal) := by
  rw [tot, Finset.sum_mul, coe_sum]

/-- The masked comparison of two positions. -/
theorem sle_word (k q : Fin 8192) :
    IntOp.cmpi .sle (BitVec.ofNat 32 k.val) (BitVec.ofNat 32 q.val) = BitVec.ofBool (decide (k.val ≤ q.val)) :=
  WordCmp.cmpi_sle_ofNat (by omega) (by omega)

theorem s0_word : (Ideal.ofBits .f32 0x3DD105EC#32 : EReal) = ((s0 : ℝ) : EReal) := by
  simp [Ideal.ofBits, Ideal.ieee, s0]
  rw [← EReal.coe_mul]
  norm_num

/-- The host's mask. -/
theorem inf_word : Ideal.ofBits .f32 0xFF800000#32 = ⊥ := by
  simp [Ideal.ofBits, Ideal.ieee]

theorem two_word : Ideal.ofBits .f32 0x40000000#32 = ((2 : ℝ) : EReal) := by
  simp [Ideal.ofBits, Ideal.ieee]
  rw [← EReal.coe_mul]
  norm_num

theorem one_word : Ideal.ofBits .f32 0x3F800000#32 = ((1 : ℝ) : EReal) := by
  simp [Ideal.ofBits, Ideal.ieee]
  rw [← EReal.coe_mul]
  norm_num

/-- A division of real numbers. -/
theorem div_real (a b : ℝ) (hb : b ≠ 0) : Ideal.div (a : EReal) (b : EReal) = ((a / b : ℝ) : EReal) := by
  rw [Ideal.div, if_neg (by exact_mod_cast hb), div_eq_mul_inv, EReal.coe_mul, EReal.coe_inv]

/-- The row's log-sum: the largest score cancels. -/
theorem lse_real (x : Args) (h : Fin 16) (q : Fin 8192) (R : ℝ) :
    Ideal.div ((R : EReal) + Ideal.log ((tot x h q * Real.exp (-R) : ℝ) : EReal)) (Ideal.log ((2 : ℝ) : EReal))
      = ((Real.log (tot x h q) / Real.log 2 : ℝ) : EReal) := by
  have ht := tot_pos x h q
  have hp : ¬ tot x h q * Real.exp (-R) ≤ 0 := not_le.mpr (mul_pos ht (Real.exp_pos _))
  rw [Ideal.log_coe, Ideal.log_coe, if_neg hp, if_neg (by norm_num : ¬ (2 : ℝ) ≤ 0), ← EReal.coe_add,
    div_real _ _ (Real.log_pos (by norm_num)).ne', Real.log_mul ht.ne' (Real.exp_pos _).ne', Real.log_exp]
  congr 2
  ring

/-- A probability: the largest score cancels. -/
theorem prob_real (x : Args) (h : Fin 16) (q k : Fin 8192) (R : ℝ) :
    Ideal.div ((wgt x h q k * Real.exp (-R) : ℝ) : EReal) ((tot x h q * Real.exp (-R) : ℝ) : EReal)
      = ((prob x h q k : ℝ) : EReal) := by
  rw [div_real _ _ (mul_pos (tot_pos x h q) (Real.exp_pos _)).ne', mul_div_mul_right _ _ (Real.exp_pos _).ne', prob]

/-- A row's mean, taken lane by lane. -/
theorem delta_rows (x : Args) (h : Fin 16) (q : Fin 8192) :
    ∑ d, (∑ k, prob x h q k * x.v k h d) * x.g q h d = delta x h q := by
  unfold delta dprob
  simp only [Finset.sum_mul, Finset.mul_sum]
  rw [Finset.sum_comm]
  exact Finset.sum_congr rfl fun k _ => Finset.sum_congr rfl fun d _ => by ring

end Cert.Math
-- ==== Proof.Real6.lean ====
module

public import proofs.«01_k».proof.Proof.Norm6
public import proofs.«01_k».proof.Proof.Rows

/-! # The feed-forward's first product: its numbers are real, and the two forms of the derivative agree on them -/

@[expose] public section

noncomputable section

namespace Cert.Ffn

open Idealize.ShloMosaic
open scoped BigOperators

/-- A real number among the extended reals. -/
def Rl (x : EReal) : Prop := ∃ r : ℝ, x = (r : EReal)

theorem Rl.add {x y : EReal} (hx : Rl x) (hy : Rl y) : Rl (x + y) := by
  obtain ⟨r, rfl⟩ := hx; obtain ⟨s, rfl⟩ := hy
  exact ⟨r + s, (EReal.coe_add r s).symm⟩

theorem Rl.mul {x y : EReal} (hx : Rl x) (hy : Rl y) : Rl (x * y) := by
  obtain ⟨r, rfl⟩ := hx; obtain ⟨s, rfl⟩ := hy
  exact ⟨r * s, (EReal.coe_mul r s).symm⟩

theorem Rl.sum {ι : Type} (s : Finset ι) (f : ι → EReal) (h : ∀ i, Rl (f i)) : Rl (∑ i ∈ s, f i) := by
  choose g hg using h
  exact ⟨∑ i ∈ s, g i, by rw [Cert.Math.coe_sum]; exact Finset.sum_congr rfl fun i _ => hg i⟩

theorem one_eq : one = (1 : EReal) := Cert.Math.one_word.trans EReal.coe_one

theorem rl_one : Rl one := ⟨1, one_eq⟩

theorem width_eq : width = ((1024 : ℝ) : EReal) := by
  show Ideal.ofBits .f32 0x44800000#32 = _
  simp [Ideal.ofBits, Ideal.ieee]
  rw [← EReal.coe_mul]
  norm_num

theorem eps_eq : eps = ((8796093 / 8796093022208 : ℝ) : EReal) := by
  show Ideal.ofBits .f32 0x358637BD#32 = _
  simp [Ideal.ofBits, Ideal.ieee]
  rw [← EReal.coe_mul]
  norm_num

theorem eps_pos : ∃ e : ℝ, 0 < e ∧ eps = (e : EReal) := ⟨_, by norm_num, eps_eq⟩

theorem square_nonneg (x : EReal) : 0 ≤ x * x := by
  induction x using EReal.rec with
  | bot => simp
  | coe r => rw [← EReal.coe_mul]; exact EReal.coe_nonneg.mpr (mul_self_nonneg r)
  | top => simp

/-- An entry by its row's root mean square is real, whatever the row. -/
theorem rl_scaled (x : Fin 1024 → EReal) (b : Fin 1024) : Rl (x b * Ideal.rsqrt (Ideal.div (∑ k, x k * x k) width + eps)) := by
  obtain ⟨e, he, hE⟩ := eps_pos
  rw [hE, width_eq, Ideal.div_coe (by norm_num)]
  by_cases h : ∀ k, Rl (x k)
  · choose f hf using h
    have hs : (∑ k, x k * x k) = ((∑ k, f k * f k : ℝ) : EReal) := by
      rw [Cert.Math.coe_sum]
      exact Finset.sum_congr rfl fun k _ => by rw [hf k, EReal.coe_mul]
    have h0 : 0 ≤ ∑ k, f k * f k := Finset.sum_nonneg fun k _ => mul_self_nonneg (f k)
    have hp : 0 < (∑ k, f k * f k) * (1 / 1024) + e := by positivity
    rw [hs, ← EReal.coe_mul, ← EReal.coe_add, Ideal.rsqrt_coe, if_neg (not_lt.mpr hp.le), if_neg hp.ne', hf b]
    exact Rl.mul ⟨_, rfl⟩ ⟨_, rfl⟩
  · have ht : (∑ k, x k * x k) = ⊤ := by
      obtain ⟨k, hk⟩ := not_forall.mp h
      have hkk : x k * x k = ⊤ := by
        cases hx : x k using EReal.rec with
        | bot => simp
        | coe r => exact absurd ⟨r, hx⟩ hk
        | top => simp
      refine top_le_iff.mp (hkk ▸ ?_)
      exact Finset.single_le_sum (f := fun k => x k * x k) (fun i _ => square_nonneg (x i)) (Finset.mem_univ k)
    rw [ht, EReal.top_mul_coe_of_pos (by norm_num), EReal.top_add_coe, Ideal.rsqrt_top, mul_zero]
    exact ⟨0, rfl⟩

theorem rl_normed (x : Fin 1024 → EReal) (b : Fin 1024) {g sh sc : EReal} (hg : Rl g) (hh : Rl sh) (hc : Rl sc) :
    Rl (normed (x b) (∑ k, x k * x k) g sh sc) :=
  (((rl_scaled x b).mul hg).mul (rl_one.add hc)).add hh

/-- The logistic function, written out with the float word of one. -/
theorem logistic_words (a : EReal) : Ideal.div one (one + Ideal.exp (-a)) = Ideal.logistic a := by
  rw [one_eq]; rfl

/-- The derivative by the gate's input: factored, and as the product rule writes it. -/
theorem deriv_gate {a b : EReal} (ha : Rl a) (hb : Rl b) :
    b * (Ideal.logistic a + a * Ideal.logistic a * (one - Ideal.logistic a))
      = (one * b) * Ideal.logistic a + (a * (one * b)) * (Ideal.logistic a * (one - Ideal.logistic a)) := by
  obtain ⟨x, rfl⟩ := ha
  obtain ⟨y, rfl⟩ := hb
  rw [one_eq, Ideal.logistic_coe, one_mul]
  generalize (1 + Real.exp (-x))⁻¹ = s
  rw [← EReal.coe_one]
  simp only [← EReal.coe_mul, ← EReal.coe_add, ← EReal.coe_sub]
  refine congrArg _ ?_
  rw [mul_add, mul_assoc x s, mul_left_comm y x, mul_assoc x y]

theorem deriv_other (a : EReal) : a * Ideal.logistic a = (a * Ideal.logistic a) * one := by
  rw [one_eq, mul_one]

end Cert.Ffn

end
-- ==== Proof.Values6.lean ====
module

public import proofs.«01_k».proof.Defs
public import proofs.«01_k».proof.Proof.Finite
public import proofs.«01_k».proof.Proof.Mm6
public import proofs.«01_k».proof.Proof.Ref6
public import proofs.«01_k».proof.Proof.Real6
public import proofs.«01_k».proof.Proof.Gen.Kernel6.Frame

/-! # The feed-forward's first product: the frames, and the same three arrays from kernel and reference -/

@[expose] public section

set_option maxRecDepth 16384

noncomputable section

namespace Cert.Proof

open Idealize.ShloMosaic Idealize.ShloMosaic.TcCoe Idealize.SL.Sem
open scoped BigOperators

/-! ## The frames -/

section
attribute [local instance] Cert.Kernel6.Gen.facts
variable {F : FTy → Type} [FloatOps F]

/-- The two programs are one text. -/
theorem rows6 : Cert.Kernel6.defs₀ (F := F) = Cert.Kernel6Ideal.defs₀ (F := F) := by
  unfold Cert.Kernel6.defs₀ Cert.Kernel6Ideal.defs₀
  refine congrArg Defs.onTc ?_
  funext x y
  match x, y with
  | 0, (t, s) => rfl

theorem defs6 : Cert.Kernel6.defs (F := F) = Cert.Kernel6Ideal.defs (F := F) :=
  congrArg (Pipeline.defs Cert.Kernel6.pcfgs) rows6

theorem frame_kernel6 : Cert.quiescent_Kernel6 := fun m g _ => by
  have h := Cert.Kernel6Ideal.Fwd.frame (F := Bits) m g
  rw [← defs6] at h
  exact h
end

theorem frame_ideal6 : Cert.quiescent_Kernel6Ideal := fun m g _ => Cert.Kernel6Ideal.Fwd.frame (F := Ideal) m g

theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-! ## The values -/

/-- The precondition's side conditions. -/
theorem facts_finite6 : Cert.Pre_finite6.Facts := ⟨by decide, by decide⟩

section
open Cert.Kernel6Ideal Cert.Kernel6Ideal.Fwd Cert.Ffn

variable (m : (ℓ : Loc Cert.Kernel6Ideal.nD Cert.Kernel6Ideal.τ Cert.Kernel6Ideal.sig) → Buf (Elt Ideal) ℓ)

/-- With a finite gain, shift and scale the normed rows are real, and with a finite weight their product with it. -/
theorem rl_nrm (hp : Cert.Pre_Kernel6Ideal_finite6 (hPre_finite6 := facts_finite6) m) (c : Dev Cert.Kernel6Ideal.nD) (i : Fin 8192) (b : Fin 1024) :
    Rl (nrm m c i b) :=
  rl_normed (fun k => xs m c (ix2 i k)) b ⟨_, real_of_fin _ _ (hp c).1 (ix1 b)⟩ ⟨_, real_of_fin _ _ (hp c).2.1 (ix1 b)⟩
    ⟨_, real_of_fin _ _ (hp c).2.2.1 (ix1 b)⟩

theorem rl_prod (hp : Cert.Pre_Kernel6Ideal_finite6 (hPre_finite6 := facts_finite6) m) (c : Dev Cert.Kernel6Ideal.nD) (i : Fin 8192) (q : Fin 5632) :
    Rl (Fwd.prod m c i q) :=
  Rl.sum _ _ fun k => (rl_nrm m hp c i k).mul ⟨_, real_of_fin _ _ (hp c).2.2.2 (ix2 k q)⟩

/-- The arguments of the reference are the kernel's. -/
def Agree (m' : (ℓ : Loc Cert.Reference6Ideal.nD Cert.Reference6Ideal.τ Cert.Reference6Ideal.sig) → Buf (Elt Ideal) ℓ) (c : Dev Cert.Kernel6Ideal.nD) : Prop :=
  m' ((c.tc : Thread Cert.Reference6Ideal.nD Cert.Reference6Ideal.τ).loc Cert.Reference6Ideal.main_arg0) = xs m c
  ∧ m' ((c.tc : Thread Cert.Reference6Ideal.nD Cert.Reference6Ideal.τ).loc Cert.Reference6Ideal.main_arg1) = gain m c
  ∧ m' ((c.tc : Thread Cert.Reference6Ideal.nD Cert.Reference6Ideal.τ).loc Cert.Reference6Ideal.main_arg2) = shift m c
  ∧ m' ((c.tc : Thread Cert.Reference6Ideal.nD Cert.Reference6Ideal.τ).loc Cert.Reference6Ideal.main_arg3) = scale m c
  ∧ m' ((c.tc : Thread Cert.Reference6Ideal.nD Cert.Reference6Ideal.τ).loc Cert.Reference6Ideal.main_arg4) = wt m c

variable {m} {m' : (ℓ : Loc Cert.Reference6Ideal.nD Cert.Reference6Ideal.τ Cert.Reference6Ideal.sig) → Buf (Elt Ideal) ℓ} {c : Dev Cert.Kernel6Ideal.nD}

theorem rows_at (ha : Agree m m' c) (i : Fin 8192) (b : Fin 1024) : (rows m' c (ix2 i b) : EReal) = nrm m c i b := by
  unfold rows
  rw [ha.1, ha.2.1, ha.2.2.1, ha.2.2.2.1]
  exact refN_at _ _ _ _ i b

theorem prods_at (ha : Agree m m' c) (i : Fin 8192) (q : Fin 5632) : (prods m' c (ix2 i q) : EReal) = Fwd.prod m c i q := by
  unfold prods
  rw [refP_at, ha.2.2.2.2]
  exact Finset.sum_congr rfl fun k _ => by rw [rows_at ha]

theorem a_at (ha : Agree m m' c) (i : Fin 8192) (q : Fin 2816) : (refA (prods m' c) (ix2 i q) : EReal) = pa m c i q :=
  (refA_at _ i q).trans (prods_at ha i _)

theorem b_at (ha : Agree m m' c) (i : Fin 8192) (q : Fin 2816) : (refB (prods m' c) (ix2 i q) : EReal) = pb m c i q :=
  (refB_at _ i q).trans (prods_at ha i _)

theorem s_at (ha : Agree m m' c) (i : Fin 8192) (q : Fin 2816) : (refS (refA (prods m' c)) (ix2 i q) : EReal) = Ideal.logistic (pa m c i q) := by
  rw [refS_at, a_at ha, logistic_words]

theorem da_at (hp : Cert.Pre_Kernel6Ideal_finite6 (hPre_finite6 := facts_finite6) m) (ha : Agree m m' c) (i : Fin 8192) (q : Fin 2816) :
    (refDa (refA (prods m' c)) (refB (prods m' c)) (ix2 i q) : EReal) = slope m c i q := by
  rw [refDa_at, s_at ha, a_at ha, b_at ha]
  exact (deriv_gate (rl_prod m hp c i _) (rl_prod m hp c i _)).symm

theorem db_at (ha : Agree m m' c) (i : Fin 8192) (q : Fin 2816) : (refDb (refA (prods m' c)) (ix2 i q) : EReal) = swish m c i q := by
  rw [refDb_at, s_at ha, a_at ha]
  exact (deriv_other _).symm

theorem pl_at (hp : Cert.Pre_Kernel6Ideal_finite6 (hPre_finite6 := facts_finite6) m) (ha : Agree m m' c) (p : Fin 2) (i : Fin 8192) (q : Fin 2816) :
    (Cert.Reference6Ideal.Value.res_main_v34 m' c (ix3 p i q) : EReal) = deriv m c p i q := by
  rw [res34, refPl_at]
  match p with
  | 0 =>
    rw [show (⟨(0 : Fin 2).val * 2816 + q.val, by omega⟩ : Fin 5632) = ⟨q.val, by omega⟩ from Fin.ext (by simp), refCat_left, da_at hp ha]
    rfl
  | 1 =>
    rw [show (⟨(1 : Fin 2).val * 2816 + q.val, by omega⟩ : Fin 5632) = ⟨2816 + q.val, by omega⟩ from Fin.ext (by simp), refCat_right, db_at ha]
    rfl

theorem t_at (ha : Agree m m' c) (i : Fin 8192) (q : Fin 2816) :
    (Cert.Reference6Ideal.Value.res_main_v35 m' c (ix2 i q) : EReal) = gated m c i q := by
  rw [res35]
  show ((refA (prods m' c) (ix2 i q) : EReal) * refS (refA (prods m' c)) (ix2 i q)) * refB (prods m' c) (ix2 i q) = _
  rw [s_at ha, a_at ha, b_at ha]
  rfl

end

/-- Kernel and reference leave the same three arrays. -/
theorem same6 : Cert.algebraic_Kernel6Ideal_Reference6Ideal_pre_finite6 (hPre_finite6 := facts_finite6) := by
  intro m ρ m' ρ' hp hagree
  refine ⟨fun c => Cert.Kernel6Ideal.Fwd.outN m c, fun c => Cert.Kernel6Ideal.Fwd.outD m c, fun c => Cert.Kernel6Ideal.Fwd.outT m c, ?_, ?_⟩
  · refine (θ_run Cert.Kernel6Ideal.defs _ _).mono (fun r h c => ?_)
      (θ_run_and (Cert.Kernel6Ideal.Fwd.run_main (F := Ideal) m ρ) (Cert.Kernel6Ideal.Fwd.frame m ρ))
    exact ⟨((h.1.1 c).1 6).trans (Cert.Kernel6Ideal.Fwd.final6 m c), ((h.1.1 c).1 7).trans (Cert.Kernel6Ideal.Fwd.final7 m c),
      ((h.1.1 c).1 8).trans (Cert.Kernel6Ideal.Fwd.final8 m c), h.2.1 c⟩
  · refine (θ_run Cert.Reference6Ideal.defs _ _).mono (fun _ h c => ?_) (Cert.Reference6Ideal.Value.run (F := Ideal) m' ρ')
    have ha : Agree m m' c := hagree c
    refine ⟨(h c).1.trans ?_, (h c).2.1.trans ?_, (h c).2.2.1.trans ?_, (h c).2.2.2⟩
    · funext y
      rw [Cert.Kernel6Ideal.Fwd.eta2 y]
      exact rows_at ha (y 0) (y 1)
    · funext y
      rw [Cert.Kernel6Ideal.Fwd.eta3 y]
      exact pl_at hp ha (y 0) (y 1) (y 2)
    · funext y
      rw [Cert.Kernel6Ideal.Fwd.eta2 y]
      exact t_at ha (y 0) (y 1)

end Cert.Proof

end
-- ==== Proof.Body7.lean ====
module

public import proofs.«01_k».proof.Proof.Gen.Kernel7Ideal.Frame
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Tactic
public import Idealize.ShloMosaic.Lib.VecWindow
public import Idealize.ShloMosaic.Lib.WordCmp

/-! # The gradient through the feed-forward's gate: the kernel's body at one grid point

A grid point is a block of 512 rows at one half of the columns. At the first half the body scales the block of the
gradient by the gate, keeps it in a scratch buffer and sends it out, and adds the block's share to the gate's own
gradient; at the second half it finds the scaled block in the buffer. At both it multiplies the scaled block by the
weights and by the two kept derivatives. -/

@[expose] public section

set_option maxRecDepth 16384

noncomputable section

namespace Cert.Kernel7Ideal.Bwd

open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's conditions: the first half of the columns, the first block of rows, a later one. -/
abbrev first (i : grid0.Coords) : Prop := k0_cond1 i = 1#1
abbrev start (i : grid0.Coords) : Prop := k0_cond2 i = 1#1
abbrev later (i : grid0.Coords) : Prop := k0_cond3 i = 1#1

/-- The two planes of the block of results. -/
abbrev plane0 : Rect S2x512x1408 := Rect.unit (s := S2x512x1408) ![0, 0, 0] S1x512x1408.size inb_S2x512x1408_S1x512x1408_0_0_0
abbrev plane1 : Rect S2x512x1408 := Rect.unit (s := S2x512x1408) ![1, 0, 0] S1x512x1408.size inb_S2x512x1408_S1x512x1408_1_0_0

/-- The two planes cover the block. -/
theorem cover (p0 p1 : Vec F S1x512x1408 .bf16) (y : S2x512x1408.Idx) :
    ∃ pc ∈ ([⟨plane1, p1⟩, ⟨plane0, p0⟩] : List (View.Piece (Elt F) S2x512x1408 .bf16)), y ∈ pc.1.set :=
  View.cover_of_tiled [⟨plane1, p1⟩, ⟨plane0, p0⟩] S1x512x1408.size (by rfl) y

/-- The block of results, from scaled rows, the weights and the two kept derivatives. -/
def grads (n : Vec F S512x1024 .bf16) (u : Vec F S1408x1024 .bf16) (v : Vec F S2x512x1408 .bf16) : Vec F S2x512x1408 .bf16 :=
  View.canon [⟨plane1, k0_pay8 n u v⟩, ⟨plane0, k0_pay7 n u v⟩]

section Body
variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1408x1024 .bf16) (harg5 : arg5.IsWhole) (arg6 : Memref sig .tc .vmem S2x512x1408 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S2x512x1408 .bf16) (harg9 : arg9.IsWhole) (arg10 : Memref sig .tc .vmem S512x1024 .bf16) (harg10 : arg10.IsWhole)
  (x0 x1 : Vec F S512x1024 .f32) (x2 : Vec F S1x1024 .f32) (x3 : Vec F S1408x1024 .bf16) (x4 : Vec F S2x512x1408 .bf16)

set_option maxHeartbeats 2000000 in
/-- The body at the first half of the first block. -/
theorem bodyA (E : Set ℕ) (K : PUnit → sProp 𝕄) (h1 : first i) (h2 : start i) (h3 : ¬ later i) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg10 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay1 x0 x2) ∗ owns (c : Thread nD τ) arg8 fullShare (k0_pay3 x0 x1) ∗ owns (c : Thread nD τ) arg10 fullShare (k0_pay2 x0 x2) ∗ owns (c : Thread nD τ) arg9 fullShare (grads (k0_pay2 x0 x2) x3 x4)) -∗ K ⟨⟩))
      ⊢ wp frame (wpE (defs₀ (F := F)) Variants.none (c : Thread nD τ) none) E (cc0_ffn_w2_dx i arg2 harg2 arg3 harg3 arg4 harg4 arg5 harg5 arg6 harg6 arg7 harg7 arg8 harg8 arg9 harg9 arg10 harg10) K := by
  simp only [cc0_ffn_w2_dx_eq_skeleton]; unfold cc0_ffn_w2_dx_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d10, %f10, -, H10⟩, ⟨%d9, %f9, -, H9⟩, Hk⟩
  subst e2 e3 e4 e5 e6
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_full, View.readAt_full, View.readAt_full]
    try rfl
  isplitl [H8]
  · iexists _; isplitr
    swap; · iexact H8
    ipureintro
    rw [View.read_writes_full, View.readAt_full, View.readAt_full]
    try rfl
  isplitl [H10]
  · iexists _; isplitr
    swap; · iexact H10
    ipureintro
    unfold bodyA.sl.H10_1
    rw [View.read_writes_full, View.readAt_full, View.readAt_full]
    try rfl
  iexists _; isplitr
  swap; · iexact H9
  ipureintro
  rw [View.read_writes_eq_canon _ _ _ (cover _ _)]
  unfold grads
  rw [show bodyA.sl.v3 c arg2 arg4 arg10 f2 f4 = k0_pay2 (arg2.view.read (Elt F) f2) (arg4.view.read (Elt F) f4) from by
    unfold bodyA.sl.v3 bodyA.sl.H10_1; rw [View.readCov_full, View.readAt_full, View.readAt_full]; try rfl, View.readAt_full, View.readAt_full]
  try rfl

set_option maxHeartbeats 2000000 in
/-- The body at the first half of a later block: the gate's gradient is added to. -/
theorem bodyB (E : Set ℕ) (K : PUnit → sProp 𝕄) (h1 : first i) (h2 : ¬ start i) (h3 : later i) (a : Vec F S1x1024 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare a ∗ (∃ d, owns (c : Thread nD τ) arg10 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay1 x0 x2) ∗ owns (c : Thread nD τ) arg8 fullShare (k0_pay4 x0 x1 a) ∗ owns (c : Thread nD τ) arg10 fullShare (k0_pay2 x0 x2) ∗ owns (c : Thread nD τ) arg9 fullShare (grads (k0_pay2 x0 x2) x3 x4)) -∗ K ⟨⟩))
      ⊢ wp frame (wpE (defs₀ (F := F)) Variants.none (c : Thread nD τ) none) E (cc0_ffn_w2_dx i arg2 harg2 arg3 harg3 arg4 harg4 arg5 harg5 arg6 harg6 arg7 harg7 arg8 harg8 arg9 harg9 arg10 harg10) K := by
  simp only [cc0_ffn_w2_dx_eq_skeleton]; unfold cc0_ffn_w2_dx_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%f8, %e8, H8⟩, ⟨%d10, %f10, -, H10⟩, ⟨%d9, %f9, -, H9⟩, Hk⟩
  subst e2 e3 e4 e5 e6 e8
  sl_exec (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_full, View.readAt_full, View.readAt_full]
    try rfl
  isplitl [H8]
  · iexists _; isplitr
    swap; · iexact H8
    ipureintro
    rw [View.read_writes_full, View.readAt_full, View.readAt_full, View.readAt_full]
    try rfl
  isplitl [H10]
  · iexists _; isplitr
    swap; · iexact H10
    ipureintro
    unfold bodyB.sl.H10_1
    rw [View.read_writes_full, View.readAt_full, View.readAt_full]
    try rfl
  iexists _; isplitr
  swap; · iexact H9
  ipureintro
  rw [View.read_writes_eq_canon _ _ _ (cover _ _)]
  unfold grads
  rw [show bodyB.sl.v3 c arg2 arg4 arg10 f2 f4 = k0_pay2 (arg2.view.read (Elt F) f2) (arg4.view.read (Elt F) f4) from by
    unfold bodyB.sl.v3 bodyB.sl.H10_1; rw [View.readCov_full, View.readAt_full, View.readAt_full]; try rfl, View.readAt_full, View.readAt_full]
  try rfl

set_option maxHeartbeats 2000000 in
/-- The body at the second half. -/
theorem bodyC (E : Set ℕ) (K : PUnit → sProp 𝕄) (h1 : ¬ first i) (d7 n : Vec F S512x1024 .bf16) (a : Vec F S1x1024 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare a ∗ owns (c : Thread nD τ) arg10 fullShare n ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare a ∗ owns (c : Thread nD τ) arg10 fullShare n ∗ owns (c : Thread nD τ) arg9 fullShare (grads (n) x3 x4)) -∗ K ⟨⟩))
      ⊢ wp frame (wpE (defs₀ (F := F)) Variants.none (c : Thread nD τ) none) E (cc0_ffn_w2_dx i arg2 harg2 arg3 harg3 arg4 harg4 arg5 harg5 arg6 harg6 arg7 harg7 arg8 harg8 arg9 harg9 arg10 harg10) K := by
  simp only [cc0_ffn_w2_dx_eq_skeleton]; unfold cc0_ffn_w2_dx_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f10, %e10, H10⟩, ⟨%d9, %f9, -, H9⟩, Hk⟩
  subst e2 e3 e4 e5 e6 e7 e8 e10
  sl_exec (disch := sl_exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H10]
  · iexists f10; isplitr; · ipureintro; rfl
    iexact H10
  iexists _; isplitr
  swap; · iexact H9
  ipureintro
  rw [View.read_writes_eq_canon _ _ _ (cover _ _)]
  unfold grads
  rw [View.readAt_full, View.readAt_full, View.readAt_full]
  try rfl

end Body

end Cert.Kernel7Ideal.Bwd

end
-- ==== Proof.Track7.lean ====
module

public import proofs.«01_k».proof.Proof.Gen.Kernel7Ideal.Frame
public import proofs.«01_k».proof.Proof.Gen.Kernel7Ideal.Skeleton
public import proofs.«01_k».proof.Proof.Gen.Kernel7Ideal.Points
public import Idealize.ShloMosaic.Lib.Pipeline.FrameBody
public import proofs.«01_k».proof.Proof.Body7
public import Idealize.ShloMosaic.Lib.Claim
public import Idealize.ShloMosaic.Lib.Pipeline.ValueKit
public import Idealize.ShloMosaic.Lib.Tactic
public import Idealize.ShloMosaic.Lib.VecWindow
public import Idealize.ShloMosaic.Lib.WordCmp

/-! # The gradient through the feed-forward's gate: the run from point to point, and the frame -/

@[expose] public section

set_option maxRecDepth 16384

noncomputable section

namespace Cert.Kernel7Ideal.Bwd

open Cert.Kernel7Ideal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem first_iff (t : Fin cfg0.N) : first (grid0.coords t) ↔ t.val % 2 = 0 :=
  (by decide +kernel : ∀ t : Fin grid0.N, first (grid0.coords t) ↔ t.val % 2 = 0) t

theorem start_iff (t : Fin cfg0.N) : start (grid0.coords t) ↔ t.val < 2 :=
  (by decide +kernel : ∀ t : Fin grid0.N, start (grid0.coords t) ↔ t.val < 2) t

theorem later_iff (t : Fin cfg0.N) : later (grid0.coords t) ↔ ¬ t.val < 2 :=
  (by decide +kernel : ∀ t : Fin grid0.N, later (grid0.coords t) ↔ ¬ t.val < 2) t

/-- The point before. -/
def prev (t : Fin cfg0.N) : Fin cfg0.N := ⟨t.val - 1, Nat.lt_of_le_of_lt (Nat.sub_le _ _) t.isLt⟩

/-- The scaled rows of point `t`'s block, as kept and as sent out. -/
def kept (c : Dev nD) (t : Fin cfg0.N) : Vec F S512x1024 .bf16 := k0_pay2 (iblk m c 0 t) (iblk m c 2 t)
def sent (c : Dev nD) (t : Fin cfg0.N) : Vec F S512x1024 .bf16 := k0_pay1 (iblk m c 0 t) (iblk m c 2 t)

/-- A block read at two points with one index is one block. -/
theorem blk0_of_index (c : Dev nD) (t t' : Fin cfg0.N) (e : win0_0.index t' = win0_0.index t) : iblk m c 0 t' = iblk m c 0 t := by
  funext y
  show (V m c main_arg0 : Vec F S8192x1024 .f32) _ = (V m c main_arg0 : Vec F S8192x1024 .f32) _
  refine congrArg (V m c main_arg0 : Vec F S8192x1024 .f32) (funext fun a => Fin.ext ?_)
  show win0_0.index t' a * _ + 1 * _ = win0_0.index t a * _ + 1 * _
  rw [e]

/-- The two halves of a block of rows read the same rows. -/
theorem blk0_prev (c : Dev nD) (t : Fin cfg0.N) (h : t.val % 2 ≠ 0) : iblk m c 0 (prev t) = iblk m c 0 t :=
  blk0_of_index m c t (prev t)
    ((by decide +kernel : ∀ t : Fin grid0.N, t.val % 2 ≠ 0 → win0_0.index ⟨t.val - 1, Nat.lt_of_le_of_lt (Nat.sub_le _ _) t.isLt⟩ = win0_0.index t) t h)

theorem blk2_prev (c : Dev nD) (t : Fin cfg0.N) : iblk m c 2 (prev t) = iblk m c 2 t := rfl

theorem kept_prev (c : Dev nD) (t : Fin cfg0.N) (h : t.val % 2 ≠ 0) : kept m c (prev t) = kept m c t := by
  unfold kept; rw [blk0_prev m c t h, blk2_prev]

theorem sent_prev (c : Dev nD) (t : Fin cfg0.N) (h : t.val % 2 ≠ 0) : sent m c (prev t) = sent m c t := by
  unfold sent; rw [blk0_prev m c t h, blk2_prev]

/-- The gate's gradient after point `n`: the shares of the blocks so far. -/
def accN (c : Dev nD) : (n : ℕ) → n < cfg0.N → Vec F S1x1024 .f32
  | 0, h => k0_pay3 (iblk m c 0 ⟨0, h⟩) (iblk m c 1 ⟨0, h⟩)
  | n + 1, h => if (n + 1) % 2 = 0 then
      k0_pay4 (iblk m c 0 ⟨n + 1, h⟩) (iblk m c 1 ⟨n + 1, h⟩) (accN c n (Nat.lt_of_succ_lt h))
    else accN c n (Nat.lt_of_succ_lt h)

def acc (c : Dev nD) (t : Fin cfg0.N) : Vec F S1x1024 .f32 := accN m c t.val t.isLt

theorem acc_zero (c : Dev nD) (t : Fin cfg0.N) (h : t.val = 0) : acc m c t = k0_pay3 (iblk m c 0 t) (iblk m c 1 t) := by
  obtain ⟨n, hn⟩ := t
  subst h
  rfl

theorem acc_even (c : Dev nD) (t : Fin cfg0.N) (h0 : t.val ≠ 0) (h : t.val % 2 = 0) :
    acc m c t = k0_pay4 (iblk m c 0 t) (iblk m c 1 t) (acc m c (prev t)) := by
  obtain ⟨n, hn⟩ := t
  cases n with
  | zero => exact absurd rfl h0
  | succ n => exact if_pos h

theorem acc_odd (c : Dev nD) (t : Fin cfg0.N) (h : t.val % 2 ≠ 0) : acc m c t = acc m c (prev t) := by
  obtain ⟨n, hn⟩ := t
  cases n with
  | zero => exact absurd rfl h
  | succ n => exact if_neg h

/-! ## The region's invariant -/

/-- Each window's current staging buffer, and the scratch buffer. -/
abbrev mem0 (t : Fin cfg0.N) : Memref sig .tc .vmem S512x1024 .f32 := win0_0.stage (cfg0.slots t 0)
abbrev mem1 (t : Fin cfg0.N) : Memref sig .tc .vmem S512x1024 .f32 := win0_1.stage (cfg0.slots t 1)
abbrev mem2 (t : Fin cfg0.N) : Memref sig .tc .vmem S1x1024 .f32 := win0_2.stage (cfg0.slots t 2)
abbrev mem3 (t : Fin cfg0.N) : Memref sig .tc .vmem S1408x1024 .bf16 := win0_3.stage (cfg0.slots t 3)
abbrev mem4 (t : Fin cfg0.N) : Memref sig .tc .vmem S2x512x1408 .bf16 := win0_4.stage (cfg0.slots t 4)
abbrev mem5 (t : Fin cfg0.N) : Memref sig .tc .vmem S512x1024 .bf16 := win0_5.stage (cfg0.slots t 5)
abbrev mem6 (t : Fin cfg0.N) : Memref sig .tc .vmem S1x1024 .f32 := win0_6.stage (cfg0.slots t 6)
abbrev mem7 (t : Fin cfg0.N) : Memref sig .tc .vmem S2x512x1408 .bf16 := win0_7.stage (cfg0.slots t 7)
abbrev scr0 : Memref sig .tc .vmem S512x1024 .bf16 := Memref.whole cc0_scratch0

theorem PhiA_eq (c : Dev nD) : (Pipeline.ΦA spec0 c : sProp 𝕄)
    = iprop((∃ d, owns (c : Thread nD τ) scr0 fullShare d) ∗ (∃ r, prngReg c r)) := by
  unfold Pipeline.ΦA; rw [scopedRest0_eq]; simp only [scr0, owns_whole]; try rfl

/-- Before point `n`: between the two halves of a block of rows the scratch buffer holds the scaled rows. -/
def PhiS (c : Dev nD) (n : ℕ) (h : n ≤ cfg0.N) : sProp 𝕄 :=
  iprop((∃ d, ⌜∀ t : Fin cfg0.N, t.val = n → t.val % 2 ≠ 0 → d = kept m c t⌝ ∗ owns (c : Thread nD τ) scr0 fullShare d) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => sent m c t
    | ⟨6, _⟩ => acc m c t
    | ⟨7, _⟩ => grads (kept m c t) (iblk m c 3 t) (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem share_eq (c : Dev nD) (w : Fin cfg0.W) : (dats m 0 c).share w = fullShare := by
  unfold Dat.share
  exact ite_self _

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = sent m c t := by dsimp only [dats]
theorem after6 (c : Dev nD) (t : Fin cfg0.N) : (dats m 0 c).after 6 t = acc m c t := by dsimp only [dats]
theorem after7 (c : Dev nD) (t : Fin cfg0.N) : (dats m 0 c).after 7 t = grads (kept m c t) (iblk m c 3 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem idle5_even (t : Fin cfg0.N) (h : t.val % 2 = 0) : cfg0.idle 5 (grid0.coords t) = false := by
  show (!(k0_cond1 (grid0.coords t) == 1#1)) = false
  rw [show k0_cond1 (grid0.coords t) = 1#1 from (first_iff t).mpr h]; rfl

theorem idle5_odd (t : Fin cfg0.N) (h : t.val % 2 ≠ 0) : cfg0.idle 5 (grid0.coords t) = true := by
  show (!(k0_cond1 (grid0.coords t) == 1#1)) = true
  rw [Bool.not_eq_true', beq_eq_false_iff_ne]
  exact fun e => h ((first_iff t).mp e)

theorem idle6_even (t : Fin cfg0.N) (h : t.val % 2 = 0) : cfg0.idle 6 (grid0.coords t) = false := by
  show (!(k0_cond1 (grid0.coords t) == 1#1 && k0_cond2 (grid0.coords t) == 1#1)
    && !(k0_cond1 (grid0.coords t) == 1#1 && k0_cond3 (grid0.coords t) == 1#1)) = false
  rw [show k0_cond1 (grid0.coords t) = 1#1 from (first_iff t).mpr h]
  by_cases h2 : t.val < 2
  · rw [show k0_cond2 (grid0.coords t) = 1#1 from (start_iff t).mpr h2]; rfl
  · rw [show k0_cond3 (grid0.coords t) = 1#1 from (later_iff t).mpr h2, Bool.and_eq_false_iff]; exact Or.inr rfl

theorem idle6_odd (t : Fin cfg0.N) (h : t.val % 2 ≠ 0) : cfg0.idle 6 (grid0.coords t) = true := by
  show (!(k0_cond1 (grid0.coords t) == 1#1 && k0_cond2 (grid0.coords t) == 1#1)
    && !(k0_cond1 (grid0.coords t) == 1#1 && k0_cond3 (grid0.coords t) == 1#1)) = true
  rw [show (k0_cond1 (grid0.coords t) == 1#1) = false from beq_eq_false_iff_ne.mpr fun e => h ((first_iff t).mp e)]; rfl

/-- At the second half the window of scaled rows still holds what the first half left. -/
theorem before5 (c : Dev nD) (t : Fin cfg0.N) (h : t.val % 2 ≠ 0) (d) : (dats m 0 c).before 5 t d = sent m c t := by
  have ht : t.val ≠ 0 := fun e => h (by rw [e])
  have hp : (prev t).val % 2 = 0 := by unfold prev; dsimp only; omega
  have hf : (cfg0.win 5).flush (prev t) = false := by
    rw [Bool.eq_false_iff]
    exact fun hf => absurd ((flush0_5 (prev t)).mp hf) (by omega)
  rw [(dats m 0 c).before_of_pos 5 t ht ((cfg0.win 5).fetch_out rfl t) d]
  show (if (cfg0.win 5).flush (prev t) = true then d else (dats m 0 c).left 5 (prev t) d) = _
  rw [hf, if_neg Bool.false_ne_true]
  unfold Dat.left
  rw [show cfg0.idle 5 (cfg0.grid.coords (prev t)) = false from idle5_even _ hp]
  show (dats m 0 c).kept 5 (prev t) d = _
  unfold Dat.kept
  rw [after5, ← sent_prev m c t h]
  rw [Pipeline.fill_of_clip_none 5 _ (fun _ => rfl) d (sent m c (prev t)), Window.fill_cut]

/-- After the first point the gate's gradient is found as the point before left it. -/
theorem before6_odd (c : Dev nD) (t : Fin cfg0.N) (h : t.val % 2 ≠ 0) (d) : (dats m 0 c).before 6 t d = acc m c (prev t) := by
  have ht : t.val ≠ 0 := fun e => h (by rw [e])
  have hp : (prev t).val % 2 = 0 := by unfold prev; dsimp only; omega
  have hf : (cfg0.win 6).flush (prev t) = false := by
    rw [Bool.eq_false_iff]
    exact fun hf => absurd ((flush0_6 (prev t)).mp hf) (by omega)
  rw [(dats m 0 c).before_of_pos 6 t ht ((cfg0.win 6).fetch_out rfl t) d]
  show (if (cfg0.win 6).flush (prev t) = true then d else (dats m 0 c).left 6 (prev t) d) = _
  rw [hf, if_neg Bool.false_ne_true]
  unfold Dat.left
  rw [show cfg0.idle 6 (cfg0.grid.coords (prev t)) = false from idle6_even _ hp]
  show (dats m 0 c).kept 6 (prev t) d = _
  unfold Dat.kept
  rw [after6]
  rw [Pipeline.fill_of_clip_none 6 _ (fun _ => rfl) d (acc m c (prev t)), Window.fill_cut]

theorem before6_even (c : Dev nD) (t : Fin cfg0.N) (h0 : t.val ≠ 0) (h : t.val % 2 = 0) (d) :
    (dats m 0 c).before 6 t d = acc m c (prev t) := by
  have hp : (prev t).val % 2 ≠ 0 := by unfold prev; dsimp only; omega
  have hf : (cfg0.win 6).flush (prev t) = false := by
    rw [Bool.eq_false_iff]
    have hl : t.val < 32 := t.isLt
    exact fun hf => absurd ((flush0_6 (prev t)).mp hf) (by unfold prev; dsimp only; omega)
  rw [(dats m 0 c).before_of_pos 6 t h0 ((cfg0.win 6).fetch_out rfl t) d]
  show (if (cfg0.win 6).flush (prev t) = true then d else (dats m 0 c).left 6 (prev t) d) = _
  rw [hf, if_neg Bool.false_ne_true]
  unfold Dat.left
  rw [show cfg0.idle 6 (cfg0.grid.coords (prev t)) = true from idle6_odd _ hp]
  show (dats m 0 c).before 6 (prev t) d = _
  rw [before6_odd m c _ hp d, ← acc_odd m c _ hp]

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves5_even (c : Dev nD) (t : Fin cfg0.N) (h : t.val % 2 = 0) :
    (dats m 0 c).leavesExact 5 t = owns (c : Thread nD τ) (mem5 t) fullShare (sent m c t) := by
  rw [show (dats m 0 c).leavesExact 5 t = owns (c : Thread nD τ) (mem5 t) fullShare ((dats m 0 c).after 5 t) from by
    unfold Dat.leavesExact; rw [idle5_even t h], after5]

theorem leaves6_even (c : Dev nD) (t : Fin cfg0.N) (h : t.val % 2 = 0) :
    (dats m 0 c).leavesExact 6 t = owns (c : Thread nD τ) (mem6 t) fullShare (acc m c t) := by
  rw [show (dats m 0 c).leavesExact 6 t = owns (c : Thread nD τ) (mem6 t) fullShare ((dats m 0 c).after 6 t) from by
    unfold Dat.leavesExact; rw [idle6_even t h], after6]

theorem leaves5_odd (c : Dev nD) (t : Fin cfg0.N) (h : t.val % 2 ≠ 0) :
    (dats m 0 c).leavesExact 5 t = owns (c : Thread nD τ) (mem5 t) fullShare (sent m c t) := by
  have hf : (cfg0.win 5).flush t = true := (flush0_5 t).mpr (by omega)
  rw [show (dats m 0 c).leavesExact 5 t = owns (c : Thread nD τ) (mem5 t) fullShare ((dats m 0 c).after 5 t) from by
    unfold Dat.leavesExact; rw [idle5_odd t h, hf], after5]

/-- At the second half the gate's gradient is left as it was found, whether it is written back there or not. -/
theorem leaves6_odd (c : Dev nD) (t : Fin cfg0.N) (h : t.val % 2 ≠ 0) :
    owns (c : Thread nD τ) (mem6 t) fullShare (acc m c (prev t)) ⊢ ((dats m 0 c).leavesExact 6 t : sProp 𝕄) := by
  rw [show owns (c : Thread nD τ) (mem6 t) fullShare (acc m c (prev t)) = (owns (c : Thread nD τ) (mem6 t) fullShare (acc m c t) : sProp 𝕄) from by
    rw [acc_odd m c t h]]
  by_cases hf : (cfg0.win 6).flush t = true
  · rw [show (dats m 0 c).leavesExact 6 t = owns (c : Thread nD τ) (mem6 t) fullShare ((dats m 0 c).after 6 t) from by
      unfold Dat.leavesExact; rw [idle6_odd t h, hf], after6]
  · rw [(dats m 0 c).leavesExact_idle 6 t (idle6_odd t h) (Bool.eq_false_iff.mpr hf)]
    simp only [before6_odd m c t h, ← acc_odd m c t h]
    iintro H
    iexists acc m c t
    iexact H

theorem leaves0 (c : Dev nD) (t : Fin cfg0.N) :
    (dats m 0 c).leavesExact 0 t = owns (c : Thread nD τ) (mem0 t) fullShare (iblk m c 0 t) := by
  rw [show (dats m 0 c).leavesExact 0 t = owns (c : Thread nD τ) (mem0 t) fullShare ((dats m 0 c).after 0 t) from by
    unfold Dat.leavesExact; rw [show cfg0.idle 0 (grid0.coords t) = false from rfl], after0]
theorem leaves1 (c : Dev nD) (t : Fin cfg0.N) :
    (dats m 0 c).leavesExact 1 t = owns (c : Thread nD τ) (mem1 t) fullShare (iblk m c 1 t) := by
  rw [show (dats m 0 c).leavesExact 1 t = owns (c : Thread nD τ) (mem1 t) fullShare ((dats m 0 c).after 1 t) from by
    unfold Dat.leavesExact; rw [show cfg0.idle 1 (grid0.coords t) = false from rfl], after1]
theorem leaves2 (c : Dev nD) (t : Fin cfg0.N) :
    (dats m 0 c).leavesExact 2 t = owns (c : Thread nD τ) (mem2 t) fullShare (iblk m c 2 t) := by
  rw [show (dats m 0 c).leavesExact 2 t = owns (c : Thread nD τ) (mem2 t) fullShare ((dats m 0 c).after 2 t) from by
    unfold Dat.leavesExact; rw [show cfg0.idle 2 (grid0.coords t) = false from rfl], after2]
theorem leaves3 (c : Dev nD) (t : Fin cfg0.N) :
    (dats m 0 c).leavesExact 3 t = owns (c : Thread nD τ) (mem3 t) fullShare (iblk m c 3 t) := by
  rw [show (dats m 0 c).leavesExact 3 t = owns (c : Thread nD τ) (mem3 t) fullShare ((dats m 0 c).after 3 t) from by
    unfold Dat.leavesExact; rw [show cfg0.idle 3 (grid0.coords t) = false from rfl], after3]
theorem leaves4 (c : Dev nD) (t : Fin cfg0.N) :
    (dats m 0 c).leavesExact 4 t = owns (c : Thread nD τ) (mem4 t) fullShare (iblk m c 4 t) := by
  rw [show (dats m 0 c).leavesExact 4 t = owns (c : Thread nD τ) (mem4 t) fullShare ((dats m 0 c).after 4 t) from by
    unfold Dat.leavesExact; rw [show cfg0.idle 4 (grid0.coords t) = false from rfl], after4]
theorem leaves7 (c : Dev nD) (t : Fin cfg0.N) :
    (dats m 0 c).leavesExact 7 t = owns (c : Thread nD τ) (mem7 t) fullShare (grads (kept m c t) (iblk m c 3 t) (iblk m c 4 t)) := by
  rw [show (dats m 0 c).leavesExact 7 t = owns (c : Thread nD τ) (mem7 t) fullShare ((dats m 0 c).after 7 t) from by
    unfold Dat.leavesExact; rw [show cfg0.idle 7 (grid0.coords t) = false from rfl], after7]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_castSucc m c t]
  rw [leaves0, leaves1, leaves2, leaves3, leaves4, leaves7]
  unfold PhiS
  by_cases h : t.val % 2 = 0
  · rw [leaves5_even m c t h, leaves6_even m c t h]
    by_cases h0 : t.val = 0
    · rw [acc_zero m c t h0]
      iintro ⟨⟨⟨%D, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyA c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) scr0 (Memref.isWhole_whole _) (iblk m c 0 t) (iblk m c 1 t) (iblk m c 2 t) (iblk m c 3 t) (iblk m c 4 t) Set.univ _ ((first_iff t).mpr h) ((start_iff t).mpr (by omega)) (fun e => absurd (by omega) ((later_iff t).mp e)))
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexists _; iexact HS
      isplitl [H7]; · iexists _; iexact H7
      iintro ⟨H0, H1, H2, H3, H4, H5, H6, HS, H7⟩
      isplitl [HS Hg]
      · isplitl [HS]
        · iexists _
          isplitr
          swap; · iexact HS
          ipureintro
          intro t' e h'
          have hp : prev t' = t := Fin.ext (by unfold prev; dsimp only; omega)
          exact (congrArg (kept m c) hp).symm.trans (kept_prev m c t' h')
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [acc_even m c t h0 h]
      simp only [before6_even m c t h0 h]
      iintro ⟨⟨⟨%D, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (bodyB c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) scr0 (Memref.isWhole_whole _) (iblk m c 0 t) (iblk m c 1 t) (iblk m c 2 t) (iblk m c 3 t) (iblk m c 4 t) Set.univ _ ((first_iff t).mpr h) (fun e => absurd ((start_iff t).mp e) (by omega)) ((later_iff t).mpr (by omega)) (acc m c (prev t)))
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexists _; iexact HS
      isplitl [H7]; · iexists _; iexact H7
      iintro ⟨H0, H1, H2, H3, H4, H5, H6, HS, H7⟩
      isplitl [HS Hg]
      · isplitl [HS]
        · iexists _
          isplitr
          swap; · iexact HS
          ipureintro
          intro t' e h'
          have hp : prev t' = t := Fin.ext (by unfold prev; dsimp only; omega)
          exact (congrArg (kept m c) hp).symm.trans (kept_prev m c t' h')
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · rw [leaves5_odd m c t h]
    simp only [before5 m c t h, before6_odd m c t h]
    iintro ⟨⟨⟨%D, %hD, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := hD t rfl h
    iapply (bodyC c (grid0.coords t) (mem0 t) (hstage0_0 ((cfg0.slots t 0).cast nbuf0_0)) (mem1 t) (hstage0_1 ((cfg0.slots t 1).cast nbuf0_1)) (mem2 t) (hstage0_2 ((cfg0.slots t 2).cast nbuf0_2)) (mem3 t) (hstage0_3 ((cfg0.slots t 3).cast nbuf0_3)) (mem4 t) (hstage0_4 ((cfg0.slots t 4).cast nbuf0_4)) (mem5 t) (hstage0_5 ((cfg0.slots t 5).cast nbuf0_5)) (mem6 t) (hstage0_6 ((cfg0.slots t 6).cast nbuf0_6)) (mem7 t) (hstage0_7 ((cfg0.slots t 7).cast nbuf0_7)) scr0 (Memref.isWhole_whole _) (iblk m c 0 t) (iblk m c 1 t) (iblk m c 2 t) (iblk m c 3 t) (iblk m c 4 t) Set.univ _ (fun e => h ((first_iff t).mp e)) (sent m c t) (kept m c t) (acc m c (prev t)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [H7]; · iexists _; iexact H7
    iintro ⟨H0, H1, H2, H3, H4, H5, H6, HS, H7⟩
    isplitl [HS Hg]
    · isplitl [HS]
      · iexists _
        isplitr
        swap; · iexact HS
        ipureintro
        intro t' e h'; exact absurd h' (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6_odd m c t h); iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨%D, HS⟩, Hg⟩
  isplitr [Hg]
  · iexists D
    isplitr
    swap; · iexact HS
    ipureintro
    exact fun t e h => absurd (by rw [e]) h
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%D, -, HS⟩, Hg⟩
  isplitr [Hg]
  · iexists D
    iexact HS
  iexact Hg

/-! ## The run and the frame -/

set_option backward.isDefEq.respectTransparency.types false in
/-- The launch: every array as the proof data say, every other buffer as the region found it, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := share_eq m)
    (howed := fun _ _ => rfl) (V := V m) (hmain := hmain m Variants.none) (hA := A_eq m) (hin := hin m) (hout := hout m) (hQ' := fun _ h => h)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel7Ideal.Bwd

end
-- ==== Proof.Norm7.lean ====
module

public import proofs.«01_k».proof.Proof.Gen.Kernel7Ideal.Skeleton
public import proofs.«01_k».proof.Proof.Gen.Reference7Ideal.Run
public import proofs.«01_k».proof.Proof.Ref6
public import proofs.«01_k».proof.Proof.Real6
public import Idealize.ShloMosaic.Lib.Pointwise

/-! # The gradient through the feed-forward's gate: what the body's terms and the reference's terms are at an index -/

@[expose] public section

set_option maxRecDepth 16384

noncomputable section

namespace Cert.Gate

open Idealize.ShloMosaic Idealize.ShloMosaic.TcCoe
open Cert.Ffn (one Rl refA refB refS ones refDa refDb refCat refPl)
open scoped BigOperators

/-- The float word of one half. -/
abbrev half : EReal := Scalar.ofBits (F := Ideal) .f32 0x3F000000#32

section Kernel
open Cert.Kernel7Ideal Cert.Kernel7Ideal.Gen

theorem pay1_at (x : Vec Ideal S512x1024 .f32) (g : Vec Ideal S1x1024 .f32) (r : Fin 512) (b : Fin 1024) :
    (k0_pay1 x g (ix2 r b) : EReal) = (half * g (ix2 0 b)) * x (ix2 r b) := by
  pointwise [k0_pay1]

theorem pay2_at (x : Vec Ideal S512x1024 .f32) (g : Vec Ideal S1x1024 .f32) (r : Fin 512) (b : Fin 1024) :
    (k0_pay2 x g (ix2 r b) : EReal) = k0_pay1 x g (ix2 r b) := by
  pointwise [k0_pay2]

theorem pay3_at (x y : Vec Ideal S512x1024 .f32) (b : Fin 1024) :
    (k0_pay3 x y (ix2 0 b) : EReal) = ∑ r : Fin 512, (half * x (ix2 r b)) * y (ix2 r b) := by
  pointwise [k0_pay3]

theorem pay4_at (x y : Vec Ideal S512x1024 .f32) (a : Vec Ideal S1x1024 .f32) (b : Fin 1024) :
    (k0_pay4 x y a (ix2 0 b) : EReal) = a (ix2 0 b) + k0_pay3 x y (ix2 0 b) := by
  pointwise [k0_pay4]

theorem pay5_at (n : Vec Ideal S512x1024 .bf16) (u : Vec Ideal S1408x1024 .bf16) (r : Fin 512) (q : Fin 1408) :
    (k0_pay5 n u (ix2 r q) : EReal) = ∑ k : Fin 1024, (n (ix2 r k) : EReal) * u (ix2 q k) := by
  refine Eq.trans (b := 0 + ∑ k : Fin 1024, (n (ix2 r k) : EReal) * u (ix2 q k)) ?_ (zero_add _)
  pointwise [k0_pay5]

theorem pay7_at (n : Vec Ideal S512x1024 .bf16) (u : Vec Ideal S1408x1024 .bf16) (v : Vec Ideal S2x512x1408 .bf16) (r : Fin 512) (q : Fin 1408) :
    (k0_pay7 n u v (ix3 0 r q) : EReal) = k0_pay5 n u (ix2 r q) * v (ix3 0 r q) := by
  pointwise [k0_pay7, k0_pay6]

theorem pay8_at (n : Vec Ideal S512x1024 .bf16) (u : Vec Ideal S1408x1024 .bf16) (v : Vec Ideal S2x512x1408 .bf16) (r : Fin 512) (q : Fin 1408) :
    (k0_pay8 n u v (ix3 0 r q) : EReal) = k0_pay5 n u (ix2 r q) * v (ix3 1 r q) := by
  pointwise [k0_pay8, k0_pay6]

end Kernel

/-! ## The reference's terms -/

section Reference
open Cert.Reference7Ideal Cert.Reference7Ideal.Gen

/-- The gated product, and its product with the weight. -/
def refT (ab : FVec Ideal S8192x5632 .f32) : FVec Ideal S8192x2816 .f32 := mulf (mulf (refA ab) (refS (refA ab))) (refB ab)
def refY (ab : FVec Ideal S8192x5632 .f32) (w : FVec Ideal S2816x1024 .f32) : FVec Ideal S8192x1024 .f32 :=
  Host.dotGeneral dot_S8192x2816_S2816x1024_S8192x1024_1_0_0_1_n_n none (refT ab) w

/-- The gradient scaled by half the gate. -/
def refG (dh : FVec Ideal S8192x1024 .f32) (g : FVec Ideal S1024 .f32) : FVec Ideal S8192x1024 .f32 :=
  mulf (broadcastInDim S8192x1024 ![0, 1] bcast_S1x1024_S8192x1024_0_1
    (mulf (broadcastInDim S1x1024 ![] bcast_S_S1x1024 (constant S_ .f32 0x3F000000#32)) (broadcastInDim S1x1024 ![1] bcast_S1024_S1x1024_1 g))) dh

/-- Its product with the weight's transpose. -/
def refP (s : FVec Ideal S8192x1024 .f32) (w : FVec Ideal S2816x1024 .f32) : FVec Ideal S8192x2816 .f32 :=
  Host.dotGeneral dot_S8192x1024_S2816x1024_S8192x2816_1_1_0_0_n_n none s w

/-- The gate's own gradient. -/
def refW (dh y : FVec Ideal S8192x1024 .f32) : FVec Ideal S1x1024 .f32 :=
  shapeCast S1x1024 (Host.reduceAdd (mulf (broadcastInDim S1x1024 ![] bcast_S_S1x1024 (constant S_ .f32 0x3F000000#32))
    (shapeCast S1x1024 (Host.reduceAdd (mulf dh y) (constant S_ .f32 0x00000000#32) reducesTo_S8192x1024_S1024_d0 h_S_) shapeCasts_S1024_S1x1024))
    (constant S_ .f32 0x00000000#32) reducesTo_S1x1024_S1024_d0 h_S_) shapeCasts_S1024_S1x1024

/-- The gradients of the gated product's two factors, from the gradient `p` of the product. -/
def gradA (p : FVec Ideal S8192x2816 .f32) (ab : FVec Ideal S8192x5632 .f32) : FVec Ideal S8192x2816 .f32 :=
  addf (mulf (mulf p (refB ab)) (refS (refA ab))) (mulf (mulf (refA ab) (mulf p (refB ab))) (mulf (refS (refA ab)) (subf ones (refS (refA ab)))))
def gradB (p : FVec Ideal S8192x2816 .f32) (ab : FVec Ideal S8192x5632 .f32) : FVec Ideal S8192x2816 .f32 :=
  mulf (mulf (refA ab) (refS (refA ab))) p

theorem refT_at (ab : FVec Ideal S8192x5632 .f32) (i : Fin 8192) (q : Fin 2816) :
    (refT ab (ix2 i q) : EReal) = (refA ab (ix2 i q) * refS (refA ab) (ix2 i q)) * refB ab (ix2 i q) := rfl

theorem refY_at (ab : FVec Ideal S8192x5632 .f32) (w : FVec Ideal S2816x1024 .f32) (i : Fin 8192) (b : Fin 1024) :
    (refY ab w (ix2 i b) : EReal) = ∑ q : Fin 2816, (refT ab (ix2 i q) : EReal) * w (ix2 q b) := by
  pointwise [refY]

theorem refG_at (dh : FVec Ideal S8192x1024 .f32) (g : FVec Ideal S1024 .f32) (i : Fin 8192) (b : Fin 1024) :
    (refG dh g (ix2 i b) : EReal) = (half * g (ix1 b)) * dh (ix2 i b) := by
  pointwise [refG]

theorem refP_at (s : FVec Ideal S8192x1024 .f32) (w : FVec Ideal S2816x1024 .f32) (i : Fin 8192) (q : Fin 2816) :
    (refP s w (ix2 i q) : EReal) = ∑ k : Fin 1024, (s (ix2 i k) : EReal) * w (ix2 q k) := by
  pointwise [refP]

theorem refW_at (dh y : FVec Ideal S8192x1024 .f32) (b : Fin 1024) :
    (refW dh y (ix2 0 b) : EReal) = half * ∑ i : Fin 8192, (dh (ix2 i b) : EReal) * y (ix2 i b) := by
  pointwise [refW]
  exact Fin.sum_univ_one _

theorem gradA_at (p : FVec Ideal S8192x2816 .f32) (ab : FVec Ideal S8192x5632 .f32) (i : Fin 8192) (q : Fin 2816) :
    (gradA p ab (ix2 i q) : EReal) = (p (ix2 i q) * refB ab (ix2 i q)) * refS (refA ab) (ix2 i q)
      + (refA ab (ix2 i q) * (p (ix2 i q) * refB ab (ix2 i q))) * (refS (refA ab) (ix2 i q) * (one - refS (refA ab) (ix2 i q))) := by
  pointwise [gradA, ones]

theorem gradB_at (p : FVec Ideal S8192x2816 .f32) (ab : FVec Ideal S8192x5632 .f32) (i : Fin 8192) (q : Fin 2816) :
    (gradB p ab (ix2 i q) : EReal) = (refA ab (ix2 i q) * refS (refA ab) (ix2 i q)) * p (ix2 i q) := rfl

variable (m : (ℓ : Loc nD τ sig) → Buf (Elt Ideal) ℓ) (c : Dev nD)

/-- The arguments as launched, and the reference's product. -/
abbrev rdh : FVec Ideal S8192x1024 .f32 := m ((c.tc : Thread nD τ).loc main_arg0)
abbrev rab : FVec Ideal S8192x5632 .f32 := m ((c.tc : Thread nD τ).loc main_arg1)
abbrev rgate : FVec Ideal S1024 .f32 := m ((c.tc : Thread nD τ).loc main_arg2)
abbrev rw2 : FVec Ideal S2816x1024 .f32 := m ((c.tc : Thread nD τ).loc main_arg3)
abbrev rprod : FVec Ideal S8192x2816 .f32 := refP (refG (rdh m c) (rgate m c)) (rw2 m c)

variable (ρ : Dev nD → PrngReg)
open Idealize.SL.Sem

/-- The reference's run, its results by the terms above. -/
theorem run : θ_run defs (onTc (τ := τ) (main (F := Ideal))) ⟨m, fun _ => 0, ρ⟩ fun r => ∀ c : Dev nD,
      r.2.mem ((c.tc : Thread nD τ).loc main_v23) = (truncf .bf16 (refG (rdh m c) (rgate m c)) bitsLt_bf16_f32 : FVec Ideal S8192x1024 .bf16)
      ∧ r.2.mem ((c.tc : Thread nD τ).loc main_v24) = refW (rdh m c) (refY (rab m c) (rw2 m c))
      ∧ r.2.mem ((c.tc : Thread nD τ).loc main_v27) = refPl (refCat (gradA (rprod m c) (rab m c)) (gradB (rprod m c) (rab m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Reference

end Cert.Gate

end
-- ==== Proof.Mm7.lean ====
module

public import proofs.«01_k».proof.Proof.Track7
public import proofs.«01_k».proof.Proof.Norm7
public import proofs.«01_k».proof.Proof.Blocks
public import Idealize.ShloMosaic.Lib.Pointwise
public import Idealize.ShloMosaic.Lib.Pipeline.ValueKit

/-! # The gradient through the feed-forward's gate: the arrays its run leaves -/

@[expose] public section

set_option maxRecDepth 16384

noncomputable section

namespace Cert.Kernel7Ideal.Bwd

open Cert.Kernel7Ideal Cert.Kernel7Ideal.Gen Cert.Gate
open Cert.Ffn (one refA refB refS refDa refDb refCat refPl)
open Idealize.ShloMosaic Idealize.ShloMosaic.TcCoe
open scoped BigOperators

theorem idx0 : ∀ t : Fin cfg0.N, win0_0.index t = ![t.val / 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 2, 0] := (by decide +kernel : ∀ t : Fin grid0.N, _)
theorem idx4 : ∀ t : Fin cfg0.N, win0_4.index t = ![0, t.val / 2, t.val % 2] := (by decide +kernel : ∀ t : Fin grid0.N, _)
theorem idx5 : ∀ t : Fin cfg0.N, win0_5.index t = ![t.val / 2, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, t.val / 2, t.val % 2] := (by decide +kernel : ∀ t : Fin grid0.N, _)

variable (m : (ℓ : Loc nD τ sig) → Buf (Elt Ideal) ℓ) (d : Dev nD)

/-- The gradient, the two halves of the first product, the gate and the weight, as launched. -/
abbrev gr : FVec Ideal S8192x1024 .f32 := m ((d.tc : Thread nD τ).loc main_arg0)
abbrev ab : FVec Ideal S8192x5632 .f32 := m ((d.tc : Thread nD τ).loc main_arg1)
abbrev gate : FVec Ideal S1024 .f32 := m ((d.tc : Thread nD τ).loc main_arg2)
abbrev wt : FVec Ideal S2816x1024 .f32 := m ((d.tc : Thread nD τ).loc main_arg3)

/-- The product the forward pass saved, and the two derivatives. -/
abbrev yy : FVec Ideal S8192x1024 .f32 := refY (ab m d) (wt m d)
abbrev dd : FVec Ideal S2x8192x2816 .bf16 := refPl (refCat (refDa (refA (ab m d)) (refB (ab m d))) (refDb (refA (ab m d))))

set_option maxHeartbeats 1000000 in
theorem V_dd : V m d main_v11 = dd m d := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

set_option maxHeartbeats 1000000 in
theorem V_yy : V m d main_v12 = yy m d := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

theorem V_gate : V m d main_v13 = shapeCast S1x1024 (gate m d) shapeCasts_S1024_S1x1024 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

theorem V_wt : V m d main_v14 = (truncf (F := Ideal) .bf16 (wt m d) bitsLt_bf16_f32 : FVec Ideal S2816x1024 .bf16) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

theorem row_at (v : FVec Ideal S1024 .f32) (b : Fin 1024) : shapeCast S1x1024 v shapeCasts_S1024_S1x1024 (ix2 0 b) = v (ix1 b) := by
  pointwise

/-- The row block and the column half of a point. -/
abbrev bOf (t : Fin cfg0.N) : Fin 16 := ⟨t.val / 2, by have := lt_of_lt_of_eq t.isLt N_0; omega⟩
abbrev hOf (t : Fin cfg0.N) : Fin 2 := ⟨t.val % 2, Nat.mod_lt _ (by decide)⟩

/-- A row of a block of rows, and a column of a half of the columns. -/
abbrev row (i : Fin 16) (r : Fin 512) : Fin 8192 := ⟨i.val * 512 + r.val, by omega⟩
abbrev col (j : Fin 2) (q : Fin 1408) : Fin 2816 := ⟨j.val * 1408 + q.val, by omega⟩

/-- The blocks a point reads. -/
abbrev blk0 (t : Fin cfg0.N) : Vec Ideal S512x1024 .f32 := iblk m d 0 t
abbrev blk1 (t : Fin cfg0.N) : Vec Ideal S512x1024 .f32 := iblk m d 1 t
abbrev blk2 (t : Fin cfg0.N) : Vec Ideal S1x1024 .f32 := iblk m d 2 t
abbrev blk3 (t : Fin cfg0.N) : Vec Ideal S1408x1024 .bf16 := iblk m d 3 t
abbrev blk4 (t : Fin cfg0.N) : Vec Ideal S2x512x1408 .bf16 := iblk m d 4 t

theorem in0 (t : Fin cfg0.N) (r : Fin 512) (a : Fin 1024) :
    blk0 m d t (ix2 r a) = (V m d main_arg0 : Vec Ideal S8192x1024 .f32) (ix2 (row (bOf t) r) a) := by
  blk_ext [iblk, idx0 t] <;> rfl
theorem in1 (t : Fin cfg0.N) (r : Fin 512) (a : Fin 1024) :
    blk1 m d t (ix2 r a) = (V m d main_v12 : Vec Ideal S8192x1024 .f32) (ix2 (row (bOf t) r) a) := by
  blk_ext [iblk, idx1 t] <;> rfl
theorem in2 (t : Fin cfg0.N) (b : Fin 1024) : blk2 m d t (ix2 0 b) = (V m d main_v13 : Vec Ideal S1x1024 .f32) (ix2 0 b) := by
  blk_ext [iblk, idx2 t] <;> rfl
theorem in3 (t : Fin cfg0.N) (q : Fin 1408) (b : Fin 1024) :
    blk3 m d t (ix2 q b) = (V m d main_v14 : Vec Ideal S2816x1024 .bf16) (ix2 (col (hOf t) q) b) := by
  blk_ext [iblk, idx3 t] <;> rfl
theorem in4 (t : Fin cfg0.N) (p : Fin 2) (r : Fin 512) (q : Fin 1408) :
    blk4 m d t (ix3 p r q) = (V m d main_v11 : Vec Ideal S2x8192x2816 .bf16) (ix3 p (row (bOf t) r) (col (hOf t) q)) := by
  blk_ext [iblk, idx4 t] <;> rfl

/-! ## The values -/

/-- An entry of the scaled gradient. -/
def scaled (i : Fin 8192) (b : Fin 1024) : EReal := (half * gate m d (ix1 b)) * gr m d (ix2 i b)

/-- An entry of its product with the weight's transpose. -/
def prod (i : Fin 8192) (q : Fin 2816) : EReal := ∑ k : Fin 1024, scaled m d i k * wt m d (ix2 q k)

/-- A row's share of the gate's gradient. -/
def share (b : Fin 1024) (i : Fin 8192) : EReal := (half * gr m d (ix2 i b)) * yy m d (ix2 i b)

/-- An entry of the result: the product by the kept derivative. -/
def res (p : Fin 2) (i : Fin 8192) (q : Fin 2816) : EReal := prod m d i q * dd m d (ix3 p i q)

theorem sent_at (t : Fin cfg0.N) (r : Fin 512) (b : Fin 1024) : (sent m d t (ix2 r b) : EReal) = scaled m d (row (bOf t) r) b := by
  refine (pay1_at (blk0 m d t) (blk2 m d t) r b).trans ?_
  unfold scaled
  rw [in2, V_gate, row_at, in0, V_main_arg0]

theorem kept_at (t : Fin cfg0.N) (r : Fin 512) (b : Fin 1024) : (kept m d t (ix2 r b) : EReal) = scaled m d (row (bOf t) r) b :=
  (pay2_at (blk0 m d t) (blk2 m d t) r b).trans (sent_at m d t r b)

theorem prod_at (t : Fin cfg0.N) (r : Fin 512) (q : Fin 1408) :
    (k0_pay5 (kept m d t) (blk3 m d t) (ix2 r q) : EReal) = prod m d (row (bOf t) r) (col (hOf t) q) := by
  rw [pay5_at]
  refine Finset.sum_congr rfl fun k _ => ?_
  rw [kept_at, in3, V_wt]
  rfl

/-! ## The gate's gradient -/

/-- A block's share of the gate's gradient. -/
def blockShare (b : Fin 1024) (n : ℕ) : EReal := if h : n < 16 then ∑ r : Fin 512, share m d b (row ⟨n, h⟩ r) else 0

theorem block_at (t : Fin cfg0.N) (b : Fin 1024) : (k0_pay3 (blk0 m d t) (blk1 m d t) (ix2 0 b) : EReal) = blockShare m d b (t.val / 2) := by
  unfold blockShare
  rw [pay3_at, dif_pos (bOf t).isLt]
  refine Finset.sum_congr rfl fun r _ => ?_
  rw [in0, in1, V_main_arg0, V_yy]
  rfl

theorem acc_at (b : Fin 1024) : ∀ (n : ℕ) (h : n < cfg0.N), (accN m d n h (ix2 0 b) : EReal) = ∑ s ∈ Finset.range (n / 2 + 1), blockShare m d b s := by
  intro n
  induction n with
  | zero =>
    intro h
    refine (block_at m d ⟨0, h⟩ b).trans ?_
    rw [show 0 / 2 + 1 = 1 from rfl, Finset.sum_range_one]
    exact congrArg (blockShare m d b) (Nat.zero_div 2)
  | succ n ih =>
    intro h
    by_cases e : (n + 1) % 2 = 0
    · have hacc : accN m d (n + 1) h = k0_pay4 (blk0 m d ⟨n + 1, h⟩) (blk1 m d ⟨n + 1, h⟩) (accN m d n (Nat.lt_of_succ_lt h)) := if_pos e
      rw [hacc, pay4_at, ih, block_at, show (n + 1) / 2 + 1 = (n / 2 + 1) + 1 from by omega, Finset.sum_range_succ _ (n / 2 + 1)]
      rw [show n / 2 + 1 = (n + 1) / 2 from by omega]
    · have hacc : accN m d (n + 1) h = accN m d n (Nat.lt_of_succ_lt h) := if_neg e
      rw [hacc, ih, show (n + 1) / 2 = n / 2 from by omega]

/-- After the last point every row has given its share. -/
theorem total_at (t : Fin cfg0.N) (h : t.val / 2 = 15) (b : Fin 1024) : (acc m d t (ix2 0 b) : EReal) = ∑ i : Fin 8192, share m d b i := by
  refine (acc_at m d b t.val t.isLt).trans ?_
  rw [h, Cert.Math.sum_blocks 16 512 8192 rfl, Finset.sum_range]
  refine Finset.sum_congr rfl fun q _ => ?_
  unfold blockShare
  rw [dif_pos q.isLt]

/-! ## The two planes -/

theorem plane1_at (n : Vec Ideal S512x1024 .bf16) (u : Vec Ideal S1408x1024 .bf16) (v : Vec Ideal S2x512x1408 .bf16) (r : Fin 512) (q : Fin 1408) :
    grads n u v (ix3 1 r q) = k0_pay8 n u v (ix3 0 r q) := by
  unfold grads
  rw [show (ix3 1 r q : S2x512x1408.Idx) = plane1.emb (ix3 0 r q) from funext fun a => Fin.ext (by fin_cases a <;> simp [Rect.emb, Rect.unit])]
  exact View.canon_cons_emb _ _ _ _

theorem plane0_emb (r : Fin 512) (q : Fin 1408) : (ix3 0 r q : S2x512x1408.Idx) = plane0.emb (ix3 0 r q) :=
  funext fun a => Fin.ext (by fin_cases a <;> simp [Rect.emb, Rect.unit])

theorem plane0_not (r : Fin 512) (q : Fin 1408) : (ix3 0 r q : S2x512x1408.Idx) ∉ plane1.set :=
  Rect.not_mem_set_of_axis plane1 _ 0 1 1 rfl rfl rfl (Or.inl Nat.zero_lt_one)

/-- Off the last write, the earlier ones. -/
theorem miss (p : View.Piece (Elt Ideal) S2x512x1408 .bf16) (L : List (View.Piece (Elt Ideal) S2x512x1408 .bf16)) (y z : S2x512x1408.Idx)
    (e : y = z) (h : y ∉ p.1.set) : View.canon (p :: L) y = View.canon L z := by
  rw [View.canon_cons_of_not_mem p L h, e]

theorem planes_at (p0 p1 : Vec Ideal S1x512x1408 .bf16) (r : Fin 512) (q : Fin 1408) :
    View.canon ([⟨plane1, p1⟩, ⟨plane0, p0⟩] : List (View.Piece (Elt Ideal) S2x512x1408 .bf16)) (ix3 0 r q) = p0 (ix3 0 r q) := by
  rw [miss ⟨plane1, p1⟩ [⟨plane0, p0⟩] _ _ (plane0_emb r q) (plane0_not r q)]
  exact View.canon_cons_emb plane0 p0 [] (ix3 0 r q)

theorem plane0_at (n : Vec Ideal S512x1024 .bf16) (u : Vec Ideal S1408x1024 .bf16) (v : Vec Ideal S2x512x1408 .bf16) (r : Fin 512) (q : Fin 1408) :
    grads n u v (ix3 0 r q) = k0_pay7 n u v (ix3 0 r q) := by
  unfold grads
  exact planes_at (k0_pay7 n u v) (k0_pay8 n u v) r q

theorem grads_at (t : Fin cfg0.N) (p : Fin 2) (r : Fin 512) (q : Fin 1408) :
    (grads (kept m d t) (blk3 m d t) (blk4 m d t) (ix3 p r q) : EReal) = res m d p (row (bOf t) r) (col (hOf t) q) := by
  unfold res
  match p with
  | 0 => rw [plane0_at, pay7_at, prod_at, in4, V_dd]
  | 1 => rw [plane1_at, pay8_at, prod_at, in4, V_dd]

/-! ## The three arrays -/

def outG : FVec Ideal S8192x1024 .bf16 := fun i => scaled m d (i 0) (i 1)
def outW : FVec Ideal S1x1024 .f32 := fun i => ∑ k : Fin 8192, share m d (i 1) k
def outD : FVec Ideal S2x8192x2816 .bf16 := fun i => res m d (i 0) (i 1) (i 2)

theorem outG_at (i : Fin 8192) (b : Fin 1024) (y : S8192x1024.Idx) (h0 : (y 0).val = i.val) (h1 : (y 1).val = b.val) :
    (outG m d y : EReal) = scaled m d i b := by
  have e : y = ix2 i b := funext fun a => match a with
    | ⟨0, _⟩ => Fin.ext h0
    | ⟨1, _⟩ => Fin.ext h1
  rw [e]; rfl

theorem outW_at (b : Fin 1024) (y : S1x1024.Idx) (h1 : (y 1).val = b.val) : (outW m d y : EReal) = ∑ k : Fin 8192, share m d b k := by
  have e : y 1 = b := Fin.ext h1
  unfold outW
  rw [e]

theorem outD_at (p : Fin 2) (i : Fin 8192) (b : Fin 2816) (y : S2x8192x2816.Idx) (h0 : (y 0).val = p.val) (h1 : (y 1).val = i.val)
    (h2 : (y 2).val = b.val) : (outD m d y : EReal) = res m d p i b := by
  have e : y = ix3 p i b := funext fun a => match a with
    | ⟨0, _⟩ => Fin.ext h0
    | ⟨1, _⟩ => Fin.ext h1
    | ⟨2, _⟩ => Fin.ext h2
  rw [e]; rfl

theorem eta2 {a b : ℕ} (y : (⟨2, ![a, b]⟩ : Shape).Idx) : y = ix2 (y 0) (y 1) := by
  funext k
  fin_cases k <;> rfl

theorem eta3 {a b c : ℕ} (y : (⟨3, ![a, b, c]⟩ : Shape).Idx) : y = ix3 (y 0) (y 1) (y 2) := by
  funext k
  fin_cases k <;> rfl

theorem eta1 {b : ℕ} (y : (⟨2, ![1, b]⟩ : Shape).Idx) : y = ix2 0 (y 1) := by
  funext k
  match k with
  | ⟨0, _⟩ => exact Fin.ext (Nat.lt_one_iff.mp (y 0).isLt)
  | ⟨1, _⟩ => rfl

theorem final5 : (dats m 0 d).arrAt 5 cfg0.N = outG m d := by
  refine (dats m 0 d).arrAt_eq_of_covers 5 _ (by decide +kernel) fun t _ y => ?_
  blk_simp
  rw [after5]
  refine (congrArg (sent m d t) (eta2 y)).trans ((sent_at m d t (y 0) (y 1)).trans (outG_at m d (row (bOf t) (y 0)) (y 1) _ ?_ ?_).symm)
  · blk_simp [idx5 t]
  · blk_simp [idx5 t]

theorem final6 : (dats m 0 d).arrAt 6 cfg0.N = outW m d := by
  refine (dats m 0 d).arrAt_eq_of_covers 6 _ (by decide +kernel) fun t hf y => ?_
  have ht : t.val / 2 = 15 := by
    have h := (flush0_6 t).mp hf
    have hl := lt_of_lt_of_eq t.isLt N_0
    omega
  blk_simp
  rw [after6]
  refine (congrArg (acc m d t) (eta1 y)).trans ((total_at m d t ht (y 1)).trans (outW_at m d (y 1) _ ?_).symm)
  blk_simp [idx6 t]

theorem final7 : (dats m 0 d).arrAt 7 cfg0.N = outD m d := by
  refine (dats m 0 d).arrAt_eq_of_covers 7 _ (by decide +kernel) fun t _ y => ?_
  blk_simp
  rw [after7]
  refine (congrArg (grads (kept m d t) (blk3 m d t) (blk4 m d t)) (eta3 y)).trans ((grads_at m d t (y 0) (y 1) (y 2)).trans
    (outD_at m d (y 0) (row (bOf t) (y 1)) (col (hOf t) (y 2)) _ ?_ ?_ ?_).symm)
  · blk_simp [idx7 t]
  · blk_simp [idx7 t]
  · blk_simp [idx7 t]

end Cert.Kernel7Ideal.Bwd

end
-- ==== Proof.Values7.lean ====
module

public import proofs.«01_k».proof.Defs
public import proofs.«01_k».proof.Proof.Finite
public import proofs.«01_k».proof.Proof.Mm7
public import proofs.«01_k».proof.Proof.Gen.Kernel7.Frame

/-! # The gradient through the feed-forward's gate: the frames, and the same three arrays from kernel and reference -/

@[expose] public section

set_option maxRecDepth 16384

noncomputable section

namespace Cert.Gate

open Idealize.ShloMosaic
open Cert.Ffn (one Rl rl_one one_eq)
open scoped BigOperators

theorem half_word : half = ((1 / 2 : ℝ) : EReal) := by
  show Ideal.ofBits .f32 0x3F000000#32 = _
  simp [Ideal.ofBits, Ideal.ieee]
  rw [← EReal.coe_mul]
  norm_num

theorem rl_half : Rl half := ⟨_, half_word⟩

theorem rl_logistic {a : EReal} (ha : Rl a) : Rl (Ideal.logistic a) := by
  obtain ⟨x, rfl⟩ := ha
  exact ⟨_, Ideal.logistic_coe x⟩

/-- A real factor goes under a sum of real numbers. -/
theorem factor_sum {n : ℕ} {h : EReal} (hh : Rl h) (f : Fin n → EReal) (hf : ∀ i, Rl (f i)) : h * ∑ i, f i = ∑ i, h * f i := by
  obtain ⟨x, rfl⟩ := hh
  choose g hg using hf
  simp only [hg, ← EReal.coe_mul, ← Cert.Math.coe_sum, Finset.mul_sum]

/-- The gradient by the gate's input: with the kept derivative, and as the product rule writes it. -/
theorem grad_gate {p a b : EReal} (hp : Rl p) (ha : Rl a) (hb : Rl b) :
    p * ((one * b) * Ideal.logistic a + (a * (one * b)) * (Ideal.logistic a * (one - Ideal.logistic a)))
      = (p * b) * Ideal.logistic a + (a * (p * b)) * (Ideal.logistic a * (one - Ideal.logistic a)) := by
  obtain ⟨x, rfl⟩ := ha
  obtain ⟨y, rfl⟩ := hb
  obtain ⟨z, rfl⟩ := hp
  rw [one_eq, Ideal.logistic_coe, one_mul]
  generalize (1 + Real.exp (-x))⁻¹ = s
  rw [← EReal.coe_one]
  simp only [← EReal.coe_mul, ← EReal.coe_add, ← EReal.coe_sub]
  refine congrArg _ ?_
  rw [mul_add, ← mul_assoc z y s, ← mul_assoc z (x * y), mul_left_comm z x y]

/-- The gradient by the other input. -/
theorem grad_other (p s : EReal) : p * (s * one) = s * p := by
  rw [one_eq, mul_one, mul_comm]

end Cert.Gate

namespace Cert.Proof

open Idealize.ShloMosaic Idealize.ShloMosaic.TcCoe Idealize.SL.Sem
open scoped BigOperators

/-! ## The frames -/

section
attribute [local instance] Cert.Kernel7.Gen.facts
variable {F : FTy → Type} [FloatOps F]

/-- The two programs are one text. -/
theorem rows7 : Cert.Kernel7.defs₀ (F := F) = Cert.Kernel7Ideal.defs₀ (F := F) := by
  unfold Cert.Kernel7.defs₀ Cert.Kernel7Ideal.defs₀
  refine congrArg Defs.onTc ?_
  funext x y
  match x, y with
  | 0, (t, s) => rfl

theorem defs7 : Cert.Kernel7.defs (F := F) = Cert.Kernel7Ideal.defs (F := F) :=
  congrArg (Pipeline.defs Cert.Kernel7.pcfgs) rows7

theorem frame_kernel7 : Cert.quiescent_Kernel7 := fun m g _ => by
  have h := Cert.Kernel7Ideal.Bwd.frame (F := Bits) m g
  rw [← defs7] at h
  exact h
end

theorem frame_ideal7 : Cert.quiescent_Kernel7Ideal := fun m g _ => Cert.Kernel7Ideal.Bwd.frame (F := Ideal) m g

theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Gate.run m ρ)

/-! ## The values -/

/-- The precondition's side conditions. -/
theorem facts_finite7 : Cert.Pre_finite7.Facts := ⟨by decide, by decide, by decide, by decide⟩

section
open Cert.Kernel7Ideal Cert.Kernel7Ideal.Bwd Cert.Gate
open Cert.Ffn (one Rl refA refB refS refDa refDb refCat refPl refA_at refB_at refS_at refDa_at refDb_at refCat_left refCat_right refPl_at logistic_words)

variable {m : (ℓ : Loc Cert.Kernel7Ideal.nD Cert.Kernel7Ideal.τ Cert.Kernel7Ideal.sig) → Buf (Elt Ideal) ℓ}

section Real
variable (hp : Cert.Pre_Kernel7Ideal_finite7 (hPre_finite7 := facts_finite7) m) (c : Dev Cert.Kernel7Ideal.nD)
include hp

theorem rl_gr (i : Fin 8192) (b : Fin 1024) : Rl (gr m c (ix2 i b)) := ⟨_, real_of_fin _ _ (hp c).1 (ix2 i b)⟩
theorem rl_ab (i : Fin 8192) (q : Fin 5632) : Rl (ab m c (ix2 i q)) := ⟨_, real_of_fin _ _ (hp c).2.1 (ix2 i q)⟩
theorem rl_gate (b : Fin 1024) : Rl (gate m c (ix1 b)) := ⟨_, real_of_fin _ _ (hp c).2.2.1 (ix1 b)⟩
theorem rl_wt (q : Fin 2816) (b : Fin 1024) : Rl (wt m c (ix2 q b)) := ⟨_, real_of_fin _ _ (hp c).2.2.2 (ix2 q b)⟩

theorem rl_a (i : Fin 8192) (q : Fin 2816) : Rl (refA (ab m c) (ix2 i q)) := by
  rw [refA_at]; exact rl_ab hp c _ _
theorem rl_b (i : Fin 8192) (q : Fin 2816) : Rl (refB (ab m c) (ix2 i q)) := by
  rw [refB_at]; exact rl_ab hp c _ _

theorem rl_yy (i : Fin 8192) (b : Fin 1024) : Rl (yy m c (ix2 i b)) := by
  unfold yy
  rw [refY_at]
  refine Rl.sum _ _ fun q => Rl.mul ?_ (rl_wt hp c q b)
  rw [refT_at, refS_at, logistic_words]
  exact ((rl_a hp c i q).mul (rl_logistic (rl_a hp c i q))).mul (rl_b hp c i q)

theorem rl_prod7 (i : Fin 8192) (q : Fin 2816) : Rl (Bwd.prod m c i q) :=
  Rl.sum _ _ fun k => ((rl_half.mul (rl_gate hp c k)).mul (rl_gr hp c i k)).mul (rl_wt hp c q k)

/-- The gate's gradient, summed and then halved. -/
theorem gate_at (b : Fin 1024) : (refW (gr m c) (yy m c) (ix2 0 b) : EReal) = ∑ i : Fin 8192, share m c b i := by
  rw [refW_at, factor_sum rl_half _ fun i => (rl_gr hp c i b).mul (rl_yy hp c i b)]
  exact Finset.sum_congr rfl fun i _ => (mul_assoc _ _ _).symm

end Real

theorem prod_ref (c : Dev Cert.Kernel7Ideal.nD) (i : Fin 8192) (q : Fin 2816) : (refP (refG (gr m c) (gate m c)) (wt m c) (ix2 i q) : EReal) = Bwd.prod m c i q := by
  rw [refP_at]
  exact Finset.sum_congr rfl fun k _ => by rw [refG_at]; rfl

/-- The two halves of the result. -/
theorem res_at (hp : Cert.Pre_Kernel7Ideal_finite7 (hPre_finite7 := facts_finite7) m) (c : Dev Cert.Kernel7Ideal.nD) (p : Fin 2) (i : Fin 8192) (q : Fin 2816) :
    (refPl (refCat (gradA (refP (refG (gr m c) (gate m c)) (wt m c)) (ab m c)) (gradB (refP (refG (gr m c) (gate m c)) (wt m c)) (ab m c))) (ix3 p i q) : EReal)
      = res m c p i q := by
  unfold res dd
  rw [refPl_at, refPl_at]
  match p with
  | 0 =>
    rw [show (⟨(0 : Fin 2).val * 2816 + q.val, by omega⟩ : Fin 5632) = ⟨q.val, by omega⟩ from Fin.ext (by simp), refCat_left, refCat_left,
      gradA_at, refDa_at, prod_ref, refS_at, logistic_words]
    exact (grad_gate (rl_prod7 hp c i q) (rl_a hp c i q) (rl_b hp c i q)).symm
  | 1 =>
    rw [show (⟨(1 : Fin 2).val * 2816 + q.val, by omega⟩ : Fin 5632) = ⟨2816 + q.val, by omega⟩ from Fin.ext (by simp), refCat_right, refCat_right,
      gradB_at, refDb_at, prod_ref]
    exact (grad_other _ _).symm

end

/-- Kernel and reference leave the same three arrays. -/
theorem same7 : Cert.algebraic_Kernel7Ideal_Reference7Ideal_pre_finite7 (hPre_finite7 := facts_finite7) := by
  intro m ρ m' ρ' hp hagree
  refine ⟨fun c => Cert.Kernel7Ideal.Bwd.outG m c, fun c => Cert.Kernel7Ideal.Bwd.outW m c, fun c => Cert.Kernel7Ideal.Bwd.outD m c, ?_, ?_⟩
  · refine (θ_run Cert.Kernel7Ideal.defs _ _).mono (fun r h c => ?_)
      (θ_run_and (Cert.Kernel7Ideal.Bwd.run_main (F := Ideal) m ρ) (Cert.Kernel7Ideal.Bwd.frame m ρ))
    exact ⟨((h.1.1 c).1 5).trans (Cert.Kernel7Ideal.Bwd.final5 m c), ((h.1.1 c).1 6).trans (Cert.Kernel7Ideal.Bwd.final6 m c),
      ((h.1.1 c).1 7).trans (Cert.Kernel7Ideal.Bwd.final7 m c), h.2.1 c⟩
  · refine (θ_run Cert.Reference7Ideal.defs _ _).mono (fun _ h c => ?_) (Cert.Gate.run m' ρ')
    have h0 : Cert.Gate.rdh m' c = Cert.Kernel7Ideal.Bwd.gr m c := (hagree c).1
    have h1 : Cert.Gate.rab m' c = Cert.Kernel7Ideal.Bwd.ab m c := (hagree c).2.1
    have h2 : Cert.Gate.rgate m' c = Cert.Kernel7Ideal.Bwd.gate m c := (hagree c).2.2.1
    have h3 : Cert.Gate.rw2 m' c = Cert.Kernel7Ideal.Bwd.wt m c := (hagree c).2.2.2
    refine ⟨(h c).1.trans ?_, (h c).2.1.trans ?_, (h c).2.2.1.trans ?_, (h c).2.2.2⟩
    · rw [h0, h2]
      funext y
      rw [Cert.Kernel7Ideal.Bwd.eta2 y]
      exact Cert.Gate.refG_at _ _ (y 0) (y 1)
    · rw [h0, h1, h3]
      funext y
      rw [Cert.Kernel7Ideal.Bwd.eta1 y]
      exact gate_at hp c (y 1)
    · unfold Cert.Gate.rprod
      rw [h0, h1, h2, h3]
      funext y
      rw [Cert.Kernel7Ideal.Bwd.eta3 y]
      exact res_at hp c (y 0) (y 1) (y 2)

end Cert.Proof

end
-- ==== Proof.PointVal.lean ====
module

public import proofs.«01_k».proof.Proof.Steps
public import proofs.«01_k».proof.Proof.Rows
public import Idealize.ShloMosaic.Lib.Pointwise
public import Idealize.ShloMosaic.Lib.WordCmp
public import Idealize.ShloMosaic.PureOps.IdealRules

/-! # One point of the grid at the extended reals -/

@[expose] public section

set_option maxRecDepth 16384

noncomputable section

namespace Cert.KernelIdeal.Attn

open Cert.KernelIdeal.Gen Cert.Math
open Idealize.ShloMosaic
open scoped BigOperators

/-- Row `r` of key tile `j`. -/
abbrev krow (j : Fin 16) (r : Fin 512) : Fin 8192 := ⟨j.val * 512 + r.val, by omega⟩

/-- Row `c` of slab `n` of the queries. -/
abbrev qrow (n : Fin 8) (c : Fin 1024) : Fin 8192 := ⟨n.val * 1024 + c.val, by omega⟩

/-- What a point reads is head `h`'s tile `j` of the arguments, and the head's figures. -/
structure Good (x : Args) (h : Fin 16) (j : Fin 16) (b : Blk Ideal) : Prop where
  k : ∀ r c, (b.k (ix2 r c) : EReal) + b.pe (ix2 r c) = ((K x h (krow j r) c : ℝ) : EReal)
  v : ∀ r c, (b.v (ix2 r c) : EReal) = ((V x h (krow j r) c : ℝ) : EReal)
  q : ∀ i c, (b.q (ix2 i c) : EReal) = ((Q x h i c : ℝ) : EReal)
  g : ∀ i c, (b.g (ix2 i c) : EReal) = ((G x h i c : ℝ) : EReal)
  lse : ∀ n c, (b.lse (ix4 0 n 0 c) : EReal) = ((Real.log (tot x h (qrow n c)) / Real.log 2 : ℝ) : EReal)
  dl : ∀ n c, (b.dl (ix4 0 n 0 c) : EReal) = ((delta x h (qrow n c) : ℝ) : EReal)

variable {x : Args} {h j : Fin 16} {b : Blk Ideal} (hb : Good x h j b)

/-- What `pay9` and the masked step's `pay33` have in common: a scaled product less a figure, as a power of two. -/
theorem power (a L : ℝ) :
    (FloatOps.exp2 (F := Ideal) (φ := .f32) ((a : EReal) * (Named.named (F := Ideal) (φ := .f32) κ "c2" 0x3E16C740#32 : EReal) - ((L / Real.log 2 : ℝ) : EReal)) : EReal)
      = ((Real.exp (a * s0 - L) : ℝ) : EReal) := by
  have e : (Named.named (F := Ideal) (φ := .f32) κ "c2" 0x3E16C740#32 : EReal) = (((3424635 / 33554432) * (Real.log 2)⁻¹ : ℝ) : EReal) :=
    IdealRules.named_const.ideal_named_scalar _ _ _ _ rfl
  rw [e, ← EReal.coe_mul, ← EReal.coe_sub]
  show ((Real.rpow 2 _ : ℝ) : EReal) = _
  have l2 : Real.log 2 ≠ 0 := (Real.log_pos one_lt_two).ne'
  refine congrArg _ ((Real.rpow_def_of_pos two_pos _).trans (congrArg Real.exp ?_))
  unfold s0
  field_simp

include hb in
theorem score_val (n : Fin 8) (r : Fin 512) (c : Fin 1024) :
    (∑ d : Fin 128, ((b.k (ix2 r d) : EReal) + b.pe (ix2 r d)) * (b.q (ix2 (qrow n c) d) : EReal)) = ((raw x h (qrow n c) (krow j r) : ℝ) : EReal) := by
  rw [← raw_lanes, coe_sum]
  refine Finset.sum_congr rfl fun d _ => ?_
  rw [hb.k, hb.q, ← EReal.coe_mul]

include hb in
theorem pay9_val (n : Fin 8) (r : Fin 512) (c : Fin 1024) :
    (k0_pay9 (F := Ideal) (k0_pay25 b.k b.pe) (rows b.q n) (stat b.lse n) (ix2 r c) : EReal)
      = ((Real.exp (raw x h (qrow n c) (krow j r) * s0 - Real.log (tot x h (qrow n c))) : ℝ) : EReal) := by
  pointwise [k0_pay9, k0_pay25, k0_pay7, rows, stat]
  refine Eq.trans ?_ (power _ _)
  refine congrArg (FloatOps.exp2 (F := Ideal) (φ := .f32)) (congrArg₂ (fun u w : EReal => u - w) ?_ (hb.lse n c))
  exact congrArg (fun u : EReal => u * _) (score_val hb n r c)

theorem mask_word (n : Fin 8) (hn : n.val = j.val / 2) (r : Fin 512) (c : Fin 1024) (u w : EReal) :
    Scalar.select (IntOp.cmpi .sle (IntOp.addi (BitVec.ofNat 32 r.val) (Scalar.muli (Scalar.select
      (Scalar.andi (Scalar.xori (Scalar.cmpi .slt (Scalar.remsi (BitVec.ofNat 32 j.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 j.val) (Scalar.select (Scalar.cmpi .eq 2#32 0#32) 1#32 2#32)) 0#32))
      (Scalar.addi (Scalar.remsi (BitVec.ofNat 32 j.val) (Scalar.select (Scalar.cmpi .eq 2#32 0#32) 1#32 2#32)) (Scalar.select (Scalar.cmpi .eq 2#32 0#32) 1#32 2#32))
      (Scalar.remsi (BitVec.ofNat 32 j.val) (Scalar.select (Scalar.cmpi .eq 2#32 0#32) 1#32 2#32))) 512#32)) (BitVec.ofNat 32 c.val)) u w
      = if (krow j r).val ≤ (qrow n c).val then u else w := by
  have e : ∀ j : Fin 16, Scalar.muli (Scalar.select
      (Scalar.andi (Scalar.xori (Scalar.cmpi .slt (Scalar.remsi (BitVec.ofNat 32 j.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 j.val) (Scalar.select (Scalar.cmpi .eq 2#32 0#32) 1#32 2#32)) 0#32))
      (Scalar.addi (Scalar.remsi (BitVec.ofNat 32 j.val) (Scalar.select (Scalar.cmpi .eq 2#32 0#32) 1#32 2#32)) (Scalar.select (Scalar.cmpi .eq 2#32 0#32) 1#32 2#32))
      (Scalar.remsi (BitVec.ofNat 32 j.val) (Scalar.select (Scalar.cmpi .eq 2#32 0#32) 1#32 2#32))) 512#32 = BitVec.ofNat 32 (j.val % 2 * 512) := by decide
  rw [e j]
  have hr := r.isLt
  have hc := c.isLt
  have hj := j.isLt
  have ea : IntOp.addi (BitVec.ofNat 32 r.val) (BitVec.ofNat 32 (j.val % 2 * 512)) = BitVec.ofNat 32 (r.val + j.val % 2 * 512) :=
    (BitVec.ofNat_add _ _).symm
  have e2 : ((krow j r).val ≤ (qrow n c).val) = (r.val + j.val % 2 * 512 ≤ c.val) := propext (by
    show j.val * 512 + r.val ≤ n.val * 1024 + c.val ↔ _
    omega)
  rw [ea, WordCmp.cmpi_sle_ofNat (by omega) (by omega)]
  simp only [e2]
  by_cases hk : r.val + j.val % 2 * 512 ≤ c.val
  · rw [if_pos hk, decide_eq_true hk]
    rfl
  · rw [if_neg hk, decide_eq_false hk]
    rfl

include hb in
theorem pay33_val (n : Fin 8) (hn : n.val = j.val / 2) (r : Fin 512) (c : Fin 1024) :
    (k0_pay33 (F := Ideal) (BitVec.ofNat 32 j.val) (k0_pay25 b.k b.pe) (rows b.q n) (stat b.lse n) (ix2 r c) : EReal)
      = ((prob x h (qrow n c) (krow j r) : ℝ) : EReal) := by
  pointwise [k0_pay33, k0_pay25, k0_pay31, rows, stat]
  rw [mask_word n hn r c]
  by_cases hk : (krow j r).val ≤ (qrow n c).val
  · rw [if_pos hk, ← prob_exp x h hk]
    refine Eq.trans ?_ (power _ _)
    refine congrArg (FloatOps.exp2 (F := Ideal) (φ := .f32)) (congrArg₂ (fun u w : EReal => u - w) ?_ (hb.lse n c))
    exact congrArg (fun u : EReal => u * _) (score_val hb n r c)
  · rw [if_neg hk, prob_later x h hk]
    have e : (Named.named (F := Ideal) (φ := .f32) κ "mask" 0xFF7FFFFF#32 : EReal) = ⊥ :=
      IdealRules.named_const.ideal_named_scalar _ _ _ _ rfl
    rw [e]
    refine (congrArg (fun w : EReal => Ideal.exp2 (⊥ - w)) (hb.lse n c)).trans ?_
    rw [sub_eq_add_neg, EReal.bot_add]
    rfl

/-- A step's probabilities. -/
def IsProb (x : Args) (h j : Fin 16) (n : Fin 8) (p : FVec Ideal S512x1024 .f32) : Prop :=
  ∀ r c, (p (ix2 r c) : EReal) = ((prob x h (qrow n c) (krow j r) : ℝ) : EReal)

include hb in
theorem ds_val (n : Fin 8) (p : FVec Ideal S512x1024 .f32) (hp : IsProb x h j n p) (r : Fin 512) (c : Fin 1024) :
    (k0_pay36 (F := Ideal) (k0_pay27 b.v) (k0_pay32 (rows b.g n)) p (stat b.dl n) (ix2 r c) : EReal)
      = ((dsc x h (qrow n c) (krow j r) : ℝ) : EReal) := by
  pointwise [k0_pay36, k0_pay27, k0_pay32, rows, stat]
  rw [s0_word]
  have e : (∑ d : Fin 128, (b.v (ix2 r d) : EReal) * (b.g (ix2 (qrow n c) d) : EReal)) = ((dprob x h (qrow n c) (krow j r) : ℝ) : EReal) := by
    rw [← dprob_lanes, coe_sum]
    refine Finset.sum_congr rfl fun d _ => ?_
    rw [hb.v, hb.g, ← EReal.coe_mul]
  refine (congrArg (fun u : EReal => u * (s0 : EReal)) (congrArg₂ (fun u w : EReal => u * w) (hp r c) (congrArg₂ (fun u w : EReal => u - w) e (hb.dl n c)))).trans ?_
  rw [← EReal.coe_sub, ← EReal.coe_mul, ← EReal.coe_mul]
  rfl

theorem dv_val (p : FVec Ideal S512x1024 .bf16) (g : FVec Ideal S1024x128 .bf16) (acc : FVec Ideal S512x128 .f32) (r : Fin 512) (c : Fin 128) :
    (k0_pay35 (F := Ideal) g acc p (constant S512x128 .f32 0x00000000#32) (ix2 r c) : EReal) = acc (ix2 r c) + ∑ q, p (ix2 r q) * g (ix2 q c) := by
  pointwise [k0_pay35]

theorem dk_val (v : FVec Ideal S512x128 .bf16) (q g : FVec Ideal S1024x128 .bf16) (p : FVec Ideal S512x1024 .f32) (dl : FVec Ideal S1x1x1x1024 .f32) (acc : FVec Ideal S512x128 .f32) (r : Fin 512) (c : Fin 128) :
    (k0_pay37 (F := Ideal) v q g p dl acc (ix2 r c) : EReal) = acc (ix2 r c) + ∑ i, k0_pay36 v g p dl (ix2 r i) * q (ix2 i c) := by
  pointwise [k0_pay37]

theorem dq_val (k : FVec Ideal S128x512 .bf16) (v : FVec Ideal S512x128 .bf16) (g : FVec Ideal S1024x128 .bf16) (p : FVec Ideal S512x1024 .f32) (dl : FVec Ideal S1x1x1x1024 .f32) (acc : FVec Ideal S1x128x1024 .f32) (c : Fin 128) (i : Fin 1024) :
    (k0_pay38 (F := Ideal) k v g p dl acc (ix3 0 c i) : EReal) = acc (ix3 0 c i) + ∑ r, k (ix2 c r) * k0_pay36 v g p dl (ix2 r i) := by
  pointwise [k0_pay38]

theorem kT_val (r : Fin 512) (c : Fin 128) : (k0_pay26 (F := Ideal) b.k b.pe (ix2 c r) : EReal) = b.k (ix2 r c) + b.pe (ix2 r c) := by
  pointwise [k0_pay26, k0_pay25]

/-- The running arrays hold these reals. -/
structure Is (s : St Ideal) (dk dv : Fin 512 → Fin 128 → ℝ) (dq : Fin 8 → Fin 128 → Fin 1024 → ℝ) : Prop where
  dk : ∀ r c, (s.dk (ix2 r c) : EReal) = ((dk r c : ℝ) : EReal)
  dv : ∀ r c, (s.dv (ix2 r c) : EReal) = ((dv r c : ℝ) : EReal)
  dq : ∀ n c i, (s.dq (ix3 n c i) : EReal) = ((dq n c i : ℝ) : EReal)

/-- A step on slab `n` with probabilities `p`. -/
def stepP (b : Blk Ideal) (n : Fin 8) (p : FVec Ideal S512x1024 .f32) (s : St Ideal) : St Ideal where
  dk := k0_pay37 (k0_pay27 b.v) (k0_pay31 (rows b.q n)) (k0_pay32 (rows b.g n)) p (stat b.dl n) s.dk
  dv := k0_pay35 (k0_pay32 (rows b.g n)) s.dv (truncf .bf16 p bitsLt_bf16_f32) (constant S512x128 .f32 0x00000000#32)
  dq := putSlab s.dq n (k0_pay38 (k0_pay26 b.k b.pe) (k0_pay27 b.v) (k0_pay32 (rows b.g n)) p (stat b.dl n) (slab s.dq n))

theorem stepU_eq (n : Fin 8) (s : St Ideal) :
    stepU b n s = stepP b n (k0_pay9 (F := Ideal) (k0_pay25 b.k b.pe) (rows b.q n) (stat b.lse n)) s := rfl

theorem stepM_eq (n : Fin 8) (s : St Ideal) :
    stepM j.val b n s = stepP b n (k0_pay33 (F := Ideal) (BitVec.ofNat 32 j.val) (k0_pay25 b.k b.pe) (rows b.q n) (stat b.lse n)) s := rfl

include hb in
/-- One step adds the slab's share to each gradient. -/
theorem stepP_val (n : Fin 8) (p : FVec Ideal S512x1024 .f32) (hp : IsProb x h j n p) {s : St Ideal} {dk dv dq} (hs : Is s dk dv dq) :
    Is (stepP b n p s)
      (fun r c => dk r c + ∑ i, dsc x h (qrow n i) (krow j r) * Q x h (qrow n i) c)
      (fun r c => dv r c + ∑ i, prob x h (qrow n i) (krow j r) * G x h (qrow n i) c)
      (fun m c i => if m = n then dq m c i + ∑ r, K x h (krow j r) c * dsc x h (qrow n i) (krow j r) else dq m c i) := by
  have hq : ∀ i c, (k0_pay31 (rows b.q n) (ix2 i c) : EReal) = ((Q x h (qrow n i) c : ℝ) : EReal) := fun i c => by
    pointwise [k0_pay31, rows]
    exact hb.q _ _
  have hg : ∀ i c, (k0_pay32 (rows b.g n) (ix2 i c) : EReal) = ((G x h (qrow n i) c : ℝ) : EReal) := fun i c => by
    pointwise [k0_pay32, rows]
    exact hb.g _ _
  refine ⟨fun r c => ?_, fun r c => ?_, fun m c i => ?_⟩
  · refine (dk_val _ _ _ _ _ _ r c).trans ?_
    rw [hs.dk, EReal.coe_add, coe_sum]
    refine congrArg _ (Finset.sum_congr rfl fun i _ => ?_)
    rw [ds_val hb n p hp, hq, ← EReal.coe_mul]
  · refine (dv_val _ _ _ r c).trans ?_
    rw [hs.dv, EReal.coe_add, coe_sum]
    refine congrArg _ (Finset.sum_congr rfl fun i _ => ?_)
    rw [hg, EReal.coe_mul]
    exact congrArg (fun u : EReal => u * _) (hp r i)
  · show (putSlab s.dq n _ (ix3 m c i) : EReal) = _
    unfold putSlab
    by_cases hm : m = n
    · subst hm
      rw [if_pos rfl]
      refine (if_pos rfl).trans ((dq_val _ _ _ _ _ _ c i).trans ?_)
      rw [EReal.coe_add, coe_sum]
      refine congrArg₂ (fun u w : EReal => u + w) (hs.dq m c i) (Finset.sum_congr rfl fun r _ => ?_)
      rw [ds_val hb m p hp, kT_val, hb.k, ← EReal.coe_mul]
    · rw [if_neg hm]
      exact (if_neg (fun e => hm (Fin.ext e))).trans (hs.dq m c i)

/-- The key gradient's share of the slabs `j/2 … j/2 + k`. -/
def upTo (f : Fin 8 → ℝ) (a k : ℕ) : ℝ := ∑ i ∈ Finset.range (k + 1), f (Fin.ofNat 8 (a + i))

include hb in
theorem steps_val {D : Vec Ideal S8x128x1024 .f32} {d : Fin 8 → Fin 128 → Fin 1024 → ℝ}
    (hD : ∀ n c i, (D (ix3 n c i) : EReal) = ((d n c i : ℝ) : EReal)) (k : ℕ) (hk : j.val / 2 + k ≤ 7) :
    Is (stepsFrom j.val b (stepM j.val b (slabAt j.val 0) ⟨k0_pay29 (F := Ideal), k0_pay30 (F := Ideal), D⟩) k)
      (fun r c => upTo (fun n => ∑ i, dsc x h (qrow n i) (krow j r) * Q x h (qrow n i) c) (j.val / 2) k)
      (fun r c => upTo (fun n => ∑ i, prob x h (qrow n i) (krow j r) * G x h (qrow n i) c) (j.val / 2) k)
      (fun m c i => if j.val / 2 ≤ m.val ∧ m.val ≤ j.val / 2 + k then d m c i + ∑ r, K x h (krow j r) c * dsc x h (qrow m i) (krow j r) else d m c i) := by
  have hj := j.isLt
  induction k with
  | zero =>
    have h0 : Is (⟨k0_pay29 (F := Ideal), k0_pay30 (F := Ideal), D⟩ : St Ideal) (fun _ _ => 0) (fun _ _ => 0) d := by
      refine ⟨fun r c => ?_, fun r c => ?_, hD⟩
      · pointwise [k0_pay29]
        rfl
      · pointwise [k0_pay30]
        rfl
    have e0 : (slabAt j.val 0).val = j.val / 2 := by
      show (j.val / 2 + 0) % 8 = _
      omega
    have := stepP_val hb (slabAt j.val 0) _ (fun r c => pay33_val hb (slabAt j.val 0) e0 r c) h0
    rw [← stepM_eq] at this
    refine ⟨fun r c => (this.dk r c).trans ?_, fun r c => (this.dv r c).trans ?_, fun m c i => (this.dq m c i).trans ?_⟩
    · simp [upTo]
    · simp [upTo]
    · have : (m = slabAt j.val 0) ↔ (j.val / 2 ≤ m.val ∧ m.val ≤ j.val / 2 + 0) := by
        rw [Fin.ext_iff, e0]
        omega
      by_cases hm : m = slabAt j.val 0
      · rw [if_pos hm, if_pos (this.mp hm), ← hm]
      · rw [if_neg hm, if_neg (fun e => hm (this.mpr e))]
  | succ k ih =>
    have e0 : (slabAt j.val (1 + k)).val = j.val / 2 + (k + 1) := by
      show (j.val / 2 + (1 + k)) % 8 = _
      omega
    have hp : IsProb x h j (slabAt j.val (1 + k)) (k0_pay9 (F := Ideal) (k0_pay25 b.k b.pe) (rows b.q (slabAt j.val (1 + k))) (stat b.lse (slabAt j.val (1 + k)))) := fun r c => by
      rw [pay9_val hb, prob_exp]
      show j.val * 512 + r.val ≤ (slabAt j.val (1 + k)).val * 1024 + c.val
      rw [e0]
      omega
    have := stepP_val hb (slabAt j.val (1 + k)) _ hp (ih (by omega))
    rw [← stepU_eq] at this
    have hs : slabAt j.val (1 + k) = Fin.ofNat 8 (j.val / 2 + (k + 1)) := by rw [Nat.add_comm 1 k]
    refine ⟨fun r c => (this.dk r c).trans ?_, fun r c => (this.dv r c).trans ?_, fun m c i => (this.dq m c i).trans ?_⟩
    · unfold upTo
      rw [Finset.sum_range_succ _ (k + 1), hs]
    · unfold upTo
      rw [Finset.sum_range_succ _ (k + 1), hs]
    · by_cases hm : m = slabAt j.val (1 + k)
      · have hv : m.val = j.val / 2 + (k + 1) := by rw [hm, e0]
        rw [if_pos hm, if_neg (by omega), if_pos (by omega), ← hm]
      · have hv : m.val ≠ j.val / 2 + (k + 1) := fun e => hm (Fin.ext (e.trans e0.symm))
        rw [if_neg hm]
        by_cases hq : j.val / 2 ≤ m.val ∧ m.val ≤ j.val / 2 + k
        · rw [if_pos hq, if_pos (by omega)]
        · rw [if_neg hq, if_neg (by omega)]

/-- A sum over the rows is a sum over slabs and their rows. -/
theorem sum_rows (f : Fin 8192 → ℝ) : ∑ q, f q = ∑ n : Fin 8, ∑ i : Fin 1024, f (qrow n i) := by
  rw [← Fintype.sum_prod_type', ← (finProdFinEquiv (m := 8) (n := 1024)).sum_comp]
  refine Finset.sum_congr rfl fun p _ => congrArg f (Fin.ext ?_)
  show p.2.val + 1024 * p.1.val = p.1.val * 1024 + p.2.val
  ring

/-- Slabs before the tile's give nothing, so the later slabs make the whole sum. -/
theorem upTo_all (f : Fin 8 → ℝ) (a : ℕ) (ha : a ≤ 7) (hz : ∀ n : Fin 8, n.val < a → f n = 0) : upTo f a (7 - a) = ∑ n, f n := by
  unfold upTo
  rw [Finset.sum_range fun i => f (Fin.ofNat 8 (a + i))]
  have e : ∀ k, k < 8 → (Fin.ofNat 8 k).val = k := fun k hk => Nat.mod_eq_of_lt hk
  rw [← Finset.sum_subset (Finset.subset_univ (Finset.univ.image fun i : Fin (7 - a + 1) => Fin.ofNat 8 (a + i.val)))]
  · rw [Finset.sum_image]
    intro p _ q _ hpq
    have h1 := congrArg Fin.val hpq
    rw [e _ (by omega), e _ (by omega)] at h1
    exact Fin.ext (by omega)
  · intro n _ hn
    refine hz n (Nat.lt_of_not_le fun hle => hn (Finset.mem_image.mpr ⟨⟨n.val - a, by omega⟩, Finset.mem_univ _, Fin.ext ?_⟩))
    rw [e _ (by show a + (n.val - a) < 8; omega)]
    show a + (n.val - a) = n.val
    omega

include hb in
/-- What a point leaves: the tile's gradients of keys and values, and its share of the queries'. -/
theorem point_val {D : Vec Ideal S8x128x1024 .f32} {d : Fin 8 → Fin 128 → Fin 1024 → ℝ}
    (hD : ∀ n c i, (D (ix3 n c i) : EReal) = ((d n c i : ℝ) : EReal)) :
    Is (point j.val b D) (fun r c => dK x h (krow j r) c) (fun r c => dV x h (krow j r) c)
      (fun m c i => d m c i + ∑ r, dsc x h (qrow m i) (krow j r) * K x h (krow j r) c) := by
  have hj := j.isLt
  have := steps_val hb hD (7 - j.val / 2) (by omega)
  have early : ∀ (n : Fin 8) (i : Fin 1024) (r : Fin 512), n.val < j.val / 2 → ¬ (krow j r).val ≤ (qrow n i).val := fun n i r hn => by
    show ¬ j.val * 512 + r.val ≤ n.val * 1024 + i.val
    omega
  refine ⟨fun r c => (this.dk r c).trans (congrArg _ ?_), fun r c => (this.dv r c).trans (congrArg _ ?_), fun m c i => (this.dq m c i).trans (congrArg _ ?_)⟩
  · rw [upTo_all _ _ (by omega)]
    · exact (sum_rows fun q => dsc x h q (krow j r) * Q x h q c).symm
    · exact fun n hn => Finset.sum_eq_zero fun i _ => by rw [dsc_later x h (early n i r hn), zero_mul]
  · rw [upTo_all _ _ (by omega)]
    · exact (sum_rows fun q => prob x h q (krow j r) * G x h q c).symm
    · exact fun n hn => Finset.sum_eq_zero fun i _ => by rw [prob_later x h (early n i r hn), zero_mul]
  · by_cases hm : j.val / 2 ≤ m.val ∧ m.val ≤ j.val / 2 + (7 - j.val / 2)
    · rw [if_pos hm]
      exact congrArg _ (Finset.sum_congr rfl fun r _ => mul_comm _ _)
    · have hm' := m.isLt
      rw [if_neg hm, Finset.sum_eq_zero, add_zero]
      exact fun r _ => by rw [dsc_later x h (early m i r (by omega)), zero_mul]

end Cert.KernelIdeal.Attn

end
-- ==== Proof.HeadVal.lean ====
module

public import proofs.«01_k».proof.Proof.Track
public import proofs.«01_k».proof.Proof.PointVal
public import Idealize.ShloMosaic.Lib.Pipeline.ValueKit

/-! # The three result arrays at the extended reals -/

@[expose] public section

set_option maxRecDepth 16384

noncomputable section

namespace Cert.KernelIdeal.Attn

open Cert.KernelIdeal.Gen Cert.Math
open Idealize.ShloMosaic Idealize.ShloMosaic.TcCoe
open Idealize.ShloMosaic.Pipeline (Dat)
open scoped BigOperators

variable (m : (ℓ : Loc nD τ sig) → Buf (Elt Ideal) ℓ)

theorem lt_N (t : Fin cfg0.N) : t.val < 256 := lt_of_lt_of_eq t.isLt N_0

/-- A point's head. -/
def headOf (t : Fin cfg0.N) : Fin 16 := ⟨t.val / 16, by have := lt_N t; omega⟩

/-- A point's key tile. -/
def tileOf (t : Fin cfg0.N) : Fin 16 := ⟨t.val % 16, by omega⟩

/-- The query gradient's share of key tile `j`. -/
def share (x : Args) (h : Fin 16) (n : Fin 8) (c : Fin 128) (i : Fin 1024) (j : ℕ) : ℝ :=
  ∑ r, dsc x h (qrow n i) (krow (Fin.ofNat 16 j) r) * K x h (krow (Fin.ofNat 16 j) r) c

/-- What point `t` leaves. -/
def After (x : Args) (t : Fin cfg0.N) (s : St Ideal) : Prop :=
  Is s (fun r c => dK x (headOf t) (krow (tileOf t) r) c) (fun r c => dV x (headOf t) (krow (tileOf t) r) c)
    (fun n c i => ∑ j ∈ Finset.range (t.val % 16 + 1), share x (headOf t) n c i j)

variable {x : Args} {d : Dev nD} (hg : ∀ t, Good x (headOf t) (tileOf t) (blkAt m d t))

include hg in
theorem out_val : ∀ (n : ℕ) (hn : n < cfg0.N), After x ⟨n, hn⟩ (outAt m d ⟨n, hn⟩) := by
  have step : ∀ (t : Fin cfg0.N) (D : Vec Ideal S8x128x1024 .f32) (f : ℕ → ℝ),
      (∀ n c i, ((start (grid0.coords t) D) (ix3 n c i) : EReal) = ((∑ j ∈ Finset.range (t.val % 16), share x (headOf t) n c i j : ℝ) : EReal)) →
      After x t (point (grid0.coords t 1).val (blkAt m d t) (start (grid0.coords t) D)) := fun t D f hD => by
    rw [coord1]
    have := point_val (hg t) hD
    refine ⟨this.dk, this.dv, fun n c i => (this.dq n c i).trans (congrArg _ ?_)⟩
    rw [Finset.sum_range_succ]
    refine congrArg _ ?_
    have e : tileOf t = Fin.ofNat 16 (t.val % 16) := Fin.ext (Nat.mod_mod _ _).symm
    unfold share
    rw [← e]
  intro n
  induction n with
  | zero =>
    intro hn
    refine step ⟨0, hn⟩ _ (fun _ => 0) fun n c i => ?_
    have e : start (grid0.coords ⟨0, hn⟩) (dqAt m d 0 (Nat.le_of_lt hn)) = k0_pay28 (F := Ideal) := by
      unfold start
      split <;> rfl
    refine (congrFun e _).trans ?_
    pointwise [k0_pay28]
    rfl
  | succ n ih =>
    intro hn
    refine step ⟨n + 1, hn⟩ _ (fun _ => 0) fun q c i => ?_
    unfold start
    by_cases h0 : (n + 1) % 16 = 0
    · rw [if_pos ((coord1 _).trans h0)]
      have e : ∑ j ∈ Finset.range ((n + 1) % 16), share x (headOf ⟨n + 1, hn⟩) q c i j = 0 := by rw [h0]; rfl
      refine Eq.trans ?_ (congrArg _ e.symm)
      pointwise [k0_pay28]
      rfl
    · rw [if_neg (fun e => h0 ((coord1 _).symm.trans e))]
      refine ((ih (Nat.lt_of_succ_lt hn)).dq q c i).trans (congrArg _ ?_)
      have e1 : headOf ⟨n, Nat.lt_of_succ_lt hn⟩ = headOf ⟨n + 1, hn⟩ := Fin.ext (by show n / 16 = (n + 1) / 16; omega)
      have e2 : n % 16 + 1 = (n + 1) % 16 := by omega
      show ∑ j ∈ Finset.range (n % 16 + 1), _ = _
      rw [e1, e2]

/-- A sum over the rows is a sum over key tiles and their rows. -/
theorem sum_tiles (f : Fin 8192 → ℝ) : ∑ q, f q = ∑ n : Fin 16, ∑ i : Fin 512, f (krow n i) := by
  rw [← Fintype.sum_prod_type', ← (finProdFinEquiv (m := 16) (n := 512)).sum_comp]
  refine Finset.sum_congr rfl fun p _ => congrArg f (Fin.ext ?_)
  show p.2.val + 512 * p.1.val = p.1.val * 512 + p.2.val
  ring

theorem share_all (h : Fin 16) (n : Fin 8) (c : Fin 128) (i : Fin 1024) :
    ∑ j ∈ Finset.range 16, share x h n c i j = dQ x h (qrow n i) c := by
  unfold dQ
  rw [sum_tiles, Finset.sum_range]
  refine Finset.sum_congr rfl fun j _ => ?_
  have e : Fin.ofNat 16 j.val = j := Fin.ext (Nat.mod_eq_of_lt j.isLt)
  unfold share
  rw [e]

/-- A result array: head `i₁ / 128` of the gradient `g`, at row `i₀` and lane `i₁ % 128`. -/
def spread (g : Fin 16 → Fin 8192 → Fin 128 → ℝ) : FVec Ideal S8192x2048 .f32 := fun i =>
  ((g ⟨(i 1).val / 128, by have : (i 1).val < 2048 := (i 1).isLt; omega⟩ (i 0) ⟨(i 1).val % 128, Nat.mod_lt _ (by omega)⟩ : ℝ) : EReal)

theorem idx : ∀ t : Fin cfg0.N, win0_7.index t = ![0, t.val / 16] ∧ win0_8.index t = ![t.val % 16, t.val / 16] ∧ win0_9.index t = ![t.val % 16, t.val / 16] :=
  (by decide +kernel : ∀ t : Fin grid0.N, _)

theorem spread_at (g : Fin 16 → Fin 8192 → Fin 128 → ℝ) (h : Fin 16) (r : Fin 8192) (c : Fin 128) (i : S8192x2048.Idx)
    (h0 : (i 0).val = r.val) (h1 : (i 1).val = h.val * 128 + c.val) : (spread g i : EReal) = ((g h r c : ℝ) : EReal) := by
  have e0 : i 0 = r := Fin.ext h0
  unfold spread
  refine congrArg _ ?_
  rw [e0]
  have e1 : ∀ p, (⟨(i 1).val / 128, p⟩ : Fin 16) = h := fun p => Fin.ext (by show (i 1).val / 128 = h.val; omega)
  have e2 : ∀ p, (⟨(i 1).val % 128, p⟩ : Fin 128) = c := fun p => Fin.ext (by show (i 1).val % 128 = c.val; omega)
  rw [e1, e2]

theorem ix2_eta {a b : ℕ} (y : (⟨2, ![a, b]⟩ : Shape).Idx) : y = ix2 (y 0) (y 1) := by
  funext k
  fin_cases k <;> rfl

include hg in
theorem final8 : (dats m 0 d).arrAt 8 cfg0.N = spread (dK x) := by
  refine (dats m 0 d).arrAt_eq_of_covers 8 _ (by decide +kernel) fun t _ y => ?_
  blk_simp
  rw [after8]
  have h1 : (y 1).val < 128 := (y 1).isLt
  refine (congrArg (outAt m d t).dk (ix2_eta y)).trans (((out_val m hg t.val t.isLt).dk (y 0) (y 1)).trans
    (spread_at (dK x) (headOf t) (krow (tileOf t) (y 0)) (y 1) _ ?_ ?_).symm)
  · blk_simp [idx t]
    rfl
  · blk_simp [idx t]
    rfl

include hg in
theorem final9 : (dats m 0 d).arrAt 9 cfg0.N = spread (dV x) := by
  refine (dats m 0 d).arrAt_eq_of_covers 9 _ (by decide +kernel) fun t _ y => ?_
  blk_simp
  rw [after9]
  have h1 : (y 1).val < 128 := (y 1).isLt
  refine (congrArg (outAt m d t).dv (ix2_eta y)).trans (((out_val m hg t.val t.isLt).dv (y 0) (y 1)).trans
    (spread_at (dV x) (headOf t) (krow (tileOf t) (y 0)) (y 1) _ ?_ ?_).symm)
  · blk_simp [idx t]
    rfl
  · blk_simp [idx t]
    rfl

include hg in
theorem final7 : (dats m 0 d).arrAt 7 cfg0.N = spread (dQ x) := by
  refine (dats m 0 d).arrAt_eq_of_covers 7 _ (by decide +kernel) fun t hf y => ?_
  blk_simp
  rw [after7]
  have hl : t.val % 16 = 15 := (flush0_7 t).mp hf
  have h0 : (y 0).val < 8192 := (y 0).isLt
  have h1 : (y 1).val < 128 := (y 1).isLt
  have hd : ∀ (n : Fin 8) (c : Fin 128) (i : Fin 1024), ((outAt m d t).dq (ix3 n c i) : EReal) = ((dQ x (headOf t) (qrow n i) c : ℝ) : EReal) := fun n c i => by
    have := (out_val m hg t.val t.isLt).dq n c i
    rw [hl] at this
    rw [← share_all]
    exact this
  have e : qrow ⟨(y 0).val / 1024, by omega⟩ ⟨(y 0).val % 1024, Nat.mod_lt _ (by omega)⟩ = y 0 :=
    Fin.ext (by show (y 0).val / 1024 * 1024 + (y 0).val % 1024 = (y 0).val; omega)
  refine (hd ⟨(y 0).val / 1024, by omega⟩ (y 1) ⟨(y 0).val % 1024, Nat.mod_lt _ (by omega)⟩).trans ?_
  refine (congrArg (fun r => ((dQ x (headOf t) r (y 1) : ℝ) : EReal)) e).trans ?_
  refine (spread_at (dQ x) (headOf t) (y 0) (y 1) _ ?_ ?_).symm
  · blk_simp [idx t]
  · blk_simp [idx t]
    rfl

end Cert.KernelIdeal.Attn

end
-- ==== Proof.HostVal.lean ====
module

public import proofs.«01_k».proof.Proof.HeadVal
public import Idealize.ShloMosaic.Lib.Pipeline.ValueKit

/-! # What the host prepares for the kernel

The scores, their row figures and the padded arrays, each named as a function of the arguments, and their values when
the arguments hold real numbers. -/

@[expose] public section

set_option maxRecDepth 16384

noncomputable section

namespace Cert.KernelIdeal.Attn

open Cert.KernelIdeal.Gen Cert.Math
open Idealize.ShloMosaic Idealize.ShloMosaic.TcCoe
open scoped BigOperators

/-- The scores, later keys masked. -/
def hScores (a0 : FVec Ideal S8192x16x64 .f32) (a1 : FVec Ideal S8192x16x32 .f32) (a2 : FVec Ideal S8192x16x64 .f32)
    (a3 : FVec Ideal S8192x32 .f32) : FVec Ideal S16x8192x8192 .f32 :=
  select
    (broadcastInDim S16x8192x8192 ![1, 2] bcast_S8192x8192_S16x8192x8192_1_2
      (cmpi .sle
        (broadcastInDim S8192x8192 ![0, 1] bcast_S1x8192_S8192x8192_0_1
          (broadcastInDim S1x8192 ![1] bcast_S8192_S1x8192_1 (iotaInDim S8192 32 0)))
        (broadcastInDim S8192x8192 ![0, 1] bcast_S8192x1_S8192x8192_0_1
          (broadcastInDim S8192x1 ![0] bcast_S8192_S8192x1_0 (iotaInDim S8192 32 0)))))
    (mulf
      (addf (Host.dotGeneral dot_S8192x16x64_S8192x16x64_S16x8192x8192_2_2_0_0_1_1 none a0 a2)
        (transpose S16x8192x8192 [2, 1, 0]
          (Host.dotGeneral dot_S8192x32_S8192x16x32_S8192x8192x16_1_2_0_01_n_n none a3 a1)
          transposes_S8192x8192x16_S16x8192x8192_2_1_0))
      (broadcastInDim S16x8192x8192 ![] bcast_S_S16x8192x8192 (constant S_ .f32 0x3DD105EC#32)))
    (broadcastInDim S16x8192x8192 ![] bcast_S_S16x8192x8192 (id (constant S_ .f32 0xFF800000#32)))

/-- A row's largest score. -/
def hMax (s : FVec Ideal S16x8192x8192 .f32) : FVec Ideal S16x8192x1 .f32 :=
  broadcastInDim S16x8192x1 ![0, 1] bcast_S16x8192_S16x8192x1_0_1
    (Host.reduce FloatOps.maximumf s (constant S_ .f32 0xFF800000#32) reducesTo_S16x8192x8192_S16x8192_d2 h_S_)

/-- The weights next to the row's largest score. -/
def hExp (s : FVec Ideal S16x8192x8192 .f32) (M : FVec Ideal S16x8192x1 .f32) : FVec Ideal S16x8192x8192 .f32 :=
  Host.exp (subf s (broadcastInDim S16x8192x8192 ![0, 1, 2] bcast_S16x8192x1_S16x8192x8192_0_1_2 M))

/-- A row's sum of weights. -/
def hSum (e : FVec Ideal S16x8192x8192 .f32) : FVec Ideal S16x8192x1 .f32 :=
  broadcastInDim S16x8192x1 ![0, 1] bcast_S16x8192_S16x8192x1_0_1
    (Host.reduceAdd e (constant S_ .f32 0x00000000#32) reducesTo_S16x8192x8192_S16x8192_d2 h_S_)

/-- The row's log-sum in base two. -/
def hLse (M l : FVec Ideal S16x8192x1 .f32) : FVec Ideal S16x8192x1 .f32 :=
  Host.divf (addf M (Host.log l))
    (broadcastInDim S16x8192x1 ![] bcast_S_S16x8192x1 (Host.log (constant S_ .f32 0x40000000#32)))

/-- The probabilities. -/
def hProb (e : FVec Ideal S16x8192x8192 .f32) (l : FVec Ideal S16x8192x1 .f32) : FVec Ideal S16x8192x8192 .f32 :=
  Host.divf e (broadcastInDim S16x8192x8192 ![0, 1, 2] bcast_S16x8192x1_S16x8192x8192_0_1_2 l)

/-- A row's mean of its probabilities' cotangents. -/
def hDelta (p : FVec Ideal S16x8192x8192 .f32) (a4 a5 : FVec Ideal S8192x16x64 .f32) : FVec Ideal S16x8192 .f32 :=
  Host.reduceAdd
    (mulf (Host.dotGeneral dot_S16x8192x8192_S8192x16x64_S16x8192x64_2_0_1_2_0_1 none p a4)
      (transpose S16x8192x64 [1, 0, 2] a5 transposes_S8192x16x64_S16x8192x64_1_0_2))
    (constant S_ .f32 0x00000000#32) reducesTo_S16x8192x64_S16x8192_d2 h_S_

/-- The arguments hold the real numbers `x`. -/
structure Holds (x : Args) (a0 : FVec Ideal S8192x16x64 .f32) (a1 : FVec Ideal S8192x16x32 .f32)
    (a2 : FVec Ideal S8192x16x64 .f32) (a3 : FVec Ideal S8192x32 .f32) (a4 a5 : FVec Ideal S8192x16x64 .f32) : Prop where
  qn : ∀ i h d, a0 (ix3 i h d) = ((x.qn i h d : ℝ) : EReal)
  qp : ∀ i h d, a1 (ix3 i h d) = ((x.qp i h d : ℝ) : EReal)
  kn : ∀ i h d, a2 (ix3 i h d) = ((x.kn i h d : ℝ) : EReal)
  kp : ∀ i d, a3 (ix2 i d) = ((x.kp i d : ℝ) : EReal)
  v : ∀ i h d, a4 (ix3 i h d) = ((x.v i h d : ℝ) : EReal)
  g : ∀ i h d, a5 (ix3 i h d) = ((x.g i h d : ℝ) : EReal)

variable {x : Args} {a0 : FVec Ideal S8192x16x64 .f32} {a1 : FVec Ideal S8192x16x32 .f32}
  {a2 : FVec Ideal S8192x16x64 .f32} {a3 : FVec Ideal S8192x32 .f32} {a4 a5 : FVec Ideal S8192x16x64 .f32}

theorem hScores_at (h : Fin 16) (q k : Fin 8192) :
    hScores a0 a1 a2 a3 (ix3 h q k) =
      Scalar.select (IntOp.cmpi CmpIPredicate.sle (BitVec.ofNat 32 ↑k) (BitVec.ofNat 32 ↑q))
        ((∑ d, a0 (ix3 q h d) * a2 (ix3 k h d) + ∑ r, a3 (ix2 k r) * a1 (ix3 q h r)) * Ideal.ofBits .f32 0x3DD105EC#32)
        (Ideal.ofBits .f32 0xFF800000#32) := by
  pointwise [hScores]
  rfl

theorem hScores_val (hx : Holds x a0 a1 a2 a3 a4 a5) (h : Fin 16) (q k : Fin 8192) :
    hScores a0 a1 a2 a3 (ix3 h q k) = score x h q k := by
  rw [hScores_at, sle_word, s0_word, inf_word]
  simp only [hx.qn, hx.kn, hx.kp, hx.qp, ← EReal.coe_mul, ← coe_sum, ← EReal.coe_add]
  unfold score Scalar.select raw
  by_cases hk : k.val ≤ q.val
  · rw [if_pos hk, decide_eq_true hk]
    simp only [mul_comm (x.kp _ _)]
    rfl
  · rw [if_neg hk, decide_eq_false hk]
    rfl

variable {s e p : FVec Ideal S16x8192x8192 .f32} {M l : FVec Ideal S16x8192x1 .f32}

theorem hMax_at (h : Fin 16) (q : Fin 8192) :
    hMax s (ix3 h q 0) = Finset.univ.fold max (Ideal.ofBits .f32 0xFF800000#32) (fun k => s (ix3 h q k)) := by
  pointwise [hMax]

theorem hMax_val (hs : ∀ h q k, s (ix3 h q k) = score x h q k) (h : Fin 16) (q : Fin 8192) :
    ∃ R : ℝ, hMax s (ix3 h q 0) = (R : EReal) := by
  rw [hMax_at, inf_word]
  simp only [hs]
  exact score_max x h q

theorem hExp_at (h : Fin 16) (q k : Fin 8192) :
    hExp s M (ix3 h q k) = Ideal.exp (s (ix3 h q k) - M (ix3 h q 0)) := by
  pointwise [hExp]

theorem hSum_at (h : Fin 16) (q : Fin 8192) : hSum e (ix3 h q 0) = ∑ k, e (ix3 h q k) := by
  pointwise [hSum]

theorem hLse_at (h : Fin 16) (q : Fin 8192) :
    hLse M l (ix3 h q 0)
      = Ideal.div (M (ix3 h q 0) + Ideal.log (l (ix3 h q 0))) (Ideal.log (Ideal.ofBits .f32 0x40000000#32)) := by
  pointwise [hLse]

theorem hProb_at (h : Fin 16) (q k : Fin 8192) :
    hProb e l (ix3 h q k) = Ideal.div (e (ix3 h q k)) (l (ix3 h q 0)) := by
  pointwise [hProb]

theorem hDelta_at (h : Fin 16) (q : Fin 8192) :
    hDelta p a4 a5 (ix2 h q) = ∑ d, (∑ k, p (ix3 h q k) * a4 (ix3 k h d)) * a5 (ix3 q h d) := by
  pointwise [hDelta]

section
variable (hs : ∀ h q k, s (ix3 h q k) = score x h q k) (h : Fin 16) (q : Fin 8192)
include hs

/-- A row's weights and their sum, both next to the same number. -/
theorem row_val : ∃ R : ℝ, hMax s (ix3 h q 0) = (R : EReal)
    ∧ (∀ k, hExp s (hMax s) (ix3 h q k) = ((wgt x h q k * Real.exp (-R) : ℝ) : EReal))
    ∧ hSum (hExp s (hMax s)) (ix3 h q 0) = ((tot x h q * Real.exp (-R) : ℝ) : EReal) := by
  obtain ⟨R, hR⟩ := hMax_val hs h q
  have he : ∀ k, hExp s (hMax s) (ix3 h q k) = ((wgt x h q k * Real.exp (-R) : ℝ) : EReal) := fun k => by
    rw [hExp_at, hs, hR, exp_score]
  refine ⟨R, hR, he, ?_⟩
  rw [hSum_at]
  simp only [he]
  exact sum_exp x h q R

theorem hLse_val : hLse (hMax s) (hSum (hExp s (hMax s))) (ix3 h q 0)
    = ((Real.log (tot x h q) / Real.log 2 : ℝ) : EReal) := by
  obtain ⟨R, hR, -, hl⟩ := row_val hs h q
  rw [hLse_at, hR, hl, two_word]
  exact lse_real x h q R

theorem hProb_val (k : Fin 8192) : hProb (hExp s (hMax s)) (hSum (hExp s (hMax s))) (ix3 h q k)
    = ((prob x h q k : ℝ) : EReal) := by
  obtain ⟨R, -, he, hl⟩ := row_val hs h q
  rw [hProb_at, he, hl]
  exact prob_real x h q k R

end

theorem hDelta_val (hx : Holds x a0 a1 a2 a3 a4 a5) (hp : ∀ h q k, p (ix3 h q k) = ((prob x h q k : ℝ) : EReal))
    (h : Fin 16) (q : Fin 8192) : hDelta p a4 a5 (ix2 h q) = ((delta x h q : ℝ) : EReal) := by
  rw [hDelta_at]
  simp only [hp, hx.v, hx.g, ← EReal.coe_mul, ← coe_sum]
  rw [delta_rows]

end Cert.KernelIdeal.Attn
-- ==== Proof.HostRead.lean ====
module

public import proofs.«01_k».proof.Proof.HostVal

/-! # What each point of the grid is given -/

@[expose] public section

set_option maxRecDepth 16384

noncomputable section

namespace Cert.KernelIdeal.Attn

open Cert.KernelIdeal.Gen Cert.Math
open Idealize.ShloMosaic Idealize.ShloMosaic.TcCoe
open scoped BigOperators

variable (m : (ℓ : Loc nD τ sig) → Buf (Elt Ideal) ℓ) (d : Dev nD)

theorem idx0 : ∀ t : Fin cfg0.N, win0_0.index t = ![t.val % 16, t.val / 16] :=
  (by decide +kernel : ∀ t : Fin grid0.N, _)
theorem idx1 : ∀ t : Fin cfg0.N, win0_1.index t = ![t.val % 16, 16 + t.val / 16] :=
  (by decide +kernel : ∀ t : Fin grid0.N, _)
theorem idx2 : ∀ t : Fin cfg0.N, win0_2.index t = ![t.val % 16, 0] :=
  (by decide +kernel : ∀ t : Fin grid0.N, _)
theorem idx3 : ∀ t : Fin cfg0.N, win0_3.index t = ![0, t.val / 16] :=
  (by decide +kernel : ∀ t : Fin grid0.N, _)
theorem idx4 : ∀ t : Fin cfg0.N, win0_4.index t = ![0, t.val / 16] :=
  (by decide +kernel : ∀ t : Fin grid0.N, _)
theorem idx5 : ∀ t : Fin cfg0.N, win0_5.index t = ![t.val / 16, 0, 0, 0] :=
  (by decide +kernel : ∀ t : Fin grid0.N, _)
theorem idx6 : ∀ t : Fin cfg0.N, win0_6.index t = ![t.val / 16, 0, 0, 0] :=
  (by decide +kernel : ∀ t : Fin grid0.N, _)

/-- The scores of the launched arguments. -/
def scoresOf : FVec Ideal S16x8192x8192 .f32 :=
  hScores (m ((d.tc : Thread nD τ).loc main_arg0)) (m ((d.tc : Thread nD τ).loc main_arg1))
    (m ((d.tc : Thread nD τ).loc main_arg2)) (m ((d.tc : Thread nD τ).loc main_arg3))

/-- The queries' two parts side by side, padded to 128 lanes. -/
def hQ (a0 : FVec Ideal S8192x16x64 .f32) (a1 : FVec Ideal S8192x16x32 .f32) : FVec Ideal S8192x2048 .bf16 :=
  truncf .bf16 (shapeCast S8192x2048
    (pad S8192x16x128 ![0, 0, 0] ![0, 0, 32] ![0, 0, 0]
      (concatenate S8192x16x96 2 [⟨S8192x16x64, a0⟩, ⟨S8192x16x32, a1⟩]
        concatenates_S8192x16x64_S8192x16x32_S8192x16x96_d2)
      (sitofp .f32 (constantI S_ 32 0#32)) pads_S8192x16x96_S8192x16x128_000_000_0320 h_S_)
    shapeCasts_S8192x16x128_S8192x2048) bitsLt_bf16_f32

/-- Sixty-four lanes padded to 128. -/
def hWide (a : FVec Ideal S8192x16x64 .f32) : FVec Ideal S8192x16x128 .f32 :=
  pad S8192x16x128 ![0, 0, 0] ![0, 0, 64] ![0, 0, 0] a (sitofp .f32 (constantI S_ 32 0#32))
    pads_S8192x16x64_S8192x16x128_000_000_0640 h_S_

/-- The keys' heads and then the values' heads. -/
def hKV (a2 a4 : FVec Ideal S8192x16x64 .f32) : FVec Ideal S8192x4096 .bf16 :=
  truncf .bf16 (shapeCast S8192x4096
    (concatenate S8192x32x128 1 [⟨S8192x16x128, hWide a2⟩, ⟨S8192x16x128, hWide a4⟩]
      concatenates_S8192x16x128_S8192x16x128_S8192x32x128_d1)
    shapeCasts_S8192x32x128_S8192x4096) bitsLt_bf16_f32

/-- The shared key in its lanes. -/
def hPe (a3 : FVec Ideal S8192x32 .f32) : FVec Ideal S8192x128 .bf16 :=
  truncf .bf16 (pad S8192x128 ![0, 64] ![0, 32] ![0, 0] a3 (sitofp .f32 (constantI S_ 32 0#32))
    pads_S8192x32_S8192x128_000_64320 h_S_) bitsLt_bf16_f32

/-- The output's cotangent. -/
def hDo (a5 : FVec Ideal S8192x16x64 .f32) : FVec Ideal S8192x2048 .bf16 :=
  truncf .bf16 (shapeCast S8192x2048 (hWide a5) shapeCasts_S8192x16x128_S8192x2048) bitsLt_bf16_f32

theorem V_lse : Gen.V m d main_v48 = shapeCast S16x8x1x1024 (shapeCast S16x16x1x512
    (hLse (hMax (scoresOf m d)) (hSum (hExp (scoresOf m d) (hMax (scoresOf m d)))))
      shapeCasts_S16x8192x1_S16x16x1x512) shapeCasts_S16x16x1x512_S16x8x1x1024 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.TRef.binary, StableHlo.TRef.nullary, StableHlo.TRef.ternary,
    StableHlo.TRef.unary, StableHlo.TRef.toBuf, StableHlo.TRef.ofBuf, cast_eq]
  after_results_simp
  unfold hLse hSum hExp hMax scoresOf hScores
  rfl

theorem V_delta : Gen.V m d main_v49 = shapeCast S16x8x1x1024 (shapeCast S16x16x1x512
    (hDelta (hProb (hExp (scoresOf m d) (hMax (scoresOf m d)))
      (hSum (hExp (scoresOf m d) (hMax (scoresOf m d))))) (m ((d.tc : Thread nD τ).loc main_arg4)) (m ((d.tc : Thread nD τ).loc main_arg5)))
      shapeCasts_S16x8192_S16x16x1x512) shapeCasts_S16x16x1x512_S16x8x1x1024 := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.TRef.binary, StableHlo.TRef.nullary, StableHlo.TRef.ternary,
    StableHlo.TRef.unary, StableHlo.TRef.toBuf, StableHlo.TRef.ofBuf, cast_eq]
  after_results_simp
  unfold hDelta hProb hSum hExp hMax scoresOf hScores
  rfl

theorem V_q : Gen.V m d main_v40 = hQ (m ((d.tc : Thread nD τ).loc main_arg0)) (m ((d.tc : Thread nD τ).loc main_arg1)) := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.TRef.binary, StableHlo.TRef.nullary, StableHlo.TRef.ternary,
    StableHlo.TRef.unary, StableHlo.TRef.toBuf, StableHlo.TRef.ofBuf, cast_eq]
  after_results_simp
  rfl

theorem V_kv : Gen.V m d main_v42 = hKV (m ((d.tc : Thread nD τ).loc main_arg2)) (m ((d.tc : Thread nD τ).loc main_arg4)) := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.TRef.binary, StableHlo.TRef.nullary, StableHlo.TRef.ternary,
    StableHlo.TRef.unary, StableHlo.TRef.toBuf, StableHlo.TRef.ofBuf, cast_eq]
  after_results_simp
  rfl

theorem V_pe : Gen.V m d main_v43 = hPe (m ((d.tc : Thread nD τ).loc main_arg3)) := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.TRef.binary, StableHlo.TRef.nullary, StableHlo.TRef.ternary,
    StableHlo.TRef.unary, StableHlo.TRef.toBuf, StableHlo.TRef.ofBuf, cast_eq]
  after_results_simp
  rfl

theorem V_do : Gen.V m d main_v45 = hDo (m ((d.tc : Thread nD τ).loc main_arg5)) := by
  show StableHlo.after _ _ _ = _
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.TRef.binary, StableHlo.TRef.nullary, StableHlo.TRef.ternary,
    StableHlo.TRef.unary, StableHlo.TRef.toBuf, StableHlo.TRef.ofBuf, cast_eq]
  after_results_simp
  rfl

end Cert.KernelIdeal.Attn
-- ==== Proof.PointIn.lean ====
module

public import proofs.«01_k».proof.Proof.HostRead

/-! # What each point of the grid is given, as real numbers -/

@[expose] public section

set_option maxRecDepth 16384

noncomputable section

namespace Cert.KernelIdeal.Attn

open Cert.KernelIdeal.Gen Cert.Math
open Idealize.ShloMosaic Idealize.ShloMosaic.TcCoe
open scoped BigOperators

variable {x : Args} {a0 : FVec Ideal S8192x16x64 .f32} {a1 : FVec Ideal S8192x16x32 .f32}
  {a2 : FVec Ideal S8192x16x64 .f32} {a3 : FVec Ideal S8192x32 .f32} {a4 a5 : FVec Ideal S8192x16x64 .f32}

/-- The padding. -/
theorem pad_zero : (FloatOps.sitofp (F := Ideal) .f32 0#32 : EReal) = 0 := by
  show ((((0#32 : BitVec 32).toInt : ℤ) : ℝ) : EReal) = 0
  simp

/-- Head `h`'s lane `c` in an array of heads. -/
def lane {n : Nat} (h : Fin n) (c : Fin 128) : Fin (n * 128) := ⟨h.val * 128 + c.val, by have := h.isLt; omega⟩

theorem lane_div {n : Nat} (h : Fin n) (c : Fin 128) : (lane h c).val / 128 = h.val := by
  show (h.val * 128 + c.val) / 128 = h.val
  omega
theorem lane_mod {n : Nat} (h : Fin n) (c : Fin 128) : (lane h c).val % 128 = c.val := by
  show (h.val * 128 + c.val) % 128 = c.val
  omega

section
variable (hx : Holds x a0 a1 a2 a3 a4 a5)
include hx

theorem hQ_val (i : Fin 8192) (h : Fin 16) (c : Fin 128) : hQ a0 a1 (ix2 i (lane h c)) = ((Q x h i c : ℝ) : EReal) := by
  pointwise [hQ]
  simp only [lane_div, lane_mod, pad_zero, Fin.eta]
  by_cases h1 : c.val < 64
  · have c1 : h.val < 16 ∧ c.val < 96 := ⟨h.isLt, by omega⟩
    have e : Q x h i c = x.qn i h ⟨c.val, h1⟩ := dif_pos h1
    exact ((dif_pos c1).trans ((dif_pos h1).trans (hx.qn _ _ _))).trans (congrArg Real.toEReal e.symm)
  · by_cases h2 : c.val < 96
    · have c1 : h.val < 16 ∧ c.val < 96 := ⟨h.isLt, h2⟩
      have e : Q x h i c = x.qp i h ⟨c.val - 64, by omega⟩ := (dif_neg h1).trans (dif_pos h2)
      exact ((dif_pos c1).trans ((dif_neg h1).trans (hx.qp _ _ _))).trans (congrArg Real.toEReal e.symm)
    · have c1 : ¬ (h.val < 16 ∧ c.val < 96) := fun hh => h2 hh.2
      have e : Q x h i c = 0 := (dif_neg h1).trans (dif_neg h2)
      exact (dif_neg c1).trans (congrArg Real.toEReal e.symm)

theorem hK_val (i : Fin 8192) (h : Fin 16) (c : Fin 128) :
    hKV a2 a4 (ix2 i (lane (⟨h.val, by omega⟩ : Fin 32) c)) = ((if h1 : c.val < 64 then x.kn i h ⟨c.val, h1⟩ else 0 : ℝ) : EReal) := by
  pointwise [hKV, hWide]
  simp only [lane_div, lane_mod, pad_zero, Fin.eta, hx.kn, hx.v]
  split_ifs <;> first | rfl | omega | rw [dif_pos (by omega)]

theorem hV_val (i : Fin 8192) (h : Fin 16) (c : Fin 128) :
    hKV a2 a4 (ix2 i (lane (⟨16 + h.val, by omega⟩ : Fin 32) c)) = ((Math.V x h i c : ℝ) : EReal) := by
  pointwise [hKV, hWide]
  simp only [lane_div, lane_mod, pad_zero, Nat.add_sub_cancel_left, Fin.eta]
  have c0 : ¬ (16 + h.val < 16) := by omega
  by_cases h1 : c.val < 64
  · have c1 : h.val < 16 ∧ c.val < 64 := ⟨h.isLt, h1⟩
    have e : Math.V x h i c = x.v i h ⟨c.val, h1⟩ := dif_pos h1
    exact ((dif_neg c0).trans ((dif_pos c1).trans (hx.v _ _ _))).trans (congrArg Real.toEReal e.symm)
  · have c1 : ¬ (h.val < 16 ∧ c.val < 64) := fun hh => h1 hh.2
    have e : Math.V x h i c = 0 := dif_neg h1
    exact ((dif_neg c0).trans (dif_neg c1)).trans (congrArg Real.toEReal e.symm)

theorem hPe_val (i : Fin 8192) (c : Fin 128) :
    hPe a3 (ix2 i c) = ((if h1 : 64 ≤ c.val ∧ c.val - 64 < 32 then x.kp i ⟨c.val - 64, h1.2⟩ else 0 : ℝ) : EReal) := by
  pointwise [hPe]
  simp only [pad_zero, hx.kp]
  split_ifs <;> rfl

theorem hDo_val (i : Fin 8192) (h : Fin 16) (c : Fin 128) : hDo a5 (ix2 i (lane h c)) = ((G x h i c : ℝ) : EReal) := by
  pointwise [hDo, hWide]
  simp only [lane_div, lane_mod, pad_zero, Fin.eta, hx.g]
  unfold G
  split_ifs <;> first | rfl | omega | rw [dif_pos (by omega)]

end

theorem lse_at (L : FVec Ideal S16x8192x1 .f32) (h : Fin 16) (n : Fin 8) (c : Fin 1024) :
    shapeCast S16x8x1x1024 (shapeCast S16x16x1x512 L shapeCasts_S16x8192x1_S16x16x1x512)
      shapeCasts_S16x16x1x512_S16x8x1x1024 (ix4 h n 0 c) = L (ix3 h (qrow n c) 0) := by
  pointwise

theorem delta_at (L : FVec Ideal S16x8192 .f32) (h : Fin 16) (n : Fin 8) (c : Fin 1024) :
    shapeCast S16x8x1x1024 (shapeCast S16x16x1x512 L shapeCasts_S16x8192_S16x16x1x512)
      shapeCasts_S16x16x1x512_S16x8x1x1024 (ix4 h n 0 c) = L (ix2 h (qrow n c)) := by
  pointwise

variable (m : (ℓ : Loc nD τ sig) → Buf (Elt Ideal) ℓ) (d : Dev nD) (t : Fin cfg0.N)

theorem in0 (r : Fin 512) (c : Fin 128) : (iblk m d 0 t : Vec Ideal S512x128 .bf16) (ix2 r c)
    = (Gen.V m d main_v42 : Vec Ideal S8192x4096 .bf16) (ix2 (krow (tileOf t) r) (lane (⟨(headOf t).val, by omega⟩ : Fin 32) c)) := by
  blk_ext [iblk, idx0 t] <;> rfl
theorem in1 (r : Fin 512) (c : Fin 128) : (iblk m d 1 t : Vec Ideal S512x128 .bf16) (ix2 r c)
    = (Gen.V m d main_v42 : Vec Ideal S8192x4096 .bf16) (ix2 (krow (tileOf t) r) (lane (⟨16 + (headOf t).val, by omega⟩ : Fin 32) c)) := by
  blk_ext [iblk, idx1 t] <;> rfl
theorem in2 (r : Fin 512) (c : Fin 128) : (iblk m d 2 t : Vec Ideal S512x128 .bf16) (ix2 r c)
    = (Gen.V m d main_v43 : Vec Ideal S8192x128 .bf16) (ix2 (krow (tileOf t) r) c) := by
  blk_ext [iblk, idx2 t] <;> rfl
theorem in3 (i : Fin 8192) (c : Fin 128) : (iblk m d 3 t : Vec Ideal S8192x128 .bf16) (ix2 i c)
    = (Gen.V m d main_v40 : Vec Ideal S8192x2048 .bf16) (ix2 i (lane (headOf t) c)) := by
  blk_ext [iblk, idx3 t] <;> rfl
theorem in4 (i : Fin 8192) (c : Fin 128) : (iblk m d 4 t : Vec Ideal S8192x128 .bf16) (ix2 i c)
    = (Gen.V m d main_v45 : Vec Ideal S8192x2048 .bf16) (ix2 i (lane (headOf t) c)) := by
  blk_ext [iblk, idx4 t] <;> rfl
theorem in5 (n : Fin 8) (c : Fin 1024) : (iblk m d 5 t : Vec Ideal S1x8x1x1024 .f32) (ix4 0 n 0 c)
    = (Gen.V m d main_v48 : Vec Ideal S16x8x1x1024 .f32) (ix4 (headOf t) n 0 c) := by
  blk_ext [iblk, idx5 t] <;> rfl
theorem in6 (n : Fin 8) (c : Fin 1024) : (iblk m d 6 t : Vec Ideal S1x8x1x1024 .f32) (ix4 0 n 0 c)
    = (Gen.V m d main_v49 : Vec Ideal S16x8x1x1024 .f32) (ix4 (headOf t) n 0 c) := by
  blk_ext [iblk, idx6 t] <;> rfl

section
variable (hx : Holds x (m ((d.tc : Thread nD τ).loc main_arg0)) (m ((d.tc : Thread nD τ).loc main_arg1))
      (m ((d.tc : Thread nD τ).loc main_arg2)) (m ((d.tc : Thread nD τ).loc main_arg3))
      (m ((d.tc : Thread nD τ).loc main_arg4)) (m ((d.tc : Thread nD τ).loc main_arg5)))
include hx

theorem good_k (r : Fin 512) (c : Fin 128) :
    @HAdd.hAdd EReal EReal EReal _ ((iblk m d 0 t : Vec Ideal S512x128 .bf16) (ix2 r c))
      ((iblk m d 2 t : Vec Ideal S512x128 .bf16) (ix2 r c)) = ((K x (headOf t) (krow (tileOf t) r) c : ℝ) : EReal) := by
  refine (congrArg₂ (fun u v : EReal => (u + v : EReal))
    ((in0 m d t r c).trans ((congrFun (V_kv m d) _).trans (hK_val hx _ (headOf t) c)))
    ((in2 m d t r c).trans ((congrFun (V_pe m d) _).trans (hPe_val hx _ c)))).trans ?_
  rw [← EReal.coe_add]
  refine congrArg _ ?_
  unfold K
  split_ifs <;> first | omega | simp

theorem good_v (r : Fin 512) (c : Fin 128) : ((iblk m d 1 t : Vec Ideal S512x128 .bf16) (ix2 r c) : EReal)
    = ((Math.V x (headOf t) (krow (tileOf t) r) c : ℝ) : EReal) :=
  (in1 m d t r c).trans ((congrFun (V_kv m d) _).trans (hV_val hx _ (headOf t) c))

theorem good_q (i : Fin 8192) (c : Fin 128) : ((iblk m d 3 t : Vec Ideal S8192x128 .bf16) (ix2 i c) : EReal)
    = ((Q x (headOf t) i c : ℝ) : EReal) :=
  (in3 m d t i c).trans ((congrFun (V_q m d) _).trans (hQ_val hx i (headOf t) c))

theorem good_g (i : Fin 8192) (c : Fin 128) : ((iblk m d 4 t : Vec Ideal S8192x128 .bf16) (ix2 i c) : EReal)
    = ((G x (headOf t) i c : ℝ) : EReal) :=
  (in4 m d t i c).trans ((congrFun (V_do m d) _).trans (hDo_val hx i (headOf t) c))

theorem scoresOf_val (h : Fin 16) (q k : Fin 8192) : scoresOf m d (ix3 h q k) = score x h q k :=
  hScores_val hx h q k

theorem good_lse (n : Fin 8) (c : Fin 1024) : ((iblk m d 5 t : Vec Ideal S1x8x1x1024 .f32) (ix4 0 n 0 c) : EReal)
    = ((Real.log (tot x (headOf t) (qrow n c)) / Real.log 2 : ℝ) : EReal) := by
  refine (in5 m d t n c).trans ((congrFun (V_lse m d) _).trans ?_)
  refine (lse_at _ (headOf t) n c).trans ?_
  have hs := scoresOf_val m d hx
  generalize scoresOf m d = s at hs ⊢
  exact hLse_val hs (headOf t) (qrow n c)

theorem good_dl (n : Fin 8) (c : Fin 1024) : ((iblk m d 6 t : Vec Ideal S1x8x1x1024 .f32) (ix4 0 n 0 c) : EReal)
    = ((delta x (headOf t) (qrow n c) : ℝ) : EReal) := by
  refine (in6 m d t n c).trans ((congrFun (V_delta m d) _).trans ?_)
  refine (delta_at _ (headOf t) n c).trans ?_
  have hs := scoresOf_val m d hx
  generalize scoresOf m d = s at hs ⊢
  exact hDelta_val hx (hProb_val hs) (headOf t) (qrow n c)

/-- Real arguments give every point its head's tile. -/
theorem good : Good x (headOf t) (tileOf t) (blkAt m d t) := by
  have hk := good_k m d t hx
  have hv := good_v m d t hx
  have hq := good_q m d t hx
  have hg := good_g m d t hx
  have hl := good_lse m d t hx
  have hd := good_dl m d t hx
  unfold blkAt
  generalize iblk m d 0 t = b0 at *
  generalize iblk m d 1 t = b1 at *
  generalize iblk m d 2 t = b2 at *
  generalize iblk m d 3 t = b3 at *
  generalize iblk m d 4 t = b4 at *
  generalize iblk m d 5 t = b5 at *
  generalize iblk m d 6 t = b6 at *
  exact ⟨hk, hv, hq, hg, hl, hd⟩

end

end Cert.KernelIdeal.Attn
-- ==== Proof.RefVal.lean ====
module

public import proofs.«01_k».proof.Proof.Rows
public import proofs.«01_k».proof.Proof.Gen.ReferenceIdeal.Run

/-! # The reference's steps

Each step of the reference, named as a function of what it takes, and read at an index. -/

@[expose] public section

set_option maxRecDepth 16384

noncomputable section

namespace Cert.ReferenceIdeal.Attn

open Cert.ReferenceIdeal Cert.ReferenceIdeal.Gen Cert.Math
open Idealize.ShloMosaic Idealize.ShloMosaic.TcCoe
open scoped BigOperators

/-- A head's queries, both parts. -/
def rQ (a0 : FVec Ideal S8192x16x64 .f32) (a1 : FVec Ideal S8192x16x32 .f32) : FVec Ideal S8192x16x96 .f32 :=
  concatenate S8192x16x96 2 [⟨S8192x16x64, a0⟩, ⟨S8192x16x32, a1⟩]
    concatenates_S8192x16x64_S8192x16x32_S8192x16x96_d2

/-- A head's keys, its own part and the shared part. -/
def rK (a2 : FVec Ideal S8192x16x64 .f32) (a3 : FVec Ideal S8192x32 .f32) : FVec Ideal S8192x16x96 .f32 :=
  concatenate S8192x16x96 2 [⟨S8192x16x64, a2⟩, ⟨S8192x16x32,
      broadcastInDim S8192x16x32 ![0, 1, 2] bcast_S8192x1x32_S8192x16x32_0_1_2
        (broadcastInDim S8192x1x32 ![0, 2] bcast_S8192x32_S8192x1x32_0_2 a3)⟩]
    concatenates_S8192x16x64_S8192x16x32_S8192x16x96_d2

/-- Which keys a query sees. -/
def rMask : IVec S16x8192x8192 1 :=
  broadcastInDim S16x8192x8192 ![1, 2] bcast_S8192x8192_S16x8192x8192_1_2
    (cmpi .sle
      (broadcastInDim S8192x8192 ![0, 1] bcast_S1x8192_S8192x8192_0_1
        (broadcastInDim S1x8192 ![1] bcast_S8192_S1x8192_1 (iotaInDim S8192 32 0)))
      (broadcastInDim S8192x8192 ![0, 1] bcast_S8192x1_S8192x8192_0_1
        (broadcastInDim S8192x1 ![0] bcast_S8192_S8192x1_0 (iotaInDim S8192 32 0))))

/-- The scores, later keys masked. -/
def rScores (b : IVec S16x8192x8192 1) (q k : FVec Ideal S8192x16x96 .f32) : FVec Ideal S16x8192x8192 .f32 :=
  select b
    (mulf (Host.dotGeneral dot_S8192x16x96_S8192x16x96_S16x8192x8192_2_2_0_0_1_1 none q k)
      (broadcastInDim S16x8192x8192 ![] bcast_S_S16x8192x8192 (constant S_ .f32 0x3DD105EC#32)))
    (broadcastInDim S16x8192x8192 ![] bcast_S_S16x8192x8192 (id (constant S_ .f32 0xFF800000#32)))

/-- A row's largest score. -/
def rTop (s : FVec Ideal S16x8192x8192 .f32) : FVec Ideal S16x8192 .f32 :=
  Host.reduce FloatOps.maximumf s (constant S_ .f32 0xFF800000#32) reducesTo_S16x8192x8192_S16x8192_d2 h_S_

/-- The largest score, or the mask where that is larger. -/
def rMax (M : FVec Ideal S16x8192 .f32) : FVec Ideal S16x8192 .f32 :=
  maximumf (broadcastInDim S16x8192 ![] bcast_S_S16x8192 (constant S_ .f32 0xFF800000#32)) M

/-- The weights next to the row's largest score. -/
def rExp (s : FVec Ideal S16x8192x8192 .f32) (M : FVec Ideal S16x8192 .f32) : FVec Ideal S16x8192x8192 .f32 :=
  Host.exp (subf s (broadcastInDim S16x8192x8192 ![0, 1, 2] bcast_S16x8192x1_S16x8192x8192_0_1_2
    (broadcastInDim S16x8192x1 ![0, 1] bcast_S16x8192_S16x8192x1_0_1 M)))

/-- A row's sum of weights. -/
def rSum (e : FVec Ideal S16x8192x8192 .f32) : FVec Ideal S16x8192x1 .f32 :=
  broadcastInDim S16x8192x1 ![0, 1] bcast_S16x8192_S16x8192x1_0_1
    (Host.reduceAdd e (constant S_ .f32 0x00000000#32) reducesTo_S16x8192x8192_S16x8192_d2 h_S_)

/-- A row's numbers divided by the row's sum. -/
def rDiv (e : FVec Ideal S16x8192x8192 .f32) (l : FVec Ideal S16x8192x1 .f32) : FVec Ideal S16x8192x8192 .f32 :=
  Host.divf e (broadcastInDim S16x8192x8192 ![0, 1, 2] bcast_S16x8192x1_S16x8192x8192_0_1_2 l)

/-- One over the square of a row's sum. -/
def rInv (l : FVec Ideal S16x8192x1 .f32) : FVec Ideal S16x8192x1 .f32 :=
  Host.divf (broadcastInDim S16x8192x1 ![] bcast_S_S16x8192x1 (constant S_ .f32 0x3F800000#32)) (mulf l l)

/-- The probabilities' cotangents. -/
def rDp (a4 a5 : FVec Ideal S8192x16x64 .f32) : FVec Ideal S16x8192x8192 .f32 :=
  Host.dotGeneral dot_S16x64x8192_S8192x16x64_S16x8192x8192_1_2_2_0_0_1 none
    (transpose S16x64x8192 [1, 2, 0] a5 transposes_S8192x16x64_S16x64x8192_1_2_0) a4

/-- What the sum of weights owes to a row. -/
def rOwed (dp e : FVec Ideal S16x8192x8192 .f32) (i : FVec Ideal S16x8192x1 .f32) : FVec Ideal S16x8192 .f32 :=
  Host.reduceAdd
    (Host.negf (shapeCast S16x8192x1
      (Host.reduceAdd
        (mulf (mulf dp (broadcastInDim S16x8192x8192 ![0, 1, 2] bcast_S16x8192x1_S16x8192x8192_0_1_2 i)) e)
        (constant S_ .f32 0x00000000#32) reducesTo_S16x8192x8192_S16x8192_d2 h_S_)
      shapeCasts_S16x8192_S16x8192x1))
    (constant S_ .f32 0x00000000#32) reducesTo_S16x8192x1_S16x8192_d2 h_S_

/-- The cotangents of the products of queries and keys. -/
def rDs (b : IVec S16x8192x8192 1) (dl e : FVec Ideal S16x8192x8192 .f32) (o : FVec Ideal S16x8192 .f32) :
    FVec Ideal S16x8192x8192 .f32 :=
  mulf
    (select b
      (mulf (addf dl (broadcastInDim S16x8192x8192 ![0, 1] bcast_S16x8192_S16x8192x8192_0_1 o)) e)
      (broadcastInDim S16x8192x8192 ![] bcast_S_S16x8192x8192 (constant S_ .f32 0x00000000#32)))
    (broadcastInDim S16x8192x8192 ![] bcast_S_S16x8192x8192 (constant S_ .f32 0x3DD105EC#32))

/-- The queries' gradient, its lanes padded. -/
def rOutQ (ds : FVec Ideal S16x8192x8192 .f32) (k : FVec Ideal S8192x16x96 .f32) : FVec Ideal S8192x2048 .f32 :=
  shapeCast S8192x2048 (pad S8192x16x128 ![0, 0, 0] ![0, 0, 32] ![0, 0, 0]
    (transpose S8192x16x96 [1, 0, 2]
      (Host.dotGeneral dot_S16x8192x8192_S8192x16x96_S16x8192x96_2_0_1_2_0_1 none ds k)
      transposes_S16x8192x96_S8192x16x96_1_0_2)
    (sitofp .f32 (constantI S_ 32 0#32)) pads_S8192x16x96_S8192x16x128_000_000_0320 h_S_)
    shapeCasts_S8192x16x128_S8192x2048

/-- The keys' gradient, its lanes padded. -/
def rOutK (ds : FVec Ideal S16x8192x8192 .f32) (q : FVec Ideal S8192x16x96 .f32) : FVec Ideal S8192x2048 .f32 :=
  shapeCast S8192x2048 (pad S8192x16x128 ![0, 0, 0] ![0, 0, 32] ![0, 0, 0]
    (transpose S8192x16x96 [1, 0, 2]
      (Host.dotGeneral dot_S16x8192x8192_S8192x16x96_S16x8192x96_1_0_2_2_0_1 none ds q)
      transposes_S16x8192x96_S8192x16x96_1_0_2)
    (sitofp .f32 (constantI S_ 32 0#32)) pads_S8192x16x96_S8192x16x128_000_000_0320 h_S_)
    shapeCasts_S8192x16x128_S8192x2048

/-- The values' gradient, its lanes padded. -/
def rOutV (a5 : FVec Ideal S8192x16x64 .f32) (p : FVec Ideal S16x8192x8192 .f32) : FVec Ideal S8192x2048 .f32 :=
  shapeCast S8192x2048 (pad S8192x16x128 ![0, 0, 0] ![0, 0, 64] ![0, 0, 0]
    (transpose S8192x16x64 [2, 0, 1]
      (Host.dotGeneral dot_S16x64x8192_S16x8192x8192_S16x64x8192_2_1_1_2_0_0 none
        (transpose S16x64x8192 [1, 2, 0] a5 transposes_S8192x16x64_S16x64x8192_1_2_0) p)
      transposes_S16x64x8192_S8192x16x64_2_0_1)
    (sitofp .f32 (constantI S_ 32 0#32)) pads_S8192x16x64_S8192x16x128_000_000_0640 h_S_)
    shapeCasts_S8192x16x128_S8192x2048

/-! ## Each step at an index -/

variable {a0 a2 a4 a5 : FVec Ideal S8192x16x64 .f32} {a1 : FVec Ideal S8192x16x32 .f32} {a3 : FVec Ideal S8192x32 .f32}
  {b : IVec S16x8192x8192 1} {s e p dp dl ds : FVec Ideal S16x8192x8192 .f32} {M o : FVec Ideal S16x8192 .f32}
  {l i : FVec Ideal S16x8192x1 .f32} {Qs Ks : FVec Ideal S8192x16x96 .f32}

/-- The padding. -/
theorem pad_zero : (FloatOps.sitofp (F := Ideal) .f32 0#32 : EReal) = 0 := by
  show ((((0#32 : BitVec 32).toInt : ℤ) : ℝ) : EReal) = 0
  simp

theorem rQ_lo (r : Fin 8192) (h : Fin 16) (c : Fin 96) (h1 : c.val < 64) :
    rQ a0 a1 (ix3 r h c) = a0 (ix3 r h ⟨c.val, h1⟩) := by
  pointwise [rQ]
  exact dif_pos h1
theorem rQ_hi (r : Fin 8192) (h : Fin 16) (c : Fin 96) (h1 : ¬ c.val < 64) :
    rQ a0 a1 (ix3 r h c) = a1 (ix3 r h ⟨c.val - 64, by omega⟩) := by
  pointwise [rQ]
  exact dif_neg h1
theorem rK_lo (r : Fin 8192) (h : Fin 16) (c : Fin 96) (h1 : c.val < 64) :
    rK a2 a3 (ix3 r h c) = a2 (ix3 r h ⟨c.val, h1⟩) := by
  pointwise [rK]
  exact dif_pos h1
theorem rK_hi (r : Fin 8192) (h : Fin 16) (c : Fin 96) (h1 : ¬ c.val < 64) :
    rK a2 a3 (ix3 r h c) = a3 (ix2 r ⟨c.val - 64, by omega⟩) := by
  pointwise [rK]
  exact dif_neg h1
theorem rMask_at (h : Fin 16) (q k : Fin 8192) :
    rMask (ix3 h q k) = IntOp.cmpi .sle (BitVec.ofNat 32 k.val) (BitVec.ofNat 32 q.val) := by
  pointwise [rMask]
theorem rScores_at (h : Fin 16) (q k : Fin 8192) : rScores b Qs Ks (ix3 h q k)
    = Scalar.select (b (ix3 h q k)) ((∑ c, Qs (ix3 q h c) * Ks (ix3 k h c)) * Ideal.ofBits .f32 0x3DD105EC#32)
        (Ideal.ofBits .f32 0xFF800000#32) := by
  pointwise [rScores]
  rfl
theorem rTop_at (h : Fin 16) (q : Fin 8192) : rTop s (ix2 h q)
    = Finset.univ.fold max (Ideal.ofBits .f32 0xFF800000#32) (fun k => s (ix3 h q k)) := by
  pointwise [rTop]
theorem rMax_at (h : Fin 16) (q : Fin 8192) : rMax M (ix2 h q) = max (Ideal.ofBits .f32 0xFF800000#32) (M (ix2 h q)) := by
  pointwise [rMax]
theorem rExp_at (h : Fin 16) (q k : Fin 8192) :
    rExp s M (ix3 h q k) = Ideal.exp (s (ix3 h q k) - M (ix2 h q)) := by
  pointwise [rExp]
theorem rSum_at (h : Fin 16) (q : Fin 8192) : rSum e (ix3 h q 0) = ∑ k, e (ix3 h q k) := by
  pointwise [rSum]
theorem rDiv_at (h : Fin 16) (q k : Fin 8192) :
    rDiv e l (ix3 h q k) = Ideal.div (e (ix3 h q k)) (l (ix3 h q 0)) := by
  pointwise [rDiv]
theorem rInv_at (h : Fin 16) (q : Fin 8192) :
    rInv l (ix3 h q 0) = Ideal.div (Ideal.ofBits .f32 0x3F800000#32) (l (ix3 h q 0) * l (ix3 h q 0)) := by
  pointwise [rInv]
theorem rDp_at (h : Fin 16) (q k : Fin 8192) :
    rDp a4 a5 (ix3 h q k) = ∑ d, a5 (ix3 q h d) * a4 (ix3 k h d) := by
  pointwise [rDp]
theorem rOwed_at (h : Fin 16) (q : Fin 8192) :
    rOwed dp e i (ix2 h q) = -∑ k, dp (ix3 h q k) * i (ix3 h q 0) * e (ix3 h q k) := by
  pointwise [rOwed]
  exact Finset.sum_const _ |>.trans (one_nsmul _)
theorem rDs_at (h : Fin 16) (q k : Fin 8192) : rDs b dl e o (ix3 h q k)
    = Scalar.select (b (ix3 h q k)) ((dl (ix3 h q k) + o (ix2 h q)) * e (ix3 h q k)) 0
        * Ideal.ofBits .f32 0x3DD105EC#32 := by
  pointwise [rDs]
theorem rOutQ_in (r : Fin 8192) (j : Fin 2048) (hj : j.val % 128 < 96) : rOutQ ds Ks (ix2 r j)
    = ∑ k, ds (ix3 ⟨j.val / 128, by omega⟩ r k) * Ks (ix3 k ⟨j.val / 128, by omega⟩ ⟨j.val % 128, hj⟩) := by
  have hh : j.val / 128 < 16 := by omega
  pointwise [rOutQ]
  exact dif_pos ⟨hh, hj⟩
theorem rOutQ_out (r : Fin 8192) (j : Fin 2048) (hj : ¬ j.val % 128 < 96) : rOutQ ds Ks (ix2 r j) = (0 : EReal) := by
  pointwise [rOutQ]
  exact (dif_neg (fun hh => hj hh.2)).trans pad_zero
theorem rOutK_in (r : Fin 8192) (j : Fin 2048) (hj : j.val % 128 < 96) : rOutK ds Qs (ix2 r j)
    = ∑ q, ds (ix3 ⟨j.val / 128, by omega⟩ q r) * Qs (ix3 q ⟨j.val / 128, by omega⟩ ⟨j.val % 128, hj⟩) := by
  have hh : j.val / 128 < 16 := by omega
  pointwise [rOutK]
  exact dif_pos ⟨hh, hj⟩
theorem rOutK_out (r : Fin 8192) (j : Fin 2048) (hj : ¬ j.val % 128 < 96) : rOutK ds Qs (ix2 r j) = (0 : EReal) := by
  pointwise [rOutK]
  exact (dif_neg (fun hh => hj hh.2)).trans pad_zero
theorem rOutV_in (r : Fin 8192) (j : Fin 2048) (hj : j.val % 128 < 64) : rOutV a5 p (ix2 r j)
    = ∑ q, a5 (ix3 q ⟨j.val / 128, by omega⟩ ⟨j.val % 128, hj⟩) * p (ix3 ⟨j.val / 128, by omega⟩ q r) := by
  have hh : j.val / 128 < 16 := by omega
  pointwise [rOutV]
  exact dif_pos ⟨hh, hj⟩
theorem rOutV_out (r : Fin 8192) (j : Fin 2048) (hj : ¬ j.val % 128 < 64) : rOutV a5 p (ix2 r j) = (0 : EReal) := by
  pointwise [rOutV]
  exact (dif_neg (fun hh => hj hh.2)).trans pad_zero

end Cert.ReferenceIdeal.Attn
-- ==== Proof.RefReal.lean ====
module

public import proofs.«01_k».proof.Proof.RefVal

/-! # The reference's results as real numbers -/

@[expose] public section

set_option maxRecDepth 16384

noncomputable section

namespace Cert.Math

open Idealize.ShloMosaic
open scoped BigOperators

variable (x : Args) (h : Fin 16)

/-- A sum over 128 lanes of which the last 32 add nothing. -/
theorem sum_96 (f : Fin 128 → ℝ) (hf : ∀ c : Fin 128, ¬ c.val < 96 → f c = 0) :
    ∑ c : Fin 96, f ⟨c.val, by omega⟩ = ∑ c, f c := by
  have e : ∑ c : Fin (96 + 32), f c = ∑ d : Fin 96, f (Fin.castAdd 32 d) + ∑ r : Fin 32, f (Fin.natAdd 96 r) :=
    Fin.sum_univ_add _
  have z : ∑ r : Fin 32, f (Fin.natAdd 96 r) = 0 :=
    Finset.sum_eq_zero fun r _ => hf _ (by rw [Fin.val_natAdd]; omega)
  refine Eq.trans ?_ e.symm
  rw [z, add_zero]
  rfl

theorem Q_zero (q : Fin 8192) (c : Fin 128) (hc : ¬ c.val < 96) : Q x h q c = 0 :=
  (dif_neg (by omega)).trans (dif_neg hc)
theorem K_zero (k : Fin 8192) (c : Fin 128) (hc : ¬ c.val < 96) : K x h k c = 0 :=
  (dif_neg (by omega)).trans (dif_neg hc)

theorem dQ_zero (q : Fin 8192) (c : Fin 128) (hc : ¬ c.val < 96) : dQ x h q c = 0 :=
  Finset.sum_eq_zero fun k _ => by rw [K_zero x h k c hc, mul_zero]
theorem dK_zero (k : Fin 8192) (c : Fin 128) (hc : ¬ c.val < 96) : dK x h k c = 0 :=
  Finset.sum_eq_zero fun q _ => by rw [Q_zero x h q c hc, mul_zero]
theorem dV_zero (k : Fin 8192) (c : Fin 128) (hc : ¬ c.val < 64) : dV x h k c = 0 :=
  Finset.sum_eq_zero fun q _ => by rw [show G x h q c = 0 from dif_neg hc, mul_zero]

/-- What the sum of weights owes: the row's mean over the row's sum. -/
theorem owed_real (q : Fin 8192) (R : ℝ) :
    -∑ k, dprob x h q k * (1 / (tot x h q * Real.exp (-R) * (tot x h q * Real.exp (-R)))) * (wgt x h q k * Real.exp (-R))
      = -(delta x h q / (tot x h q * Real.exp (-R))) := by
  have ht := (tot_pos x h q).ne'
  have he := (Real.exp_pos (-R)).ne'
  unfold delta prob
  rw [Finset.sum_div]
  refine congrArg _ (Finset.sum_congr rfl fun k _ => ?_)
  field_simp

/-- The product's cotangent, put together from the row's figures. -/
theorem dsc_real (q k : Fin 8192) (R : ℝ) :
    (dprob x h q k / (tot x h q * Real.exp (-R)) + -(delta x h q / (tot x h q * Real.exp (-R))))
        * (wgt x h q k * Real.exp (-R)) * s0 = dsc x h q k := by
  have ht := (tot_pos x h q).ne'
  have he := (Real.exp_pos (-R)).ne'
  unfold dsc prob
  field_simp
  ring

end Cert.Math

namespace Cert.ReferenceIdeal.Attn

open Cert.ReferenceIdeal Cert.ReferenceIdeal.Gen Cert.Math
open Idealize.ShloMosaic Idealize.ShloMosaic.TcCoe
open scoped BigOperators

/-- The arguments hold the real numbers `x`. -/
structure Holds (x : Args) (a0 : FVec Ideal S8192x16x64 .f32) (a1 : FVec Ideal S8192x16x32 .f32)
    (a2 : FVec Ideal S8192x16x64 .f32) (a3 : FVec Ideal S8192x32 .f32) (a4 a5 : FVec Ideal S8192x16x64 .f32) : Prop where
  qn : ∀ i h d, a0 (ix3 i h d) = ((x.qn i h d : ℝ) : EReal)
  qp : ∀ i h d, a1 (ix3 i h d) = ((x.qp i h d : ℝ) : EReal)
  kn : ∀ i h d, a2 (ix3 i h d) = ((x.kn i h d : ℝ) : EReal)
  kp : ∀ i d, a3 (ix2 i d) = ((x.kp i d : ℝ) : EReal)
  v : ∀ i h d, a4 (ix3 i h d) = ((x.v i h d : ℝ) : EReal)
  g : ∀ i h d, a5 (ix3 i h d) = ((x.g i h d : ℝ) : EReal)

variable {x : Args} {a0 a2 a4 a5 : FVec Ideal S8192x16x64 .f32} {a1 : FVec Ideal S8192x16x32 .f32}
  {a3 : FVec Ideal S8192x32 .f32}
  {b : IVec S16x8192x8192 1} {s e p dp dl ds : FVec Ideal S16x8192x8192 .f32} {M o : FVec Ideal S16x8192 .f32}
  {l i : FVec Ideal S16x8192x1 .f32} {Qs Ks : FVec Ideal S8192x16x96 .f32}

section
variable (hx : Holds x a0 a1 a2 a3 a4 a5)
include hx

theorem rQ_val (r : Fin 8192) (h : Fin 16) (c : Fin 96) :
    rQ a0 a1 (ix3 r h c) = ((Q x h r ⟨c.val, by omega⟩ : ℝ) : EReal) := by
  by_cases h1 : c.val < 64
  · have e : Q x h r ⟨c.val, by omega⟩ = x.qn r h ⟨c.val, h1⟩ := dif_pos h1
    exact (rQ_lo r h c h1).trans ((hx.qn _ _ _).trans (congrArg Real.toEReal e.symm))
  · have e : Q x h r ⟨c.val, by omega⟩ = x.qp r h ⟨c.val - 64, by omega⟩ := (dif_neg h1).trans (dif_pos c.isLt)
    exact (rQ_hi r h c h1).trans ((hx.qp _ _ _).trans (congrArg Real.toEReal e.symm))

theorem rK_val (r : Fin 8192) (h : Fin 16) (c : Fin 96) :
    rK a2 a3 (ix3 r h c) = ((K x h r ⟨c.val, by omega⟩ : ℝ) : EReal) := by
  by_cases h1 : c.val < 64
  · have e : K x h r ⟨c.val, by omega⟩ = x.kn r h ⟨c.val, h1⟩ := dif_pos h1
    exact (rK_lo r h c h1).trans ((hx.kn _ _ _).trans (congrArg Real.toEReal e.symm))
  · have e : K x h r ⟨c.val, by omega⟩ = x.kp r ⟨c.val - 64, by omega⟩ := (dif_neg h1).trans (dif_pos c.isLt)
    exact (rK_hi r h c h1).trans ((hx.kp _ _).trans (congrArg Real.toEReal e.symm))

theorem rDp_val (h : Fin 16) (q k : Fin 8192) : rDp a4 a5 (ix3 h q k) = ((dprob x h q k : ℝ) : EReal) := by
  rw [rDp_at]
  simp only [hx.v, hx.g, ← EReal.coe_mul, ← coe_sum]
  rfl

end

/-- Which keys a query sees, as a bit. -/
theorem rMask_val (h : Fin 16) (q k : Fin 8192) :
    rMask (ix3 h q k) = BitVec.ofBool (decide (k.val ≤ q.val)) := by
  rw [rMask_at, sle_word]

section
variable (hq : ∀ r h c, Qs (ix3 r h c) = ((Q x h r ⟨c.val, by omega⟩ : ℝ) : EReal))
  (hk : ∀ r h c, Ks (ix3 r h c) = ((K x h r ⟨c.val, by omega⟩ : ℝ) : EReal))
  (hb : ∀ h q k, b (ix3 h q k) = BitVec.ofBool (decide (k.val ≤ q.val)))

include hq hk hb in
theorem rScores_val (h : Fin 16) (q k : Fin 8192) : rScores b Qs Ks (ix3 h q k) = score x h q k := by
  have e : ∑ c : Fin 96, Q x h q ⟨c.val, by omega⟩ * K x h k ⟨c.val, by omega⟩ = raw x h q k := by
    rw [← raw_lanes]
    refine (sum_96 (fun c => Q x h q c * K x h k c) fun c hc => ?_).trans
      (Finset.sum_congr rfl fun c _ => mul_comm _ _)
    rw [K_zero x h k c hc, mul_zero]
  rw [rScores_at, hb, s0_word, inf_word]
  simp only [hq, hk, ← EReal.coe_mul, ← coe_sum]
  rw [e]
  unfold score Scalar.select
  by_cases hkq : k.val ≤ q.val
  · rw [if_pos hkq, decide_eq_true hkq]
    rfl
  · rw [if_neg hkq, decide_eq_false hkq]
    rfl

/-- A row's weights and their sum, both next to the same number. -/
theorem row_val (hs : ∀ h q k, s (ix3 h q k) = score x h q k) (h : Fin 16) (q : Fin 8192) : ∃ R : ℝ,
    (∀ k, rExp s (rMax (rTop s)) (ix3 h q k) = ((wgt x h q k * Real.exp (-R) : ℝ) : EReal))
    ∧ rSum (rExp s (rMax (rTop s))) (ix3 h q 0) = ((tot x h q * Real.exp (-R) : ℝ) : EReal) := by
  obtain ⟨R, hR⟩ := score_max x h q
  have hM : rMax (rTop s) (ix2 h q) = (R : EReal) := by
    rw [rMax_at, rTop_at, inf_word]
    simp only [hs]
    rw [hR]
    exact max_eq_right bot_le
  have he : ∀ k, rExp s (rMax (rTop s)) (ix3 h q k) = ((wgt x h q k * Real.exp (-R) : ℝ) : EReal) := fun k => by
    rw [rExp_at, hs, hM, exp_score]
  refine ⟨R, he, ?_⟩
  rw [rSum_at]
  simp only [he]
  exact sum_exp x h q R

section
variable (hrow : ∀ h q, ∃ R : ℝ, (∀ k, e (ix3 h q k) = ((wgt x h q k * Real.exp (-R) : ℝ) : EReal))
    ∧ l (ix3 h q 0) = ((tot x h q * Real.exp (-R) : ℝ) : EReal))
  (hdp : ∀ h q k, dp (ix3 h q k) = ((dprob x h q k : ℝ) : EReal))
include hrow

theorem rProb_val (h : Fin 16) (q k : Fin 8192) : rDiv e l (ix3 h q k) = ((prob x h q k : ℝ) : EReal) := by
  obtain ⟨R, he, hl⟩ := hrow h q
  rw [rDiv_at, he, hl]
  exact prob_real x h q k R

include hb hdp in
theorem rDs_val (h : Fin 16) (q k : Fin 8192) :
    rDs b (rDiv dp l) e (rOwed dp e (rInv l)) (ix3 h q k) = ((dsc x h q k : ℝ) : EReal) := by
  obtain ⟨R, he, hl⟩ := hrow h q
  have hpos : tot x h q * Real.exp (-R) ≠ 0 := (mul_pos (tot_pos x h q) (Real.exp_pos _)).ne'
  have ho : rOwed dp e (rInv l) (ix2 h q) = ((-(delta x h q / (tot x h q * Real.exp (-R))) : ℝ) : EReal) := by
    rw [rOwed_at, rInv_at, hl, one_word, ← EReal.coe_mul, div_real _ _ (mul_ne_zero hpos hpos)]
    simp only [hdp, he, ← EReal.coe_mul, ← coe_sum]
    rw [← EReal.coe_neg, owed_real]
  rw [rDs_at, hb, ho, rDiv_at, hdp, hl, he, div_real _ _ hpos, s0_word, ← EReal.coe_add, ← EReal.coe_mul]
  by_cases hkq : k.val ≤ q.val
  · rw [decide_eq_true hkq, ← dsc_real x h q k R, EReal.coe_mul]
    rfl
  · rw [decide_eq_false hkq, dsc_later x h hkq]
    exact zero_mul _

end

include hk in
theorem rOutQ_val (hds : ∀ h q k, ds (ix3 h q k) = ((dsc x h q k : ℝ) : EReal)) (r : Fin 8192) (j : Fin 2048) :
    rOutQ ds Ks (ix2 r j)
      = ((dQ x ⟨j.val / 128, by omega⟩ r ⟨j.val % 128, Nat.mod_lt _ (by omega)⟩ : ℝ) : EReal) := by
  by_cases hj : j.val % 128 < 96
  · rw [rOutQ_in r j hj]
    simp only [hds, hk, ← EReal.coe_mul, ← coe_sum]
    rfl
  · exact (rOutQ_out r j hj).trans (congrArg Real.toEReal (dQ_zero x _ r _ hj).symm)

include hq in
theorem rOutK_val (hds : ∀ h q k, ds (ix3 h q k) = ((dsc x h q k : ℝ) : EReal)) (r : Fin 8192) (j : Fin 2048) :
    rOutK ds Qs (ix2 r j)
      = ((dK x ⟨j.val / 128, by omega⟩ r ⟨j.val % 128, Nat.mod_lt _ (by omega)⟩ : ℝ) : EReal) := by
  by_cases hj : j.val % 128 < 96
  · rw [rOutK_in r j hj]
    simp only [hds, hq, ← EReal.coe_mul, ← coe_sum]
    rfl
  · exact (rOutK_out r j hj).trans (congrArg Real.toEReal (dK_zero x _ r _ hj).symm)

theorem rOutV_val (hg : ∀ i h d, a5 (ix3 i h d) = ((x.g i h d : ℝ) : EReal))
    (hp : ∀ h q k, p (ix3 h q k) = ((prob x h q k : ℝ) : EReal)) (r : Fin 8192) (j : Fin 2048) :
    rOutV a5 p (ix2 r j)
      = ((dV x ⟨j.val / 128, by omega⟩ r ⟨j.val % 128, Nat.mod_lt _ (by omega)⟩ : ℝ) : EReal) := by
  by_cases hj : j.val % 128 < 64
  · rw [rOutV_in r j hj]
    simp only [hg, hp, ← EReal.coe_mul, ← coe_sum]
    refine congrArg Real.toEReal (Finset.sum_congr rfl fun q _ => ?_)
    have e : G x ⟨j.val / 128, by omega⟩ q ⟨j.val % 128, Nat.mod_lt _ (by omega)⟩
      = x.g q ⟨j.val / 128, by omega⟩ ⟨j.val % 128, hj⟩ := dif_pos hj
    exact (mul_comm _ _).trans (congrArg _ e.symm)
  · exact (rOutV_out r j hj).trans (congrArg Real.toEReal (dV_zero x _ r _ hj).symm)

end

end Cert.ReferenceIdeal.Attn
-- ==== Proof.RefRun.lean ====
module

public import proofs.«01_k».proof.Proof.RefReal

/-! # The reference's results, step by step -/

@[expose] public section

set_option maxRecDepth 16384

noncomputable section

namespace Cert.ReferenceIdeal.Attn

open Cert.ReferenceIdeal Cert.ReferenceIdeal.Gen Cert.Math
open Idealize.ShloMosaic Idealize.ShloMosaic.TcCoe
open scoped BigOperators

variable (m : (ℓ : Loc nD τ sig) → Buf (Elt Ideal) ℓ) (c : Dev nD)

/-- The launched arguments' queries, keys, scores and weights. -/
def qOf : FVec Ideal S8192x16x96 .f32 :=
  rQ (m ((c.tc : Thread nD τ).loc main_arg0)) (m ((c.tc : Thread nD τ).loc main_arg1))
def kOf : FVec Ideal S8192x16x96 .f32 :=
  rK (m ((c.tc : Thread nD τ).loc main_arg2)) (m ((c.tc : Thread nD τ).loc main_arg3))
def sOf : FVec Ideal S16x8192x8192 .f32 := rScores rMask (qOf m c) (kOf m c)
def eOf : FVec Ideal S16x8192x8192 .f32 := rExp (sOf m c) (rMax (rTop (sOf m c)))
def dpOf : FVec Ideal S16x8192x8192 .f32 :=
  rDp (m ((c.tc : Thread nD τ).loc main_arg4)) (m ((c.tc : Thread nD τ).loc main_arg5))
def dsOf : FVec Ideal S16x8192x8192 .f32 :=
  rDs rMask (rDiv (dpOf m c) (rSum (eOf m c))) (eOf m c) (rOwed (dpOf m c) (eOf m c) (rInv (rSum (eOf m c))))

theorem res_v : Value.res_main_v73 m c
    = rOutV (m ((c.tc : Thread nD τ).loc main_arg5)) (rDiv (eOf m c) (rSum (eOf m c))) := by
  unfold Value.res_main_v73 eOf sOf qOf kOf rOutV rDiv rSum rExp rMax rTop rScores rMask rQ rK
  rfl

theorem res_k : Value.res_main_v71 m c = rOutK (dsOf m c) (qOf m c) := by
  unfold Value.res_main_v71 dsOf dpOf eOf sOf qOf kOf rOutK rDs rOwed rInv rDiv rDp rSum rExp rMax rTop rScores rMask rQ rK
  rfl

theorem res_q : Value.res_main_v69 m c = rOutQ (dsOf m c) (kOf m c) := by
  unfold Value.res_main_v69 dsOf dpOf eOf sOf qOf kOf rOutQ rDs rOwed rInv rDiv rDp rSum rExp rMax rTop rScores rMask rQ rK
  rfl

variable {x : Args} (hx : Holds x (m ((c.tc : Thread nD τ).loc main_arg0)) (m ((c.tc : Thread nD τ).loc main_arg1))
  (m ((c.tc : Thread nD τ).loc main_arg2)) (m ((c.tc : Thread nD τ).loc main_arg3))
  (m ((c.tc : Thread nD τ).loc main_arg4)) (m ((c.tc : Thread nD τ).loc main_arg5)))
include hx

theorem row_of (h : Fin 16) (q : Fin 8192) : ∃ R : ℝ,
    (∀ k, eOf m c (ix3 h q k) = ((wgt x h q k * Real.exp (-R) : ℝ) : EReal))
    ∧ rSum (eOf m c) (ix3 h q 0) = ((tot x h q * Real.exp (-R) : ℝ) : EReal) :=
  row_val (s := sOf m c) (rScores_val (rQ_val hx) (rK_val hx) rMask_val) h q

theorem ds_of (h : Fin 16) (q k : Fin 8192) : dsOf m c (ix3 h q k) = ((dsc x h q k : ℝ) : EReal) :=
  rDs_val rMask_val (row_of m c hx) (rDp_val hx) h q k

theorem v73_val (r : Fin 8192) (j : Fin 2048) : (Value.res_main_v73 m c : FVec Ideal S8192x2048 .f32) (ix2 r j)
    = ((dV x ⟨j.val / 128, by omega⟩ r ⟨j.val % 128, Nat.mod_lt _ (by omega)⟩ : ℝ) : EReal) :=
  (congrFun (res_v m c) _).trans (rOutV_val hx.g (rProb_val (row_of m c hx)) r j)

theorem v71_val (r : Fin 8192) (j : Fin 2048) : (Value.res_main_v71 m c : FVec Ideal S8192x2048 .f32) (ix2 r j)
    = ((dK x ⟨j.val / 128, by omega⟩ r ⟨j.val % 128, Nat.mod_lt _ (by omega)⟩ : ℝ) : EReal) :=
  (congrFun (res_k m c) _).trans (rOutK_val (rQ_val hx) (ds_of m c hx) r j)

theorem v69_val (r : Fin 8192) (j : Fin 2048) : (Value.res_main_v69 m c : FVec Ideal S8192x2048 .f32) (ix2 r j)
    = ((dQ x ⟨j.val / 128, by omega⟩ r ⟨j.val % 128, Nat.mod_lt _ (by omega)⟩ : ℝ) : EReal) :=
  (congrFun (res_q m c) _).trans (rOutQ_val (rK_val hx) (ds_of m c hx) r j)

end Cert.ReferenceIdeal.Attn
-- ==== Proof.Values.lean ====
module

public import proofs.«01_k».proof.Defs
public import proofs.«01_k».proof.Proof.Finite
public import proofs.«01_k».proof.Proof.Frames
public import proofs.«01_k».proof.Proof.PointIn
public import proofs.«01_k».proof.Proof.RefRun
public import Idealize.ShloMosaic.Lib.Claim

/-! # The gradients: kernel and reference are one function of finite arguments -/

@[expose] public section

set_option maxRecDepth 16384

noncomputable section

namespace Cert.Proof

open Idealize.ShloMosaic Idealize.ShloMosaic.TcCoe Idealize.SL.Sem Cert.Math

/-- The precondition's side conditions. -/
theorem facts_finite : Cert.Pre_finite.Facts := ⟨by decide, by decide, by decide⟩

/-- The real numbers that six arrays of finite numbers hold. -/
def argsOf (a0 : FVec Ideal KernelIdeal.S8192x16x64 .f32) (a1 : FVec Ideal KernelIdeal.S8192x16x32 .f32)
    (a2 : FVec Ideal KernelIdeal.S8192x16x64 .f32) (a3 : FVec Ideal KernelIdeal.S8192x32 .f32)
    (a4 a5 : FVec Ideal KernelIdeal.S8192x16x64 .f32) : Args where
  qn i h d := (a0 (ix3 i h d) : EReal).toReal
  qp i h d := (a1 (ix3 i h d) : EReal).toReal
  kn i h d := (a2 (ix3 i h d) : EReal).toReal
  kp i d := (a3 (ix2 i d) : EReal).toReal
  v i h d := (a4 (ix3 i h d) : EReal).toReal
  g i h d := (a5 (ix3 i h d) : EReal).toReal

variable (m : (ℓ : Loc Cert.KernelIdeal.nD Cert.KernelIdeal.τ Cert.KernelIdeal.sig) → Buf (Elt Ideal) ℓ)

/-- The launched arguments as real numbers. -/
def xOf (c : Dev Cert.KernelIdeal.nD) : Args :=
  argsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- Finite arguments hold real numbers. -/
theorem holds (hp : Cert.Pre_KernelIdeal_finite (hPre_finite := facts_finite) m) (c : Dev Cert.KernelIdeal.nD) :
    Cert.KernelIdeal.Attn.Holds (xOf m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) :=
  ⟨fun i h d => real_of_fin _ _ (hp c).1 (ix3 i h d), fun i h d => real_of_fin _ _ (hp c).2.1 (ix3 i h d),
    fun i h d => real_of_fin _ _ (hp c).2.2.1 (ix3 i h d), fun i d => real_of_fin _ _ (hp c).2.2.2.1 (ix2 i d),
    fun i h d => real_of_fin _ _ (hp c).2.2.2.2.1 (ix3 i h d), fun i h d => real_of_fin _ _ (hp c).2.2.2.2.2 (ix3 i h d)⟩

/-- The kernel's run: the three gradients, the arguments unchanged. -/
theorem kernel_run (hp : Cert.Pre_KernelIdeal_finite (hPre_finite := facts_finite) m)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
          r.2.mem ((c.tc : Thread Cert.KernelIdeal.nD Cert.KernelIdeal.τ).loc Cert.KernelIdeal.main_v50_0)
            = Cert.KernelIdeal.Attn.spread (dQ (xOf m c))
          ∧ r.2.mem ((c.tc : Thread Cert.KernelIdeal.nD Cert.KernelIdeal.τ).loc Cert.KernelIdeal.main_v50_1)
            = Cert.KernelIdeal.Attn.spread (dK (xOf m c))
          ∧ r.2.mem ((c.tc : Thread Cert.KernelIdeal.nD Cert.KernelIdeal.τ).loc Cert.KernelIdeal.main_v50_2)
            = Cert.KernelIdeal.Attn.spread (dV (xOf m c))) :=
  (θ_run Cert.KernelIdeal.defs _ _).mono
    (fun r h c =>
      have hg := fun t => Cert.KernelIdeal.Attn.good m c t (holds m hp c)
      ⟨((h.1 c).1 7).trans (Cert.KernelIdeal.Attn.final7 m hg),
        ((h.1 c).1 8).trans (Cert.KernelIdeal.Attn.final8 m hg),
        ((h.1 c).1 9).trans (Cert.KernelIdeal.Attn.final9 m hg)⟩)
    (Cert.KernelIdeal.Attn.run_main m g)

/-- A result array is its entries. -/
theorem eq_spread (f : Fin 16 → Fin 8192 → Fin 128 → ℝ) (a : FVec Ideal Cert.ReferenceIdeal.S8192x2048 .f32)
    (ha : ∀ (r : Fin 8192) (j : Fin 2048), a (ix2 r j)
      = ((f ⟨j.val / 128, by omega⟩ r ⟨j.val % 128, Nat.mod_lt _ (by omega)⟩ : ℝ) : EReal)) :
    a = Cert.KernelIdeal.Attn.spread f := by
  funext i
  refine (congrArg a (Cert.KernelIdeal.Attn.ix2_eta i)).trans ((ha (i 0) (i 1)).trans ?_)
  rfl

variable (m' : (ℓ : Loc Cert.ReferenceIdeal.nD Cert.ReferenceIdeal.τ Cert.ReferenceIdeal.sig) → Buf (Elt Ideal) ℓ)

/-- The reference's run from the same arguments: the same three arrays. -/
theorem reference_run {x : Dev Cert.ReferenceIdeal.nD → Args} (g : Dev Cert.ReferenceIdeal.nD → PrngReg)
    (hx : ∀ c : Dev Cert.ReferenceIdeal.nD, Cert.ReferenceIdeal.Attn.Holds (x c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))) :
    θ_run (Cert.ReferenceIdeal.defs (F := Ideal)) (onTc (τ := Cert.ReferenceIdeal.τ) (Cert.ReferenceIdeal.main (F := Ideal)))
      ⟨m', fun _ => 0, g⟩ (fun r => ∀ c : Dev Cert.ReferenceIdeal.nD,
          r.2.mem ((c.tc : Thread Cert.ReferenceIdeal.nD Cert.ReferenceIdeal.τ).loc Cert.ReferenceIdeal.main_v69)
            = Cert.KernelIdeal.Attn.spread (dQ (x c))
          ∧ r.2.mem ((c.tc : Thread Cert.ReferenceIdeal.nD Cert.ReferenceIdeal.τ).loc Cert.ReferenceIdeal.main_v71)
            = Cert.KernelIdeal.Attn.spread (dK (x c))
          ∧ r.2.mem ((c.tc : Thread Cert.ReferenceIdeal.nD Cert.ReferenceIdeal.τ).loc Cert.ReferenceIdeal.main_v73)
            = Cert.KernelIdeal.Attn.spread (dV (x c))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono
    (fun r h c =>
      ⟨(h c).1.trans (eq_spread _ _ (Cert.ReferenceIdeal.Attn.v69_val m' c (hx c))),
        (h c).2.1.trans (eq_spread _ _ (Cert.ReferenceIdeal.Attn.v71_val m' c (hx c))),
        (h c).2.2.1.trans (eq_spread _ _ (Cert.ReferenceIdeal.Attn.v73_val m' c (hx c))),
        (h c).2.2.2⟩)
    (Cert.ReferenceIdeal.Value.run (F := Ideal) m' g)

/-- Kernel and reference compute the same gradients of finite arguments. -/
theorem same : Cert.algebraic_KernelIdeal_ReferenceIdeal_pre_finite (hPre_finite := facts_finite) := by
  intro m g m' g' hp ha
  refine ⟨fun c => Cert.KernelIdeal.Attn.spread (dQ (xOf m c)), fun c => Cert.KernelIdeal.Attn.spread (dK (xOf m c)),
    fun c => Cert.KernelIdeal.Attn.spread (dV (xOf m c)), ?_, ?_⟩
  · refine (θ_run Cert.KernelIdeal.defs _ _).mono (fun r h c => ?_)
      (θ_run_and (kernel_run m hp g) (Cert.KernelIdeal.Attn.frame m g))
    obtain ⟨h0, h1, h2⟩ := h.1 c
    exact ⟨h0, h1, h2, h.2.1 c⟩
  · refine reference_run m' (x := fun c => xOf m c) g' fun c => ?_
    obtain ⟨h0, h1, h2, h3, h4, h5⟩ := ha c
    have hh := holds m hp c
    rw [h0, h1, h2, h3, h4, h5]
    exact ⟨hh.qn, hh.qp, hh.kn, hh.kp, hh.v, hh.g⟩

end Cert.Proof
-- ==== Proof.Plain.lean ====
module

public import Idealize.ShloMosaic.Lib.Pointwise

/-! # Indices of matrices, for the calls that are one plain product -/

@[expose] public section

namespace Cert.Plain

open Idealize.ShloMosaic

theorem hz : (![0, 0] : Fin 2 → Nat) = fun _ => 0 := funext fun a => by fin_cases a <;> rfl

theorem eta {a b : ℕ} (y : (⟨2, ![a, b]⟩ : Shape).Idx) : y = ix2 (y 0) (y 1) := by
  funext k
  fin_cases k <;> rfl

/-- An index is known by its two coordinates. -/
theorem ix2_of {a b : ℕ} (y : (⟨2, ![a, b]⟩ : Shape).Idx) (i : Fin a) (j : Fin b) (h0 : (y 0).val = i.val) (h1 : (y 1).val = j.val) :
    y = ix2 i j :=
  funext fun k => match k with
    | ⟨0, _⟩ => Fin.ext h0
    | ⟨1, _⟩ => Fin.ext h1

end Cert.Plain
-- ==== Proof.Wide.lean ====
module

public import proofs.«01_k».proof.Proof.Blocks
public import proofs.«01_k».proof.Proof.Plain

/-! # Sixteen heads of fewer than 128 lanes, each padded with zeros to 128 -/

@[expose] public section

noncomputable section

namespace Cert.Plain

open Idealize.ShloMosaic
open scoped BigOperators

/-- A row of sixteen heads of `W` lanes each, on 128 lanes a head. -/
def wide (W n : ℕ) (hn : 16 * W = n) (x : Fin n → EReal) (c : Fin 2048) : EReal :=
  if h : c.val % 128 < W then x ⟨c.val / 128 * W + c.val % 128, Math.place_lt hn ⟨c.val / 128, by omega⟩ ⟨c.val % 128, h⟩⟩ else 0

/-- A sum of which only the first terms count. -/
theorem sum_cut (W d B : ℕ) (hB : W + d = B) (g : Fin W → EReal) :
    (∑ r : Fin B, if h : r.val < W then g ⟨r.val, h⟩ else 0) = ∑ r : Fin W, g r := by
  subst hB
  rw [Fin.sum_univ_add]
  have e1 : (∑ r : Fin W, if h : (Fin.castAdd d r).val < W then g ⟨(Fin.castAdd d r).val, h⟩ else 0) = ∑ r : Fin W, g r :=
    Finset.sum_congr rfl fun r _ => dif_pos r.isLt
  have e2 : (∑ r : Fin d, if h : (Fin.natAdd W r).val < W then g ⟨(Fin.natAdd W r).val, h⟩ else 0) = 0 :=
    Finset.sum_eq_zero fun r _ => dif_neg (by show ¬ W + r.val < W; omega)
  rw [e1, e2, add_zero]

/-- The padding adds nothing to a sum over the lanes. -/
theorem sum_wide (W d n : ℕ) (hB : W + d = 128) (hn : 16 * W = n) (x : Fin n → EReal) :
    ∑ c, wide W n hn x c = ∑ k, x k := by
  rw [Math.sum_blocks 16 128 2048 rfl, Math.sum_blocks 16 W n hn]
  refine Finset.sum_congr rfl fun q _ => ?_
  refine Eq.trans (Finset.sum_congr rfl fun r _ => ?_) (sum_cut W d 128 hB fun r => x ⟨q.val * W + r.val, Math.place_lt hn q r⟩)
  have e0 : (q.val * 128 + r.val) % 128 = r.val := by omega
  have e1 : (q.val * 128 + r.val) / 128 = q.val := by omega
  unfold wide
  dsimp only
  simp only [e0, e1]

/-- The padded array read at a lane. -/
theorem wide_of (W n : ℕ) (hn : 16 * W = n) (x : Fin n → EReal) (c : Fin 2048) (z : EReal) (hz : z = 0) :
    (if h : c.val / 128 < 16 ∧ c.val % 128 < W then x ⟨c.val / 128 * W + c.val % 128, Math.place_lt hn ⟨_, h.1⟩ ⟨_, h.2⟩⟩ else z)
      = wide W n hn x c := by
  have hh : c.val / 128 < 16 := by omega
  unfold wide
  by_cases h : c.val % 128 < W
  · rw [dif_pos h, dif_pos (And.intro hh h)]
  · rw [dif_neg h, dif_neg fun g => h (And.right g), hz]

/-- A product summed over the padded lanes. -/
theorem sum_wide_both (W d n : ℕ) (hB : W + d = 128) (hn : 16 * W = n) (x y : Fin n → EReal) :
    ∑ c, wide W n hn x c * wide W n hn y c = ∑ k, x k * y k := by
  rw [← sum_wide W d n hB hn fun k => x k * y k]
  refine Finset.sum_congr rfl fun c _ => ?_
  unfold wide
  split
  · rfl
  · exact mul_zero 0

/-- Products with padded rows, summed over the rows: the padded row of the sums. -/
theorem sum_wide_right {N : ℕ} (W n : ℕ) (hn : 16 * W = n) (y : Fin N → EReal) (x : Fin N → Fin n → EReal) (c : Fin 2048) :
    ∑ i, y i * wide W n hn (x i) c = wide W n hn (fun k => ∑ i, y i * x i k) c := by
  unfold wide
  split
  · rfl
  · exact Finset.sum_eq_zero fun i _ => mul_zero _

theorem sum_wide_left {N : ℕ} (W n : ℕ) (hn : 16 * W = n) (x : Fin N → Fin n → EReal) (y : Fin N → EReal) (c : Fin 2048) :
    ∑ i, wide W n hn (x i) c * y i = wide W n hn (fun k => ∑ i, x i k * y i) c := by
  unfold wide
  split
  · rfl
  · exact Finset.sum_eq_zero fun i _ => zero_mul _

/-- The padding, as its integer word says it. -/
theorem pad_zero (φ : FTy) : (FloatOps.sitofp (F := Ideal) φ 0#32 : EReal) = 0 := by
  show ((((0#32 : BitVec 32).toInt : ℤ) : ℝ) : EReal) = 0
  simp

end Cert.Plain
-- ==== Proof.Mm22.lean ====
module

public import proofs.«01_k».proof.Defs
public import proofs.«01_k».proof.Proof.Wide
public import proofs.«01_k».proof.Proof.Gen.Kernel22.Frame
public import proofs.«01_k».proof.Proof.Gen.Kernel22Ideal.Value
public import proofs.«01_k».proof.Proof.Gen.Reference22Ideal.Run
public import Idealize.ShloMosaic.Lib.Pipeline.ValueKit

/-! # The queries' second product -/

@[expose] public section

set_option maxRecDepth 16384

noncomputable section

namespace Cert.Kernel22Ideal.Plain

open Gen Value Cert.Plain
open Idealize.ShloMosaic Idealize.ShloMosaic.TcCoe
open scoped BigOperators

theorem out_eq (x : Vec Ideal S1024x512 .bf16) (w : Vec Ideal S512x1024 .bf16) : out0_2 x w = k0_pay1 x w := by
  unfold out0_2
  rw [View.canon_unit_zero hz, View.ld_unit_zero (S := S1024x512) hz, View.ld_unit_zero (S := S512x1024) hz]

theorem pay_at (x : Vec Ideal S1024x512 .bf16) (w : Vec Ideal S512x1024 .bf16) (r : Fin 1024) (b : Fin 1024) :
    (k0_pay1 x w (ix2 r b) : EReal) = ∑ k : Fin 512, (x (ix2 r k) : EReal) * w (ix2 k b) := by
  refine Eq.trans (b := 0 + ∑ k : Fin 512, (x (ix2 r k) : EReal) * w (ix2 k b)) ?_ (zero_add _)
  pointwise [k0_pay1]

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- Every head of a row padded to 128 lanes. -/
def padR (x : FVec Ideal S512x1536 .f32) : FVec Ideal S512x2048 .bf16 :=
  shapeCast S512x2048 (pad S512x16x128 ![0, 0, 0] ![0, 0, 32] ![0, 0, 0]
    (shapeCast S512x16x96 (truncf .bf16 x bitsLt_bf16_f32) shapeCasts_S512x1536_S512x16x96) (sitofp .bf16 (constantI S_ 32 0#32))
    pads_S512x16x96_S512x16x128_000_000_0320 h_S_) shapeCasts_S512x16x128_S512x2048

theorem padR_at (x : FVec Ideal S512x1536 .f32) (i : Fin 512) (c : Fin 2048) :
    (padR x (ix2 i c) : EReal) = wide 96 1536 rfl (fun k => x (ix2 i k)) c := by
  pointwise [padR]
  exact wide_of 96 1536 rfl (fun k => x (ix2 i k)) c _ (pad_zero .bf16)

variable (m : (ℓ : Loc nD τ sig) → Buf (Elt Ideal) ℓ) (d : Dev nD)

/-- The two arrays the call multiplies, as launched. -/
abbrev lhs : Vec Ideal S8192x512 .f32 := m ((d.tc : Thread nD τ).loc main_arg0)
abbrev rhs : Vec Ideal S512x1536 .f32 := m ((d.tc : Thread nD τ).loc main_arg1)

/-- What the call finds in the arrays it multiplies. -/
theorem reads : V m d main_v0 = truncf (F := Ideal) .bf16 (lhs m d) bitsLt_bf16_f32
    ∧ V m d main_v4 = padR (rhs m d) := by
  constructor <;> show StableHlo.after _ _ _ = _ <;> simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq] <;>
    after_results_simp <;> rfl

/-- The product at an index. -/
def prod (i : Fin 8192) (b : Fin 2048) : EReal := ∑ k : Fin 512, (lhs m d (ix2 i k) : EReal) * wide 96 1536 rfl (fun e => rhs m d (ix2 k e)) b

/-- The product without the padding. -/
theorem prod_plain (i : Fin 8192) (b : Fin 2048) : prod m d i b = wide 96 1536 rfl (fun e => ∑ k : Fin 512, (lhs m d (ix2 i k) : EReal) * rhs m d (ix2 k e)) b :=
  sum_wide_right 96 1536 rfl _ _ _

/-- The two blocks a point reads. -/
abbrev blk0 (t : Fin cfg0.N) : Vec Ideal S1024x512 .bf16 := iblk m d 0 t
abbrev blk1 (t : Fin cfg0.N) : Vec Ideal S512x1024 .bf16 := iblk m d 1 t

theorem lt_N (t : Fin cfg0.N) : t.val < 16 := lt_of_lt_of_eq t.isLt N_0

/-- The row and the column of the arrays at a point's. -/
abbrev row (t : Fin cfg0.N) (r : Fin 1024) : Fin 8192 := ⟨t.val / 2 * 1024 + r.val, by have := lt_N t; omega⟩
abbrev col (t : Fin cfg0.N) (b : Fin 1024) : Fin 2048 := ⟨t.val % 2 * 1024 + b.val, by omega⟩

theorem in0 (t : Fin cfg0.N) (r : Fin 1024) (k : Fin 512) :
    blk0 m d t (ix2 r k) = (V m d main_v0 : Vec Ideal S8192x512 .bf16) (ix2 (row t r) k) := by
  blk_ext [iblk, idx0 t] <;> rfl

theorem in1 (t : Fin cfg0.N) (k : Fin 512) (b : Fin 1024) :
    blk1 m d t (ix2 k b) = (V m d main_v4 : Vec Ideal S512x2048 .bf16) (ix2 k (col t b)) := by
  blk_ext [iblk, idx1 t] <;> rfl

theorem prod_eq (t : Fin cfg0.N) (r : Fin 1024) (b : Fin 1024) :
    (k0_pay1 (blk0 m d t) (blk1 m d t) (ix2 r b) : EReal) = prod m d (row t r) (col t b) := by
  rw [pay_at]
  refine Finset.sum_congr rfl fun x _ => ?_
  rw [in0, in1, (reads m d).1, (reads m d).2, padR_at]
  rfl

/-- The call's result. -/
def res : FVec Ideal S8192x2048 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (col t (y 1)) ?_ ?_)).symm)
  · blk_simp [idx2 t]
  · blk_simp [idx2 t]

end Cert.Kernel22Ideal.Plain

namespace Cert.Proof

open Cert.Plain Idealize.ShloMosaic Idealize.ShloMosaic.TcCoe Idealize.SL.Sem

theorem frame_reference22 : quiescent_Reference22Ideal := fun m ρ _ =>
  (θ_run Reference22Ideal.defs _ _).mono (fun r h => ⟨fun c => (h c).2, sem_eq_zero_of_no_sems (by decide) r.2⟩)
    (Reference22Ideal.Value.run (F := Ideal) m ρ)

section
open Reference22Ideal Reference22Ideal.Gen

/-- The reference's result. -/
def ref22 (x : FVec Ideal S8192x512 .f32) (w : FVec Ideal S512x1536 .f32) : FVec Ideal S8192x2048 .f32 :=
  shapeCast S8192x2048 (pad S8192x16x128 ![0, 0, 0] ![0, 0, 32] ![0, 0, 0]
    (shapeCast S8192x16x96 (Host.dotGeneral (φ₁ := .f32) (φ₂ := .f32) dot_S8192x512_S512x1536_S8192x1536_1_0_0_1_n_n none x w) shapeCasts_S8192x1536_S8192x16x96) (sitofp .f32 (constantI S_ 32 0#32))
    pads_S8192x16x96_S8192x16x128_000_000_0320 h_S_) shapeCasts_S8192x16x128_S8192x2048

theorem ref22_at (x : FVec Ideal S8192x512 .f32) (w : FVec Ideal S512x1536 .f32) (i : Fin 8192) (b : Fin 2048) :
    (ref22 x w (ix2 i b) : EReal) = wide 96 1536 rfl (fun e => ∑ k : Fin 512, (x (ix2 i k) : EReal) * w (ix2 k e)) b := by
  pointwise [ref22]
  exact wide_of 96 1536 rfl (fun e => ∑ k : Fin 512, (x (ix2 i k) : EReal) * w (ix2 k e)) b _ (pad_zero .f32)
end

theorem same22 : algebraic_Kernel22Ideal_Reference22Ideal := by
  intro m ρ m' ρ' _ hagree
  refine ⟨fun c => Kernel22Ideal.Plain.res m c, ?_, ?_⟩
  · refine (θ_run Kernel22Ideal.defs _ _).mono (fun _ h c => ?_) (Kernel22Ideal.Value.run_blocks (F := Ideal) m ρ)
    exact ⟨(h c).1.trans (Kernel22Ideal.Plain.final m c), (h c).2⟩
  · refine (θ_run Reference22Ideal.defs _ _).mono (fun _ h c => ⟨?_, (h c).2⟩) (Reference22Ideal.Value.run (F := Ideal) m' ρ')
    rw [(h c).1, (hagree c).1, (hagree c).2]
    funext y
    rw [eta y]
    exact (ref22_at _ _ (y 0) (y 1)).trans (Kernel22Ideal.Plain.prod_plain m c (y 0) (y 1)).symm

end Cert.Proof

end
-- ==== Proof.Spread.lean ====
module

public import proofs.«01_k».proof.Proof.Wide

/-! # Rows spread over more lanes, with zeros between -/

@[expose] public section

noncomputable section

namespace Cert.Plain

open Idealize.ShloMosaic
open scoped BigOperators

/-- A row on more lanes: lane `c` holds the entry that `f` names, or zero. -/
def put {N n : ℕ} (f : Fin N → Option (Fin n)) (x : Fin n → EReal) (c : Fin N) : EReal := (f c).elim 0 x

section
variable {N n : ℕ} (f : Fin N → Option (Fin n))

theorem put_some (x : Fin n → EReal) (c : Fin N) (k : Fin n) (h : f c = some k) : put f x c = x k := by
  unfold put; rw [h]; rfl

theorem put_none (x : Fin n → EReal) (c : Fin N) (h : f c = none) : put f x c = 0 := by
  unfold put; rw [h]; rfl

/-- The zeros add nothing to a sum over the lanes. -/
theorem sum_put (g : Fin n → Fin N) (hg : ∀ k, f (g k) = some k) (hf : ∀ c k, f c = some k → c = g k) (x : Fin n → EReal) :
    ∑ c, put f x c = ∑ k, x k := by
  refine (Fintype.sum_of_injective g (fun a b h => ?_) x (put f x) (fun c hc => ?_) fun k => (put_some f x _ k (hg k)).symm).symm
  · exact Option.some.inj ((hg a).symm.trans ((congrArg f h).trans (hg b)))
  · match h : f c with
    | none => exact put_none f x c h
    | some k => exact absurd ⟨k, (hf c k h).symm⟩ hc

/-- A product summed over the lanes. -/
theorem sum_put_both (g : Fin n → Fin N) (hg : ∀ k, f (g k) = some k) (hf : ∀ c k, f c = some k → c = g k) (x y : Fin n → EReal) :
    ∑ c, put f x c * put f y c = ∑ k, x k * y k := by
  rw [← sum_put f g hg hf fun k => x k * y k]
  refine Finset.sum_congr rfl fun c _ => ?_
  match h : f c with
  | none => rw [put_none f _ c h, put_none f _ c h, put_none f _ c h, mul_zero]
  | some k => rw [put_some f _ c k h, put_some f _ c k h, put_some f _ c k h]

/-- Products with spread rows, summed over the rows: the spread row of the sums. -/
theorem sum_put_right {M : ℕ} (y : Fin M → EReal) (x : Fin M → Fin n → EReal) (c : Fin N) :
    ∑ i, y i * put f (x i) c = put f (fun k => ∑ i, y i * x i k) c := by
  match h : f c with
  | none => rw [put_none f _ c h]; exact Finset.sum_eq_zero fun i _ => by rw [put_none f _ c h, mul_zero]
  | some k => rw [put_some f _ c k h]; exact Finset.sum_congr rfl fun i _ => by rw [put_some f _ c k h]

theorem sum_put_left {M : ℕ} (x : Fin M → Fin n → EReal) (y : Fin M → EReal) (c : Fin N) :
    ∑ i, put f (x i) c * y i = put f (fun k => ∑ i, x i k * y i) c := by
  match h : f c with
  | none => rw [put_none f _ c h]; exact Finset.sum_eq_zero fun i _ => by rw [put_none f _ c h, zero_mul]
  | some k => rw [put_some f _ c k h]; exact Finset.sum_congr rfl fun i _ => by rw [put_some f _ c k h]
end

/-! ## Keys and values

A head's 64 key entries and 64 value entries stand side by side; on 4096 lanes, every head's keys come first and then
every head's values, 128 lanes a head. -/

/-- The entry at a lane. -/
def kvAt (c : Fin 4096) : Option (Fin 2048) :=
  if h : c.val % 128 < 64 then some ⟨c.val % 2048 / 128 * 128 + c.val / 2048 * 64 + c.val % 128, by omega⟩ else none

/-- The lane of an entry. -/
def kvLane (k : Fin 2048) : Fin 4096 := ⟨k.val % 128 / 64 * 2048 + k.val / 128 * 128 + k.val % 64, by omega⟩

theorem kvAt_lane (k : Fin 2048) : kvAt (kvLane k) = some k := by
  unfold kvAt kvLane
  dsimp only
  rw [dif_pos (by omega)]
  exact congrArg some (Fin.ext (by dsimp only; omega))

theorem kvLane_of (c : Fin 4096) (k : Fin 2048) (h : kvAt c = some k) : c = kvLane k := by
  unfold kvAt at h
  split at h
  · cases Option.some.inj h
    exact Fin.ext (by unfold kvLane; dsimp only; omega)
  · cases h

/-- Every head's 64 entries on 128 lanes. -/
def halfAt (u : Fin 16 → Fin 64 → EReal) (c : Fin 2048) : EReal :=
  if h : c.val % 128 < 64 then u ⟨c.val / 128, by omega⟩ ⟨c.val % 128, h⟩ else 0

theorem half_of (u : Fin 16 → Fin 64 → EReal) (c : Fin 2048) (z : EReal) (hz : z = 0) :
    (if h : c.val / 128 < 16 ∧ c.val % 128 < 64 then u ⟨c.val / 128, h.1⟩ ⟨c.val % 128, h.2⟩ else z) = halfAt u c := by
  have hh : c.val / 128 < 16 := by omega
  unfold halfAt
  by_cases h : c.val % 128 < 64
  · rw [dif_pos h, dif_pos (And.intro hh h)]
  · rw [dif_neg h, dif_neg fun g => h (And.right g), hz]

theorem kv_of (u v : Fin 16 → Fin 64 → EReal) (x : Fin 2048 → EReal)
    (hu : ∀ (h : Fin 16) (e : Fin 64), u h e = x ⟨h.val * 128 + e.val, by omega⟩)
    (hv : ∀ (h : Fin 16) (e : Fin 64), v h e = x ⟨h.val * 128 + (64 + e.val), by omega⟩) (c : Fin 4096) :
    (if h : c.val < 2048 then halfAt u ⟨c.val, h⟩ else halfAt v ⟨c.val - 2048, by omega⟩) = put kvAt x c := by
  unfold halfAt
  by_cases h : c.val % 128 < 64
  · rw [put_some kvAt x c _ (show kvAt c = some _ from dif_pos h)]
    by_cases h1 : c.val < 2048
    · rw [dif_pos h1, dif_pos (show c.val % 128 < 64 from h), hu]
      exact congrArg x (Fin.ext (by dsimp only; omega))
    · rw [dif_neg h1, dif_pos (show (c.val - 2048) % 128 < 64 by omega), hv]
      exact congrArg x (Fin.ext (by dsimp only; omega))
  · rw [put_none kvAt x c (show kvAt c = none from dif_neg h)]
    by_cases h1 : c.val < 2048
    · rw [dif_pos h1, dif_neg (show ¬ c.val % 128 < 64 from h)]
    · rw [dif_neg h1, dif_neg (show ¬ (c.val - 2048) % 128 < 64 by omega)]

/-! ## The latent and the shared lanes

256 entries of the latent and 32 shared ones; on 384 lanes, the shared ones come after 64 zeros, and 32 zeros follow. -/

/-- The entry at a lane. -/
def latAt (c : Fin 384) : Option (Fin 288) :=
  if h : c.val < 256 then some ⟨c.val, by omega⟩ else if h : 320 ≤ c.val ∧ c.val < 352 then some ⟨c.val - 64, by omega⟩ else none

/-- The lane of an entry. -/
def latLane (k : Fin 288) : Fin 384 := ⟨k.val + k.val / 256 * 64, by omega⟩

theorem latAt_lane (k : Fin 288) : latAt (latLane k) = some k := by
  unfold latAt latLane
  dsimp only
  by_cases h : k.val < 256
  · rw [dif_pos (by omega)]
    exact congrArg some (Fin.ext (by dsimp only; omega))
  · rw [dif_neg (by omega), dif_pos (by omega)]
    exact congrArg some (Fin.ext (by dsimp only; omega))

theorem latLane_of (c : Fin 384) (k : Fin 288) (h : latAt c = some k) : c = latLane k := by
  unfold latAt at h
  split at h
  · cases Option.some.inj h
    exact Fin.ext (by unfold latLane; dsimp only; omega)
  · split at h
    · cases Option.some.inj h
      exact Fin.ext (by unfold latLane; dsimp only; omega)
    · cases h

theorem put_lat (x : Fin 288 → EReal) (c : Fin 384) : put latAt x c
    = if h : c.val < 256 then x ⟨c.val, by omega⟩ else if h : 320 ≤ c.val ∧ c.val < 352 then x ⟨c.val - 64, by omega⟩ else 0 := by
  unfold put latAt
  split
  · rfl
  · split <;> rfl

theorem lat_of4 (x : Fin 288 → EReal) (c : Fin 384) :
    (if h : c.val < 256 then x ⟨c.val, by omega⟩ else if h : c.val - 256 < 64 then 0
      else if h : c.val - 256 - 64 < 32 then x ⟨256 + (c.val - 256 - 64), by omega⟩ else 0) = put latAt x c := by
  rw [put_lat]
  by_cases h1 : c.val < 256
  · rw [dif_pos h1, dif_pos h1]
  · rw [dif_neg h1, dif_neg h1]
    by_cases h2 : c.val - 256 < 64
    · rw [dif_pos h2, dif_neg (by omega)]
    · rw [dif_neg h2]
      by_cases h3 : c.val - 256 - 64 < 32
      · rw [dif_pos h3, dif_pos (by omega)]
        exact congrArg x (Fin.ext (by dsimp only; omega))
      · rw [dif_neg h3, dif_neg (by omega)]

theorem lat_of2 (x : Fin 288 → EReal) (c : Fin 384) (z : EReal) (hz : z = 0) :
    (if h : c.val < 256 then x ⟨c.val, by omega⟩
      else if h : 64 ≤ c.val - 256 ∧ c.val - 256 - 64 < 32 then x ⟨256 + (c.val - 256 - 64), by omega⟩ else z) = put latAt x c := by
  rw [put_lat, hz]
  by_cases h1 : c.val < 256
  · rw [dif_pos h1, dif_pos h1]
  · rw [dif_neg h1, dif_neg h1]
    by_cases h3 : 64 ≤ c.val - 256 ∧ c.val - 256 - 64 < 32
    · rw [dif_pos h3, dif_pos (by omega)]
      exact congrArg x (Fin.ext (by dsimp only; omega))
    · rw [dif_neg h3, dif_neg (by omega)]

end Cert.Plain

end
-- ==== Proof.Kv.lean ====
module

public import proofs.«01_k».proof.Proof.Spread

/-! # The keys' and values' columns, laid out -/

@[expose] public section

set_option maxRecDepth 16384

noncomputable section

namespace Cert.Plain

open Idealize.ShloMosaic

/-- The shapes fit, at `R` rows. -/
structure Fits (R : ℕ) : Prop where
  p : (⟨3, ![R, 16, 64]⟩ : Shape).Pads (![0, 0, 0] : Fin 3 → Nat) ![0, 0, 64] ![0, 0, 0] ⟨3, ![R, 16, 128]⟩
  s : (⟨3, ![R, 16, 128]⟩ : Shape).ShapeCasts ⟨2, ![R, 2048]⟩
  c : Shape.Concatenates [⟨2, ![R, 2048]⟩, ⟨2, ![R, 2048]⟩] ⟨2, ![R, 4096]⟩ 1
  a : (⟨2, ![R, 2048]⟩ : Shape).ShapeCasts ⟨3, ![R, 16, 128]⟩
  l : (⟨3, ![R, 16, 128]⟩ : Shape).Slices ![0, 0, 0] ⟨3, ![R, 16, 64]⟩
  r : (⟨3, ![R, 16, 128]⟩ : Shape).Slices ![0, 0, 64] ⟨3, ![R, 16, 64]⟩
  u : (⟨3, ![R, 16, 64]⟩ : Shape).ShapeCasts ⟨2, ![R, 1024]⟩
  d : (⟨2, ![R, 1024]⟩ : Shape).ShapeCasts ⟨3, ![R, 16, 64]⟩

variable {R : ℕ} (f : Fits R) {φ : FTy}

/-- Every head's 64 lanes padded to 128. -/
def half (x : FVec Ideal ⟨3, ![R, 16, 64]⟩ φ) : FVec Ideal ⟨2, ![R, 2048]⟩ φ :=
  shapeCast ⟨2, ![R, 2048]⟩ (pad ⟨3, ![R, 16, 128]⟩ ![0, 0, 0] ![0, 0, 64] ![0, 0, 0] x
    (sitofp φ (constantI ⟨0, ![]⟩ 32 0#32)) f.p (by decide)) f.s

/-- Every head's keys, then every head's values. -/
def kv (x : FVec Ideal ⟨2, ![R, 2048]⟩ φ) : FVec Ideal ⟨2, ![R, 4096]⟩ φ :=
  concatenate ⟨2, ![R, 4096]⟩ 1
    [⟨⟨2, ![R, 2048]⟩, half f (extractStridedSlice ⟨3, ![R, 16, 64]⟩ ![0, 0, 0] (shapeCast ⟨3, ![R, 16, 128]⟩ x f.a) f.l)⟩,
     ⟨⟨2, ![R, 2048]⟩, half f (extractStridedSlice ⟨3, ![R, 16, 64]⟩ ![0, 0, 64] (shapeCast ⟨3, ![R, 16, 128]⟩ x f.a) f.r)⟩] f.c

/-- The same, the heads' entries side by side on the way. -/
def kvTwice (x : FVec Ideal ⟨2, ![R, 2048]⟩ φ) : FVec Ideal ⟨2, ![R, 4096]⟩ φ :=
  concatenate ⟨2, ![R, 4096]⟩ 1
    [⟨⟨2, ![R, 2048]⟩, half f (shapeCast ⟨3, ![R, 16, 64]⟩ (shapeCast ⟨2, ![R, 1024]⟩
        (extractStridedSlice ⟨3, ![R, 16, 64]⟩ ![0, 0, 0] (shapeCast ⟨3, ![R, 16, 128]⟩ x f.a) f.l) f.u) f.d)⟩,
     ⟨⟨2, ![R, 2048]⟩, half f (shapeCast ⟨3, ![R, 16, 64]⟩ (shapeCast ⟨2, ![R, 1024]⟩
        (extractStridedSlice ⟨3, ![R, 16, 64]⟩ ![0, 0, 64] (shapeCast ⟨3, ![R, 16, 128]⟩ x f.a) f.r) f.u) f.d)⟩] f.c

/-! At the two row counts of the calls. -/

theorem fits256 : Fits 256 :=
  ⟨by decide, by decide, by decide, by decide, by decide, by decide, by decide, by decide⟩

theorem half_at256 (x : FVec Ideal ⟨3, ![256, 16, 64]⟩ φ) (i : Fin 256) (c : Fin 2048) :
    (half fits256 x (ix2 i c) : EReal) = halfAt (fun h e => x (ix3 i h e)) c := by
  pointwise [half]
  exact half_of (fun h e => x (ix3 i h e)) c _ (pad_zero φ)

theorem kv_at256 (x : FVec Ideal ⟨2, ![256, 2048]⟩ φ) (i : Fin 256) (c : Fin 4096) :
    (kv fits256 x (ix2 i c) : EReal) = put kvAt (fun k => x (ix2 i k)) c := by
  pointwise [kv]
  simp only [half_at256]
  exact kv_of _ _ (fun k => x (ix2 i k)) (fun h e => by pointwise) (fun h e => by pointwise) c

theorem kvTwice_at256 (x : FVec Ideal ⟨2, ![256, 2048]⟩ φ) (i : Fin 256) (c : Fin 4096) :
    (kvTwice fits256 x (ix2 i c) : EReal) = put kvAt (fun k => x (ix2 i k)) c := by
  pointwise [kvTwice]
  simp only [half_at256]
  exact kv_of _ _ (fun k => x (ix2 i k)) (fun h e => by pointwise) (fun h e => by pointwise) c

theorem fits8192 : Fits 8192 :=
  ⟨by decide, by decide, by decide, by decide, by decide, by decide, by decide, by decide⟩

theorem half_at8192 (x : FVec Ideal ⟨3, ![8192, 16, 64]⟩ φ) (i : Fin 8192) (c : Fin 2048) :
    (half fits8192 x (ix2 i c) : EReal) = halfAt (fun h e => x (ix3 i h e)) c := by
  pointwise [half]
  exact half_of (fun h e => x (ix3 i h e)) c _ (pad_zero φ)

theorem kv_at8192 (x : FVec Ideal ⟨2, ![8192, 2048]⟩ φ) (i : Fin 8192) (c : Fin 4096) :
    (kv fits8192 x (ix2 i c) : EReal) = put kvAt (fun k => x (ix2 i k)) c := by
  pointwise [kv]
  simp only [half_at8192]
  exact kv_of _ _ (fun k => x (ix2 i k)) (fun h e => by pointwise) (fun h e => by pointwise) c

theorem kvTwice_at8192 (x : FVec Ideal ⟨2, ![8192, 2048]⟩ φ) (i : Fin 8192) (c : Fin 4096) :
    (kvTwice fits8192 x (ix2 i c) : EReal) = put kvAt (fun k => x (ix2 i k)) c := by
  pointwise [kvTwice]
  simp only [half_at8192]
  exact kv_of _ _ (fun k => x (ix2 i k)) (fun h e => by pointwise) (fun h e => by pointwise) c

end Cert.Plain

end
-- ==== Proof.Mm23.lean ====
module

public import proofs.«01_k».proof.Defs
public import proofs.«01_k».proof.Proof.Kv
public import proofs.«01_k».proof.Proof.Gen.Kernel23.Frame
public import proofs.«01_k».proof.Proof.Gen.Kernel23Ideal.Value
public import proofs.«01_k».proof.Proof.Gen.Reference23Ideal.Run
public import Idealize.ShloMosaic.Lib.Pipeline.ValueKit

/-! # The gradient of the keys' and values' second weight -/

@[expose] public section

noncomputable section

namespace Cert.Kernel23Ideal.Plain

open Gen Value Cert.Plain
open Idealize.ShloMosaic Idealize.ShloMosaic.TcCoe
open scoped BigOperators

section
variable {F : FTy → Type} [FloatOps F]
variable (d : Dev nD) (i : grid0.Coords) (M1 : Memref sig .tc .vmem S2048x256 .bf16) (h1 : M1.IsWhole)
  (M2 : Memref sig .tc .vmem S2048x1024 .bf16) (h2 : M2.IsWhole) (M3 : Memref sig .tc .vmem S256x1024 .f32) (h3 : M3.IsWhole)
  (M4 : Memref sig .tc .vmem S256x1024 .f32) (h4 : M4.IsWhole)
  (x0 : Vec F S2048x256 .bf16) (x1 : Vec F S2048x1024 .bf16) (xs : Vec F S256x1024 .f32)

/-- The first point of a run leaves its product on top of zero. -/
theorem first_eq (hc0 : cond0_0 i) (hc1 : ¬cond0_1 i) :
    sout0_A_0 d i M1 h1 M2 h2 M3 h3 M4 h4 hc0 hc1 x0 x1 = k0_pay2 x0 x1 k0_pay1 := by
  unfold sout0_A_0
  rw [View.read_writes_eq_canon _ _ _ (scover0_A_0 d i M1 h1 M2 h2 M3 h3 M4 h4 hc0 hc1 x0 x1)]
  unfold kernelRun0_A
  dsimp only
  sl_unfold_words
  rw [View.canon_cons_unit_zero (S := S256x1024) hz, View.readCov_unit_zero (S := S256x1024) _ hz]
  simp only [View.readAt_eq_ld, h1.read_unread, h2.read_unread, View.ld_unit_zero (S := S2048x256) hz, View.ld_unit_zero (S := S2048x1024) hz]

/-- A point between adds its product to what the point before left. -/
theorem mid_eq (hc0 : ¬cond0_0 i) (hc1 : ¬cond0_1 i) :
    sout0_B_0 d i M1 h1 M2 h2 M3 h3 M4 h4 hc0 hc1 x0 x1 xs = k0_pay2 x0 x1 xs := by
  unfold sout0_B_0
  rw [View.read_writes_eq_canon _ _ _ (scover0_B_0 d i M1 h1 M2 h2 M3 h3 M4 h4 hc0 hc1 x0 x1 xs)]
  unfold kernelRun0_B
  dsimp only
  rw [View.canon_unit_zero hz]
  simp only [View.readAt_eq_ld, h1.read_unread, h2.read_unread, h4.read_unread, View.ld_unit_zero (S := S2048x256) hz, View.ld_unit_zero (S := S2048x1024) hz, View.ld_unit_zero (S := S256x1024) hz]

/-- The last point of a run writes the sum back. -/
theorem last_eq (hc0 : ¬cond0_0 i) (hc1 : cond0_1 i) :
    out0_C_2 d i M1 h1 M2 h2 M3 h3 M4 h4 hc0 hc1 x0 x1 xs = k0_pay2 x0 x1 xs := by
  unfold out0_C_2
  rw [View.read_writes_eq_canon _ _ _ (cover0_C_2 d i M1 h1 M2 h2 M3 h3 M4 h4 hc0 hc1 x0 x1 xs)]
  unfold kernelRun0_C
  dsimp only
  sl_unfold_words
  rw [View.canon_unit_zero hz, View.readCov_unit_zero (S := S256x1024) _ hz]
  simp only [View.readAt_eq_ld, h1.read_unread, h2.read_unread, h4.read_unread, View.ld_unit_zero (S := S2048x256) hz, View.ld_unit_zero (S := S2048x1024) hz, View.ld_unit_zero (S := S256x1024) hz]
end

theorem pay2_at (acc : Vec Ideal S256x1024 .f32) (x : Vec Ideal S2048x256 .bf16) (y : Vec Ideal S2048x1024 .bf16) (a : Fin 256) (b : Fin 1024) :
    (k0_pay2 x y acc (ix2 a b) : EReal) = acc (ix2 a b) + ∑ r : Fin 2048, (x (ix2 r a) : EReal) * y (ix2 r b) := by
  pointwise [k0_pay2]

theorem pay1_at (a : Fin 256) (b : Fin 1024) : (k0_pay1 (F := Ideal) (ix2 a b) : EReal) = 0 := by
  pointwise [k0_pay1]

theorem idx0 : ∀ t : Fin cfg0.N, win0_0.index t = ![t.val % 4, 0] :=
  (by decide +kernel : ∀ t : Fin grid0.N, _)
theorem idx1 : ∀ t : Fin cfg0.N, win0_1.index t = ![t.val % 4, t.val / 4] :=
  (by decide +kernel : ∀ t : Fin grid0.N, _)

/-- Every head's keys, then every head's values. -/
def padL (x : FVec Ideal S8192x2048 .f32) : FVec Ideal S8192x4096 .bf16 := kvTwice fits8192 (truncf .bf16 x bitsLt_bf16_f32)

theorem padL_at (x : FVec Ideal S8192x2048 .f32) (i : Fin 8192) (c : Fin 4096) :
    (padL x (ix2 i c) : EReal) = put kvAt (fun k => x (ix2 i k)) c := kvTwice_at8192 _ i c

variable (m : (ℓ : Loc nD τ sig) → Buf (Elt Ideal) ℓ) (d : Dev nD)

/-- The two arrays the call multiplies, as launched. -/
abbrev act : Vec Ideal S8192x256 .f32 := m ((d.tc : Thread nD τ).loc main_arg0)
abbrev ct : Vec Ideal S8192x2048 .f32 := m ((d.tc : Thread nD τ).loc main_arg2)

/-- The point that takes row block `k` and column block `j`. -/
abbrev pt (j : Fin 4) (k : Fin 4) : Fin cfg0.N := ⟨4 * j.val + k.val, lt_of_lt_of_eq (by omega) N_0.symm⟩
abbrev row (k : Fin 4) (r : Fin 2048) : Fin 8192 := ⟨k.val * 2048 + r.val, by omega⟩
abbrev col (j : Fin 4) (b : Fin 1024) : Fin 4096 := ⟨j.val * 1024 + b.val, by omega⟩

/-- What the call finds in the arrays it multiplies. -/
theorem reads : V m d main_v0 = truncf (F := Ideal) .bf16 (act m d) bitsLt_bf16_f32
    ∧ V m d main_v13 = padL (ct m d) := by
  constructor <;> show StableHlo.after _ _ _ = _ <;> simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq] <;>
    after_results_simp <;> rfl

/-- The two blocks a point reads. -/
abbrev blk0 (t : Fin cfg0.N) : Vec Ideal S2048x256 .bf16 := iblk m d 0 t
abbrev blk1 (t : Fin cfg0.N) : Vec Ideal S2048x1024 .bf16 := iblk m d 1 t

theorem in0 (j : Fin 4) (k : Fin 4) (r : Fin 2048) (a : Fin 256) : blk0 m d (pt j k) (ix2 r a)
    = (V m d main_v0 : Vec Ideal S8192x256 .bf16) (ix2 (row k r) a) := by
  have e : (4 * j.val + k.val) % 4 = k.val := by omega
  blk_ext [iblk, idx0 (pt j k), e] <;> rfl

theorem in1 (j : Fin 4) (k : Fin 4) (r : Fin 2048) (b : Fin 1024) : blk1 m d (pt j k) (ix2 r b)
    = (V m d main_v13 : Vec Ideal S8192x4096 .bf16) (ix2 (row k r) (col j b)) := by
  have e : (4 * j.val + k.val) % 4 = k.val := by omega
  have e1 : (4 * j.val + k.val) / 4 = j.val := by omega
  blk_ext [iblk, idx1 (pt j k), e, e1] <;> rfl

/-- What the point's product is, at an index. -/
def part (j : Fin 4) (k : Fin 4) (a : Fin 256) (b : Fin 1024) : EReal :=
  ∑ r : Fin 2048, (act m d (ix2 (row k r) a) : EReal) * put kvAt (fun e => ct m d (ix2 (row k r) e)) (col j b)

theorem part_eq (j : Fin 4) (k : Fin 4) (a : Fin 256) (b : Fin 1024) :
    (∑ r : Fin 2048, (blk0 m d (pt j k) (ix2 r a) : EReal) * blk1 m d (pt j k) (ix2 r b)) = part m d j k a b := by
  refine Finset.sum_congr rfl fun r _ => ?_
  rw [in0, in1, (reads m d).1, (reads m d).2, padL_at]
  rfl

/-- The scratch after the point. -/
abbrev scr (j : Fin 4) (k : Fin 4) : Vec Ideal S256x1024 .f32 := (outsAt0 m d (pt j k).val (pt j k).isLt).2

theorem scr0 (j : Fin 4) (a : Fin 256) (b : Fin 1024) : (scr m d j 0 (ix2 a b) : EReal) = 0 + part m d j 0 a b := by
  have h0 : (pt j 0).val % 4 = 0 := by show (4 * j.val + 0) % 4 = 0; omega
  have h1 : ¬ (pt j 0).val % 4 = 3 := by omega
  unfold scr
  rw [outsAt0_A m d (pt j 0) h0 h1]
  dsimp only
  rw [first_eq, pay2_at, pay1_at, part_eq]

theorem prev (j : Fin 4) (n : ℕ) (hn : n + 1 < 4) (h : (pt j ⟨n + 1, hn⟩).val - 1 < cfg0.N) :
    outsAt0 m d ((pt j ⟨n + 1, hn⟩).val - 1) h = outsAt0 m d (pt j ⟨n, by omega⟩).val (pt j ⟨n, by omega⟩).isLt := by
  congr 1

theorem scrS (j : Fin 4) (n : ℕ) (hn : n + 1 < 3) (a : Fin 256) (b : Fin 1024) :
    (scr m d j ⟨n + 1, by omega⟩ (ix2 a b) : EReal) = scr m d j ⟨n, by omega⟩ (ix2 a b) + part m d j ⟨n + 1, by omega⟩ a b := by
  have h0 : ¬ (pt j ⟨n + 1, by omega⟩).val % 4 = 0 := by show ¬ (4 * j.val + (n + 1)) % 4 = 0; omega
  have h1 : ¬ (pt j ⟨n + 1, by omega⟩).val % 4 = 3 := by show ¬ (4 * j.val + (n + 1)) % 4 = 3; omega
  unfold scr
  rw [outsAt0_B m d (pt j ⟨n + 1, by omega⟩) h0 h1]
  dsimp only
  rw [mid_eq, pay2_at, part_eq, prev]

/-- The scratch after a point: the products of the run so far. -/
theorem scr_sum (j : Fin 4) (n : ℕ) (hn : n < 3) (a : Fin 256) (b : Fin 1024) :
    (scr m d j ⟨n, by omega⟩ (ix2 a b) : EReal) = ∑ k : Fin (n + 1), part m d j ⟨k.val, by omega⟩ a b := by
  induction n with
  | zero => exact (scr0 m d j a b).trans (by rw [zero_add, Fin.sum_univ_one]; rfl)
  | succ n ih => rw [scrS m d j n hn, ih (by omega)]; exact (Fin.sum_univ_castSucc (fun k : Fin (n + 1 + 1) => part m d j ⟨k.val, by omega⟩ a b)).symm

theorem out_eq (j : Fin 4) (a : Fin 256) (b : Fin 1024) :
    ((outsAt0 m d (pt j 3).val (pt j 3).isLt).1 (ix2 a b) : EReal) = scr m d j 2 (ix2 a b) + part m d j 3 a b := by
  have h0 : ¬ (pt j 3).val % 4 = 0 := by show ¬ (4 * j.val + 3) % 4 = 0; omega
  have h1 : (pt j 3).val % 4 = 3 := by show (4 * j.val + 3) % 4 = 3; omega
  rw [outsAt0_C m d (pt j 3) h0 h1]
  dsimp only
  rw [last_eq, pay2_at, part_eq]
  rw [show (3 : Fin 4) = ⟨2 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the tokens. -/
theorem result (j : Fin 4) (a : Fin 256) (b : Fin 1024) :
    (G2 m d (ix2 a (col j b)) : EReal) = ∑ i : Fin 8192, (act m d (ix2 i a) : EReal) * put kvAt (fun e => ct m d (ix2 i e)) (col j b) := by
  have ep : pt2Of (ix2 a (col j b)) = (pt j 3).val := by
    show 4 * (4 * (a.val / 256 - 0) + 1 * ((j.val * 1024 + b.val) / 1024 - 0)) + 3 = 4 * j.val + 3
    omega
  have el : loc2Of (ix2 a (col j b)) = ix2 a b := by
    funext x
    apply Fin.ext
    match x with
    | ⟨0, _⟩ => show a.val % 256 = a.val; omega
    | ⟨1, _⟩ => show (j.val * 1024 + b.val) % 1024 = b.val; omega
  have hp : pt2Of (ix2 a (col j b)) < cfg0.N := ep ▸ (pt j 3).isLt
  have e : G2 m d (ix2 a (col j b)) = (outsAt0 m d (pt j 3).val (pt j 3).isLt).1 (ix2 a b) := by
    unfold G2
    rw [dif_pos hp, ← outsAt0_sweep m d _ hp, el, outs_congr m d _ _ hp (pt j 3).isLt ep]
  rw [e, out_eq, Cert.Math.sum_blocks 4 2048 8192 rfl, Fin.sum_univ_castSucc]
  exact congrArg (fun s : EReal => s + part m d j 3 a b) (scr_sum m d j 2 (by omega) a b)

end Cert.Kernel23Ideal.Plain

namespace Cert.Proof

open Cert.Plain Idealize.ShloMosaic Idealize.ShloMosaic.TcCoe Idealize.SL.Sem

theorem frame_reference23 : quiescent_Reference23Ideal := fun m ρ _ =>
  (θ_run Reference23Ideal.defs _ _).mono (fun r h => ⟨fun c => (h c).2, sem_eq_zero_of_no_sems (by decide) r.2⟩)
    (Reference23Ideal.Value.run (F := Ideal) m ρ)

section
open Reference23Ideal Reference23Ideal.Gen

/-- The reference's result. -/
def ref23 (x : FVec Ideal S8192x256 .f32) (y : FVec Ideal S8192x2048 .f32) : FVec Ideal S256x4096 .f32 :=
  kv fits256 (transpose S256x2048 [1, 0] (Host.dotGeneral (φ₁ := .f32) (φ₂ := .f32) dot_S8192x2048_S8192x256_S2048x256_0_0_1_1_n_n none y x)
    transposes_S2048x256_S256x2048_1_0)

theorem ref23_at (x : FVec Ideal S8192x256 .f32) (y : FVec Ideal S8192x2048 .f32) (a : Fin 256) (e : Fin 4096) :
    (ref23 x y (ix2 a e) : EReal) = put kvAt (fun k => ∑ i : Fin 8192, (y (ix2 i k) : EReal) * x (ix2 i a)) e := by
  refine (kv_at256 _ a e).trans (congrArg (fun z => put kvAt z e) (funext fun k => ?_))
  pointwise
end

theorem same23 : algebraic_Kernel23Ideal_Reference23Ideal := by
  intro m ρ m' ρ' _ hagree
  refine ⟨_, Kernel23Ideal.Value.run (F := Ideal) m ρ, ?_⟩
  refine (θ_run Reference23Ideal.defs _ _).mono (fun _ h c => ⟨?_, (h c).2⟩) (Reference23Ideal.Value.run (F := Ideal) m' ρ')
  rw [(h c).1, (hagree c).1, (hagree c).2.2]
  funext i
  obtain ⟨j, a, b, rfl⟩ : ∃ (j : Fin 4) (a : Fin 256) (b : Fin 1024), i = ix2 a (Kernel23Ideal.Plain.col j b) := by
    have hi : (i 1).val < 4096 := (i 1).isLt
    exact ⟨⟨(i 1).val / 1024, by omega⟩, i 0, ⟨(i 1).val % 1024, by omega⟩, ix2_of _ _ _ rfl
      (show (i 1).val = (i 1).val / 1024 * 1024 + (i 1).val % 1024 by omega)⟩
  refine (ref23_at _ _ a _).trans (Eq.trans ?_ (Kernel23Ideal.Plain.result m c j a b).symm)
  exact ((Finset.sum_congr rfl fun i _ => mul_comm _ _).trans (sum_put_left kvAt _ _ _)).symm

end Cert.Proof

end
-- ==== Proof.Mm24.lean ====
module

public import proofs.«01_k».proof.Defs
public import proofs.«01_k».proof.Proof.Kv
public import proofs.«01_k».proof.Proof.Gen.Kernel24.Frame
public import proofs.«01_k».proof.Proof.Gen.Kernel24Ideal.Value
public import proofs.«01_k».proof.Proof.Gen.Reference24Ideal.Run
public import Idealize.ShloMosaic.Lib.Pipeline.ValueKit

/-! # The gradient of the keys' and values' second product in its activations -/

@[expose] public section

noncomputable section

namespace Cert.Kernel24Ideal.Plain

open Gen Value Cert.Plain
open Idealize.ShloMosaic Idealize.ShloMosaic.TcCoe
open scoped BigOperators

theorem out_eq (x : Vec Ideal S1024x4096 .bf16) (w : Vec Ideal S256x4096 .bf16) : out0_2 x w = k0_pay1 x w := by
  unfold out0_2
  rw [View.canon_unit_zero hz, View.ld_unit_zero (S := S1024x4096) hz, View.ld_unit_zero (S := S256x4096) hz]

theorem pay_at (x : Vec Ideal S1024x4096 .bf16) (w : Vec Ideal S256x4096 .bf16) (r : Fin 1024) (b : Fin 256) :
    (k0_pay1 x w (ix2 r b) : EReal) = ∑ k : Fin 4096, (x (ix2 r k) : EReal) * w (ix2 b k) := by
  refine Eq.trans (b := 0 + ∑ k : Fin 4096, (x (ix2 r k) : EReal) * w (ix2 b k)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Every head's keys, then every head's values. -/
def padL (x : FVec Ideal S8192x2048 .f32) : FVec Ideal S8192x4096 .bf16 := kvTwice fits8192 (truncf .bf16 x bitsLt_bf16_f32)

theorem padL_at (x : FVec Ideal S8192x2048 .f32) (i : Fin 8192) (c : Fin 4096) :
    (padL x (ix2 i c) : EReal) = put kvAt (fun k => x (ix2 i k)) c := kvTwice_at8192 _ i c

/-- Every head's keys, then every head's values. -/
def padR (x : FVec Ideal S256x2048 .f32) : FVec Ideal S256x4096 .bf16 := kvTwice fits256 (truncf .bf16 x bitsLt_bf16_f32)

theorem padR_at (x : FVec Ideal S256x2048 .f32) (i : Fin 256) (c : Fin 4096) :
    (padR x (ix2 i c) : EReal) = put kvAt (fun k => x (ix2 i k)) c := kvTwice_at256 _ i c

variable (m : (ℓ : Loc nD τ sig) → Buf (Elt Ideal) ℓ) (d : Dev nD)

/-- The two arrays the call multiplies, as launched. -/
abbrev lhs : Vec Ideal S8192x2048 .f32 := m ((d.tc : Thread nD τ).loc main_arg2)
abbrev rhs : Vec Ideal S256x2048 .f32 := m ((d.tc : Thread nD τ).loc main_arg1)

/-- What the call finds in the arrays it multiplies. -/
theorem reads : V m d main_v12 = padL (lhs m d)
    ∧ V m d main_v25 = padR (rhs m d) := by
  constructor <;> show StableHlo.after _ _ _ = _ <;> simp only [hostOps0, hostOps0_1, hostOps0_2, hostOps0_3, hostOps0_4, hostOps0_5, hostOps0_6, hostOps0_7, hostOps0_8, List.flatten_cons, List.flatten_nil, List.append_nil, List.cons_append, List.nil_append,
    StableHlo.TRef.binary, StableHlo.TRef.nullary, StableHlo.TRef.unary, StableHlo.TRef.toBuf, StableHlo.TRef.ofBuf, cast_eq] <;>
    after_results_simp <;> rfl

/-- The product at an index. -/
def prod (i : Fin 8192) (b : Fin 256) : EReal := ∑ k : Fin 4096, put kvAt (fun e => lhs m d (ix2 i e)) k * put kvAt (fun e => rhs m d (ix2 b e)) k

/-- The product without the padding. -/
theorem prod_plain (i : Fin 8192) (b : Fin 256) : prod m d i b = ∑ k : Fin 2048, (lhs m d (ix2 i k) : EReal) * rhs m d (ix2 b k) :=
  sum_put_both kvAt kvLane kvAt_lane kvLane_of _ _

/-- The two blocks a point reads. -/
abbrev blk0 (t : Fin cfg0.N) : Vec Ideal S1024x4096 .bf16 := iblk m d 0 t
abbrev blk1 (t : Fin cfg0.N) : Vec Ideal S256x4096 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 4096) :
    blk0 m d t (ix2 r k) = (V m d main_v12 : Vec Ideal S8192x4096 .bf16) (ix2 (row t r) k) := by
  blk_ext [iblk, idx0 t] <;> rfl

theorem in1 (t : Fin cfg0.N) (k : Fin 4096) (b : Fin 256) :
    blk1 m d t (ix2 b k) = (V m d main_v25 : Vec Ideal S256x4096 .bf16) (ix2 b k) := by
  blk_ext [iblk, idx1 t] <;> rfl

theorem prod_eq (t : Fin cfg0.N) (r : Fin 1024) (b : Fin 256) :
    (k0_pay1 (blk0 m d t) (blk1 m d t) (ix2 r b) : EReal) = prod m d (row t r) b := by
  rw [pay_at]
  refine Finset.sum_congr rfl fun x _ => ?_
  rw [in0, in1, (reads m d).1, (reads m d).2, padL_at, padR_at]

/-- The call's result. -/
def res : FVec Ideal S8192x256 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel24Ideal.Plain

namespace Cert.Proof

open Idealize.ShloMosaic Idealize.ShloMosaic.TcCoe Idealize.SL.Sem

theorem frame_reference24 : quiescent_Reference24Ideal := fun m ρ _ =>
  (θ_run Reference24Ideal.defs _ _).mono (fun r h => ⟨fun c => (h c).2, sem_eq_zero_of_no_sems (by decide) r.2⟩)
    (Reference24Ideal.Value.run (F := Ideal) m ρ)

theorem ref24_at (x : Vec Ideal Reference24Ideal.S8192x2048 .f32) (w : Vec Ideal Reference24Ideal.S256x2048 .f32) (i : Fin 8192) (b : Fin 256) :
    (Host.dotGeneral (F := Ideal) (φ₁ := .f32) (φ₂ := .f32) Reference24Ideal.dot_S8192x2048_S256x2048_S8192x256_1_1_0_0_n_n none x w (ix2 i b) : EReal)
      = ∑ k : Fin 2048, (x (ix2 i k) : EReal) * w (ix2 b k) := by
  pointwise

theorem same24 : algebraic_Kernel24Ideal_Reference24Ideal := by
  intro m ρ m' ρ' _ hagree
  refine ⟨fun c => Kernel24Ideal.Plain.res m c, ?_, ?_⟩
  · refine (θ_run Kernel24Ideal.defs _ _).mono (fun _ h c => ?_) (Kernel24Ideal.Value.run_blocks (F := Ideal) m ρ)
    exact ⟨(h c).1.trans (Kernel24Ideal.Plain.final m c), (h c).2⟩
  · refine (θ_run Reference24Ideal.defs _ _).mono (fun _ h c => ⟨?_, (h c).2⟩) (Reference24Ideal.Value.run (F := Ideal) m' ρ')
    rw [(h c).1, (hagree c).2.1, (hagree c).2.2]
    funext y
    rw [Plain.eta y]
    exact (ref24_at _ _ (y 0) (y 1)).trans (Kernel24Ideal.Plain.prod_plain m c (y 0) (y 1)).symm

end Cert.Proof

end
-- ==== Proof.Mm25.lean ====
module

public import proofs.«01_k».proof.Defs
public import proofs.«01_k».proof.Proof.Kv
public import proofs.«01_k».proof.Proof.Gen.Kernel25.Frame
public import proofs.«01_k».proof.Proof.Gen.Kernel25Ideal.Value
public import proofs.«01_k».proof.Proof.Gen.Reference25Ideal.Run
public import Idealize.ShloMosaic.Lib.Pipeline.ValueKit

/-! # The keys' and values' second product -/

@[expose] public section

noncomputable section

namespace Cert.Kernel25Ideal.Plain

open Gen Value Cert.Plain
open Idealize.ShloMosaic Idealize.ShloMosaic.TcCoe
open scoped BigOperators

theorem out_eq (x : Vec Ideal S1024x256 .bf16) (w : Vec Ideal S256x1024 .bf16) : out0_2 x w = k0_pay1 x w := by
  unfold out0_2
  rw [View.canon_unit_zero hz, View.ld_unit_zero (S := S1024x256) hz, View.ld_unit_zero (S := S256x1024) hz]

theorem pay_at (x : Vec Ideal S1024x256 .bf16) (w : Vec Ideal S256x1024 .bf16) (r : Fin 1024) (b : Fin 1024) :
    (k0_pay1 x w (ix2 r b) : EReal) = ∑ k : Fin 256, (x (ix2 r k) : EReal) * w (ix2 k b) := by
  refine Eq.trans (b := 0 + ∑ k : Fin 256, (x (ix2 r k) : EReal) * w (ix2 k b)) ?_ (zero_add _)
  pointwise [k0_pay1]

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

/-- Every head's keys, then every head's values. -/
def padR (x : FVec Ideal S256x2048 .f32) : FVec Ideal S256x4096 .bf16 := kvTwice fits256 (truncf .bf16 x bitsLt_bf16_f32)

theorem padR_at (x : FVec Ideal S256x2048 .f32) (i : Fin 256) (c : Fin 4096) :
    (padR x (ix2 i c) : EReal) = put kvAt (fun k => x (ix2 i k)) c := kvTwice_at256 _ i c

variable (m : (ℓ : Loc nD τ sig) → Buf (Elt Ideal) ℓ) (d : Dev nD)

/-- The two arrays the call multiplies, as launched. -/
abbrev lhs : Vec Ideal S8192x256 .f32 := m ((d.tc : Thread nD τ).loc main_arg0)
abbrev rhs : Vec Ideal S256x2048 .f32 := m ((d.tc : Thread nD τ).loc main_arg1)

/-- What the call finds in the arrays it multiplies. -/
theorem reads : V m d main_v0 = truncf (F := Ideal) .bf16 (lhs m d) bitsLt_bf16_f32
    ∧ V m d main_v13 = padR (rhs m d) := by
  constructor <;> show StableHlo.after _ _ _ = _ <;> simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq] <;>
    after_results_simp <;> rfl

/-- The product at an index. -/
def prod (i : Fin 8192) (b : Fin 4096) : EReal := ∑ k : Fin 256, (lhs m d (ix2 i k) : EReal) * put kvAt (fun e => rhs m d (ix2 k e)) b

/-- The product without the padding. -/
theorem prod_plain (i : Fin 8192) (b : Fin 4096) : prod m d i b = put kvAt (fun e => ∑ k : Fin 256, (lhs m d (ix2 i k) : EReal) * rhs m d (ix2 k e)) b :=
  sum_put_right kvAt _ _ _

/-- The two blocks a point reads. -/
abbrev blk0 (t : Fin cfg0.N) : Vec Ideal S1024x256 .bf16 := iblk m d 0 t
abbrev blk1 (t : Fin cfg0.N) : Vec Ideal S256x1024 .bf16 := iblk m d 1 t

theorem lt_N (t : Fin cfg0.N) : t.val < 32 := lt_of_lt_of_eq t.isLt N_0

/-- The row and the column of the arrays at a point's. -/
abbrev row (t : Fin cfg0.N) (r : Fin 1024) : Fin 8192 := ⟨t.val / 4 * 1024 + r.val, by have := lt_N t; omega⟩
abbrev col (t : Fin cfg0.N) (b : Fin 1024) : Fin 4096 := ⟨t.val % 4 * 1024 + b.val, by omega⟩

theorem in0 (t : Fin cfg0.N) (r : Fin 1024) (k : Fin 256) :
    blk0 m d t (ix2 r k) = (V m d main_v0 : Vec Ideal S8192x256 .bf16) (ix2 (row t r) k) := by
  blk_ext [iblk, idx0 t] <;> rfl

theorem in1 (t : Fin cfg0.N) (k : Fin 256) (b : Fin 1024) :
    blk1 m d t (ix2 k b) = (V m d main_v13 : Vec Ideal S256x4096 .bf16) (ix2 k (col t b)) := by
  blk_ext [iblk, idx1 t] <;> rfl

theorem prod_eq (t : Fin cfg0.N) (r : Fin 1024) (b : Fin 1024) :
    (k0_pay1 (blk0 m d t) (blk1 m d t) (ix2 r b) : EReal) = prod m d (row t r) (col t b) := by
  rw [pay_at]
  refine Finset.sum_congr rfl fun x _ => ?_
  rw [in0, in1, (reads m d).1, (reads m d).2, padR_at]
  rfl

/-- The call's result. -/
def res : FVec Ideal S8192x4096 .bf16 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (col t (y 1)) ?_ ?_)).symm)
  · blk_simp [idx2 t]
  · blk_simp [idx2 t]

end Cert.Kernel25Ideal.Plain

namespace Cert.Proof

open Cert.Plain Idealize.ShloMosaic Idealize.ShloMosaic.TcCoe Idealize.SL.Sem

theorem frame_reference25 : quiescent_Reference25Ideal := fun m ρ _ =>
  (θ_run Reference25Ideal.defs _ _).mono (fun r h => ⟨fun c => (h c).2, sem_eq_zero_of_no_sems (by decide) r.2⟩)
    (Reference25Ideal.Value.run (F := Ideal) m ρ)

section
open Reference25Ideal Reference25Ideal.Gen

/-- The reference's result. -/
def ref25 (x : FVec Ideal S8192x256 .f32) (w : FVec Ideal S256x2048 .f32) : FVec Ideal S8192x4096 .bf16 :=
  truncf .bf16 (kv fits8192 (Host.dotGeneral (φ₁ := .f32) (φ₂ := .f32) dot_S8192x256_S256x2048_S8192x2048_1_0_0_1_n_n none x w)) bitsLt_bf16_f32

theorem ref25_at (x : FVec Ideal S8192x256 .f32) (w : FVec Ideal S256x2048 .f32) (i : Fin 8192) (b : Fin 4096) :
    (ref25 x w (ix2 i b) : EReal) = put kvAt (fun e => ∑ k : Fin 256, (x (ix2 i k) : EReal) * w (ix2 k e)) b := by
  refine (kv_at8192 _ i b).trans (congrArg (fun y => put kvAt y b) (funext fun e => ?_))
  pointwise
end

theorem same25 : algebraic_Kernel25Ideal_Reference25Ideal := by
  intro m ρ m' ρ' _ hagree
  refine ⟨fun c => Kernel25Ideal.Plain.res m c, ?_, ?_⟩
  · refine (θ_run Kernel25Ideal.defs _ _).mono (fun _ h c => ?_) (Kernel25Ideal.Value.run_blocks (F := Ideal) m ρ)
    exact ⟨(h c).1.trans (Kernel25Ideal.Plain.final m c), (h c).2⟩
  · refine (θ_run Reference25Ideal.defs _ _).mono (fun _ h c => ⟨?_, (h c).2⟩) (Reference25Ideal.Value.run (F := Ideal) m' ρ')
    rw [(h c).1, (hagree c).1, (hagree c).2]
    funext y
    rw [eta y]
    exact (ref25_at _ _ (y 0) (y 1)).trans (Kernel25Ideal.Plain.prod_plain m c (y 0) (y 1)).symm

end Cert.Proof

end
-- ==== Proof.Lat.lean ====
module

public import proofs.«01_k».proof.Proof.Spread

/-! # The latent's columns and the shared ones, laid out -/

@[expose] public section

noncomputable section

namespace Cert.Plain

open Idealize.ShloMosaic

/-- The shapes fit, at `R` rows. -/
structure LatFits (R : ℕ) : Prop where
  l : (⟨2, ![R, 288]⟩ : Shape).Slices ![0, 0] ⟨2, ![R, 256]⟩
  r : (⟨2, ![R, 288]⟩ : Shape).Slices ![0, 256] ⟨2, ![R, 32]⟩
  p : (⟨2, ![R, 32]⟩ : Shape).Pads (![0, 64] : Fin 2 → Nat) ![0, 32] ![0, 0] ⟨2, ![R, 128]⟩
  c : Shape.Concatenates [⟨2, ![R, 256]⟩, ⟨2, ![R, 128]⟩] ⟨2, ![R, 384]⟩ 1
  b : (⟨0, ![]⟩ : Shape).BroadcastsInDim ⟨2, ![R, 64]⟩ (![] : Fin 0 → Fin 2)
  b' : (⟨0, ![]⟩ : Shape).BroadcastsInDim ⟨2, ![R, 32]⟩ (![] : Fin 0 → Fin 2)
  d : Shape.Concatenates [⟨2, ![R, 256]⟩, ⟨2, ![R, 64]⟩, ⟨2, ![R, 32]⟩, ⟨2, ![R, 32]⟩] ⟨2, ![R, 384]⟩ 1

variable {R : ℕ} (f : LatFits R) {φ : FTy}

/-- The latent's columns, then the shared ones padded on either side. -/
def lat (x : FVec Ideal ⟨2, ![R, 288]⟩ φ) : FVec Ideal ⟨2, ![R, 384]⟩ φ :=
  concatenate ⟨2, ![R, 384]⟩ 1 [⟨⟨2, ![R, 256]⟩, extractStridedSlice ⟨2, ![R, 256]⟩ ![0, 0] x f.l⟩,
    ⟨⟨2, ![R, 128]⟩, pad ⟨2, ![R, 128]⟩ ![0, 64] ![0, 32] ![0, 0] (extractStridedSlice ⟨2, ![R, 32]⟩ ![0, 256] x f.r)
      (sitofp φ (constantI ⟨0, ![]⟩ 32 0#32)) f.p (by decide)⟩] f.c

/-- The same of four parts. -/
def latParts (x : FVec Ideal ⟨2, ![R, 288]⟩ .bf16) : FVec Ideal ⟨2, ![R, 384]⟩ .bf16 :=
  concatenate ⟨2, ![R, 384]⟩ 1 [⟨⟨2, ![R, 256]⟩, extractStridedSlice ⟨2, ![R, 256]⟩ ![0, 0] x f.l⟩,
    ⟨⟨2, ![R, 64]⟩, broadcastInDim ⟨2, ![R, 64]⟩ ![] f.b (constant ⟨0, ![]⟩ .bf16 0x0000#16)⟩,
    ⟨⟨2, ![R, 32]⟩, extractStridedSlice ⟨2, ![R, 32]⟩ ![0, 256] x f.r⟩,
    ⟨⟨2, ![R, 32]⟩, broadcastInDim ⟨2, ![R, 32]⟩ ![] f.b' (constant ⟨0, ![]⟩ .bf16 0x0000#16)⟩] f.d

/-! At the two row counts of the calls. -/

theorem latFits1024 : LatFits 1024 :=
  ⟨by decide, by decide, by decide, by decide, by decide, by decide, by decide⟩

theorem lat_at1024 (x : FVec Ideal ⟨2, ![1024, 288]⟩ φ) (i : Fin 1024) (c : Fin 384) :
    (lat latFits1024 x (ix2 i c) : EReal) = put latAt (fun k => x (ix2 i k)) c := by
  pointwise [lat]
  exact lat_of2 (fun k => x (ix2 i k)) c _ (pad_zero φ)

theorem latParts_at1024 (x : FVec Ideal ⟨2, ![1024, 288]⟩ .bf16) (i : Fin 1024) (c : Fin 384) :
    (latParts latFits1024 x (ix2 i c) : EReal) = put latAt (fun k => x (ix2 i k)) c := by
  pointwise [latParts]
  exact lat_of4 (fun k => x (ix2 i k)) c

theorem latFits8192 : LatFits 8192 :=
  ⟨by decide, by decide, by decide, by decide, by decide, by decide, by decide⟩

theorem lat_at8192 (x : FVec Ideal ⟨2, ![8192, 288]⟩ φ) (i : Fin 8192) (c : Fin 384) :
    (lat latFits8192 x (ix2 i c) : EReal) = put latAt (fun k => x (ix2 i k)) c := by
  pointwise [lat]
  exact lat_of2 (fun k => x (ix2 i k)) c _ (pad_zero φ)

theorem latParts_at8192 (x : FVec Ideal ⟨2, ![8192, 288]⟩ .bf16) (i : Fin 8192) (c : Fin 384) :
    (latParts latFits8192 x (ix2 i c) : EReal) = put latAt (fun k => x (ix2 i k)) c := by
  pointwise [latParts]
  exact lat_of4 (fun k => x (ix2 i k)) c

end Cert.Plain

end
-- ==== Proof.Mm26.lean ====
module

public import proofs.«01_k».proof.Defs
public import proofs.«01_k».proof.Proof.Lat
public import proofs.«01_k».proof.Proof.Gen.Kernel26.Frame
public import proofs.«01_k».proof.Proof.Gen.Kernel26Ideal.Value
public import proofs.«01_k».proof.Proof.Gen.Reference26Ideal.Run
public import Idealize.ShloMosaic.Lib.Pipeline.ValueKit

/-! # The gradient of the keys' and values' first weight -/

@[expose] public section

noncomputable section

namespace Cert.Kernel26Ideal.Plain

open Gen Value Cert.Plain
open Idealize.ShloMosaic Idealize.ShloMosaic.TcCoe
open scoped BigOperators

section
variable {F : FTy → Type} [FloatOps F]
variable (d : Dev nD) (i : grid0.Coords) (M1 : Memref sig .tc .vmem S2048x1024 .bf16) (h1 : M1.IsWhole)
  (M2 : Memref sig .tc .vmem S2048x384 .bf16) (h2 : M2.IsWhole) (M3 : Memref sig .tc .vmem S1024x384 .f32) (h3 : M3.IsWhole)
  (M4 : Memref sig .tc .vmem S1024x384 .f32) (h4 : M4.IsWhole)
  (x0 : Vec F S2048x1024 .bf16) (x1 : Vec F S2048x384 .bf16) (xs : Vec F S1024x384 .f32)

/-- The first point of a run leaves its product on top of zero. -/
theorem first_eq (hc0 : cond0_0 i) (hc1 : ¬cond0_1 i) :
    sout0_A_0 d i M1 h1 M2 h2 M3 h3 M4 h4 hc0 hc1 x0 x1 = k0_pay2 x0 x1 k0_pay1 := by
  unfold sout0_A_0
  rw [View.read_writes_eq_canon _ _ _ (scover0_A_0 d i M1 h1 M2 h2 M3 h3 M4 h4 hc0 hc1 x0 x1)]
  unfold kernelRun0_A
  dsimp only
  sl_unfold_words
  rw [View.canon_cons_unit_zero (S := S1024x384) hz, View.readCov_unit_zero (S := S1024x384) _ hz]
  simp only [View.readAt_eq_ld, h1.read_unread, h2.read_unread, View.ld_unit_zero (S := S2048x1024) hz, View.ld_unit_zero (S := S2048x384) hz]

/-- A point between adds its product to what the point before left. -/
theorem mid_eq (hc0 : ¬cond0_0 i) (hc1 : ¬cond0_1 i) :
    sout0_B_0 d i M1 h1 M2 h2 M3 h3 M4 h4 hc0 hc1 x0 x1 xs = k0_pay2 x0 x1 xs := by
  unfold sout0_B_0
  rw [View.read_writes_eq_canon _ _ _ (scover0_B_0 d i M1 h1 M2 h2 M3 h3 M4 h4 hc0 hc1 x0 x1 xs)]
  unfold kernelRun0_B
  dsimp only
  rw [View.canon_unit_zero hz]
  simp only [View.readAt_eq_ld, h1.read_unread, h2.read_unread, h4.read_unread, View.ld_unit_zero (S := S2048x1024) hz, View.ld_unit_zero (S := S2048x384) hz, View.ld_unit_zero (S := S1024x384) hz]

/-- The last point of a run writes the sum back. -/
theorem last_eq (hc0 : ¬cond0_0 i) (hc1 : cond0_1 i) :
    out0_C_2 d i M1 h1 M2 h2 M3 h3 M4 h4 hc0 hc1 x0 x1 xs = k0_pay2 x0 x1 xs := by
  unfold out0_C_2
  rw [View.read_writes_eq_canon _ _ _ (cover0_C_2 d i M1 h1 M2 h2 M3 h3 M4 h4 hc0 hc1 x0 x1 xs)]
  unfold kernelRun0_C
  dsimp only
  sl_unfold_words
  rw [View.canon_unit_zero hz, View.readCov_unit_zero (S := S1024x384) _ hz]
  simp only [View.readAt_eq_ld, h1.read_unread, h2.read_unread, h4.read_unread, View.ld_unit_zero (S := S2048x1024) hz, View.ld_unit_zero (S := S2048x384) hz, View.ld_unit_zero (S := S1024x384) hz]
end

theorem pay2_at (acc : Vec Ideal S1024x384 .f32) (x : Vec Ideal S2048x1024 .bf16) (y : Vec Ideal S2048x384 .bf16) (a : Fin 1024) (b : Fin 384) :
    (k0_pay2 x y acc (ix2 a b) : EReal) = acc (ix2 a b) + ∑ r : Fin 2048, (x (ix2 r a) : EReal) * y (ix2 r b) := by
  pointwise [k0_pay2]

theorem pay1_at (a : Fin 1024) (b : Fin 384) : (k0_pay1 (F := Ideal) (ix2 a b) : EReal) = 0 := by
  pointwise [k0_pay1]

theorem idx0 : ∀ t : Fin cfg0.N, win0_0.index t = ![t.val % 4, 0] :=
  (by decide +kernel : ∀ t : Fin grid0.N, _)
theorem idx1 : ∀ t : Fin cfg0.N, win0_1.index t = ![t.val % 4, t.val / 4] :=
  (by decide +kernel : ∀ t : Fin grid0.N, _)

/-- The latent's lanes and the shared ones, with zeros between and after. -/
def padL (x : FVec Ideal S8192x288 .f32) : FVec Ideal S8192x384 .bf16 := latParts latFits8192 (truncf .bf16 x bitsLt_bf16_f32)

theorem padL_at (x : FVec Ideal S8192x288 .f32) (i : Fin 8192) (c : Fin 384) :
    (padL x (ix2 i c) : EReal) = put latAt (fun k => x (ix2 i k)) c := latParts_at8192 _ i c

variable (m : (ℓ : Loc nD τ sig) → Buf (Elt Ideal) ℓ) (d : Dev nD)

/-- The two arrays the call multiplies, as launched. -/
abbrev act : Vec Ideal S8192x1024 .f32 := m ((d.tc : Thread nD τ).loc main_arg0)
abbrev ct : Vec Ideal S8192x288 .f32 := m ((d.tc : Thread nD τ).loc main_arg2)

/-- The point that takes row block `k` and column block `j`. -/
abbrev pt (j : Fin 1) (k : Fin 4) : Fin cfg0.N := ⟨4 * j.val + k.val, lt_of_lt_of_eq (by omega) N_0.symm⟩
abbrev row (k : Fin 4) (r : Fin 2048) : Fin 8192 := ⟨k.val * 2048 + r.val, by omega⟩
abbrev col (j : Fin 1) (b : Fin 384) : Fin 384 := ⟨j.val * 384 + b.val, by omega⟩

theorem V_act : V m d main_v0 = truncf (F := Ideal) .bf16 (act m d) bitsLt_bf16_f32 := by
  show StableHlo.after _ _ _ = _
  after_results_simp <;> rfl

theorem V_ct : V m d main_v6 = padL (ct m d) := by
  show StableHlo.after _ _ _ = _
  after_results_simp <;> rfl

/-- The two blocks a point reads. -/
abbrev blk0 (t : Fin cfg0.N) : Vec Ideal S2048x1024 .bf16 := iblk m d 0 t
abbrev blk1 (t : Fin cfg0.N) : Vec Ideal S2048x384 .bf16 := iblk m d 1 t

theorem in0 (j : Fin 1) (k : Fin 4) (r : Fin 2048) (a : Fin 1024) : blk0 m d (pt j k) (ix2 r a)
    = (V m d main_v0 : Vec Ideal S8192x1024 .bf16) (ix2 (row k r) a) := by
  have e : (4 * j.val + k.val) % 4 = k.val := by omega
  blk_ext [iblk, idx0 (pt j k), e] <;> rfl

theorem in1 (j : Fin 1) (k : Fin 4) (r : Fin 2048) (b : Fin 384) : blk1 m d (pt j k) (ix2 r b)
    = (V m d main_v6 : Vec Ideal S8192x384 .bf16) (ix2 (row k r) (col j b)) := by
  have e : (4 * j.val + k.val) % 4 = k.val := by omega
  have e1 : (4 * j.val + k.val) / 4 = j.val := by omega
  blk_ext [iblk, idx1 (pt j k), e, e1] <;> rfl

/-- What the point's product is, at an index. -/
def part (j : Fin 1) (k : Fin 4) (a : Fin 1024) (b : Fin 384) : EReal :=
  ∑ r : Fin 2048, (act m d (ix2 (row k r) a) : EReal) * put latAt (fun e => ct m d (ix2 (row k r) e)) (col j b)

theorem part_eq (j : Fin 1) (k : Fin 4) (a : Fin 1024) (b : Fin 384) :
    (∑ r : Fin 2048, (blk0 m d (pt j k) (ix2 r a) : EReal) * blk1 m d (pt j k) (ix2 r b)) = part m d j k a b := by
  refine Finset.sum_congr rfl fun r _ => ?_
  rw [in0, in1, V_act, V_ct, padL_at]
  rfl

/-- The scratch after the point. -/
abbrev scr (j : Fin 1) (k : Fin 4) : Vec Ideal S1024x384 .f32 := (outsAt0 m d (pt j k).val (pt j k).isLt).2

theorem scr0 (j : Fin 1) (a : Fin 1024) (b : Fin 384) : (scr m d j 0 (ix2 a b) : EReal) = 0 + part m d j 0 a b := by
  have h0 : (pt j 0).val % 4 = 0 := by show (4 * j.val + 0) % 4 = 0; omega
  have h1 : ¬ (pt j 0).val % 4 = 3 := by omega
  unfold scr
  rw [outsAt0_A m d (pt j 0) h0 h1]
  dsimp only
  rw [first_eq, pay2_at, pay1_at, part_eq]

theorem prev (j : Fin 1) (n : ℕ) (hn : n + 1 < 4) (h : (pt j ⟨n + 1, hn⟩).val - 1 < cfg0.N) :
    outsAt0 m d ((pt j ⟨n + 1, hn⟩).val - 1) h = outsAt0 m d (pt j ⟨n, by omega⟩).val (pt j ⟨n, by omega⟩).isLt := by
  congr 1

theorem scrS (j : Fin 1) (n : ℕ) (hn : n + 1 < 3) (a : Fin 1024) (b : Fin 384) :
    (scr m d j ⟨n + 1, by omega⟩ (ix2 a b) : EReal) = scr m d j ⟨n, by omega⟩ (ix2 a b) + part m d j ⟨n + 1, by omega⟩ a b := by
  have h0 : ¬ (pt j ⟨n + 1, by omega⟩).val % 4 = 0 := by show ¬ (4 * j.val + (n + 1)) % 4 = 0; omega
  have h1 : ¬ (pt j ⟨n + 1, by omega⟩).val % 4 = 3 := by show ¬ (4 * j.val + (n + 1)) % 4 = 3; omega
  unfold scr
  rw [outsAt0_B m d (pt j ⟨n + 1, by omega⟩) h0 h1]
  dsimp only
  rw [mid_eq, pay2_at, part_eq, prev]

/-- The scratch after a point: the products of the run so far. -/
theorem scr_sum (j : Fin 1) (n : ℕ) (hn : n < 3) (a : Fin 1024) (b : Fin 384) :
    (scr m d j ⟨n, by omega⟩ (ix2 a b) : EReal) = ∑ k : Fin (n + 1), part m d j ⟨k.val, by omega⟩ a b := by
  induction n with
  | zero => exact (scr0 m d j a b).trans (by rw [zero_add, Fin.sum_univ_one]; rfl)
  | succ n ih => rw [scrS m d j n hn, ih (by omega)]; exact (Fin.sum_univ_castSucc (fun k : Fin (n + 1 + 1) => part m d j ⟨k.val, by omega⟩ a b)).symm

theorem out_eq (j : Fin 1) (a : Fin 1024) (b : Fin 384) :
    ((outsAt0 m d (pt j 3).val (pt j 3).isLt).1 (ix2 a b) : EReal) = scr m d j 2 (ix2 a b) + part m d j 3 a b := by
  have h0 : ¬ (pt j 3).val % 4 = 0 := by show ¬ (4 * j.val + 3) % 4 = 0; omega
  have h1 : (pt j 3).val % 4 = 3 := by show (4 * j.val + 3) % 4 = 3; omega
  rw [outsAt0_C m d (pt j 3) h0 h1]
  dsimp only
  rw [last_eq, pay2_at, part_eq]
  rw [show (3 : Fin 4) = ⟨2 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the tokens. -/
theorem result (j : Fin 1) (a : Fin 1024) (b : Fin 384) :
    (G2 m d (ix2 a (col j b)) : EReal) = ∑ i : Fin 8192, (act m d (ix2 i a) : EReal) * put latAt (fun e => ct m d (ix2 i e)) (col j b) := by
  have ep : pt2Of (ix2 a (col j b)) = (pt j 3).val := by
    show 4 * (1 * (a.val / 1024 - 0) + 1 * ((j.val * 384 + b.val) / 384 - 0)) + 3 = 4 * j.val + 3
    omega
  have el : loc2Of (ix2 a (col j b)) = ix2 a b := by
    funext x
    apply Fin.ext
    match x with
    | ⟨0, _⟩ => show a.val % 1024 = a.val; omega
    | ⟨1, _⟩ => show (j.val * 384 + b.val) % 384 = b.val; omega
  have hp : pt2Of (ix2 a (col j b)) < cfg0.N := ep ▸ (pt j 3).isLt
  have e : G2 m d (ix2 a (col j b)) = (outsAt0 m d (pt j 3).val (pt j 3).isLt).1 (ix2 a b) := by
    unfold G2
    rw [dif_pos hp, ← outsAt0_sweep m d _ hp, el, outs_congr m d _ _ hp (pt j 3).isLt ep]
  rw [e, out_eq, Cert.Math.sum_blocks 4 2048 8192 rfl, Fin.sum_univ_castSucc]
  exact congrArg (fun s : EReal => s + part m d j 3 a b) (scr_sum m d j 2 (by omega) a b)

end Cert.Kernel26Ideal.Plain

namespace Cert.Proof

open Cert.Plain Idealize.ShloMosaic Idealize.ShloMosaic.TcCoe Idealize.SL.Sem

theorem frame_reference26 : quiescent_Reference26Ideal := fun m ρ _ =>
  (θ_run Reference26Ideal.defs _ _).mono (fun r h => ⟨fun c => (h c).2, sem_eq_zero_of_no_sems (by decide) r.2⟩)
    (Reference26Ideal.Value.run (F := Ideal) m ρ)

section
open Reference26Ideal Reference26Ideal.Gen

/-- The reference's result. -/
def ref26 (x : FVec Ideal S8192x1024 .f32) (y : FVec Ideal S8192x288 .f32) : FVec Ideal S1024x384 .f32 :=
  lat latFits1024 (transpose S1024x288 [1, 0] (Host.dotGeneral (φ₁ := .f32) (φ₂ := .f32) dot_S8192x288_S8192x1024_S288x1024_0_0_1_1_n_n none y x)
    transposes_S288x1024_S1024x288_1_0)

theorem ref26_at (x : FVec Ideal S8192x1024 .f32) (y : FVec Ideal S8192x288 .f32) (a : Fin 1024) (e : Fin 384) :
    (ref26 x y (ix2 a e) : EReal) = put latAt (fun k => ∑ i : Fin 8192, (y (ix2 i k) : EReal) * x (ix2 i a)) e := by
  refine (lat_at1024 _ a e).trans (congrArg (fun z => put latAt z e) (funext fun k => ?_))
  pointwise
end

theorem same26 : algebraic_Kernel26Ideal_Reference26Ideal := by
  intro m ρ m' ρ' _ hagree
  refine ⟨_, Kernel26Ideal.Value.run (F := Ideal) m ρ, ?_⟩
  refine (θ_run Reference26Ideal.defs _ _).mono (fun _ h c => ⟨?_, (h c).2⟩) (Reference26Ideal.Value.run (F := Ideal) m' ρ')
  rw [(h c).1, (hagree c).1, (hagree c).2.2]
  funext i
  obtain ⟨j, a, b, rfl⟩ : ∃ (j : Fin 1) (a : Fin 1024) (b : Fin 384), i = ix2 a (Kernel26Ideal.Plain.col j b) := by
    have hi : (i 1).val < 384 := (i 1).isLt
    exact ⟨⟨(i 1).val / 384, by omega⟩, i 0, ⟨(i 1).val % 384, by omega⟩, ix2_of _ _ _ rfl
      (show (i 1).val = (i 1).val / 384 * 384 + (i 1).val % 384 by omega)⟩
  refine (ref26_at _ _ a _).trans (Eq.trans ?_ (Kernel26Ideal.Plain.result m c j a b).symm)
  exact ((Finset.sum_congr rfl fun i _ => mul_comm _ _).trans (sum_put_left latAt _ _ _)).symm

end Cert.Proof

end
-- ==== Proof.Mm27.lean ====
module

public import proofs.«01_k».proof.Defs
public import proofs.«01_k».proof.Proof.Lat
public import proofs.«01_k».proof.Proof.Gen.Kernel27.Frame
public import proofs.«01_k».proof.Proof.Gen.Kernel27Ideal.Value
public import proofs.«01_k».proof.Proof.Gen.Reference27Ideal.Run
public import Idealize.ShloMosaic.Lib.Pipeline.ValueKit

/-! # The gradient of the keys' and values' first product in its activations -/

@[expose] public section

noncomputable section

namespace Cert.Kernel27Ideal.Plain

open Gen Value Cert.Plain
open Idealize.ShloMosaic Idealize.ShloMosaic.TcCoe
open scoped BigOperators

theorem out_eq (x : Vec Ideal S1024x384 .bf16) (w : Vec Ideal S1024x384 .bf16) : out0_2 x w = k0_pay1 x w := by
  unfold out0_2
  rw [View.canon_unit_zero hz, View.ld_unit_zero (S := S1024x384) hz, View.ld_unit_zero (S := S1024x384) hz]

theorem pay_at (x : Vec Ideal S1024x384 .bf16) (w : Vec Ideal S1024x384 .bf16) (r : Fin 1024) (b : Fin 1024) :
    (k0_pay1 x w (ix2 r b) : EReal) = ∑ k : Fin 384, (x (ix2 r k) : EReal) * w (ix2 b k) := by
  refine Eq.trans (b := 0 + ∑ k : Fin 384, (x (ix2 r k) : EReal) * w (ix2 b k)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The latent's lanes and the shared ones, with zeros between and after. -/
def padL (x : FVec Ideal S8192x288 .f32) : FVec Ideal S8192x384 .bf16 := latParts latFits8192 (truncf .bf16 x bitsLt_bf16_f32)

theorem padL_at (x : FVec Ideal S8192x288 .f32) (i : Fin 8192) (c : Fin 384) :
    (padL x (ix2 i c) : EReal) = put latAt (fun k => x (ix2 i k)) c := latParts_at8192 _ i c

/-- The latent's lanes and the shared ones, with zeros between and after. -/
def padR (x : FVec Ideal S1024x288 .f32) : FVec Ideal S1024x384 .bf16 := latParts latFits1024 (truncf .bf16 x bitsLt_bf16_f32)

theorem padR_at (x : FVec Ideal S1024x288 .f32) (i : Fin 1024) (c : Fin 384) :
    (padR x (ix2 i c) : EReal) = put latAt (fun k => x (ix2 i k)) c := latParts_at1024 _ i c

variable (m : (ℓ : Loc nD τ sig) → Buf (Elt Ideal) ℓ) (d : Dev nD)

/-- The two arrays the call multiplies, as launched. -/
abbrev lhs : Vec Ideal S8192x288 .f32 := m ((d.tc : Thread nD τ).loc main_arg2)
abbrev rhs : Vec Ideal S1024x288 .f32 := m ((d.tc : Thread nD τ).loc main_arg1)

theorem V_lhs : V m d main_v5 = padL (lhs m d) := by
  show StableHlo.after _ _ _ = _
  after_results_simp <;> rfl

theorem V_rhs : V m d main_v11 = padR (rhs m d) := by
  show StableHlo.after _ _ _ = _
  after_results_simp <;> rfl

/-- The product at an index. -/
def prod (i : Fin 8192) (b : Fin 1024) : EReal := ∑ k : Fin 384, put latAt (fun e => lhs m d (ix2 i e)) k * put latAt (fun e => rhs m d (ix2 b e)) k

/-- The product without the padding. -/
theorem prod_plain (i : Fin 8192) (b : Fin 1024) : prod m d i b = ∑ k : Fin 288, (lhs m d (ix2 i k) : EReal) * rhs m d (ix2 b k) :=
  sum_put_both latAt latLane latAt_lane latLane_of _ _

/-- The two blocks a point reads. -/
abbrev blk0 (t : Fin cfg0.N) : Vec Ideal S1024x384 .bf16 := iblk m d 0 t
abbrev blk1 (t : Fin cfg0.N) : Vec Ideal S1024x384 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 384) :
    blk0 m d t (ix2 r k) = (V m d main_v5 : Vec Ideal S8192x384 .bf16) (ix2 (row t r) k) := by
  blk_ext [iblk, idx0 t] <;> rfl

theorem in1 (t : Fin cfg0.N) (k : Fin 384) (b : Fin 1024) :
    blk1 m d t (ix2 b k) = (V m d main_v11 : Vec Ideal S1024x384 .bf16) (ix2 b k) := by
  blk_ext [iblk, idx1 t] <;> rfl

theorem prod_eq (t : Fin cfg0.N) (r : Fin 1024) (b : Fin 1024) :
    (k0_pay1 (blk0 m d t) (blk1 m d t) (ix2 r b) : EReal) = prod m d (row t r) b := by
  rw [pay_at]
  refine Finset.sum_congr rfl fun x _ => ?_
  rw [in0, in1, V_lhs, V_rhs, padL_at, padR_at]

/-- The call's result. -/
def res : FVec Ideal S8192x1024 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel27Ideal.Plain

namespace Cert.Proof

open Idealize.ShloMosaic Idealize.ShloMosaic.TcCoe Idealize.SL.Sem

theorem frame_reference27 : quiescent_Reference27Ideal := fun m ρ _ =>
  (θ_run Reference27Ideal.defs _ _).mono (fun r h => ⟨fun c => (h c).2, sem_eq_zero_of_no_sems (by decide) r.2⟩)
    (Reference27Ideal.Value.run (F := Ideal) m ρ)

theorem ref27_at (x : Vec Ideal Reference27Ideal.S8192x288 .f32) (w : Vec Ideal Reference27Ideal.S1024x288 .f32) (i : Fin 8192) (b : Fin 1024) :
    (Host.dotGeneral (F := Ideal) (φ₁ := .f32) (φ₂ := .f32) Reference27Ideal.dot_S8192x288_S1024x288_S8192x1024_1_1_0_0_n_n none x w (ix2 i b) : EReal)
      = ∑ k : Fin 288, (x (ix2 i k) : EReal) * w (ix2 b k) := by
  pointwise

theorem same27 : algebraic_Kernel27Ideal_Reference27Ideal := by
  intro m ρ m' ρ' _ hagree
  refine ⟨fun c => Kernel27Ideal.Plain.res m c, ?_, ?_⟩
  · refine (θ_run Kernel27Ideal.defs _ _).mono (fun _ h c => ?_) (Kernel27Ideal.Value.run_blocks (F := Ideal) m ρ)
    exact ⟨(h c).1.trans (Kernel27Ideal.Plain.final m c), (h c).2⟩
  · refine (θ_run Reference27Ideal.defs _ _).mono (fun _ h c => ⟨?_, (h c).2⟩) (Reference27Ideal.Value.run (F := Ideal) m' ρ')
    rw [(h c).1, (hagree c).2.1, (hagree c).2.2]
    funext y
    rw [Plain.eta y]
    exact (ref27_at _ _ (y 0) (y 1)).trans (Kernel27Ideal.Plain.prod_plain m c (y 0) (y 1)).symm

end Cert.Proof

end
-- ==== Proof.Mm28.lean ====
module

public import proofs.«01_k».proof.Defs
public import proofs.«01_k».proof.Proof.Lat
public import proofs.«01_k».proof.Proof.Gen.Kernel28.Frame
public import proofs.«01_k».proof.Proof.Gen.Kernel28Ideal.Value
public import proofs.«01_k».proof.Proof.Gen.Reference28Ideal.Run
public import Idealize.ShloMosaic.Lib.Pipeline.ValueKit

/-! # The keys' and values' first product -/

@[expose] public section

noncomputable section

namespace Cert.Kernel28Ideal.Plain

open Gen Value Cert.Plain
open Idealize.ShloMosaic Idealize.ShloMosaic.TcCoe
open scoped BigOperators

theorem out_eq (x : Vec Ideal S1024x1024 .bf16) (w : Vec Ideal S1024x384 .bf16) : out0_2 x w = k0_pay1 x w := by
  unfold out0_2
  rw [View.canon_unit_zero hz, View.ld_unit_zero (S := S1024x1024) hz, View.ld_unit_zero (S := S1024x384) hz]

theorem pay_at (x : Vec Ideal S1024x1024 .bf16) (w : Vec Ideal S1024x384 .bf16) (r : Fin 1024) (b : Fin 384) :
    (k0_pay1 x w (ix2 r b) : EReal) = ∑ k : Fin 1024, (x (ix2 r k) : EReal) * w (ix2 k b) := by
  refine Eq.trans (b := 0 + ∑ k : Fin 1024, (x (ix2 r k) : EReal) * w (ix2 k b)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The latent's lanes and the shared ones, with zeros between and after. -/
def padR (x : FVec Ideal S1024x288 .f32) : FVec Ideal S1024x384 .bf16 := latParts latFits1024 (truncf .bf16 x bitsLt_bf16_f32)

theorem padR_at (x : FVec Ideal S1024x288 .f32) (i : Fin 1024) (c : Fin 384) :
    (padR x (ix2 i c) : EReal) = put latAt (fun k => x (ix2 i k)) c := latParts_at1024 _ i c

variable (m : (ℓ : Loc nD τ sig) → Buf (Elt Ideal) ℓ) (d : Dev nD)

/-- The two arrays the call multiplies, as launched. -/
abbrev lhs : Vec Ideal S8192x1024 .f32 := m ((d.tc : Thread nD τ).loc main_arg0)
abbrev rhs : Vec Ideal S1024x288 .f32 := m ((d.tc : Thread nD τ).loc main_arg1)

theorem V_lhs : V m d main_v0 = truncf (F := Ideal) .bf16 (lhs m d) bitsLt_bf16_f32 := by
  show StableHlo.after _ _ _ = _
  after_results_simp <;> rfl

theorem V_rhs : V m d main_v6 = padR (rhs m d) := by
  show StableHlo.after _ _ _ = _
  after_results_simp <;> rfl

/-- The product at an index. -/
def prod (i : Fin 8192) (b : Fin 384) : EReal := ∑ k : Fin 1024, (lhs m d (ix2 i k) : EReal) * put latAt (fun e => rhs m d (ix2 k e)) b

/-- The product without the padding. -/
theorem prod_plain (i : Fin 8192) (b : Fin 384) : prod m d i b = put latAt (fun e => ∑ k : Fin 1024, (lhs m d (ix2 i k) : EReal) * rhs m d (ix2 k e)) b :=
  sum_put_right latAt _ _ _

/-- The two blocks a point reads. -/
abbrev blk0 (t : Fin cfg0.N) : Vec Ideal S1024x1024 .bf16 := iblk m d 0 t
abbrev blk1 (t : Fin cfg0.N) : Vec Ideal S1024x384 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 1024) :
    blk0 m d t (ix2 r k) = (V m d main_v0 : Vec Ideal S8192x1024 .bf16) (ix2 (row t r) k) := by
  blk_ext [iblk, idx0 t] <;> rfl

theorem in1 (t : Fin cfg0.N) (k : Fin 1024) (b : Fin 384) :
    blk1 m d t (ix2 k b) = (V m d main_v6 : Vec Ideal S1024x384 .bf16) (ix2 k b) := by
  blk_ext [iblk, idx1 t] <;> rfl

theorem prod_eq (t : Fin cfg0.N) (r : Fin 1024) (b : Fin 384) :
    (k0_pay1 (blk0 m d t) (blk1 m d t) (ix2 r b) : EReal) = prod m d (row t r) b := by
  rw [pay_at]
  refine Finset.sum_congr rfl fun x _ => ?_
  rw [in0, in1, V_lhs, V_rhs, padR_at]
  rfl

/-- The call's result. -/
def res : FVec Ideal S8192x384 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel28Ideal.Plain

namespace Cert.Proof

open Cert.Plain Idealize.ShloMosaic Idealize.ShloMosaic.TcCoe Idealize.SL.Sem

theorem frame_reference28 : quiescent_Reference28Ideal := fun m ρ _ =>
  (θ_run Reference28Ideal.defs _ _).mono (fun r h => ⟨fun c => (h c).2, sem_eq_zero_of_no_sems (by decide) r.2⟩)
    (Reference28Ideal.Value.run (F := Ideal) m ρ)

section
open Reference28Ideal Reference28Ideal.Gen

/-- The reference's result. -/
def ref28 (x : FVec Ideal S8192x1024 .f32) (w : FVec Ideal S1024x288 .f32) : FVec Ideal S8192x384 .f32 :=
  lat latFits8192 (Host.dotGeneral (φ₁ := .f32) (φ₂ := .f32) dot_S8192x1024_S1024x288_S8192x288_1_0_0_1_n_n none x w)

theorem ref28_at (x : FVec Ideal S8192x1024 .f32) (w : FVec Ideal S1024x288 .f32) (i : Fin 8192) (b : Fin 384) :
    (ref28 x w (ix2 i b) : EReal) = put latAt (fun e => ∑ k : Fin 1024, (x (ix2 i k) : EReal) * w (ix2 k e)) b := by
  refine (lat_at8192 _ i b).trans (congrArg (fun y => put latAt y b) (funext fun e => ?_))
  pointwise
end

theorem same28 : algebraic_Kernel28Ideal_Reference28Ideal := by
  intro m ρ m' ρ' _ hagree
  refine ⟨fun c => Kernel28Ideal.Plain.res m c, ?_, ?_⟩
  · refine (θ_run Kernel28Ideal.defs _ _).mono (fun _ h c => ?_) (Kernel28Ideal.Value.run_blocks (F := Ideal) m ρ)
    exact ⟨(h c).1.trans (Kernel28Ideal.Plain.final m c), (h c).2⟩
  · refine (θ_run Reference28Ideal.defs _ _).mono (fun _ h c => ⟨?_, (h c).2⟩) (Reference28Ideal.Value.run (F := Ideal) m' ρ')
    rw [(h c).1, (hagree c).1, (hagree c).2]
    funext y
    rw [eta y]
    exact (ref28_at _ _ (y 0) (y 1)).trans (Kernel28Ideal.Plain.prod_plain m c (y 0) (y 1)).symm

end Cert.Proof

end
-- ==== Proof.Mm21.lean ====
module

public import proofs.«01_k».proof.Defs
public import proofs.«01_k».proof.Proof.Wide
public import proofs.«01_k».proof.Proof.Gen.Kernel21.Frame
public import proofs.«01_k».proof.Proof.Gen.Kernel21Ideal.Value
public import proofs.«01_k».proof.Proof.Gen.Reference21Ideal.Run
public import Idealize.ShloMosaic.Lib.Pipeline.ValueKit

/-! # The attention's output product -/

@[expose] public section

set_option maxRecDepth 16384

noncomputable section

namespace Cert.Kernel21Ideal.Plain

open Gen Value Cert.Plain
open Idealize.ShloMosaic Idealize.ShloMosaic.TcCoe
open scoped BigOperators

theorem out_eq (x : Vec Ideal S1024x2048 .f32) (w : Vec Ideal S2048x1024 .bf16) : out0_2 x w = k0_pay1 x w := by
  unfold out0_2
  rw [View.canon_unit_zero hz, View.ld_unit_zero (S := S1024x2048) hz, View.ld_unit_zero (S := S2048x1024) hz]

theorem pay_at (x : Vec Ideal S1024x2048 .f32) (w : Vec Ideal S2048x1024 .bf16) (r : Fin 1024) (b : Fin 1024) :
    (k0_pay1 x w (ix2 r b) : EReal) = ∑ k : Fin 2048, (x (ix2 r k) : EReal) * w (ix2 k b) := by
  refine Eq.trans (b := 0 + ∑ k : Fin 2048, (x (ix2 r k) : EReal) * w (ix2 k b)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Every head of a row padded to 128 lanes. -/
def padL (x : FVec Ideal S8192x1024 .f32) : FVec Ideal S8192x2048 .f32 :=
  shapeCast S8192x2048 (pad S8192x16x128 ![0, 0, 0] ![0, 0, 64] ![0, 0, 0]
    (shapeCast S8192x16x64 x shapeCasts_S8192x1024_S8192x16x64) (sitofp .f32 (constantI S_ 32 0#32))
    pads_S8192x16x64_S8192x16x128_000_000_0640 h_S_) shapeCasts_S8192x16x128_S8192x2048

theorem padL_at (x : FVec Ideal S8192x1024 .f32) (i : Fin 8192) (c : Fin 2048) :
    (padL x (ix2 i c) : EReal) = wide 64 1024 rfl (fun k => x (ix2 i k)) c := by
  pointwise [padL]
  exact wide_of 64 1024 rfl (fun k => x (ix2 i k)) c _ (pad_zero .f32)

/-- Every head of a column padded to 128 rows. -/
def padR (x : FVec Ideal S1024x1024 .f32) : FVec Ideal S2048x1024 .bf16 :=
  shapeCast S2048x1024 (pad S16x128x1024 ![0, 0, 0] ![0, 64, 0] ![0, 0, 0]
    (shapeCast S16x64x1024 (truncf .bf16 x bitsLt_bf16_f32) shapeCasts_S1024x1024_S16x64x1024) (sitofp .bf16 (constantI S_ 32 0#32))
    pads_S16x64x1024_S16x128x1024_000_0640_000 h_S_) shapeCasts_S16x128x1024_S2048x1024

theorem padR_at (x : FVec Ideal S1024x1024 .f32) (i : Fin 1024) (c : Fin 2048) :
    (padR x (ix2 c i) : EReal) = wide 64 1024 rfl (fun k => x (ix2 k i)) c := by
  pointwise [padR]
  exact wide_of 64 1024 rfl (fun k => x (ix2 k i)) c _ (pad_zero .bf16)

variable (m : (ℓ : Loc nD τ sig) → Buf (Elt Ideal) ℓ) (d : Dev nD)

/-- The two arrays the call multiplies, as launched. -/
abbrev lhs : Vec Ideal S8192x1024 .f32 := m ((d.tc : Thread nD τ).loc main_arg0)
abbrev rhs : Vec Ideal S1024x1024 .f32 := m ((d.tc : Thread nD τ).loc main_arg1)

/-- What the call finds in the arrays it multiplies. -/
theorem reads : V m d main_v2 = padL (lhs m d)
    ∧ V m d main_v6 = padR (rhs m d) := by
  constructor <;> show StableHlo.after _ _ _ = _ <;> simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq] <;>
    after_results_simp <;> rfl

/-- The product at an index. -/
def prod (i : Fin 8192) (b : Fin 1024) : EReal := ∑ k : Fin 2048, wide 64 1024 rfl (fun e => lhs m d (ix2 i e)) k * wide 64 1024 rfl (fun e => rhs m d (ix2 e b)) k

/-- The product without the padding. -/
theorem prod_plain (i : Fin 8192) (b : Fin 1024) : prod m d i b = ∑ k : Fin 1024, (lhs m d (ix2 i k) : EReal) * rhs m d (ix2 k b) :=
  sum_wide_both 64 64 1024 rfl rfl _ _

/-- The two blocks a point reads. -/
abbrev blk0 (t : Fin cfg0.N) : Vec Ideal S1024x2048 .f32 := iblk m d 0 t
abbrev blk1 (t : Fin cfg0.N) : Vec Ideal S2048x1024 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 2048) :
    blk0 m d t (ix2 r k) = (V m d main_v2 : Vec Ideal S8192x2048 .f32) (ix2 (row t r) k) := by
  blk_ext [iblk, idx0 t] <;> rfl

theorem in1 (t : Fin cfg0.N) (k : Fin 2048) (b : Fin 1024) :
    blk1 m d t (ix2 k b) = (V m d main_v6 : Vec Ideal S2048x1024 .bf16) (ix2 k b) := by
  blk_ext [iblk, idx1 t] <;> rfl

theorem prod_eq (t : Fin cfg0.N) (r : Fin 1024) (b : Fin 1024) :
    (k0_pay1 (blk0 m d t) (blk1 m d t) (ix2 r b) : EReal) = prod m d (row t r) b := by
  rw [pay_at]
  refine Finset.sum_congr rfl fun x _ => ?_
  rw [in0, in1, (reads m d).1, (reads m d).2, padL_at, padR_at]

/-- The call's result. -/
def res : FVec Ideal S8192x1024 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel21Ideal.Plain

namespace Cert.Proof

open Idealize.ShloMosaic Idealize.ShloMosaic.TcCoe Idealize.SL.Sem

theorem frame_reference21 : quiescent_Reference21Ideal := fun m ρ _ =>
  (θ_run Reference21Ideal.defs _ _).mono (fun r h => ⟨fun c => (h c).2, sem_eq_zero_of_no_sems (by decide) r.2⟩)
    (Reference21Ideal.Value.run (F := Ideal) m ρ)

theorem ref21_at (x : Vec Ideal Reference21Ideal.S8192x1024 .f32) (w : Vec Ideal Reference21Ideal.S1024x1024 .f32) (i : Fin 8192) (b : Fin 1024) :
    (Host.dotGeneral (F := Ideal) (φ₁ := .f32) (φ₂ := .f32) Reference21Ideal.dot_S8192x1024_S1024x1024_S8192x1024_1_0_0_1_n_n none x w (ix2 i b) : EReal)
      = ∑ k : Fin 1024, (x (ix2 i k) : EReal) * w (ix2 k b) := by
  pointwise

theorem same21 : algebraic_Kernel21Ideal_Reference21Ideal := by
  intro m ρ m' ρ' _ hagree
  refine ⟨fun c => Kernel21Ideal.Plain.res m c, ?_, ?_⟩
  · refine (θ_run Kernel21Ideal.defs _ _).mono (fun _ h c => ?_) (Kernel21Ideal.Value.run_blocks (F := Ideal) m ρ)
    exact ⟨(h c).1.trans (Kernel21Ideal.Plain.final m c), (h c).2⟩
  · refine (θ_run Reference21Ideal.defs _ _).mono (fun _ h c => ⟨?_, (h c).2⟩) (Reference21Ideal.Value.run (F := Ideal) m' ρ')
    rw [(h c).1, (hagree c).1, (hagree c).2]
    funext y
    rw [Plain.eta y]
    exact (ref21_at _ _ (y 0) (y 1)).trans (Kernel21Ideal.Plain.prod_plain m c (y 0) (y 1)).symm

end Cert.Proof

end
-- ==== Proof.Mm20.lean ====
module

public import proofs.«01_k».proof.Defs
public import proofs.«01_k».proof.Proof.Wide
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ValueKit

/-! # The gradient of the queries' second product in its activations -/

@[expose] public section

set_option maxRecDepth 16384

noncomputable section

namespace Cert.Kernel20Ideal.Plain

open Gen Value Cert.Plain
open Idealize.ShloMosaic Idealize.ShloMosaic.TcCoe
open scoped BigOperators

theorem out_eq (x : Vec Ideal S1024x2048 .bf16) (w : Vec Ideal S512x2048 .bf16) : out0_2 x w = k0_pay1 x w := by
  unfold out0_2
  rw [View.canon_unit_zero hz, View.ld_unit_zero (S := S1024x2048) hz, View.ld_unit_zero (S := S512x2048) hz]

theorem pay_at (x : Vec Ideal S1024x2048 .bf16) (w : Vec Ideal S512x2048 .bf16) (r : Fin 1024) (b : Fin 512) :
    (k0_pay1 x w (ix2 r b) : EReal) = ∑ k : Fin 2048, (x (ix2 r k) : EReal) * w (ix2 b k) := by
  refine Eq.trans (b := 0 + ∑ k : Fin 2048, (x (ix2 r k) : EReal) * w (ix2 b k)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Every head of a row padded to 128 lanes. -/
def padL (x : FVec Ideal S8192x1536 .f32) : FVec Ideal S8192x2048 .bf16 :=
  shapeCast S8192x2048 (pad S8192x16x128 ![0, 0, 0] ![0, 0, 32] ![0, 0, 0]
    (shapeCast S8192x16x96 (truncf .bf16 x bitsLt_bf16_f32) shapeCasts_S8192x1536_S8192x16x96) (sitofp .bf16 (constantI S_ 32 0#32))
    pads_S8192x16x96_S8192x16x128_000_000_0320 h_S_) shapeCasts_S8192x16x128_S8192x2048

theorem padL_at (x : FVec Ideal S8192x1536 .f32) (i : Fin 8192) (c : Fin 2048) :
    (padL x (ix2 i c) : EReal) = wide 96 1536 rfl (fun k => x (ix2 i k)) c := by
  pointwise [padL]
  exact wide_of 96 1536 rfl (fun k => x (ix2 i k)) c _ (pad_zero .bf16)

/-- Every head of a row padded to 128 lanes. -/
def padR (x : FVec Ideal S512x1536 .f32) : FVec Ideal S512x2048 .bf16 :=
  shapeCast S512x2048 (pad S512x16x128 ![0, 0, 0] ![0, 0, 32] ![0, 0, 0]
    (shapeCast S512x16x96 (truncf .bf16 x bitsLt_bf16_f32) shapeCasts_S512x1536_S512x16x96) (sitofp .bf16 (constantI S_ 32 0#32))
    pads_S512x16x96_S512x16x128_000_000_0320 h_S_) shapeCasts_S512x16x128_S512x2048

theorem padR_at (x : FVec Ideal S512x1536 .f32) (i : Fin 512) (c : Fin 2048) :
    (padR x (ix2 i c) : EReal) = wide 96 1536 rfl (fun k => x (ix2 i k)) c := by
  pointwise [padR]
  exact wide_of 96 1536 rfl (fun k => x (ix2 i k)) c _ (pad_zero .bf16)

variable (m : (ℓ : Loc nD τ sig) → Buf (Elt Ideal) ℓ) (d : Dev nD)

/-- The two arrays the call multiplies, as launched. -/
abbrev lhs : Vec Ideal S8192x1536 .f32 := m ((d.tc : Thread nD τ).loc main_arg2)
abbrev rhs : Vec Ideal S512x1536 .f32 := m ((d.tc : Thread nD τ).loc main_arg1)

/-- What the call finds in the arrays it multiplies. -/
theorem reads : V m d main_v3 = padL (lhs m d)
    ∧ V m d main_v7 = padR (rhs m d) := by
  constructor <;> show StableHlo.after _ _ _ = _ <;> simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq] <;>
    after_results_simp <;> rfl

/-- The product at an index. -/
def prod (i : Fin 8192) (b : Fin 512) : EReal := ∑ k : Fin 2048, wide 96 1536 rfl (fun e => lhs m d (ix2 i e)) k * wide 96 1536 rfl (fun e => rhs m d (ix2 b e)) k

/-- The product without the padding. -/
theorem prod_plain (i : Fin 8192) (b : Fin 512) : prod m d i b = ∑ k : Fin 1536, (lhs m d (ix2 i k) : EReal) * rhs m d (ix2 b k) :=
  sum_wide_both 96 32 1536 rfl rfl _ _

/-- The two blocks a point reads. -/
abbrev blk0 (t : Fin cfg0.N) : Vec Ideal S1024x2048 .bf16 := iblk m d 0 t
abbrev blk1 (t : Fin cfg0.N) : Vec Ideal S512x2048 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 2048) :
    blk0 m d t (ix2 r k) = (V m d main_v3 : Vec Ideal S8192x2048 .bf16) (ix2 (row t r) k) := by
  blk_ext [iblk, idx0 t] <;> rfl

theorem in1 (t : Fin cfg0.N) (k : Fin 2048) (b : Fin 512) :
    blk1 m d t (ix2 b k) = (V m d main_v7 : Vec Ideal S512x2048 .bf16) (ix2 b k) := by
  blk_ext [iblk, idx1 t] <;> rfl

theorem prod_eq (t : Fin cfg0.N) (r : Fin 1024) (b : Fin 512) :
    (k0_pay1 (blk0 m d t) (blk1 m d t) (ix2 r b) : EReal) = prod m d (row t r) b := by
  rw [pay_at]
  refine Finset.sum_congr rfl fun x _ => ?_
  rw [in0, in1, (reads m d).1, (reads m d).2, padL_at, padR_at]

/-- The call's result. -/
def res : FVec Ideal S8192x512 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel20Ideal.Plain

namespace Cert.Proof

open Idealize.ShloMosaic Idealize.ShloMosaic.TcCoe Idealize.SL.Sem

theorem frame_reference20 : quiescent_Reference20Ideal := fun m ρ _ =>
  (θ_run Reference20Ideal.defs _ _).mono (fun r h => ⟨fun c => (h c).2, sem_eq_zero_of_no_sems (by decide) r.2⟩)
    (Reference20Ideal.Value.run (F := Ideal) m ρ)

theorem ref20_at (x : Vec Ideal Reference20Ideal.S8192x1536 .f32) (w : Vec Ideal Reference20Ideal.S512x1536 .f32) (i : Fin 8192) (b : Fin 512) :
    (Host.dotGeneral (F := Ideal) (φ₁ := .f32) (φ₂ := .f32) Reference20Ideal.dot_S8192x1536_S512x1536_S8192x512_1_1_0_0_n_n none x w (ix2 i b) : EReal)
      = ∑ k : Fin 1536, (x (ix2 i k) : EReal) * w (ix2 b k) := by
  pointwise

theorem same20 : algebraic_Kernel20Ideal_Reference20Ideal := by
  intro m ρ m' ρ' _ hagree
  refine ⟨fun c => Kernel20Ideal.Plain.res m c, ?_, ?_⟩
  · refine (θ_run Kernel20Ideal.defs _ _).mono (fun _ h c => ?_) (Kernel20Ideal.Value.run_blocks (F := Ideal) m ρ)
    exact ⟨(h c).1.trans (Kernel20Ideal.Plain.final m c), (h c).2⟩
  · refine (θ_run Reference20Ideal.defs _ _).mono (fun _ h c => ⟨?_, (h c).2⟩) (Reference20Ideal.Value.run (F := Ideal) m' ρ')
    rw [(h c).1, (hagree c).2.1, (hagree c).2.2]
    funext y
    rw [Plain.eta y]
    exact (ref20_at _ _ (y 0) (y 1)).trans (Kernel20Ideal.Plain.prod_plain m c (y 0) (y 1)).symm

end Cert.Proof

end
-- ==== Proof.Mm19.lean ====
module

public import proofs.«01_k».proof.Defs
public import proofs.«01_k».proof.Proof.Wide
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ValueKit

/-! # The gradient of the queries' second weight -/

@[expose] public section

set_option maxRecDepth 16384

noncomputable section

namespace Cert.Kernel19Ideal.Plain

open Gen Value Cert.Plain
open Idealize.ShloMosaic Idealize.ShloMosaic.TcCoe
open scoped BigOperators

section
variable {F : FTy → Type} [FloatOps F]
variable (d : Dev nD) (i : grid0.Coords) (M1 : Memref sig .tc .vmem S2048x512 .bf16) (h1 : M1.IsWhole)
  (M2 : Memref sig .tc .vmem S2048x1024 .bf16) (h2 : M2.IsWhole) (M3 : Memref sig .tc .vmem S512x1024 .f32) (h3 : M3.IsWhole)
  (M4 : Memref sig .tc .vmem S512x1024 .f32) (h4 : M4.IsWhole)
  (x0 : Vec F S2048x512 .bf16) (x1 : Vec F S2048x1024 .bf16) (xs : Vec F S512x1024 .f32)

/-- The first point of a run leaves its product on top of zero. -/
theorem first_eq (hc0 : cond0_0 i) (hc1 : ¬cond0_1 i) :
    sout0_A_0 d i M1 h1 M2 h2 M3 h3 M4 h4 hc0 hc1 x0 x1 = k0_pay2 x0 x1 k0_pay1 := by
  unfold sout0_A_0
  rw [View.read_writes_eq_canon _ _ _ (scover0_A_0 d i M1 h1 M2 h2 M3 h3 M4 h4 hc0 hc1 x0 x1)]
  unfold kernelRun0_A
  dsimp only
  sl_unfold_words
  rw [View.canon_cons_unit_zero (S := S512x1024) hz, View.readCov_unit_zero (S := S512x1024) _ hz]
  simp only [View.readAt_eq_ld, h1.read_unread, h2.read_unread, View.ld_unit_zero (S := S2048x512) hz, View.ld_unit_zero (S := S2048x1024) hz]

/-- A point between adds its product to what the point before left. -/
theorem mid_eq (hc0 : ¬cond0_0 i) (hc1 : ¬cond0_1 i) :
    sout0_B_0 d i M1 h1 M2 h2 M3 h3 M4 h4 hc0 hc1 x0 x1 xs = k0_pay2 x0 x1 xs := by
  unfold sout0_B_0
  rw [View.read_writes_eq_canon _ _ _ (scover0_B_0 d i M1 h1 M2 h2 M3 h3 M4 h4 hc0 hc1 x0 x1 xs)]
  unfold kernelRun0_B
  dsimp only
  rw [View.canon_unit_zero hz]
  simp only [View.readAt_eq_ld, h1.read_unread, h2.read_unread, h4.read_unread, View.ld_unit_zero (S := S2048x512) hz, View.ld_unit_zero (S := S2048x1024) hz, View.ld_unit_zero (S := S512x1024) hz]

/-- The last point of a run writes the sum back. -/
theorem last_eq (hc0 : ¬cond0_0 i) (hc1 : cond0_1 i) :
    out0_C_2 d i M1 h1 M2 h2 M3 h3 M4 h4 hc0 hc1 x0 x1 xs = k0_pay2 x0 x1 xs := by
  unfold out0_C_2
  rw [View.read_writes_eq_canon _ _ _ (cover0_C_2 d i M1 h1 M2 h2 M3 h3 M4 h4 hc0 hc1 x0 x1 xs)]
  unfold kernelRun0_C
  dsimp only
  sl_unfold_words
  rw [View.canon_unit_zero hz, View.readCov_unit_zero (S := S512x1024) _ hz]
  simp only [View.readAt_eq_ld, h1.read_unread, h2.read_unread, h4.read_unread, View.ld_unit_zero (S := S2048x512) hz, View.ld_unit_zero (S := S2048x1024) hz, View.ld_unit_zero (S := S512x1024) hz]
end

theorem pay2_at (acc : Vec Ideal S512x1024 .f32) (x : Vec Ideal S2048x512 .bf16) (y : Vec Ideal S2048x1024 .bf16) (a : Fin 512) (b : Fin 1024) :
    (k0_pay2 x y acc (ix2 a b) : EReal) = acc (ix2 a b) + ∑ r : Fin 2048, (x (ix2 r a) : EReal) * y (ix2 r b) := by
  pointwise [k0_pay2]

theorem pay1_at (a : Fin 512) (b : Fin 1024) : (k0_pay1 (F := Ideal) (ix2 a b) : EReal) = 0 := by
  pointwise [k0_pay1]

theorem idx0 : ∀ t : Fin cfg0.N, win0_0.index t = ![t.val % 4, 0] :=
  (by decide +kernel : ∀ t : Fin grid0.N, _)
theorem idx1 : ∀ t : Fin cfg0.N, win0_1.index t = ![t.val % 4, t.val / 4] :=
  (by decide +kernel : ∀ t : Fin grid0.N, _)

/-- Every head of a row padded to 128 lanes. -/
def padL (x : FVec Ideal S8192x1536 .f32) : FVec Ideal S8192x2048 .bf16 :=
  shapeCast S8192x2048 (pad S8192x16x128 ![0, 0, 0] ![0, 0, 32] ![0, 0, 0]
    (shapeCast S8192x16x96 (truncf .bf16 x bitsLt_bf16_f32) shapeCasts_S8192x1536_S8192x16x96) (sitofp .bf16 (constantI S_ 32 0#32))
    pads_S8192x16x96_S8192x16x128_000_000_0320 h_S_) shapeCasts_S8192x16x128_S8192x2048

theorem padL_at (x : FVec Ideal S8192x1536 .f32) (i : Fin 8192) (c : Fin 2048) :
    (padL x (ix2 i c) : EReal) = wide 96 1536 rfl (fun k => x (ix2 i k)) c := by
  pointwise [padL]
  exact wide_of 96 1536 rfl (fun k => x (ix2 i k)) c _ (pad_zero .bf16)

variable (m : (ℓ : Loc nD τ sig) → Buf (Elt Ideal) ℓ) (d : Dev nD)

/-- The two arrays the call multiplies, as launched. -/
abbrev act : Vec Ideal S8192x512 .f32 := m ((d.tc : Thread nD τ).loc main_arg0)
abbrev ct : Vec Ideal S8192x1536 .f32 := m ((d.tc : Thread nD τ).loc main_arg2)

/-- The point that takes row block `k` and column block `j`. -/
abbrev pt (j : Fin 2) (k : Fin 4) : Fin cfg0.N := ⟨4 * j.val + k.val, lt_of_lt_of_eq (by omega) N_0.symm⟩
abbrev row (k : Fin 4) (r : Fin 2048) : Fin 8192 := ⟨k.val * 2048 + r.val, by omega⟩
abbrev col (j : Fin 2) (b : Fin 1024) : Fin 2048 := ⟨j.val * 1024 + b.val, by omega⟩

/-- What the call finds in the arrays it multiplies. -/
theorem reads : V m d main_v0 = truncf (F := Ideal) .bf16 (act m d) bitsLt_bf16_f32
    ∧ V m d main_v4 = padL (ct m d) := by
  constructor <;> show StableHlo.after _ _ _ = _ <;> simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq] <;>
    after_results_simp <;> rfl

/-- The two blocks a point reads. -/
abbrev blk0 (t : Fin cfg0.N) : Vec Ideal S2048x512 .bf16 := iblk m d 0 t
abbrev blk1 (t : Fin cfg0.N) : Vec Ideal S2048x1024 .bf16 := iblk m d 1 t

theorem in0 (j : Fin 2) (k : Fin 4) (r : Fin 2048) (a : Fin 512) : blk0 m d (pt j k) (ix2 r a)
    = (V m d main_v0 : Vec Ideal S8192x512 .bf16) (ix2 (row k r) a) := by
  have e : (4 * j.val + k.val) % 4 = k.val := by omega
  blk_ext [iblk, idx0 (pt j k), e] <;> rfl

theorem in1 (j : Fin 2) (k : Fin 4) (r : Fin 2048) (b : Fin 1024) : blk1 m d (pt j k) (ix2 r b)
    = (V m d main_v4 : Vec Ideal S8192x2048 .bf16) (ix2 (row k r) (col j b)) := by
  have e : (4 * j.val + k.val) % 4 = k.val := by omega
  have e1 : (4 * j.val + k.val) / 4 = j.val := by omega
  blk_ext [iblk, idx1 (pt j k), e, e1] <;> rfl

/-- What the point's product is, at an index. -/
def part (j : Fin 2) (k : Fin 4) (a : Fin 512) (b : Fin 1024) : EReal :=
  ∑ r : Fin 2048, (act m d (ix2 (row k r) a) : EReal) * wide 96 1536 rfl (fun e => ct m d (ix2 (row k r) e)) (col j b)

theorem part_eq (j : Fin 2) (k : Fin 4) (a : Fin 512) (b : Fin 1024) :
    (∑ r : Fin 2048, (blk0 m d (pt j k) (ix2 r a) : EReal) * blk1 m d (pt j k) (ix2 r b)) = part m d j k a b := by
  refine Finset.sum_congr rfl fun r _ => ?_
  rw [in0, in1, (reads m d).1, (reads m d).2, padL_at]
  rfl

/-- The scratch after the point. -/
abbrev scr (j : Fin 2) (k : Fin 4) : Vec Ideal S512x1024 .f32 := (outsAt0 m d (pt j k).val (pt j k).isLt).2

theorem scr0 (j : Fin 2) (a : Fin 512) (b : Fin 1024) : (scr m d j 0 (ix2 a b) : EReal) = 0 + part m d j 0 a b := by
  have h0 : (pt j 0).val % 4 = 0 := by show (4 * j.val + 0) % 4 = 0; omega
  have h1 : ¬ (pt j 0).val % 4 = 3 := by omega
  unfold scr
  rw [outsAt0_A m d (pt j 0) h0 h1]
  dsimp only
  rw [first_eq, pay2_at, pay1_at, part_eq]

theorem prev (j : Fin 2) (n : ℕ) (hn : n + 1 < 4) (h : (pt j ⟨n + 1, hn⟩).val - 1 < cfg0.N) :
    outsAt0 m d ((pt j ⟨n + 1, hn⟩).val - 1) h = outsAt0 m d (pt j ⟨n, by omega⟩).val (pt j ⟨n, by omega⟩).isLt := by
  congr 1

theorem scrS (j : Fin 2) (n : ℕ) (hn : n + 1 < 3) (a : Fin 512) (b : Fin 1024) :
    (scr m d j ⟨n + 1, by omega⟩ (ix2 a b) : EReal) = scr m d j ⟨n, by omega⟩ (ix2 a b) + part m d j ⟨n + 1, by omega⟩ a b := by
  have h0 : ¬ (pt j ⟨n + 1, by omega⟩).val % 4 = 0 := by show ¬ (4 * j.val + (n + 1)) % 4 = 0; omega
  have h1 : ¬ (pt j ⟨n + 1, by omega⟩).val % 4 = 3 := by show ¬ (4 * j.val + (n + 1)) % 4 = 3; omega
  unfold scr
  rw [outsAt0_B m d (pt j ⟨n + 1, by omega⟩) h0 h1]
  dsimp only
  rw [mid_eq, pay2_at, part_eq, prev]

/-- The scratch after a point: the products of the run so far. -/
theorem scr_sum (j : Fin 2) (n : ℕ) (hn : n < 3) (a : Fin 512) (b : Fin 1024) :
    (scr m d j ⟨n, by omega⟩ (ix2 a b) : EReal) = ∑ k : Fin (n + 1), part m d j ⟨k.val, by omega⟩ a b := by
  induction n with
  | zero => exact (scr0 m d j a b).trans (by rw [zero_add, Fin.sum_univ_one]; rfl)
  | succ n ih => rw [scrS m d j n hn, ih (by omega)]; exact (Fin.sum_univ_castSucc (fun k : Fin (n + 1 + 1) => part m d j ⟨k.val, by omega⟩ a b)).symm

theorem out_eq (j : Fin 2) (a : Fin 512) (b : Fin 1024) :
    ((outsAt0 m d (pt j 3).val (pt j 3).isLt).1 (ix2 a b) : EReal) = scr m d j 2 (ix2 a b) + part m d j 3 a b := by
  have h0 : ¬ (pt j 3).val % 4 = 0 := by show ¬ (4 * j.val + 3) % 4 = 0; omega
  have h1 : (pt j 3).val % 4 = 3 := by show (4 * j.val + 3) % 4 = 3; omega
  rw [outsAt0_C m d (pt j 3) h0 h1]
  dsimp only
  rw [last_eq, pay2_at, part_eq]
  rw [show (3 : Fin 4) = ⟨2 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the tokens. -/
theorem result (j : Fin 2) (a : Fin 512) (b : Fin 1024) :
    (G2 m d (ix2 a (col j b)) : EReal) = ∑ i : Fin 8192, (act m d (ix2 i a) : EReal) * wide 96 1536 rfl (fun e => ct m d (ix2 i e)) (col j b) := by
  have ep : pt2Of (ix2 a (col j b)) = (pt j 3).val := by
    show 4 * (2 * (a.val / 512 - 0) + 1 * ((j.val * 1024 + b.val) / 1024 - 0)) + 3 = 4 * j.val + 3
    omega
  have el : loc2Of (ix2 a (col j b)) = ix2 a b := by
    funext x
    apply Fin.ext
    match x with
    | ⟨0, _⟩ => show a.val % 512 = a.val; omega
    | ⟨1, _⟩ => show (j.val * 1024 + b.val) % 1024 = b.val; omega
  have hp : pt2Of (ix2 a (col j b)) < cfg0.N := ep ▸ (pt j 3).isLt
  have e : G2 m d (ix2 a (col j b)) = (outsAt0 m d (pt j 3).val (pt j 3).isLt).1 (ix2 a b) := by
    unfold G2
    rw [dif_pos hp, ← outsAt0_sweep m d _ hp, el, outs_congr m d _ _ hp (pt j 3).isLt ep]
  rw [e, out_eq, Cert.Math.sum_blocks 4 2048 8192 rfl, Fin.sum_univ_castSucc]
  exact congrArg (fun s : EReal => s + part m d j 3 a b) (scr_sum m d j 2 (by omega) a b)

end Cert.Kernel19Ideal.Plain

namespace Cert.Proof

open Cert.Plain Idealize.ShloMosaic Idealize.ShloMosaic.TcCoe Idealize.SL.Sem

theorem frame_reference19 : quiescent_Reference19Ideal := fun m ρ _ =>
  (θ_run Reference19Ideal.defs _ _).mono (fun r h => ⟨fun c => (h c).2, sem_eq_zero_of_no_sems (by decide) r.2⟩)
    (Reference19Ideal.Value.run (F := Ideal) m ρ)

section
open Reference19Ideal Reference19Ideal.Gen

/-- The reference's result. -/
def ref19 (x : FVec Ideal S8192x512 .f32) (y : FVec Ideal S8192x1536 .f32) : FVec Ideal S512x2048 .f32 :=
  shapeCast S512x2048 (pad S512x16x128 ![0, 0, 0] ![0, 0, 32] ![0, 0, 0]
    (shapeCast S512x16x96 (transpose S512x1536 [1, 0] (Host.dotGeneral (φ₁ := .f32) (φ₂ := .f32) dot_S8192x1536_S8192x512_S1536x512_0_0_1_1_n_n none y x)
      transposes_S1536x512_S512x1536_1_0) shapeCasts_S512x1536_S512x16x96) (sitofp .f32 (constantI S_ 32 0#32))
    pads_S512x16x96_S512x16x128_000_000_0320 h_S_) shapeCasts_S512x16x128_S512x2048

theorem ref19_at (x : FVec Ideal S8192x512 .f32) (y : FVec Ideal S8192x1536 .f32) (a : Fin 512) (e : Fin 2048) :
    (ref19 x y (ix2 a e) : EReal) = wide 96 1536 rfl (fun k => ∑ i : Fin 8192, (y (ix2 i k) : EReal) * x (ix2 i a)) e := by
  pointwise [ref19]
  exact wide_of 96 1536 rfl (fun k => ∑ i : Fin 8192, (y (ix2 i k) : EReal) * x (ix2 i a)) e _ (pad_zero .f32)
end

theorem same19 : algebraic_Kernel19Ideal_Reference19Ideal := by
  intro m ρ m' ρ' _ hagree
  refine ⟨_, Kernel19Ideal.Value.run (F := Ideal) m ρ, ?_⟩
  refine (θ_run Reference19Ideal.defs _ _).mono (fun _ h c => ⟨?_, (h c).2⟩) (Reference19Ideal.Value.run (F := Ideal) m' ρ')
  rw [(h c).1, (hagree c).1, (hagree c).2.2]
  funext i
  obtain ⟨j, a, b, rfl⟩ : ∃ (j : Fin 2) (a : Fin 512) (b : Fin 1024), i = ix2 a (Kernel19Ideal.Plain.col j b) := by
    have hi : (i 1).val < 2048 := (i 1).isLt
    exact ⟨⟨(i 1).val / 1024, by omega⟩, i 0, ⟨(i 1).val % 1024, by omega⟩, ix2_of _ _ _ rfl
      (show (i 1).val = (i 1).val / 1024 * 1024 + (i 1).val % 1024 by omega)⟩
  refine (ref19_at _ _ a _).trans (Eq.trans ?_ (Kernel19Ideal.Plain.result m c j a b).symm)
  exact ((Finset.sum_congr rfl fun i _ => mul_comm _ _).trans (sum_wide_left 96 1536 rfl _ _ _)).symm

end Cert.Proof

end
-- ==== Proof.Mm18.lean ====
module

public import proofs.«01_k».proof.Defs
public import proofs.«01_k».proof.Proof.Wide
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit

/-! # The gradient of the attention's output product in its activations -/

@[expose] public section

set_option maxRecDepth 16384

noncomputable section

namespace Cert.Kernel18Ideal.Plain

open Gen Value Cert.Plain
open Idealize.ShloMosaic Idealize.ShloMosaic.TcCoe
open scoped BigOperators

theorem out_eq (x : Vec Ideal S1024x1024 .bf16) (w : Vec Ideal S1024x1024 .bf16) : out0_2 x w = k0_pay1 x w := by
  unfold out0_2
  rw [View.canon_unit_zero hz, View.ld_unit_zero (S := S1024x1024) hz, View.ld_unit_zero (S := S1024x1024) hz]

theorem pay_at (x : Vec Ideal S1024x1024 .bf16) (w : Vec Ideal S1024x1024 .bf16) (r : Fin 1024) (b : Fin 1024) :
    (k0_pay1 x w (ix2 r b) : EReal) = ∑ k : Fin 1024, (x (ix2 r k) : EReal) * w (ix2 b k) := by
  refine Eq.trans (b := 0 + ∑ k : Fin 1024, (x (ix2 r k) : EReal) * w (ix2 b k)) ?_ (zero_add _)
  pointwise [k0_pay1]

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- Every head of a column padded to 128 rows. -/
def padR (x : FVec Ideal S1024x1024 .f32) : FVec Ideal S2048x1024 .bf16 :=
  shapeCast S2048x1024 (pad S16x128x1024 ![0, 0, 0] ![0, 64, 0] ![0, 0, 0]
    (shapeCast S16x64x1024 (truncf .bf16 x bitsLt_bf16_f32) shapeCasts_S1024x1024_S16x64x1024) (sitofp .bf16 (constantI S_ 32 0#32))
    pads_S16x64x1024_S16x128x1024_000_0640_000 h_S_) shapeCasts_S16x128x1024_S2048x1024

theorem padR_at (x : FVec Ideal S1024x1024 .f32) (i : Fin 1024) (c : Fin 2048) :
    (padR x (ix2 c i) : EReal) = wide 64 1024 rfl (fun k => x (ix2 k i)) c := by
  pointwise [padR]
  exact wide_of 64 1024 rfl (fun k => x (ix2 k i)) c _ (pad_zero .bf16)

variable (m : (ℓ : Loc nD τ sig) → Buf (Elt Ideal) ℓ) (d : Dev nD)

/-- The two arrays the call multiplies, as launched. -/
abbrev lhs : Vec Ideal S8192x1024 .f32 := m ((d.tc : Thread nD τ).loc main_arg2)
abbrev rhs : Vec Ideal S1024x1024 .f32 := m ((d.tc : Thread nD τ).loc main_arg1)

/-- What the call finds in the arrays it multiplies. -/
theorem reads : V m d main_v0 = truncf (F := Ideal) .bf16 (lhs m d) bitsLt_bf16_f32
    ∧ V m d main_v4 = padR (rhs m d) := by
  constructor <;> show StableHlo.after _ _ _ = _ <;> simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq] <;>
    after_results_simp <;> rfl

/-- The product at an index. -/
def prod (i : Fin 8192) (b : Fin 2048) : EReal := ∑ k : Fin 1024, (lhs m d (ix2 i k) : EReal) * wide 64 1024 rfl (fun e => rhs m d (ix2 e k)) b

/-- The product without the padding. -/
theorem prod_plain (i : Fin 8192) (b : Fin 2048) : prod m d i b = wide 64 1024 rfl (fun e => ∑ k : Fin 1024, (lhs m d (ix2 i k) : EReal) * rhs m d (ix2 e k)) b :=
  sum_wide_right 64 1024 rfl _ _ _

/-- The two blocks a point reads. -/
abbrev blk0 (t : Fin cfg0.N) : Vec Ideal S1024x1024 .bf16 := iblk m d 0 t
abbrev blk1 (t : Fin cfg0.N) : Vec Ideal S1024x1024 .bf16 := iblk m d 1 t

theorem lt_N (t : Fin cfg0.N) : t.val < 16 := lt_of_lt_of_eq t.isLt N_0

/-- The row and the column of the arrays at a point's. -/
abbrev row (t : Fin cfg0.N) (r : Fin 1024) : Fin 8192 := ⟨t.val / 2 * 1024 + r.val, by have := lt_N t; omega⟩
abbrev col (t : Fin cfg0.N) (b : Fin 1024) : Fin 2048 := ⟨t.val % 2 * 1024 + b.val, by omega⟩

theorem in0 (t : Fin cfg0.N) (r : Fin 1024) (k : Fin 1024) :
    blk0 m d t (ix2 r k) = (V m d main_v0 : Vec Ideal S8192x1024 .bf16) (ix2 (row t r) k) := by
  blk_ext [iblk, idx0 t] <;> rfl

theorem in1 (t : Fin cfg0.N) (k : Fin 1024) (b : Fin 1024) :
    blk1 m d t (ix2 b k) = (V m d main_v4 : Vec Ideal S2048x1024 .bf16) (ix2 (col t b) k) := by
  blk_ext [iblk, idx1 t] <;> rfl

theorem prod_eq (t : Fin cfg0.N) (r : Fin 1024) (b : Fin 1024) :
    (k0_pay1 (blk0 m d t) (blk1 m d t) (ix2 r b) : EReal) = prod m d (row t r) (col t b) := by
  rw [pay_at]
  refine Finset.sum_congr rfl fun x _ => ?_
  rw [in0, in1, (reads m d).1, (reads m d).2, padR_at]
  rfl

/-- The call's result. -/
def res : FVec Ideal S8192x2048 .bf16 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (col t (y 1)) ?_ ?_)).symm)
  · blk_simp [idx2 t]
  · blk_simp [idx2 t]

end Cert.Kernel18Ideal.Plain

namespace Cert.Proof

open Cert.Plain Idealize.ShloMosaic Idealize.ShloMosaic.TcCoe Idealize.SL.Sem

theorem frame_reference18 : quiescent_Reference18Ideal := fun m ρ _ =>
  (θ_run Reference18Ideal.defs _ _).mono (fun r h => ⟨fun c => (h c).2, sem_eq_zero_of_no_sems (by decide) r.2⟩)
    (Reference18Ideal.Value.run (F := Ideal) m ρ)

section
open Reference18Ideal Reference18Ideal.Gen

/-- The reference's result. -/
def ref18 (x : FVec Ideal S8192x1024 .f32) (w : FVec Ideal S1024x1024 .f32) : FVec Ideal S8192x2048 .bf16 :=
  truncf .bf16 (shapeCast S8192x2048 (pad S8192x16x128 ![0, 0, 0] ![0, 0, 64] ![0, 0, 0]
    (shapeCast S8192x16x64 (Host.dotGeneral (φ₁ := .f32) (φ₂ := .f32) dot_S8192x1024_S1024x1024_S8192x1024_1_1_0_0_n_n none x w) shapeCasts_S8192x1024_S8192x16x64) (sitofp .f32 (constantI S_ 32 0#32))
    pads_S8192x16x64_S8192x16x128_000_000_0640 h_S_) shapeCasts_S8192x16x128_S8192x2048) bitsLt_bf16_f32

theorem ref18_at (x : FVec Ideal S8192x1024 .f32) (w : FVec Ideal S1024x1024 .f32) (i : Fin 8192) (b : Fin 2048) :
    (ref18 x w (ix2 i b) : EReal) = wide 64 1024 rfl (fun e => ∑ k : Fin 1024, (x (ix2 i k) : EReal) * w (ix2 e k)) b := by
  pointwise [ref18]
  exact wide_of 64 1024 rfl (fun e => ∑ k : Fin 1024, (x (ix2 i k) : EReal) * w (ix2 e k)) b _ (pad_zero .f32)
end

theorem same18 : algebraic_Kernel18Ideal_Reference18Ideal := by
  intro m ρ m' ρ' _ hagree
  refine ⟨fun c => Kernel18Ideal.Plain.res m c, ?_, ?_⟩
  · refine (θ_run Kernel18Ideal.defs _ _).mono (fun _ h c => ?_) (Kernel18Ideal.Value.run_blocks (F := Ideal) m ρ)
    exact ⟨(h c).1.trans (Kernel18Ideal.Plain.final m c), (h c).2⟩
  · refine (θ_run Reference18Ideal.defs _ _).mono (fun _ h c => ⟨?_, (h c).2⟩) (Reference18Ideal.Value.run (F := Ideal) m' ρ')
    rw [(h c).1, (hagree c).2.1, (hagree c).2.2]
    funext y
    rw [eta y]
    exact (ref18_at _ _ (y 0) (y 1)).trans (Kernel18Ideal.Plain.prod_plain m c (y 0) (y 1)).symm

end Cert.Proof

end
-- ==== Proof.Mm17.lean ====
module

public import proofs.«01_k».proof.Defs
public import proofs.«01_k».proof.Proof.Wide
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit

/-! # The gradient of the attention's output weight -/

@[expose] public section

set_option maxRecDepth 16384

noncomputable section

namespace Cert.Kernel17Ideal.Plain

open Gen Value Cert.Plain
open Idealize.ShloMosaic Idealize.ShloMosaic.TcCoe
open scoped BigOperators

section
variable {F : FTy → Type} [FloatOps F]
variable (d : Dev nD) (i : grid0.Coords) (M1 : Memref sig .tc .vmem S512x2048 .f32) (h1 : M1.IsWhole)
  (M2 : Memref sig .tc .vmem S512x1024 .bf16) (h2 : M2.IsWhole) (M3 : Memref sig .tc .vmem S2048x1024 .f32) (h3 : M3.IsWhole)
  (M4 : Memref sig .tc .vmem S2048x1024 .f32) (h4 : M4.IsWhole)
  (x0 : Vec F S512x2048 .f32) (x1 : Vec F S512x1024 .bf16) (xs : Vec F S2048x1024 .f32)

/-- The first point of a run leaves its product on top of zero. -/
theorem first_eq (hc0 : cond0_0 i) (hc1 : ¬cond0_1 i) :
    sout0_A_0 d i M1 h1 M2 h2 M3 h3 M4 h4 hc0 hc1 x0 x1 = k0_pay2 x0 x1 k0_pay1 := by
  unfold sout0_A_0
  rw [View.read_writes_eq_canon _ _ _ (scover0_A_0 d i M1 h1 M2 h2 M3 h3 M4 h4 hc0 hc1 x0 x1)]
  unfold kernelRun0_A
  dsimp only
  sl_unfold_words
  rw [View.canon_cons_unit_zero (S := S2048x1024) hz, View.readCov_unit_zero (S := S2048x1024) _ hz]
  simp only [View.readAt_eq_ld, h1.read_unread, h2.read_unread, View.ld_unit_zero (S := S512x2048) hz, View.ld_unit_zero (S := S512x1024) hz]

/-- A point between adds its product to what the point before left. -/
theorem mid_eq (hc0 : ¬cond0_0 i) (hc1 : ¬cond0_1 i) :
    sout0_B_0 d i M1 h1 M2 h2 M3 h3 M4 h4 hc0 hc1 x0 x1 xs = k0_pay2 x0 x1 xs := by
  unfold sout0_B_0
  rw [View.read_writes_eq_canon _ _ _ (scover0_B_0 d i M1 h1 M2 h2 M3 h3 M4 h4 hc0 hc1 x0 x1 xs)]
  unfold kernelRun0_B
  dsimp only
  rw [View.canon_unit_zero hz]
  simp only [View.readAt_eq_ld, h1.read_unread, h2.read_unread, h4.read_unread, View.ld_unit_zero (S := S512x2048) hz, View.ld_unit_zero (S := S512x1024) hz, View.ld_unit_zero (S := S2048x1024) hz]

/-- The last point of a run writes the sum back. -/
theorem last_eq (hc0 : ¬cond0_0 i) (hc1 : cond0_1 i) :
    out0_C_2 d i M1 h1 M2 h2 M3 h3 M4 h4 hc0 hc1 x0 x1 xs = k0_pay2 x0 x1 xs := by
  unfold out0_C_2
  rw [View.read_writes_eq_canon _ _ _ (cover0_C_2 d i M1 h1 M2 h2 M3 h3 M4 h4 hc0 hc1 x0 x1 xs)]
  unfold kernelRun0_C
  dsimp only
  sl_unfold_words
  rw [View.canon_unit_zero hz, View.readCov_unit_zero (S := S2048x1024) _ hz]
  simp only [View.readAt_eq_ld, h1.read_unread, h2.read_unread, h4.read_unread, View.ld_unit_zero (S := S512x2048) hz, View.ld_unit_zero (S := S512x1024) hz, View.ld_unit_zero (S := S2048x1024) hz]
end

theorem pay2_at (acc : Vec Ideal S2048x1024 .f32) (x : Vec Ideal S512x2048 .f32) (y : Vec Ideal S512x1024 .bf16) (a : Fin 2048) (b : Fin 1024) :
    (k0_pay2 x y acc (ix2 a b) : EReal) = acc (ix2 a b) + ∑ r : Fin 512, (x (ix2 r a) : EReal) * y (ix2 r b) := by
  pointwise [k0_pay2]

theorem pay1_at (a : Fin 2048) (b : Fin 1024) : (k0_pay1 (F := Ideal) (ix2 a b) : EReal) = 0 := by
  pointwise [k0_pay1]

theorem idx0 : ∀ t : Fin cfg0.N, win0_0.index t = ![t.val % 16, 0] :=
  (by decide +kernel : ∀ t : Fin grid0.N, _)
theorem idx1 : ∀ t : Fin cfg0.N, win0_1.index t = ![t.val % 16, t.val / 16] :=
  (by decide +kernel : ∀ t : Fin grid0.N, _)

/-- Every head of a row padded to 128 lanes. -/
def padL (x : FVec Ideal S8192x1024 .f32) : FVec Ideal S8192x2048 .f32 :=
  shapeCast S8192x2048 (pad S8192x16x128 ![0, 0, 0] ![0, 0, 64] ![0, 0, 0]
    (shapeCast S8192x16x64 x shapeCasts_S8192x1024_S8192x16x64) (sitofp .f32 (constantI S_ 32 0#32))
    pads_S8192x16x64_S8192x16x128_000_000_0640 h_S_) shapeCasts_S8192x16x128_S8192x2048

theorem padL_at (x : FVec Ideal S8192x1024 .f32) (i : Fin 8192) (c : Fin 2048) :
    (padL x (ix2 i c) : EReal) = wide 64 1024 rfl (fun k => x (ix2 i k)) c := by
  pointwise [padL]
  exact wide_of 64 1024 rfl (fun k => x (ix2 i k)) c _ (pad_zero .f32)

variable (m : (ℓ : Loc nD τ sig) → Buf (Elt Ideal) ℓ) (d : Dev nD)

/-- The two arrays the call multiplies, as launched. -/
abbrev act : Vec Ideal S8192x1024 .f32 := m ((d.tc : Thread nD τ).loc main_arg0)
abbrev ct : Vec Ideal S8192x1024 .f32 := m ((d.tc : Thread nD τ).loc main_arg2)

/-- The point that takes row block `k` and column block `j`. -/
abbrev pt (j : Fin 1) (k : Fin 16) : Fin cfg0.N := ⟨16 * j.val + k.val, lt_of_lt_of_eq (by omega) N_0.symm⟩
abbrev row (k : Fin 16) (r : Fin 512) : Fin 8192 := ⟨k.val * 512 + r.val, by omega⟩
abbrev col (j : Fin 1) (b : Fin 1024) : Fin 1024 := ⟨j.val * 1024 + b.val, by omega⟩

/-- What the call finds in the arrays it multiplies. -/
theorem reads : V m d main_v2 = padL (act m d)
    ∧ V m d main_v3 = truncf (F := Ideal) .bf16 (ct m d) bitsLt_bf16_f32 := by
  constructor <;> show StableHlo.after _ _ _ = _ <;> simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq] <;>
    after_results_simp <;> rfl

/-- The two blocks a point reads. -/
abbrev blk0 (t : Fin cfg0.N) : Vec Ideal S512x2048 .f32 := iblk m d 0 t
abbrev blk1 (t : Fin cfg0.N) : Vec Ideal S512x1024 .bf16 := iblk m d 1 t

theorem in0 (j : Fin 1) (k : Fin 16) (r : Fin 512) (a : Fin 2048) : blk0 m d (pt j k) (ix2 r a)
    = (V m d main_v2 : Vec Ideal S8192x2048 .f32) (ix2 (row k r) a) := by
  have e : (16 * j.val + k.val) % 16 = k.val := by omega
  blk_ext [iblk, idx0 (pt j k), e] <;> rfl

theorem in1 (j : Fin 1) (k : Fin 16) (r : Fin 512) (b : Fin 1024) : blk1 m d (pt j k) (ix2 r b)
    = (V m d main_v3 : Vec Ideal S8192x1024 .bf16) (ix2 (row k r) (col j b)) := by
  have e : (16 * j.val + k.val) % 16 = k.val := by omega
  have e1 : (16 * j.val + k.val) / 16 = j.val := by omega
  blk_ext [iblk, idx1 (pt j k), e, e1] <;> rfl

/-- What the point's product is, at an index. -/
def part (j : Fin 1) (k : Fin 16) (a : Fin 2048) (b : Fin 1024) : EReal :=
  ∑ r : Fin 512, wide 64 1024 rfl (fun e => act m d (ix2 (row k r) e)) a * ct m d (ix2 (row k r) (col j b))

theorem part_eq (j : Fin 1) (k : Fin 16) (a : Fin 2048) (b : Fin 1024) :
    (∑ r : Fin 512, (blk0 m d (pt j k) (ix2 r a) : EReal) * blk1 m d (pt j k) (ix2 r b)) = part m d j k a b := by
  refine Finset.sum_congr rfl fun r _ => ?_
  rw [in0, in1, (reads m d).1, (reads m d).2, padL_at]
  rfl

/-- The scratch after the point. -/
abbrev scr (j : Fin 1) (k : Fin 16) : Vec Ideal S2048x1024 .f32 := (outsAt0 m d (pt j k).val (pt j k).isLt).2

theorem scr0 (j : Fin 1) (a : Fin 2048) (b : Fin 1024) : (scr m d j 0 (ix2 a b) : EReal) = 0 + part m d j 0 a b := by
  have h0 : (pt j 0).val % 16 = 0 := by show (16 * j.val + 0) % 16 = 0; omega
  have h1 : ¬ (pt j 0).val % 16 = 15 := by omega
  unfold scr
  rw [outsAt0_A m d (pt j 0) h0 h1]
  dsimp only
  rw [first_eq, pay2_at, pay1_at, part_eq]

theorem prev (j : Fin 1) (n : ℕ) (hn : n + 1 < 16) (h : (pt j ⟨n + 1, hn⟩).val - 1 < cfg0.N) :
    outsAt0 m d ((pt j ⟨n + 1, hn⟩).val - 1) h = outsAt0 m d (pt j ⟨n, by omega⟩).val (pt j ⟨n, by omega⟩).isLt := by
  congr 1

theorem scrS (j : Fin 1) (n : ℕ) (hn : n + 1 < 15) (a : Fin 2048) (b : Fin 1024) :
    (scr m d j ⟨n + 1, by omega⟩ (ix2 a b) : EReal) = scr m d j ⟨n, by omega⟩ (ix2 a b) + part m d j ⟨n + 1, by omega⟩ a b := by
  have h0 : ¬ (pt j ⟨n + 1, by omega⟩).val % 16 = 0 := by show ¬ (16 * j.val + (n + 1)) % 16 = 0; omega
  have h1 : ¬ (pt j ⟨n + 1, by omega⟩).val % 16 = 15 := by show ¬ (16 * j.val + (n + 1)) % 16 = 15; omega
  unfold scr
  rw [outsAt0_B m d (pt j ⟨n + 1, by omega⟩) h0 h1]
  dsimp only
  rw [mid_eq, pay2_at, part_eq, prev]

/-- The scratch after a point: the products of the run so far. -/
theorem scr_sum (j : Fin 1) (n : ℕ) (hn : n < 15) (a : Fin 2048) (b : Fin 1024) :
    (scr m d j ⟨n, by omega⟩ (ix2 a b) : EReal) = ∑ k : Fin (n + 1), part m d j ⟨k.val, by omega⟩ a b := by
  induction n with
  | zero => exact (scr0 m d j a b).trans (by rw [zero_add, Fin.sum_univ_one]; rfl)
  | succ n ih => rw [scrS m d j n hn, ih (by omega)]; exact (Fin.sum_univ_castSucc (fun k : Fin (n + 1 + 1) => part m d j ⟨k.val, by omega⟩ a b)).symm

theorem out_eq (j : Fin 1) (a : Fin 2048) (b : Fin 1024) :
    ((outsAt0 m d (pt j 15).val (pt j 15).isLt).1 (ix2 a b) : EReal) = scr m d j 14 (ix2 a b) + part m d j 15 a b := by
  have h0 : ¬ (pt j 15).val % 16 = 0 := by show ¬ (16 * j.val + 15) % 16 = 0; omega
  have h1 : (pt j 15).val % 16 = 15 := by show (16 * j.val + 15) % 16 = 15; omega
  rw [outsAt0_C m d (pt j 15) h0 h1]
  dsimp only
  rw [last_eq, pay2_at, part_eq]
  rw [show (15 : Fin 16) = ⟨14 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the tokens. -/
theorem result (j : Fin 1) (a : Fin 2048) (b : Fin 1024) :
    (G2 m d (ix2 a (col j b)) : EReal) = ∑ i : Fin 8192, wide 64 1024 rfl (fun e => act m d (ix2 i e)) a * ct m d (ix2 i (col j b)) := by
  have ep : pt2Of (ix2 a (col j b)) = (pt j 15).val := by
    show 16 * (1 * (a.val / 2048 - 0) + 1 * ((j.val * 1024 + b.val) / 1024 - 0)) + 15 = 16 * j.val + 15
    omega
  have el : loc2Of (ix2 a (col j b)) = ix2 a b := by
    funext x
    apply Fin.ext
    match x with
    | ⟨0, _⟩ => show a.val % 2048 = a.val; omega
    | ⟨1, _⟩ => show (j.val * 1024 + b.val) % 1024 = b.val; omega
  have hp : pt2Of (ix2 a (col j b)) < cfg0.N := ep ▸ (pt j 15).isLt
  have e : G2 m d (ix2 a (col j b)) = (outsAt0 m d (pt j 15).val (pt j 15).isLt).1 (ix2 a b) := by
    unfold G2
    rw [dif_pos hp, ← outsAt0_sweep m d _ hp, el, outs_congr m d _ _ hp (pt j 15).isLt ep]
  rw [e, out_eq, Cert.Math.sum_blocks 16 512 8192 rfl, Fin.sum_univ_castSucc]
  exact congrArg (fun s : EReal => s + part m d j 15 a b) (scr_sum m d j 14 (by omega) a b)

end Cert.Kernel17Ideal.Plain

namespace Cert.Proof

open Cert.Plain Idealize.ShloMosaic Idealize.ShloMosaic.TcCoe Idealize.SL.Sem

theorem frame_reference17 : quiescent_Reference17Ideal := fun m ρ _ =>
  (θ_run Reference17Ideal.defs _ _).mono (fun r h => ⟨fun c => (h c).2, sem_eq_zero_of_no_sems (by decide) r.2⟩)
    (Reference17Ideal.Value.run (F := Ideal) m ρ)

section
open Reference17Ideal Reference17Ideal.Gen

/-- The reference's result. -/
def ref17 (x : FVec Ideal S8192x1024 .f32) (y : FVec Ideal S8192x1024 .f32) : FVec Ideal S2048x1024 .f32 :=
  shapeCast S2048x1024 (pad S16x128x1024 ![0, 0, 0] ![0, 64, 0] ![0, 0, 0]
    (shapeCast S16x64x1024 (transpose S1024x1024 [1, 0] (Host.dotGeneral (φ₁ := .f32) (φ₂ := .f32) dot_S8192x1024_S8192x1024_S1024x1024_0_0_1_1_n_n none y x)
      transposes_S1024x1024_S1024x1024_1_0) shapeCasts_S1024x1024_S16x64x1024) (sitofp .f32 (constantI S_ 32 0#32))
    pads_S16x64x1024_S16x128x1024_000_0640_000 h_S_) shapeCasts_S16x128x1024_S2048x1024

theorem ref17_at (x : FVec Ideal S8192x1024 .f32) (y : FVec Ideal S8192x1024 .f32) (a : Fin 2048) (e : Fin 1024) :
    (ref17 x y (ix2 a e) : EReal) = wide 64 1024 rfl (fun k => ∑ i : Fin 8192, (y (ix2 i e) : EReal) * x (ix2 i k)) a := by
  pointwise [ref17]
  exact wide_of 64 1024 rfl (fun k => ∑ i : Fin 8192, (y (ix2 i e) : EReal) * x (ix2 i k)) a _ (pad_zero .f32)
end

theorem same17 : algebraic_Kernel17Ideal_Reference17Ideal := by
  intro m ρ m' ρ' _ hagree
  refine ⟨_, Kernel17Ideal.Value.run (F := Ideal) m ρ, ?_⟩
  refine (θ_run Reference17Ideal.defs _ _).mono (fun _ h c => ⟨?_, (h c).2⟩) (Reference17Ideal.Value.run (F := Ideal) m' ρ')
  rw [(h c).1, (hagree c).1, (hagree c).2.2]
  funext i
  obtain ⟨j, a, b, rfl⟩ : ∃ (j : Fin 1) (a : Fin 2048) (b : Fin 1024), i = ix2 a (Kernel17Ideal.Plain.col j b) := by
    have hi : (i 1).val < 1024 := (i 1).isLt
    exact ⟨⟨(i 1).val / 1024, by omega⟩, i 0, ⟨(i 1).val % 1024, by omega⟩, ix2_of _ _ _ rfl
      (show (i 1).val = (i 1).val / 1024 * 1024 + (i 1).val % 1024 by omega)⟩
  refine (ref17_at _ _ a _).trans (Eq.trans ?_ (Kernel17Ideal.Plain.result m c j a b).symm)
  exact ((Finset.sum_congr rfl fun i _ => mul_comm _ _).trans (sum_wide_right 64 1024 rfl _ _ _)).symm

end Cert.Proof

end
-- ==== Proof.Mm16.lean ====
module

public import proofs.«01_k».proof.Defs
public import proofs.«01_k».proof.Proof.Plain
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit

/-! # The queries' first product -/

@[expose] public section

set_option maxRecDepth 16384

noncomputable section

namespace Cert.Kernel16Ideal.Plain

open Gen Value Cert.Plain
open Idealize.ShloMosaic Idealize.ShloMosaic.TcCoe
open scoped BigOperators

theorem out_eq (x : Vec Ideal S1024x1024 .bf16) (w : Vec Ideal S1024x512 .bf16) : out0_2 x w = k0_pay1 x w := by
  unfold out0_2
  rw [View.canon_unit_zero hz, View.ld_unit_zero (S := S1024x1024) hz, View.ld_unit_zero (S := S1024x512) hz]

theorem pay_at (x : Vec Ideal S1024x1024 .bf16) (w : Vec Ideal S1024x512 .bf16) (r : Fin 1024) (b : Fin 512) :
    (k0_pay1 x w (ix2 r b) : EReal) = ∑ k : Fin 1024, (x (ix2 r k) : EReal) * w (ix2 k b) := by
  refine Eq.trans (b := 0 + ∑ k : Fin 1024, (x (ix2 r k) : EReal) * w (ix2 k b)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

variable (m : (ℓ : Loc nD τ sig) → Buf (Elt Ideal) ℓ) (d : Dev nD)

/-- The two arrays the call multiplies, as launched. -/
abbrev lhs : Vec Ideal S8192x1024 .f32 := m ((d.tc : Thread nD τ).loc main_arg0)
abbrev rhs : Vec Ideal S1024x512 .f32 := m ((d.tc : Thread nD τ).loc main_arg1)

theorem V_lhs : V m d main_v0 = truncf (F := Ideal) .bf16 (lhs m d) bitsLt_bf16_f32 := by
  show StableHlo.after _ _ _ = _
  after_results_simp

theorem V_rhs : V m d main_v1 = truncf (F := Ideal) .bf16 (rhs m d) bitsLt_bf16_f32 := by
  show StableHlo.after _ _ _ = _
  after_results_simp

/-- The product at an index. -/
def prod (i : Fin 8192) (b : Fin 512) : EReal := ∑ k : Fin 1024, (lhs m d (ix2 i k) : EReal) * rhs m d (ix2 k b)

/-- The two blocks a point reads. -/
abbrev blk0 (t : Fin cfg0.N) : Vec Ideal S1024x1024 .bf16 := iblk m d 0 t
abbrev blk1 (t : Fin cfg0.N) : Vec Ideal S1024x512 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 1024) :
    blk0 m d t (ix2 r k) = (V m d main_v0 : Vec Ideal S8192x1024 .bf16) (ix2 (row t r) k) := by
  blk_ext [iblk, idx0 t] <;> rfl

theorem in1 (t : Fin cfg0.N) (k : Fin 1024) (b : Fin 512) :
    blk1 m d t (ix2 k b) = (V m d main_v1 : Vec Ideal S1024x512 .bf16) (ix2 k b) := by
  blk_ext [iblk, idx1 t] <;> rfl

theorem prod_eq (t : Fin cfg0.N) (r : Fin 1024) (b : Fin 512) :
    (k0_pay1 (blk0 m d t) (blk1 m d t) (ix2 r b) : EReal) = prod m d (row t r) b := by
  rw [pay_at]
  refine Finset.sum_congr rfl fun x _ => ?_
  rw [in0, in1, V_lhs, V_rhs]
  rfl

/-- The call's result. -/
def res : FVec Ideal S8192x512 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel16Ideal.Plain

namespace Cert.Proof

open Idealize.ShloMosaic Idealize.ShloMosaic.TcCoe Idealize.SL.Sem

theorem frame_reference16 : quiescent_Reference16Ideal := fun m ρ _ =>
  (θ_run Reference16Ideal.defs _ _).mono (fun r h => ⟨fun c => (h c).2, sem_eq_zero_of_no_sems (by decide) r.2⟩)
    (Reference16Ideal.Value.run (F := Ideal) m ρ)

theorem ref16_at (x : Vec Ideal Reference16Ideal.S8192x1024 .f32) (w : Vec Ideal Reference16Ideal.S1024x512 .f32) (i : Fin 8192) (b : Fin 512) :
    (Host.dotGeneral (F := Ideal) (φ₁ := .f32) (φ₂ := .f32) Reference16Ideal.dot_S8192x1024_S1024x512_S8192x512_1_0_0_1_n_n none x w (ix2 i b) : EReal)
      = ∑ k : Fin 1024, (x (ix2 i k) : EReal) * w (ix2 k b) := by
  pointwise

theorem same16 : algebraic_Kernel16Ideal_Reference16Ideal := by
  intro m ρ m' ρ' _ hagree
  refine ⟨fun c => Kernel16Ideal.Plain.res m c, ?_, ?_⟩
  · refine (θ_run Kernel16Ideal.defs _ _).mono (fun _ h c => ?_) (Kernel16Ideal.Value.run_blocks (F := Ideal) m ρ)
    exact ⟨(h c).1.trans (Kernel16Ideal.Plain.final m c), (h c).2⟩
  · refine (θ_run Reference16Ideal.defs _ _).mono (fun _ h c => ⟨?_, (h c).2⟩) (Reference16Ideal.Value.run (F := Ideal) m' ρ')
    rw [(h c).1, (hagree c).1, (hagree c).2]
    funext y
    rw [Plain.eta y]
    exact ref16_at _ _ (y 0) (y 1)

end Cert.Proof

end
-- ==== Proof.Mm15.lean ====
module

public import proofs.«01_k».proof.Defs
public import proofs.«01_k».proof.Proof.Plain
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit

/-! # The convolution module's second product -/

@[expose] public section

set_option maxRecDepth 16384

noncomputable section

namespace Cert.Kernel15Ideal.Plain

open Gen Value Cert.Plain
open Idealize.ShloMosaic Idealize.ShloMosaic.TcCoe
open scoped BigOperators

theorem out_eq (x : Vec Ideal S1024x1024 .bf16) (w : Vec Ideal S1024x1024 .bf16) : out0_2 x w = k0_pay1 x w := by
  unfold out0_2
  rw [View.canon_unit_zero hz, View.ld_unit_zero (S := S1024x1024) hz, View.ld_unit_zero (S := S1024x1024) hz]

theorem pay_at (x : Vec Ideal S1024x1024 .bf16) (w : Vec Ideal S1024x1024 .bf16) (r : Fin 1024) (b : Fin 1024) :
    (k0_pay1 x w (ix2 r b) : EReal) = ∑ k : Fin 1024, (x (ix2 r k) : EReal) * w (ix2 k b) := by
  refine Eq.trans (b := 0 + ∑ k : Fin 1024, (x (ix2 r k) : EReal) * w (ix2 k b)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

variable (m : (ℓ : Loc nD τ sig) → Buf (Elt Ideal) ℓ) (d : Dev nD)

/-- The two arrays the call multiplies, as launched. -/
abbrev lhs : Vec Ideal S8192x1024 .f32 := m ((d.tc : Thread nD τ).loc main_arg0)
abbrev rhs : Vec Ideal S1024x1024 .f32 := m ((d.tc : Thread nD τ).loc main_arg1)

theorem V_lhs : V m d main_v0 = truncf (F := Ideal) .bf16 (lhs m d) bitsLt_bf16_f32 := by
  show StableHlo.after _ _ _ = _
  after_results_simp

theorem V_rhs : V m d main_v1 = truncf (F := Ideal) .bf16 (rhs m d) bitsLt_bf16_f32 := by
  show StableHlo.after _ _ _ = _
  after_results_simp

/-- The product at an index. -/
def prod (i : Fin 8192) (b : Fin 1024) : EReal := ∑ k : Fin 1024, (lhs m d (ix2 i k) : EReal) * rhs m d (ix2 k b)

/-- The two blocks a point reads. -/
abbrev blk0 (t : Fin cfg0.N) : Vec Ideal S1024x1024 .bf16 := iblk m d 0 t
abbrev blk1 (t : Fin cfg0.N) : Vec Ideal S1024x1024 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 1024) :
    blk0 m d t (ix2 r k) = (V m d main_v0 : Vec Ideal S8192x1024 .bf16) (ix2 (row t r) k) := by
  blk_ext [iblk, idx0 t] <;> rfl

theorem in1 (t : Fin cfg0.N) (k : Fin 1024) (b : Fin 1024) :
    blk1 m d t (ix2 k b) = (V m d main_v1 : Vec Ideal S1024x1024 .bf16) (ix2 k b) := by
  blk_ext [iblk, idx1 t] <;> rfl

theorem prod_eq (t : Fin cfg0.N) (r : Fin 1024) (b : Fin 1024) :
    (k0_pay1 (blk0 m d t) (blk1 m d t) (ix2 r b) : EReal) = prod m d (row t r) b := by
  rw [pay_at]
  refine Finset.sum_congr rfl fun x _ => ?_
  rw [in0, in1, V_lhs, V_rhs]
  rfl

/-- The call's result. -/
def res : FVec Ideal S8192x1024 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel15Ideal.Plain

namespace Cert.Proof

open Idealize.ShloMosaic Idealize.ShloMosaic.TcCoe Idealize.SL.Sem

theorem frame_reference15 : quiescent_Reference15Ideal := fun m ρ _ =>
  (θ_run Reference15Ideal.defs _ _).mono (fun r h => ⟨fun c => (h c).2, sem_eq_zero_of_no_sems (by decide) r.2⟩)
    (Reference15Ideal.Value.run (F := Ideal) m ρ)

theorem ref15_at (x : Vec Ideal Reference15Ideal.S8192x1024 .f32) (w : Vec Ideal Reference15Ideal.S1024x1024 .f32) (i : Fin 8192) (b : Fin 1024) :
    (Host.dotGeneral (F := Ideal) (φ₁ := .f32) (φ₂ := .f32) Reference15Ideal.dot_S8192x1024_S1024x1024_S8192x1024_1_0_0_1_n_n none x w (ix2 i b) : EReal)
      = ∑ k : Fin 1024, (x (ix2 i k) : EReal) * w (ix2 k b) := by
  pointwise

theorem same15 : algebraic_Kernel15Ideal_Reference15Ideal := by
  intro m ρ m' ρ' _ hagree
  refine ⟨fun c => Kernel15Ideal.Plain.res m c, ?_, ?_⟩
  · refine (θ_run Kernel15Ideal.defs _ _).mono (fun _ h c => ?_) (Kernel15Ideal.Value.run_blocks (F := Ideal) m ρ)
    exact ⟨(h c).1.trans (Kernel15Ideal.Plain.final m c), (h c).2⟩
  · refine (θ_run Reference15Ideal.defs _ _).mono (fun _ h c => ⟨?_, (h c).2⟩) (Reference15Ideal.Value.run (F := Ideal) m' ρ')
    rw [(h c).1, (hagree c).1, (hagree c).2]
    funext y
    rw [Plain.eta y]
    exact ref15_at _ _ (y 0) (y 1)

end Cert.Proof

end
-- ==== Proof.Mm14.lean ====
module

public import proofs.«01_k».proof.Defs
public import proofs.«01_k».proof.Proof.Plain
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit

/-! # The convolution module's first product -/

@[expose] public section

set_option maxRecDepth 16384

noncomputable section

namespace Cert.Kernel14Ideal.Plain

open Gen Value Cert.Plain
open Idealize.ShloMosaic Idealize.ShloMosaic.TcCoe
open scoped BigOperators

theorem out_eq (x : Vec Ideal S1024x1024 .bf16) (w : Vec Ideal S1024x1024 .bf16) : out0_2 x w = k0_pay1 x w := by
  unfold out0_2
  rw [View.canon_unit_zero hz, View.ld_unit_zero (S := S1024x1024) hz, View.ld_unit_zero (S := S1024x1024) hz]

theorem pay_at (x : Vec Ideal S1024x1024 .bf16) (w : Vec Ideal S1024x1024 .bf16) (r : Fin 1024) (b : Fin 1024) :
    (k0_pay1 x w (ix2 r b) : EReal) = ∑ k : Fin 1024, (x (ix2 r k) : EReal) * w (ix2 k b) := by
  refine Eq.trans (b := 0 + ∑ k : Fin 1024, (x (ix2 r k) : EReal) * w (ix2 k b)) ?_ (zero_add _)
  pointwise [k0_pay1]

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

variable (m : (ℓ : Loc nD τ sig) → Buf (Elt Ideal) ℓ) (d : Dev nD)

/-- The two arrays the call multiplies, as launched. -/
abbrev lhs : Vec Ideal S8192x1024 .f32 := m ((d.tc : Thread nD τ).loc main_arg0)
abbrev rhs : Vec Ideal S1024x2048 .f32 := m ((d.tc : Thread nD τ).loc main_arg1)

theorem V_lhs : V m d main_v0 = truncf (F := Ideal) .bf16 (lhs m d) bitsLt_bf16_f32 := by
  show StableHlo.after _ _ _ = _
  after_results_simp

theorem V_rhs : V m d main_v1 = truncf (F := Ideal) .bf16 (rhs m d) bitsLt_bf16_f32 := by
  show StableHlo.after _ _ _ = _
  after_results_simp

/-- The product at an index. -/
def prod (i : Fin 8192) (b : Fin 2048) : EReal := ∑ k : Fin 1024, (lhs m d (ix2 i k) : EReal) * rhs m d (ix2 k b)

/-- The two blocks a point reads. -/
abbrev blk0 (t : Fin cfg0.N) : Vec Ideal S1024x1024 .bf16 := iblk m d 0 t
abbrev blk1 (t : Fin cfg0.N) : Vec Ideal S1024x1024 .bf16 := iblk m d 1 t

theorem lt_N (t : Fin cfg0.N) : t.val < 16 := lt_of_lt_of_eq t.isLt N_0

/-- The row and the column of the arrays at a point's. -/
abbrev row (t : Fin cfg0.N) (r : Fin 1024) : Fin 8192 := ⟨t.val / 2 * 1024 + r.val, by have := lt_N t; omega⟩
abbrev col (t : Fin cfg0.N) (b : Fin 1024) : Fin 2048 := ⟨t.val % 2 * 1024 + b.val, by omega⟩

theorem in0 (t : Fin cfg0.N) (r : Fin 1024) (k : Fin 1024) :
    blk0 m d t (ix2 r k) = (V m d main_v0 : Vec Ideal S8192x1024 .bf16) (ix2 (row t r) k) := by
  blk_ext [iblk, idx0 t] <;> rfl

theorem in1 (t : Fin cfg0.N) (k : Fin 1024) (b : Fin 1024) :
    blk1 m d t (ix2 k b) = (V m d main_v1 : Vec Ideal S1024x2048 .bf16) (ix2 k (col t b)) := by
  blk_ext [iblk, idx1 t] <;> rfl

theorem prod_eq (t : Fin cfg0.N) (r : Fin 1024) (b : Fin 1024) :
    (k0_pay1 (blk0 m d t) (blk1 m d t) (ix2 r b) : EReal) = prod m d (row t r) (col t b) := by
  rw [pay_at]
  refine Finset.sum_congr rfl fun x _ => ?_
  rw [in0, in1, V_lhs, V_rhs]
  rfl

/-- The call's result. -/
def res : FVec Ideal S8192x2048 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (col t (y 1)) ?_ ?_)).symm)
  · blk_simp [idx2 t]
  · blk_simp [idx2 t]

end Cert.Kernel14Ideal.Plain

namespace Cert.Proof

open Idealize.ShloMosaic Idealize.ShloMosaic.TcCoe Idealize.SL.Sem

theorem frame_reference14 : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)

theorem ref14_at (x : Vec Ideal Reference14Ideal.S8192x1024 .f32) (w : Vec Ideal Reference14Ideal.S1024x2048 .f32) (i : Fin 8192) (b : Fin 2048) :
    (Host.dotGeneral (F := Ideal) (φ₁ := .f32) (φ₂ := .f32) Reference14Ideal.dot_S8192x1024_S1024x2048_S8192x2048_1_0_0_1_n_n none x w (ix2 i b) : EReal)
      = ∑ k : Fin 1024, (x (ix2 i k) : EReal) * w (ix2 k b) := by
  pointwise

theorem same14 : algebraic_Kernel14Ideal_Reference14Ideal := by
  intro m ρ m' ρ' _ hagree
  refine ⟨fun c => Kernel14Ideal.Plain.res m c, ?_, ?_⟩
  · refine (θ_run Kernel14Ideal.defs _ _).mono (fun _ h c => ?_) (Kernel14Ideal.Value.run_blocks (F := Ideal) m ρ)
    exact ⟨(h c).1.trans (Kernel14Ideal.Plain.final m c), (h c).2⟩
  · refine (θ_run Reference14Ideal.defs _ _).mono (fun _ h c => ⟨?_, (h c).2⟩) (Reference14Ideal.Value.run (F := Ideal) m' ρ')
    rw [(h c).1, (hagree c).1, (hagree c).2]
    funext y
    rw [Plain.eta y]
    exact ref14_at _ _ (y 0) (y 1)

end Cert.Proof

end
-- ==== Proof.Mm13.lean ====
module

public import proofs.«01_k».proof.Defs
public import proofs.«01_k».proof.Proof.Plain
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit

/-! # The gradient of the queries' first product in its activations -/

@[expose] public section

set_option maxRecDepth 16384

noncomputable section

namespace Cert.Kernel13Ideal.Plain

open Gen Value Cert.Plain
open Idealize.ShloMosaic Idealize.ShloMosaic.TcCoe
open scoped BigOperators

theorem out_eq (x : Vec Ideal S1024x512 .bf16) (w : Vec Ideal S1024x512 .bf16) : out0_2 x w = k0_pay1 x w := by
  unfold out0_2
  rw [View.canon_unit_zero hz, View.ld_unit_zero (S := S1024x512) hz, View.ld_unit_zero (S := S1024x512) hz]

theorem pay_at (x : Vec Ideal S1024x512 .bf16) (w : Vec Ideal S1024x512 .bf16) (r : Fin 1024) (b : Fin 1024) :
    (k0_pay1 x w (ix2 r b) : EReal) = ∑ k : Fin 512, (x (ix2 r k) : EReal) * w (ix2 b k) := by
  refine Eq.trans (b := 0 + ∑ k : Fin 512, (x (ix2 r k) : EReal) * w (ix2 b k)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

variable (m : (ℓ : Loc nD τ sig) → Buf (Elt Ideal) ℓ) (d : Dev nD)

/-- The two arrays the call multiplies, as launched. -/
abbrev lhs : Vec Ideal S8192x512 .f32 := m ((d.tc : Thread nD τ).loc main_arg2)
abbrev rhs : Vec Ideal S1024x512 .f32 := m ((d.tc : Thread nD τ).loc main_arg1)

theorem V_lhs : V m d main_v0 = truncf (F := Ideal) .bf16 (lhs m d) bitsLt_bf16_f32 := by
  show StableHlo.after _ _ _ = _
  after_results_simp

theorem V_rhs : V m d main_v1 = truncf (F := Ideal) .bf16 (rhs m d) bitsLt_bf16_f32 := by
  show StableHlo.after _ _ _ = _
  after_results_simp

/-- The product at an index. -/
def prod (i : Fin 8192) (b : Fin 1024) : EReal := ∑ k : Fin 512, (lhs m d (ix2 i k) : EReal) * rhs m d (ix2 b k)

/-- The two blocks a point reads. -/
abbrev blk0 (t : Fin cfg0.N) : Vec Ideal S1024x512 .bf16 := iblk m d 0 t
abbrev blk1 (t : Fin cfg0.N) : Vec Ideal S1024x512 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 512) :
    blk0 m d t (ix2 r k) = (V m d main_v0 : Vec Ideal S8192x512 .bf16) (ix2 (row t r) k) := by
  blk_ext [iblk, idx0 t] <;> rfl

theorem in1 (t : Fin cfg0.N) (k : Fin 512) (b : Fin 1024) :
    blk1 m d t (ix2 b k) = (V m d main_v1 : Vec Ideal S1024x512 .bf16) (ix2 b k) := by
  blk_ext [iblk, idx1 t] <;> rfl

theorem prod_eq (t : Fin cfg0.N) (r : Fin 1024) (b : Fin 1024) :
    (k0_pay1 (blk0 m d t) (blk1 m d t) (ix2 r b) : EReal) = prod m d (row t r) b := by
  rw [pay_at]
  refine Finset.sum_congr rfl fun x _ => ?_
  rw [in0, in1, V_lhs, V_rhs]
  rfl

/-- The call's result. -/
def res : FVec Ideal S8192x1024 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel13Ideal.Plain

namespace Cert.Proof

open Idealize.ShloMosaic Idealize.ShloMosaic.TcCoe Idealize.SL.Sem

theorem frame_reference13 : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

theorem ref13_at (x : Vec Ideal Reference13Ideal.S8192x512 .f32) (w : Vec Ideal Reference13Ideal.S1024x512 .f32) (i : Fin 8192) (b : Fin 1024) :
    (Host.dotGeneral (F := Ideal) (φ₁ := .f32) (φ₂ := .f32) Reference13Ideal.dot_S8192x512_S1024x512_S8192x1024_1_1_0_0_n_n none x w (ix2 i b) : EReal)
      = ∑ k : Fin 512, (x (ix2 i k) : EReal) * w (ix2 b k) := by
  pointwise

theorem same13 : algebraic_Kernel13Ideal_Reference13Ideal := by
  intro m ρ m' ρ' _ hagree
  refine ⟨fun c => Kernel13Ideal.Plain.res m c, ?_, ?_⟩
  · refine (θ_run Kernel13Ideal.defs _ _).mono (fun _ h c => ?_) (Kernel13Ideal.Value.run_blocks (F := Ideal) m ρ)
    exact ⟨(h c).1.trans (Kernel13Ideal.Plain.final m c), (h c).2⟩
  · refine (θ_run Reference13Ideal.defs _ _).mono (fun _ h c => ⟨?_, (h c).2⟩) (Reference13Ideal.Value.run (F := Ideal) m' ρ')
    rw [(h c).1, (hagree c).2.1, (hagree c).2.2]
    funext y
    rw [Plain.eta y]
    exact ref13_at _ _ (y 0) (y 1)

end Cert.Proof

end
-- ==== Proof.Mm12.lean ====
module

public import proofs.«01_k».proof.Defs
public import proofs.«01_k».proof.Proof.Plain
public import proofs.«01_k».proof.Proof.Blocks
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit

/-! # The gradient of the queries' first weight -/

@[expose] public section

set_option maxRecDepth 16384

noncomputable section

namespace Cert.Kernel12Ideal.Plain

open Gen Value Cert.Plain
open Idealize.ShloMosaic Idealize.ShloMosaic.TcCoe
open scoped BigOperators

section
variable {F : FTy → Type} [FloatOps F]
variable (d : Dev nD) (i : grid0.Coords) (M1 : Memref sig .tc .vmem S2048x1024 .bf16) (h1 : M1.IsWhole)
  (M2 : Memref sig .tc .vmem S2048x512 .bf16) (h2 : M2.IsWhole) (M3 : Memref sig .tc .vmem S1024x512 .f32) (h3 : M3.IsWhole)
  (M4 : Memref sig .tc .vmem S1024x512 .f32) (h4 : M4.IsWhole)
  (x0 : Vec F S2048x1024 .bf16) (x1 : Vec F S2048x512 .bf16) (xs : Vec F S1024x512 .f32)

/-- The first point of a run leaves its product on top of zero. -/
theorem first_eq (hc0 : cond0_0 i) (hc1 : ¬cond0_1 i) :
    sout0_A_0 d i M1 h1 M2 h2 M3 h3 M4 h4 hc0 hc1 x0 x1 = k0_pay2 x0 x1 k0_pay1 := by
  unfold sout0_A_0
  rw [View.read_writes_eq_canon _ _ _ (scover0_A_0 d i M1 h1 M2 h2 M3 h3 M4 h4 hc0 hc1 x0 x1)]
  unfold kernelRun0_A
  dsimp only
  sl_unfold_words
  rw [View.canon_cons_unit_zero (S := S1024x512) hz, View.readCov_unit_zero (S := S1024x512) _ hz]
  simp only [View.readAt_eq_ld, h1.read_unread, h2.read_unread, View.ld_unit_zero (S := S2048x1024) hz, View.ld_unit_zero (S := S2048x512) hz]

/-- A point between adds its product to what the point before left. -/
theorem mid_eq (hc0 : ¬cond0_0 i) (hc1 : ¬cond0_1 i) :
    sout0_B_0 d i M1 h1 M2 h2 M3 h3 M4 h4 hc0 hc1 x0 x1 xs = k0_pay2 x0 x1 xs := by
  unfold sout0_B_0
  rw [View.read_writes_eq_canon _ _ _ (scover0_B_0 d i M1 h1 M2 h2 M3 h3 M4 h4 hc0 hc1 x0 x1 xs)]
  unfold kernelRun0_B
  dsimp only
  rw [View.canon_unit_zero hz]
  simp only [View.readAt_eq_ld, h1.read_unread, h2.read_unread, h4.read_unread, View.ld_unit_zero (S := S2048x1024) hz, View.ld_unit_zero (S := S2048x512) hz, View.ld_unit_zero (S := S1024x512) hz]

/-- The last point of a run writes the sum back. -/
theorem last_eq (hc0 : ¬cond0_0 i) (hc1 : cond0_1 i) :
    out0_C_2 d i M1 h1 M2 h2 M3 h3 M4 h4 hc0 hc1 x0 x1 xs = k0_pay2 x0 x1 xs := by
  unfold out0_C_2
  rw [View.read_writes_eq_canon _ _ _ (cover0_C_2 d i M1 h1 M2 h2 M3 h3 M4 h4 hc0 hc1 x0 x1 xs)]
  unfold kernelRun0_C
  dsimp only
  sl_unfold_words
  rw [View.canon_unit_zero hz, View.readCov_unit_zero (S := S1024x512) _ hz]
  simp only [View.readAt_eq_ld, h1.read_unread, h2.read_unread, h4.read_unread, View.ld_unit_zero (S := S2048x1024) hz, View.ld_unit_zero (S := S2048x512) hz, View.ld_unit_zero (S := S1024x512) hz]
end

theorem pay2_at (acc : Vec Ideal S1024x512 .f32) (x : Vec Ideal S2048x1024 .bf16) (y : Vec Ideal S2048x512 .bf16) (a : Fin 1024) (b : Fin 512) :
    (k0_pay2 x y acc (ix2 a b) : EReal) = acc (ix2 a b) + ∑ r : Fin 2048, (x (ix2 r a) : EReal) * y (ix2 r b) := by
  pointwise [k0_pay2]

theorem pay1_at (a : Fin 1024) (b : Fin 512) : (k0_pay1 (F := Ideal) (ix2 a b) : EReal) = 0 := by
  pointwise [k0_pay1]

theorem idx0 : ∀ t : Fin cfg0.N, win0_0.index t = ![t.val % 4, 0] :=
  (by decide +kernel : ∀ t : Fin grid0.N, _)
theorem idx1 : ∀ t : Fin cfg0.N, win0_1.index t = ![t.val % 4, t.val / 4] :=
  (by decide +kernel : ∀ t : Fin grid0.N, _)

variable (m : (ℓ : Loc nD τ sig) → Buf (Elt Ideal) ℓ) (d : Dev nD)

/-- The two arrays the call multiplies, as launched. -/
abbrev act : Vec Ideal S8192x1024 .f32 := m ((d.tc : Thread nD τ).loc main_arg0)
abbrev ct : Vec Ideal S8192x512 .f32 := m ((d.tc : Thread nD τ).loc main_arg2)

/-- The point that takes row block `k` and column block `j`. -/
abbrev pt (j : Fin 1) (k : Fin 4) : Fin cfg0.N := ⟨4 * j.val + k.val, lt_of_lt_of_eq (by omega) N_0.symm⟩
abbrev row (k : Fin 4) (r : Fin 2048) : Fin 8192 := ⟨k.val * 2048 + r.val, by omega⟩
abbrev col (j : Fin 1) (b : Fin 512) : Fin 512 := ⟨j.val * 512 + b.val, by omega⟩

theorem V_act : V m d main_v0 = truncf (F := Ideal) .bf16 (act m d) bitsLt_bf16_f32 := by
  show StableHlo.after _ _ _ = _
  after_results_simp

theorem V_ct : V m d main_v1 = truncf (F := Ideal) .bf16 (ct m d) bitsLt_bf16_f32 := by
  show StableHlo.after _ _ _ = _
  after_results_simp

/-- The two blocks a point reads. -/
abbrev blk0 (t : Fin cfg0.N) : Vec Ideal S2048x1024 .bf16 := iblk m d 0 t
abbrev blk1 (t : Fin cfg0.N) : Vec Ideal S2048x512 .bf16 := iblk m d 1 t

theorem in0 (j : Fin 1) (k : Fin 4) (r : Fin 2048) (a : Fin 1024) : blk0 m d (pt j k) (ix2 r a)
    = (V m d main_v0 : Vec Ideal S8192x1024 .bf16) (ix2 (row k r) a) := by
  have e : (4 * j.val + k.val) % 4 = k.val := by omega
  blk_ext [iblk, idx0 (pt j k), e] <;> rfl

theorem in1 (j : Fin 1) (k : Fin 4) (r : Fin 2048) (b : Fin 512) : blk1 m d (pt j k) (ix2 r b)
    = (V m d main_v1 : Vec Ideal S8192x512 .bf16) (ix2 (row k r) (col j b)) := by
  have e : (4 * j.val + k.val) % 4 = k.val := by omega
  have e1 : (4 * j.val + k.val) / 4 = j.val := by omega
  blk_ext [iblk, idx1 (pt j k), e, e1] <;> rfl

/-- What the point's product is, at an index. -/
def part (j : Fin 1) (k : Fin 4) (a : Fin 1024) (b : Fin 512) : EReal :=
  ∑ r : Fin 2048, (act m d (ix2 (row k r) a) : EReal) * ct m d (ix2 (row k r) (col j b))

theorem part_eq (j : Fin 1) (k : Fin 4) (a : Fin 1024) (b : Fin 512) :
    (∑ r : Fin 2048, (blk0 m d (pt j k) (ix2 r a) : EReal) * blk1 m d (pt j k) (ix2 r b)) = part m d j k a b := by
  refine Finset.sum_congr rfl fun r _ => ?_
  rw [in0, in1, V_act, V_ct]
  rfl

/-- The scratch after the point. -/
abbrev scr (j : Fin 1) (k : Fin 4) : Vec Ideal S1024x512 .f32 := (outsAt0 m d (pt j k).val (pt j k).isLt).2

theorem scr0 (j : Fin 1) (a : Fin 1024) (b : Fin 512) : (scr m d j 0 (ix2 a b) : EReal) = 0 + part m d j 0 a b := by
  have h0 : (pt j 0).val % 4 = 0 := by show (4 * j.val + 0) % 4 = 0; omega
  have h1 : ¬ (pt j 0).val % 4 = 3 := by omega
  unfold scr
  rw [outsAt0_A m d (pt j 0) h0 h1]
  dsimp only
  rw [first_eq, pay2_at, pay1_at, part_eq]

theorem prev (j : Fin 1) (n : ℕ) (hn : n + 1 < 4) (h : (pt j ⟨n + 1, hn⟩).val - 1 < cfg0.N) :
    outsAt0 m d ((pt j ⟨n + 1, hn⟩).val - 1) h = outsAt0 m d (pt j ⟨n, by omega⟩).val (pt j ⟨n, by omega⟩).isLt := by
  congr 1

theorem scrS (j : Fin 1) (n : ℕ) (hn : n + 1 < 3) (a : Fin 1024) (b : Fin 512) :
    (scr m d j ⟨n + 1, by omega⟩ (ix2 a b) : EReal) = scr m d j ⟨n, by omega⟩ (ix2 a b) + part m d j ⟨n + 1, by omega⟩ a b := by
  have h0 : ¬ (pt j ⟨n + 1, by omega⟩).val % 4 = 0 := by show ¬ (4 * j.val + (n + 1)) % 4 = 0; omega
  have h1 : ¬ (pt j ⟨n + 1, by omega⟩).val % 4 = 3 := by show ¬ (4 * j.val + (n + 1)) % 4 = 3; omega
  unfold scr
  rw [outsAt0_B m d (pt j ⟨n + 1, by omega⟩) h0 h1]
  dsimp only
  rw [mid_eq, pay2_at, part_eq, prev]

/-- The scratch after a point: the products of the run so far. -/
theorem scr_sum (j : Fin 1) (n : ℕ) (hn : n < 3) (a : Fin 1024) (b : Fin 512) :
    (scr m d j ⟨n, by omega⟩ (ix2 a b) : EReal) = ∑ k : Fin (n + 1), part m d j ⟨k.val, by omega⟩ a b := by
  induction n with
  | zero => exact (scr0 m d j a b).trans (by rw [zero_add, Fin.sum_univ_one]; rfl)
  | succ n ih => rw [scrS m d j n hn, ih (by omega)]; exact (Fin.sum_univ_castSucc (fun k : Fin (n + 1 + 1) => part m d j ⟨k.val, by omega⟩ a b)).symm

theorem out_eq (j : Fin 1) (a : Fin 1024) (b : Fin 512) :
    ((outsAt0 m d (pt j 3).val (pt j 3).isLt).1 (ix2 a b) : EReal) = scr m d j 2 (ix2 a b) + part m d j 3 a b := by
  have h0 : ¬ (pt j 3).val % 4 = 0 := by show ¬ (4 * j.val + 3) % 4 = 0; omega
  have h1 : (pt j 3).val % 4 = 3 := by show (4 * j.val + 3) % 4 = 3; omega
  rw [outsAt0_C m d (pt j 3) h0 h1]
  dsimp only
  rw [last_eq, pay2_at, part_eq]
  rw [show (3 : Fin 4) = ⟨2 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the tokens. -/
theorem result (j : Fin 1) (a : Fin 1024) (b : Fin 512) :
    (G2 m d (ix2 a (col j b)) : EReal) = ∑ i : Fin 8192, (act m d (ix2 i a) : EReal) * ct m d (ix2 i (col j b)) := by
  have ep : pt2Of (ix2 a (col j b)) = (pt j 3).val := by
    show 4 * (1 * (a.val / 1024 - 0) + 1 * ((j.val * 512 + b.val) / 512 - 0)) + 3 = 4 * j.val + 3
    omega
  have el : loc2Of (ix2 a (col j b)) = ix2 a b := by
    funext x
    apply Fin.ext
    match x with
    | ⟨0, _⟩ => show a.val % 1024 = a.val; omega
    | ⟨1, _⟩ => show (j.val * 512 + b.val) % 512 = b.val; omega
  have hp : pt2Of (ix2 a (col j b)) < cfg0.N := ep ▸ (pt j 3).isLt
  have e : G2 m d (ix2 a (col j b)) = (outsAt0 m d (pt j 3).val (pt j 3).isLt).1 (ix2 a b) := by
    unfold G2
    rw [dif_pos hp, ← outsAt0_sweep m d _ hp, el, outs_congr m d _ _ hp (pt j 3).isLt ep]
  rw [e, out_eq, Cert.Math.sum_blocks 4 2048 8192 rfl, Fin.sum_univ_castSucc]
  exact congrArg (fun s : EReal => s + part m d j 3 a b) (scr_sum m d j 2 (by omega) a b)

end Cert.Kernel12Ideal.Plain

namespace Cert.Proof

open Idealize.ShloMosaic Idealize.ShloMosaic.TcCoe Idealize.SL.Sem

theorem frame_reference12 : quiescent_Reference12Ideal := fun m ρ _ =>
  (θ_run Reference12Ideal.defs _ _).mono (fun r h => ⟨fun c => (h c).2, sem_eq_zero_of_no_sems (by decide) r.2⟩)
    (Reference12Ideal.Value.run (F := Ideal) m ρ)

theorem ref12_at (x : Vec Ideal Reference12Ideal.S8192x1024 .f32) (y : Vec Ideal Reference12Ideal.S8192x512 .f32) (a : Fin 1024) (e : Fin 512) :
    (transpose Reference12Ideal.S1024x512 [1, 0] (Host.dotGeneral (F := Ideal) (φ₁ := .f32) (φ₂ := .f32)
      Reference12Ideal.dot_S8192x512_S8192x1024_S512x1024_0_0_1_1_n_n none y x) Reference12Ideal.Gen.transposes_S512x1024_S1024x512_1_0 (ix2 a e) : EReal)
      = ∑ i : Fin 8192, (y (ix2 i e) : EReal) * x (ix2 i a) := by
  pointwise

theorem same12 : algebraic_Kernel12Ideal_Reference12Ideal := by
  intro m ρ m' ρ' _ hagree
  refine ⟨_, Kernel12Ideal.Value.run (F := Ideal) m ρ, ?_⟩
  refine (θ_run Reference12Ideal.defs _ _).mono (fun _ h c => ⟨?_, (h c).2⟩) (Reference12Ideal.Value.run (F := Ideal) m' ρ')
  rw [(h c).1]
  funext i
  obtain ⟨j, a, b, rfl⟩ : ∃ (j : Fin 1) (a : Fin 1024) (b : Fin 512), i = ix2 a (Kernel12Ideal.Plain.col j b) := by
    have hi : (i 1).val < 512 := (i 1).isLt
    exact ⟨⟨(i 1).val / 512, by omega⟩, i 0, ⟨(i 1).val % 512, by omega⟩, Plain.ix2_of _ _ _ rfl
      (show (i 1).val = (i 1).val / 512 * 512 + (i 1).val % 512 by omega)⟩
  refine (ref12_at _ _ a _).trans ?_
  refine Eq.trans ?_ (Kernel12Ideal.Plain.result m c j a b).symm
  refine Finset.sum_congr rfl fun i _ => ?_
  rw [mul_comm]
  exact congrArg₂ (fun u v : EReal => u * v) (congrFun (hagree c).1 _) (congrFun (hagree c).2.2 _)

end Cert.Proof

end
-- ==== Proof.Mm11.lean ====
module

public import proofs.«01_k».proof.Defs
public import proofs.«01_k».proof.Proof.Plain
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit

/-! # The gradient of the convolution module's second product in its activations -/

@[expose] public section

set_option maxRecDepth 16384

noncomputable section

namespace Cert.Kernel11Ideal.Plain

open Gen Value Cert.Plain
open Idealize.ShloMosaic Idealize.ShloMosaic.TcCoe
open scoped BigOperators

theorem out_eq (x : Vec Ideal S1024x1024 .bf16) (w : Vec Ideal S1024x1024 .bf16) : out0_2 x w = k0_pay1 x w := by
  unfold out0_2
  rw [View.canon_unit_zero hz, View.ld_unit_zero (S := S1024x1024) hz, View.ld_unit_zero (S := S1024x1024) hz]

theorem pay_at (x : Vec Ideal S1024x1024 .bf16) (w : Vec Ideal S1024x1024 .bf16) (r : Fin 1024) (b : Fin 1024) :
    (k0_pay1 x w (ix2 r b) : EReal) = ∑ k : Fin 1024, (x (ix2 r k) : EReal) * w (ix2 b k) := by
  refine Eq.trans (b := 0 + ∑ k : Fin 1024, (x (ix2 r k) : EReal) * w (ix2 b k)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

variable (m : (ℓ : Loc nD τ sig) → Buf (Elt Ideal) ℓ) (d : Dev nD)

/-- The two arrays the call multiplies, as launched. -/
abbrev lhs : Vec Ideal S8192x1024 .f32 := m ((d.tc : Thread nD τ).loc main_arg2)
abbrev rhs : Vec Ideal S1024x1024 .f32 := m ((d.tc : Thread nD τ).loc main_arg1)

theorem V_lhs : V m d main_v0 = truncf (F := Ideal) .bf16 (lhs m d) bitsLt_bf16_f32 := by
  show StableHlo.after _ _ _ = _
  after_results_simp

theorem V_rhs : V m d main_v1 = truncf (F := Ideal) .bf16 (rhs m d) bitsLt_bf16_f32 := by
  show StableHlo.after _ _ _ = _
  after_results_simp

/-- The product at an index. -/
def prod (i : Fin 8192) (b : Fin 1024) : EReal := ∑ k : Fin 1024, (lhs m d (ix2 i k) : EReal) * rhs m d (ix2 b k)

/-- The two blocks a point reads. -/
abbrev blk0 (t : Fin cfg0.N) : Vec Ideal S1024x1024 .bf16 := iblk m d 0 t
abbrev blk1 (t : Fin cfg0.N) : Vec Ideal S1024x1024 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 1024) :
    blk0 m d t (ix2 r k) = (V m d main_v0 : Vec Ideal S8192x1024 .bf16) (ix2 (row t r) k) := by
  blk_ext [iblk, idx0 t] <;> rfl

theorem in1 (t : Fin cfg0.N) (k : Fin 1024) (b : Fin 1024) :
    blk1 m d t (ix2 b k) = (V m d main_v1 : Vec Ideal S1024x1024 .bf16) (ix2 b k) := by
  blk_ext [iblk, idx1 t] <;> rfl

theorem prod_eq (t : Fin cfg0.N) (r : Fin 1024) (b : Fin 1024) :
    (k0_pay1 (blk0 m d t) (blk1 m d t) (ix2 r b) : EReal) = prod m d (row t r) b := by
  rw [pay_at]
  refine Finset.sum_congr rfl fun x _ => ?_
  rw [in0, in1, V_lhs, V_rhs]
  rfl

/-- The call's result. -/
def res : FVec Ideal S8192x1024 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel11Ideal.Plain

namespace Cert.Proof

open Idealize.ShloMosaic Idealize.ShloMosaic.TcCoe Idealize.SL.Sem

theorem frame_reference11 : quiescent_Reference11Ideal := fun m ρ _ =>
  (θ_run Reference11Ideal.defs _ _).mono (fun r h => ⟨fun c => (h c).2, sem_eq_zero_of_no_sems (by decide) r.2⟩)
    (Reference11Ideal.Value.run (F := Ideal) m ρ)

theorem ref11_at (x : Vec Ideal Reference11Ideal.S8192x1024 .f32) (w : Vec Ideal Reference11Ideal.S1024x1024 .f32) (i : Fin 8192) (b : Fin 1024) :
    (Host.dotGeneral (F := Ideal) (φ₁ := .f32) (φ₂ := .f32) Reference11Ideal.dot_S8192x1024_S1024x1024_S8192x1024_1_1_0_0_n_n none x w (ix2 i b) : EReal)
      = ∑ k : Fin 1024, (x (ix2 i k) : EReal) * w (ix2 b k) := by
  pointwise

theorem same11 : algebraic_Kernel11Ideal_Reference11Ideal := by
  intro m ρ m' ρ' _ hagree
  refine ⟨fun c => Kernel11Ideal.Plain.res m c, ?_, ?_⟩
  · refine (θ_run Kernel11Ideal.defs _ _).mono (fun _ h c => ?_) (Kernel11Ideal.Value.run_blocks (F := Ideal) m ρ)
    exact ⟨(h c).1.trans (Kernel11Ideal.Plain.final m c), (h c).2⟩
  · refine (θ_run Reference11Ideal.defs _ _).mono (fun _ h c => ⟨?_, (h c).2⟩) (Reference11Ideal.Value.run (F := Ideal) m' ρ')
    rw [(h c).1, (hagree c).2.1, (hagree c).2.2]
    funext y
    rw [Plain.eta y]
    exact ref11_at _ _ (y 0) (y 1)

end Cert.Proof

end
-- ==== Proof.Mm10.lean ====
module

public import proofs.«01_k».proof.Defs
public import proofs.«01_k».proof.Proof.Plain
public import proofs.«01_k».proof.Proof.Blocks
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit

/-! # The gradient of the convolution module's second weight -/

@[expose] public section

set_option maxRecDepth 16384

noncomputable section

namespace Cert.Kernel10Ideal.Plain

open Gen Value Cert.Plain
open Idealize.ShloMosaic Idealize.ShloMosaic.TcCoe
open scoped BigOperators

section
variable {F : FTy → Type} [FloatOps F]
variable (d : Dev nD) (i : grid0.Coords) (M1 : Memref sig .tc .vmem S2048x1024 .bf16) (h1 : M1.IsWhole)
  (M2 : Memref sig .tc .vmem S2048x1024 .bf16) (h2 : M2.IsWhole) (M3 : Memref sig .tc .vmem S1024x1024 .f32) (h3 : M3.IsWhole)
  (M4 : Memref sig .tc .vmem S1024x1024 .f32) (h4 : M4.IsWhole)
  (x0 : Vec F S2048x1024 .bf16) (x1 : Vec F S2048x1024 .bf16) (xs : Vec F S1024x1024 .f32)

/-- The first point of a run leaves its product on top of zero. -/
theorem first_eq (hc0 : cond0_0 i) (hc1 : ¬cond0_1 i) :
    sout0_A_0 d i M1 h1 M2 h2 M3 h3 M4 h4 hc0 hc1 x0 x1 = k0_pay2 x0 x1 k0_pay1 := by
  unfold sout0_A_0
  rw [View.read_writes_eq_canon _ _ _ (scover0_A_0 d i M1 h1 M2 h2 M3 h3 M4 h4 hc0 hc1 x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, View.ld_unit_zero (S := S2048x1024) hz]

/-- A point between adds its product to what the point before left. -/
theorem mid_eq (hc0 : ¬cond0_0 i) (hc1 : ¬cond0_1 i) :
    sout0_B_0 d i M1 h1 M2 h2 M3 h3 M4 h4 hc0 hc1 x0 x1 xs = k0_pay2 x0 x1 xs := by
  unfold sout0_B_0
  rw [View.read_writes_eq_canon _ _ _ (scover0_B_0 d i M1 h1 M2 h2 M3 h3 M4 h4 hc0 hc1 x0 x1 xs)]
  unfold kernelRun0_B
  dsimp only
  rw [View.canon_unit_zero hz]
  simp only [View.readAt_eq_ld, h1.read_unread, h2.read_unread, h4.read_unread, View.ld_unit_zero (S := S2048x1024) hz, View.ld_unit_zero (S := S1024x1024) hz]

/-- The last point of a run writes the sum back. -/
theorem last_eq (hc0 : ¬cond0_0 i) (hc1 : cond0_1 i) :
    out0_C_2 d i M1 h1 M2 h2 M3 h3 M4 h4 hc0 hc1 x0 x1 xs = k0_pay2 x0 x1 xs := by
  unfold out0_C_2
  rw [View.read_writes_eq_canon _ _ _ (cover0_C_2 d i M1 h1 M2 h2 M3 h3 M4 h4 hc0 hc1 x0 x1 xs)]
  unfold kernelRun0_C
  dsimp only
  sl_unfold_words
  rw [View.canon_unit_zero hz, View.readCov_unit_zero (S := S1024x1024) _ hz]
  simp only [View.readAt_eq_ld, h1.read_unread, h2.read_unread, h4.read_unread, View.ld_unit_zero (S := S2048x1024) hz, View.ld_unit_zero (S := S1024x1024) hz]
end

theorem pay2_at (acc : Vec Ideal S1024x1024 .f32) (x : Vec Ideal S2048x1024 .bf16) (y : Vec Ideal S2048x1024 .bf16) (a : Fin 1024) (b : Fin 1024) :
    (k0_pay2 x y acc (ix2 a b) : EReal) = acc (ix2 a b) + ∑ r : Fin 2048, (x (ix2 r a) : EReal) * y (ix2 r b) := by
  pointwise [k0_pay2]

theorem pay1_at (a : Fin 1024) (b : Fin 1024) : (k0_pay1 (F := Ideal) (ix2 a b) : EReal) = 0 := by
  pointwise [k0_pay1]

theorem idx0 : ∀ t : Fin cfg0.N, win0_0.index t = ![t.val % 4, 0] :=
  (by decide +kernel : ∀ t : Fin grid0.N, _)
theorem idx1 : ∀ t : Fin cfg0.N, win0_1.index t = ![t.val % 4, t.val / 4] :=
  (by decide +kernel : ∀ t : Fin grid0.N, _)

variable (m : (ℓ : Loc nD τ sig) → Buf (Elt Ideal) ℓ) (d : Dev nD)

/-- The two arrays the call multiplies, as launched. -/
abbrev act : Vec Ideal S8192x1024 .f32 := m ((d.tc : Thread nD τ).loc main_arg0)
abbrev ct : Vec Ideal S8192x1024 .f32 := m ((d.tc : Thread nD τ).loc main_arg2)

/-- The point that takes row block `k` and column block `j`. -/
abbrev pt (j : Fin 1) (k : Fin 4) : Fin cfg0.N := ⟨4 * j.val + k.val, lt_of_lt_of_eq (by omega) N_0.symm⟩
abbrev row (k : Fin 4) (r : Fin 2048) : Fin 8192 := ⟨k.val * 2048 + r.val, by omega⟩
abbrev col (j : Fin 1) (b : Fin 1024) : Fin 1024 := ⟨j.val * 1024 + b.val, by omega⟩

theorem V_act : V m d main_v0 = truncf (F := Ideal) .bf16 (act m d) bitsLt_bf16_f32 := by
  show StableHlo.after _ _ _ = _
  after_results_simp

theorem V_ct : V m d main_v1 = truncf (F := Ideal) .bf16 (ct m d) bitsLt_bf16_f32 := by
  show StableHlo.after _ _ _ = _
  after_results_simp

/-- The two blocks a point reads. -/
abbrev blk0 (t : Fin cfg0.N) : Vec Ideal S2048x1024 .bf16 := iblk m d 0 t
abbrev blk1 (t : Fin cfg0.N) : Vec Ideal S2048x1024 .bf16 := iblk m d 1 t

theorem in0 (j : Fin 1) (k : Fin 4) (r : Fin 2048) (a : Fin 1024) : blk0 m d (pt j k) (ix2 r a)
    = (V m d main_v0 : Vec Ideal S8192x1024 .bf16) (ix2 (row k r) a) := by
  have e : (4 * j.val + k.val) % 4 = k.val := by omega
  blk_ext [iblk, idx0 (pt j k), e] <;> rfl

theorem in1 (j : Fin 1) (k : Fin 4) (r : Fin 2048) (b : Fin 1024) : blk1 m d (pt j k) (ix2 r b)
    = (V m d main_v1 : Vec Ideal S8192x1024 .bf16) (ix2 (row k r) (col j b)) := by
  have e : (4 * j.val + k.val) % 4 = k.val := by omega
  have e1 : (4 * j.val + k.val) / 4 = j.val := by omega
  blk_ext [iblk, idx1 (pt j k), e, e1] <;> rfl

/-- What the point's product is, at an index. -/
def part (j : Fin 1) (k : Fin 4) (a : Fin 1024) (b : Fin 1024) : EReal :=
  ∑ r : Fin 2048, (act m d (ix2 (row k r) a) : EReal) * ct m d (ix2 (row k r) (col j b))

theorem part_eq (j : Fin 1) (k : Fin 4) (a : Fin 1024) (b : Fin 1024) :
    (∑ r : Fin 2048, (blk0 m d (pt j k) (ix2 r a) : EReal) * blk1 m d (pt j k) (ix2 r b)) = part m d j k a b := by
  refine Finset.sum_congr rfl fun r _ => ?_
  rw [in0, in1, V_act, V_ct]
  rfl

/-- The scratch after the point. -/
abbrev scr (j : Fin 1) (k : Fin 4) : Vec Ideal S1024x1024 .f32 := (outsAt0 m d (pt j k).val (pt j k).isLt).2

theorem scr0 (j : Fin 1) (a : Fin 1024) (b : Fin 1024) : (scr m d j 0 (ix2 a b) : EReal) = 0 + part m d j 0 a b := by
  have h0 : (pt j 0).val % 4 = 0 := by show (4 * j.val + 0) % 4 = 0; omega
  have h1 : ¬ (pt j 0).val % 4 = 3 := by omega
  unfold scr
  rw [outsAt0_A m d (pt j 0) h0 h1]
  dsimp only
  rw [first_eq, pay2_at, pay1_at, part_eq]

theorem prev (j : Fin 1) (n : ℕ) (hn : n + 1 < 4) (h : (pt j ⟨n + 1, hn⟩).val - 1 < cfg0.N) :
    outsAt0 m d ((pt j ⟨n + 1, hn⟩).val - 1) h = outsAt0 m d (pt j ⟨n, by omega⟩).val (pt j ⟨n, by omega⟩).isLt := by
  congr 1

theorem scrS (j : Fin 1) (n : ℕ) (hn : n + 1 < 3) (a : Fin 1024) (b : Fin 1024) :
    (scr m d j ⟨n + 1, by omega⟩ (ix2 a b) : EReal) = scr m d j ⟨n, by omega⟩ (ix2 a b) + part m d j ⟨n + 1, by omega⟩ a b := by
  have h0 : ¬ (pt j ⟨n + 1, by omega⟩).val % 4 = 0 := by show ¬ (4 * j.val + (n + 1)) % 4 = 0; omega
  have h1 : ¬ (pt j ⟨n + 1, by omega⟩).val % 4 = 3 := by show ¬ (4 * j.val + (n + 1)) % 4 = 3; omega
  unfold scr
  rw [outsAt0_B m d (pt j ⟨n + 1, by omega⟩) h0 h1]
  dsimp only
  rw [mid_eq, pay2_at, part_eq, prev]

/-- The scratch after a point: the products of the run so far. -/
theorem scr_sum (j : Fin 1) (n : ℕ) (hn : n < 3) (a : Fin 1024) (b : Fin 1024) :
    (scr m d j ⟨n, by omega⟩ (ix2 a b) : EReal) = ∑ k : Fin (n + 1), part m d j ⟨k.val, by omega⟩ a b := by
  induction n with
  | zero => exact (scr0 m d j a b).trans (by rw [zero_add, Fin.sum_univ_one]; rfl)
  | succ n ih => rw [scrS m d j n hn, ih (by omega)]; exact (Fin.sum_univ_castSucc (fun k : Fin (n + 1 + 1) => part m d j ⟨k.val, by omega⟩ a b)).symm

theorem out_eq (j : Fin 1) (a : Fin 1024) (b : Fin 1024) :
    ((outsAt0 m d (pt j 3).val (pt j 3).isLt).1 (ix2 a b) : EReal) = scr m d j 2 (ix2 a b) + part m d j 3 a b := by
  have h0 : ¬ (pt j 3).val % 4 = 0 := by show ¬ (4 * j.val + 3) % 4 = 0; omega
  have h1 : (pt j 3).val % 4 = 3 := by show (4 * j.val + 3) % 4 = 3; omega
  rw [outsAt0_C m d (pt j 3) h0 h1]
  dsimp only
  rw [last_eq, pay2_at, part_eq]
  rw [show (3 : Fin 4) = ⟨2 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the tokens. -/
theorem result (j : Fin 1) (a : Fin 1024) (b : Fin 1024) :
    (G2 m d (ix2 a (col j b)) : EReal) = ∑ i : Fin 8192, (act m d (ix2 i a) : EReal) * ct m d (ix2 i (col j b)) := by
  have ep : pt2Of (ix2 a (col j b)) = (pt j 3).val := by
    show 4 * (1 * (a.val / 1024 - 0) + 1 * ((j.val * 1024 + b.val) / 1024 - 0)) + 3 = 4 * j.val + 3
    omega
  have el : loc2Of (ix2 a (col j b)) = ix2 a b := by
    funext x
    apply Fin.ext
    match x with
    | ⟨0, _⟩ => show a.val % 1024 = a.val; omega
    | ⟨1, _⟩ => show (j.val * 1024 + b.val) % 1024 = b.val; omega
  have hp : pt2Of (ix2 a (col j b)) < cfg0.N := ep ▸ (pt j 3).isLt
  have e : G2 m d (ix2 a (col j b)) = (outsAt0 m d (pt j 3).val (pt j 3).isLt).1 (ix2 a b) := by
    unfold G2
    rw [dif_pos hp, ← outsAt0_sweep m d _ hp, el, outs_congr m d _ _ hp (pt j 3).isLt ep]
  rw [e, out_eq, Cert.Math.sum_blocks 4 2048 8192 rfl, Fin.sum_univ_castSucc]
  exact congrArg (fun s : EReal => s + part m d j 3 a b) (scr_sum m d j 2 (by omega) a b)

end Cert.Kernel10Ideal.Plain

namespace Cert.Proof

open Idealize.ShloMosaic Idealize.ShloMosaic.TcCoe Idealize.SL.Sem

theorem frame_reference10 : quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

theorem ref10_at (x : Vec Ideal Reference10Ideal.S8192x1024 .f32) (y : Vec Ideal Reference10Ideal.S8192x1024 .f32) (a : Fin 1024) (e : Fin 1024) :
    (transpose Reference10Ideal.S1024x1024 [1, 0] (Host.dotGeneral (F := Ideal) (φ₁ := .f32) (φ₂ := .f32)
      Reference10Ideal.dot_S8192x1024_S8192x1024_S1024x1024_0_0_1_1_n_n none y x) Reference10Ideal.Gen.transposes_S1024x1024_S1024x1024_1_0 (ix2 a e) : EReal)
      = ∑ i : Fin 8192, (y (ix2 i e) : EReal) * x (ix2 i a) := by
  pointwise

theorem same10 : algebraic_Kernel10Ideal_Reference10Ideal := by
  intro m ρ m' ρ' _ hagree
  refine ⟨_, Kernel10Ideal.Value.run (F := Ideal) m ρ, ?_⟩
  refine (θ_run Reference10Ideal.defs _ _).mono (fun _ h c => ⟨?_, (h c).2⟩) (Reference10Ideal.Value.run (F := Ideal) m' ρ')
  rw [(h c).1]
  funext i
  obtain ⟨j, a, b, rfl⟩ : ∃ (j : Fin 1) (a : Fin 1024) (b : Fin 1024), i = ix2 a (Kernel10Ideal.Plain.col j b) := by
    have hi : (i 1).val < 1024 := (i 1).isLt
    exact ⟨⟨(i 1).val / 1024, by omega⟩, i 0, ⟨(i 1).val % 1024, by omega⟩, Plain.ix2_of _ _ _ rfl
      (show (i 1).val = (i 1).val / 1024 * 1024 + (i 1).val % 1024 by omega)⟩
  refine (ref10_at _ _ a _).trans ?_
  refine Eq.trans ?_ (Kernel10Ideal.Plain.result m c j a b).symm
  refine Finset.sum_congr rfl fun i _ => ?_
  rw [mul_comm]
  exact congrArg₂ (fun u v : EReal => u * v) (congrFun (hagree c).1 _) (congrFun (hagree c).2.2 _)

end Cert.Proof

end
-- ==== Proof.Mm9.lean ====
module

public import proofs.«01_k».proof.Defs
public import proofs.«01_k».proof.Proof.Plain
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit

/-! # The gradient of the convolution module's first product in its activations -/

@[expose] public section

set_option maxRecDepth 16384

noncomputable section

namespace Cert.Kernel9Ideal.Plain

open Gen Value Cert.Plain
open Idealize.ShloMosaic Idealize.ShloMosaic.TcCoe
open scoped BigOperators

theorem out_eq (x : Vec Ideal S1024x2048 .bf16) (w : Vec Ideal S1024x2048 .bf16) : out0_2 x w = k0_pay1 x w := by
  unfold out0_2
  rw [View.canon_unit_zero hz, View.ld_unit_zero (S := S1024x2048) hz, View.ld_unit_zero (S := S1024x2048) hz]

theorem pay_at (x : Vec Ideal S1024x2048 .bf16) (w : Vec Ideal S1024x2048 .bf16) (r : Fin 1024) (b : Fin 1024) :
    (k0_pay1 x w (ix2 r b) : EReal) = ∑ k : Fin 2048, (x (ix2 r k) : EReal) * w (ix2 b k) := by
  refine Eq.trans (b := 0 + ∑ k : Fin 2048, (x (ix2 r k) : EReal) * w (ix2 b k)) ?_ (zero_add _)
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

variable (m : (ℓ : Loc nD τ sig) → Buf (Elt Ideal) ℓ) (d : Dev nD)

/-- The two arrays the call multiplies, as launched. -/
abbrev lhs : Vec Ideal S8192x2048 .f32 := m ((d.tc : Thread nD τ).loc main_arg2)
abbrev rhs : Vec Ideal S1024x2048 .f32 := m ((d.tc : Thread nD τ).loc main_arg1)

theorem V_lhs : V m d main_v0 = truncf (F := Ideal) .bf16 (lhs m d) bitsLt_bf16_f32 := by
  show StableHlo.after _ _ _ = _
  after_results_simp

theorem V_rhs : V m d main_v1 = truncf (F := Ideal) .bf16 (rhs m d) bitsLt_bf16_f32 := by
  show StableHlo.after _ _ _ = _
  after_results_simp

/-- The product at an index. -/
def prod (i : Fin 8192) (b : Fin 1024) : EReal := ∑ k : Fin 2048, (lhs m d (ix2 i k) : EReal) * rhs m d (ix2 b k)

/-- The two blocks a point reads. -/
abbrev blk0 (t : Fin cfg0.N) : Vec Ideal S1024x2048 .bf16 := iblk m d 0 t
abbrev blk1 (t : Fin cfg0.N) : Vec Ideal S1024x2048 .bf16 := iblk m d 1 t

theorem lt_N (t : Fin cfg0.N) : t.val < 8 := lt_of_lt_of_eq t.isLt N_0

/-- The row of the arrays at a point's row. -/
abbrev row (t : Fin cfg0.N) (r : Fin 1024) : Fin 8192 := ⟨t.val * 1024 + r.val, by have := lt_N t; omega⟩

theorem in0 (t : Fin cfg0.N) (r : Fin 1024) (k : Fin 2048) :
    blk0 m d t (ix2 r k) = (V m d main_v0 : Vec Ideal S8192x2048 .bf16) (ix2 (row t r) k) := by
  blk_ext [iblk, idx0 t] <;> rfl

theorem in1 (t : Fin cfg0.N) (k : Fin 2048) (b : Fin 1024) :
    blk1 m d t (ix2 b k) = (V m d main_v1 : Vec Ideal S1024x2048 .bf16) (ix2 b k) := by
  blk_ext [iblk, idx1 t] <;> rfl

theorem prod_eq (t : Fin cfg0.N) (r : Fin 1024) (b : Fin 1024) :
    (k0_pay1 (blk0 m d t) (blk1 m d t) (ix2 r b) : EReal) = prod m d (row t r) b := by
  rw [pay_at]
  refine Finset.sum_congr rfl fun x _ => ?_
  rw [in0, in1, V_lhs, V_rhs]
  rfl

/-- The call's result. -/
def res : FVec Ideal S8192x1024 .f32 := fun i => prod m d (i 0) (i 1)

theorem final : (dats m 0 d).arrAt 2 cfg0.N = res m d := by
  refine (dats m 0 d).arrAt_eq_of_covers 2 _ (by decide +kernel) fun t _ y => ?_
  blk_simp
  rw [after0_2, out_eq]
  refine (congrArg (k0_pay1 (blk0 m d t) (blk1 m d t)) (eta y)).trans ((prod_eq m d t (y 0) (y 1)).trans
    (congrArg (res m d) (ix2_of _ (row t (y 0)) (y 1) ?_ ?_)).symm)
  · blk_simp [idx2 t]
  · blk_simp [idx2 t]

end Cert.Kernel9Ideal.Plain

namespace Cert.Proof

open Idealize.ShloMosaic Idealize.ShloMosaic.TcCoe Idealize.SL.Sem

theorem frame_reference9 : quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

theorem ref9_at (x : Vec Ideal Reference9Ideal.S8192x2048 .f32) (w : Vec Ideal Reference9Ideal.S1024x2048 .f32) (i : Fin 8192) (b : Fin 1024) :
    (Host.dotGeneral (F := Ideal) (φ₁ := .f32) (φ₂ := .f32) Reference9Ideal.dot_S8192x2048_S1024x2048_S8192x1024_1_1_0_0_n_n none x w (ix2 i b) : EReal)
      = ∑ k : Fin 2048, (x (ix2 i k) : EReal) * w (ix2 b k) := by
  pointwise

theorem same9 : algebraic_Kernel9Ideal_Reference9Ideal := by
  intro m ρ m' ρ' _ hagree
  refine ⟨fun c => Kernel9Ideal.Plain.res m c, ?_, ?_⟩
  · refine (θ_run Kernel9Ideal.defs _ _).mono (fun _ h c => ?_) (Kernel9Ideal.Value.run_blocks (F := Ideal) m ρ)
    exact ⟨(h c).1.trans (Kernel9Ideal.Plain.final m c), (h c).2⟩
  · refine (θ_run Reference9Ideal.defs _ _).mono (fun _ h c => ⟨?_, (h c).2⟩) (Reference9Ideal.Value.run (F := Ideal) m' ρ')
    rw [(h c).1, (hagree c).2.1, (hagree c).2.2]
    funext y
    rw [Plain.eta y]
    exact ref9_at _ _ (y 0) (y 1)

end Cert.Proof

end
-- ==== Proof.Mm8.lean ====
module

public import proofs.«01_k».proof.Defs
public import proofs.«01_k».proof.Proof.Plain
public import proofs.«01_k».proof.Proof.Blocks
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit

/-! # The gradient of the convolution module's first weight -/

@[expose] public section

set_option maxRecDepth 16384

noncomputable section

namespace Cert.Kernel8Ideal.Plain

open Gen Value Cert.Plain
open Idealize.ShloMosaic Idealize.ShloMosaic.TcCoe
open scoped BigOperators

section
variable {F : FTy → Type} [FloatOps F]
variable (d : Dev nD) (i : grid0.Coords) (M1 : Memref sig .tc .vmem S2048x1024 .bf16) (h1 : M1.IsWhole)
  (M2 : Memref sig .tc .vmem S2048x1024 .bf16) (h2 : M2.IsWhole) (M3 : Memref sig .tc .vmem S1024x1024 .f32) (h3 : M3.IsWhole)
  (M4 : Memref sig .tc .vmem S1024x1024 .f32) (h4 : M4.IsWhole)
  (x0 : Vec F S2048x1024 .bf16) (x1 : Vec F S2048x1024 .bf16) (xs : Vec F S1024x1024 .f32)

/-- The first point of a run leaves its product on top of zero. -/
theorem first_eq (hc0 : cond0_0 i) (hc1 : ¬cond0_1 i) :
    sout0_A_0 d i M1 h1 M2 h2 M3 h3 M4 h4 hc0 hc1 x0 x1 = k0_pay2 x0 x1 k0_pay1 := by
  unfold sout0_A_0
  rw [View.read_writes_eq_canon _ _ _ (scover0_A_0 d i M1 h1 M2 h2 M3 h3 M4 h4 hc0 hc1 x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, View.ld_unit_zero (S := S2048x1024) hz]

/-- A point between adds its product to what the point before left. -/
theorem mid_eq (hc0 : ¬cond0_0 i) (hc1 : ¬cond0_1 i) :
    sout0_B_0 d i M1 h1 M2 h2 M3 h3 M4 h4 hc0 hc1 x0 x1 xs = k0_pay2 x0 x1 xs := by
  unfold sout0_B_0
  rw [View.read_writes_eq_canon _ _ _ (scover0_B_0 d i M1 h1 M2 h2 M3 h3 M4 h4 hc0 hc1 x0 x1 xs)]
  unfold kernelRun0_B
  dsimp only
  rw [View.canon_unit_zero hz]
  simp only [View.readAt_eq_ld, h1.read_unread, h2.read_unread, h4.read_unread, View.ld_unit_zero (S := S2048x1024) hz, View.ld_unit_zero (S := S1024x1024) hz]

/-- The last point of a run writes the sum back. -/
theorem last_eq (hc0 : ¬cond0_0 i) (hc1 : cond0_1 i) :
    out0_C_2 d i M1 h1 M2 h2 M3 h3 M4 h4 hc0 hc1 x0 x1 xs = k0_pay2 x0 x1 xs := by
  unfold out0_C_2
  rw [View.read_writes_eq_canon _ _ _ (cover0_C_2 d i M1 h1 M2 h2 M3 h3 M4 h4 hc0 hc1 x0 x1 xs)]
  unfold kernelRun0_C
  dsimp only
  sl_unfold_words
  rw [View.canon_unit_zero hz, View.readCov_unit_zero (S := S1024x1024) _ hz]
  simp only [View.readAt_eq_ld, h1.read_unread, h2.read_unread, h4.read_unread, View.ld_unit_zero (S := S2048x1024) hz, View.ld_unit_zero (S := S1024x1024) hz]
end

theorem pay2_at (acc : Vec Ideal S1024x1024 .f32) (x : Vec Ideal S2048x1024 .bf16) (y : Vec Ideal S2048x1024 .bf16) (a : Fin 1024) (b : Fin 1024) :
    (k0_pay2 x y acc (ix2 a b) : EReal) = acc (ix2 a b) + ∑ r : Fin 2048, (x (ix2 r a) : EReal) * y (ix2 r b) := by
  pointwise [k0_pay2]

theorem pay1_at (a : Fin 1024) (b : Fin 1024) : (k0_pay1 (F := Ideal) (ix2 a b) : EReal) = 0 := by
  pointwise [k0_pay1]

theorem idx0 : ∀ t : Fin cfg0.N, win0_0.index t = ![t.val % 4, 0] :=
  (by decide +kernel : ∀ t : Fin grid0.N, _)
theorem idx1 : ∀ t : Fin cfg0.N, win0_1.index t = ![t.val % 4, t.val / 4] :=
  (by decide +kernel : ∀ t : Fin grid0.N, _)

variable (m : (ℓ : Loc nD τ sig) → Buf (Elt Ideal) ℓ) (d : Dev nD)

/-- The two arrays the call multiplies, as launched. -/
abbrev act : Vec Ideal S8192x1024 .f32 := m ((d.tc : Thread nD τ).loc main_arg0)
abbrev ct : Vec Ideal S8192x2048 .f32 := m ((d.tc : Thread nD τ).loc main_arg2)

/-- The point that takes row block `k` and column block `j`. -/
abbrev pt (j : Fin 2) (k : Fin 4) : Fin cfg0.N := ⟨4 * j.val + k.val, lt_of_lt_of_eq (by omega) N_0.symm⟩
abbrev row (k : Fin 4) (r : Fin 2048) : Fin 8192 := ⟨k.val * 2048 + r.val, by omega⟩
abbrev col (j : Fin 2) (b : Fin 1024) : Fin 2048 := ⟨j.val * 1024 + b.val, by omega⟩

theorem V_act : V m d main_v0 = truncf (F := Ideal) .bf16 (act m d) bitsLt_bf16_f32 := by
  show StableHlo.after _ _ _ = _
  after_results_simp

theorem V_ct : V m d main_v1 = truncf (F := Ideal) .bf16 (ct m d) bitsLt_bf16_f32 := by
  show StableHlo.after _ _ _ = _
  after_results_simp

/-- The two blocks a point reads. -/
abbrev blk0 (t : Fin cfg0.N) : Vec Ideal S2048x1024 .bf16 := iblk m d 0 t
abbrev blk1 (t : Fin cfg0.N) : Vec Ideal S2048x1024 .bf16 := iblk m d 1 t

theorem in0 (j : Fin 2) (k : Fin 4) (r : Fin 2048) (a : Fin 1024) : blk0 m d (pt j k) (ix2 r a)
    = (V m d main_v0 : Vec Ideal S8192x1024 .bf16) (ix2 (row k r) a) := by
  have e : (4 * j.val + k.val) % 4 = k.val := by omega
  blk_ext [iblk, idx0 (pt j k), e] <;> rfl

theorem in1 (j : Fin 2) (k : Fin 4) (r : Fin 2048) (b : Fin 1024) : blk1 m d (pt j k) (ix2 r b)
    = (V m d main_v1 : Vec Ideal S8192x2048 .bf16) (ix2 (row k r) (col j b)) := by
  have e : (4 * j.val + k.val) % 4 = k.val := by omega
  have e1 : (4 * j.val + k.val) / 4 = j.val := by omega
  blk_ext [iblk, idx1 (pt j k), e, e1] <;> rfl

/-- What the point's product is, at an index. -/
def part (j : Fin 2) (k : Fin 4) (a : Fin 1024) (b : Fin 1024) : EReal :=
  ∑ r : Fin 2048, (act m d (ix2 (row k r) a) : EReal) * ct m d (ix2 (row k r) (col j b))

theorem part_eq (j : Fin 2) (k : Fin 4) (a : Fin 1024) (b : Fin 1024) :
    (∑ r : Fin 2048, (blk0 m d (pt j k) (ix2 r a) : EReal) * blk1 m d (pt j k) (ix2 r b)) = part m d j k a b := by
  refine Finset.sum_congr rfl fun r _ => ?_
  rw [in0, in1, V_act, V_ct]
  rfl

/-- The scratch after the point. -/
abbrev scr (j : Fin 2) (k : Fin 4) : Vec Ideal S1024x1024 .f32 := (outsAt0 m d (pt j k).val (pt j k).isLt).2

theorem scr0 (j : Fin 2) (a : Fin 1024) (b : Fin 1024) : (scr m d j 0 (ix2 a b) : EReal) = 0 + part m d j 0 a b := by
  have h0 : (pt j 0).val % 4 = 0 := by show (4 * j.val + 0) % 4 = 0; omega
  have h1 : ¬ (pt j 0).val % 4 = 3 := by omega
  unfold scr
  rw [outsAt0_A m d (pt j 0) h0 h1]
  dsimp only
  rw [first_eq, pay2_at, pay1_at, part_eq]

theorem prev (j : Fin 2) (n : ℕ) (hn : n + 1 < 4) (h : (pt j ⟨n + 1, hn⟩).val - 1 < cfg0.N) :
    outsAt0 m d ((pt j ⟨n + 1, hn⟩).val - 1) h = outsAt0 m d (pt j ⟨n, by omega⟩).val (pt j ⟨n, by omega⟩).isLt := by
  congr 1

theorem scrS (j : Fin 2) (n : ℕ) (hn : n + 1 < 3) (a : Fin 1024) (b : Fin 1024) :
    (scr m d j ⟨n + 1, by omega⟩ (ix2 a b) : EReal) = scr m d j ⟨n, by omega⟩ (ix2 a b) + part m d j ⟨n + 1, by omega⟩ a b := by
  have h0 : ¬ (pt j ⟨n + 1, by omega⟩).val % 4 = 0 := by show ¬ (4 * j.val + (n + 1)) % 4 = 0; omega
  have h1 : ¬ (pt j ⟨n + 1, by omega⟩).val % 4 = 3 := by show ¬ (4 * j.val + (n + 1)) % 4 = 3; omega
  unfold scr
  rw [outsAt0_B m d (pt j ⟨n + 1, by omega⟩) h0 h1]
  dsimp only
  rw [mid_eq, pay2_at, part_eq, prev]

/-- The scratch after a point: the products of the run so far. -/
theorem scr_sum (j : Fin 2) (n : ℕ) (hn : n < 3) (a : Fin 1024) (b : Fin 1024) :
    (scr m d j ⟨n, by omega⟩ (ix2 a b) : EReal) = ∑ k : Fin (n + 1), part m d j ⟨k.val, by omega⟩ a b := by
  induction n with
  | zero => exact (scr0 m d j a b).trans (by rw [zero_add, Fin.sum_univ_one]; rfl)
  | succ n ih => rw [scrS m d j n hn, ih (by omega)]; exact (Fin.sum_univ_castSucc (fun k : Fin (n + 1 + 1) => part m d j ⟨k.val, by omega⟩ a b)).symm

theorem out_eq (j : Fin 2) (a : Fin 1024) (b : Fin 1024) :
    ((outsAt0 m d (pt j 3).val (pt j 3).isLt).1 (ix2 a b) : EReal) = scr m d j 2 (ix2 a b) + part m d j 3 a b := by
  have h0 : ¬ (pt j 3).val % 4 = 0 := by show ¬ (4 * j.val + 3) % 4 = 0; omega
  have h1 : (pt j 3).val % 4 = 3 := by show (4 * j.val + 3) % 4 = 3; omega
  rw [outsAt0_C m d (pt j 3) h0 h1]
  dsimp only
  rw [last_eq, pay2_at, part_eq]
  rw [show (3 : Fin 4) = ⟨2 + 1, by omega⟩ from rfl, prev]
  rfl

theorem outs_congr (n n' : ℕ) (h : n < cfg0.N) (h' : n' < cfg0.N) (e : n = n') : outsAt0 m d n h = outsAt0 m d n' h' := by
  subst e; rfl

/-- The call's result, at an index: the whole sum over the tokens. -/
theorem result (j : Fin 2) (a : Fin 1024) (b : Fin 1024) :
    (G2 m d (ix2 a (col j b)) : EReal) = ∑ i : Fin 8192, (act m d (ix2 i a) : EReal) * ct m d (ix2 i (col j b)) := by
  have ep : pt2Of (ix2 a (col j b)) = (pt j 3).val := by
    show 4 * (2 * (a.val / 1024 - 0) + 1 * ((j.val * 1024 + b.val) / 1024 - 0)) + 3 = 4 * j.val + 3
    omega
  have el : loc2Of (ix2 a (col j b)) = ix2 a b := by
    funext x
    apply Fin.ext
    match x with
    | ⟨0, _⟩ => show a.val % 1024 = a.val; omega
    | ⟨1, _⟩ => show (j.val * 1024 + b.val) % 1024 = b.val; omega
  have hp : pt2Of (ix2 a (col j b)) < cfg0.N := ep ▸ (pt j 3).isLt
  have e : G2 m d (ix2 a (col j b)) = (outsAt0 m d (pt j 3).val (pt j 3).isLt).1 (ix2 a b) := by
    unfold G2
    rw [dif_pos hp, ← outsAt0_sweep m d _ hp, el, outs_congr m d _ _ hp (pt j 3).isLt ep]
  rw [e, out_eq, Cert.Math.sum_blocks 4 2048 8192 rfl, Fin.sum_univ_castSucc]
  exact congrArg (fun s : EReal => s + part m d j 3 a b) (scr_sum m d j 2 (by omega) a b)

end Cert.Kernel8Ideal.Plain

namespace Cert.Proof

open Idealize.ShloMosaic Idealize.ShloMosaic.TcCoe Idealize.SL.Sem

theorem frame_reference8 : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

theorem ref8_at (x : Vec Ideal Reference8Ideal.S8192x1024 .f32) (y : Vec Ideal Reference8Ideal.S8192x2048 .f32) (a : Fin 1024) (e : Fin 2048) :
    (transpose Reference8Ideal.S1024x2048 [1, 0] (Host.dotGeneral (F := Ideal) (φ₁ := .f32) (φ₂ := .f32)
      Reference8Ideal.dot_S8192x2048_S8192x1024_S2048x1024_0_0_1_1_n_n none y x) Reference8Ideal.Gen.transposes_S2048x1024_S1024x2048_1_0 (ix2 a e) : EReal)
      = ∑ i : Fin 8192, (y (ix2 i e) : EReal) * x (ix2 i a) := by
  pointwise

theorem same8 : algebraic_Kernel8Ideal_Reference8Ideal := by
  intro m ρ m' ρ' _ hagree
  refine ⟨_, Kernel8Ideal.Value.run (F := Ideal) m ρ, ?_⟩
  refine (θ_run Reference8Ideal.defs _ _).mono (fun _ h c => ⟨?_, (h c).2⟩) (Reference8Ideal.Value.run (F := Ideal) m' ρ')
  rw [(h c).1]
  funext i
  obtain ⟨j, a, b, rfl⟩ : ∃ (j : Fin 2) (a : Fin 1024) (b : Fin 1024), i = ix2 a (Kernel8Ideal.Plain.col j b) := by
    have hi : (i 1).val < 2048 := (i 1).isLt
    exact ⟨⟨(i 1).val / 1024, by omega⟩, i 0, ⟨(i 1).val % 1024, by omega⟩, Plain.ix2_of _ _ _ rfl
      (show (i 1).val = (i 1).val / 1024 * 1024 + (i 1).val % 1024 by omega)⟩
  refine (ref8_at _ _ a _).trans ?_
  refine Eq.trans ?_ (Kernel8Ideal.Plain.result m c j a b).symm
  refine Finset.sum_congr rfl fun i _ => ?_
  rw [mul_comm]
  exact congrArg₂ (fun u v : EReal => u * v) (congrFun (hagree c).1 _) (congrFun (hagree c).2.2 _)

end Cert.Proof

end
-- ==== Proof.lean ====
/- The claims: the frames, the idealized kernel's named constants, the attention's three gradients, the
    feed-forward block's four and its two products, and plain products of the convolution module and of the attention. -/
module

public import proofs.«01_k».proof.Defs
public import proofs.«01_k».proof.Proof.Frames
public import proofs.«01_k».proof.Proof.Mm2
public import proofs.«01_k».proof.Proof.Mm3
public import proofs.«01_k».proof.Proof.Mm4
public import proofs.«01_k».proof.Proof.Mm5
public import proofs.«01_k».proof.Proof.Values6
public import proofs.«01_k».proof.Proof.Values7
public import proofs.«01_k».proof.Proof.Values
public import proofs.«01_k».proof.Proof.Mm22
public import proofs.«01_k».proof.Proof.Mm23
public import proofs.«01_k».proof.Proof.Mm24
public import proofs.«01_k».proof.Proof.Mm25
public import proofs.«01_k».proof.Proof.Mm26
public import proofs.«01_k».proof.Proof.Mm27
public import proofs.«01_k».proof.Proof.Mm28
public import proofs.«01_k».proof.Proof.Mm21
public import proofs.«01_k».proof.Proof.Mm20
public import proofs.«01_k».proof.Proof.Mm19
public import proofs.«01_k».proof.Proof.Mm18
public import proofs.«01_k».proof.Proof.Mm17
public import proofs.«01_k».proof.Proof.Mm16
public import proofs.«01_k».proof.Proof.Mm15
public import proofs.«01_k».proof.Proof.Mm14
public import proofs.«01_k».proof.Proof.Mm13
public import proofs.«01_k».proof.Proof.Mm12
public import proofs.«01_k».proof.Proof.Mm11
public import proofs.«01_k».proof.Proof.Mm10
public import proofs.«01_k».proof.Proof.Mm9
public import proofs.«01_k».proof.Proof.Mm8

@[expose] public section

noncomputable section

namespace Cert.Proof

open Idealize.ShloMosaic Idealize.SL.Sem

/-- Everything the statement claims. The frames hold of all arguments, so of finite ones. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts, facts_finite, facts_finite6, facts_finite7,
    frame_kernel, frame_ideal, fun m g _ => frame_ideal m g trivial, frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    frame_kernel6, frame_ideal6, fun m g _ => frame_ideal6 m g trivial, frame_reference6, fun m g _ => frame_reference6 m g trivial,
    frame_kernel7, frame_ideal7, fun m g _ => frame_ideal7 m g trivial, frame_reference7, fun m g _ => frame_reference7 m g trivial,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    fun m g _ => Cert.Kernel11.Gen.frame m g, fun m g _ => Cert.Kernel11Ideal.Gen.frame m g, frame_reference11,
    fun m g _ => Cert.Kernel12.Gen.frame m g, fun m g _ => Cert.Kernel12Ideal.Gen.frame m g, frame_reference12,
    fun m g _ => Cert.Kernel13.Gen.frame m g, fun m g _ => Cert.Kernel13Ideal.Gen.frame m g, frame_reference13,
    fun m g _ => Cert.Kernel14.Gen.frame m g, fun m g _ => Cert.Kernel14Ideal.Gen.frame m g, frame_reference14,
    fun m g _ => Cert.Kernel15.Gen.frame m g, fun m g _ => Cert.Kernel15Ideal.Gen.frame m g, frame_reference15,
    fun m g _ => Cert.Kernel16.Gen.frame m g, fun m g _ => Cert.Kernel16Ideal.Gen.frame m g, frame_reference16,
    fun m g _ => Cert.Kernel17.Gen.frame m g, fun m g _ => Cert.Kernel17Ideal.Gen.frame m g, frame_reference17,
    fun m g _ => Cert.Kernel18.Gen.frame m g, fun m g _ => Cert.Kernel18Ideal.Gen.frame m g, frame_reference18,
    fun m g _ => Cert.Kernel19.Gen.frame m g, fun m g _ => Cert.Kernel19Ideal.Gen.frame m g, frame_reference19,
    fun m g _ => Cert.Kernel20.Gen.frame m g, fun m g _ => Cert.Kernel20Ideal.Gen.frame m g, frame_reference20,
    fun m g _ => Cert.Kernel21.Gen.frame m g, fun m g _ => Cert.Kernel21Ideal.Gen.frame m g, frame_reference21,
    fun m g _ => Cert.Kernel22.Gen.frame m g, fun m g _ => Cert.Kernel22Ideal.Gen.frame m g, frame_reference22,
    fun m g _ => Cert.Kernel23.Gen.frame m g, fun m g _ => Cert.Kernel23Ideal.Gen.frame m g, frame_reference23,
    fun m g _ => Cert.Kernel24.Gen.frame m g, fun m g _ => Cert.Kernel24Ideal.Gen.frame m g, frame_reference24,
    fun m g _ => Cert.Kernel25.Gen.frame m g, fun m g _ => Cert.Kernel25Ideal.Gen.frame m g, frame_reference25,
    fun m g _ => Cert.Kernel26.Gen.frame m g, fun m g _ => Cert.Kernel26Ideal.Gen.frame m g, frame_reference26,
    fun m g _ => Cert.Kernel27.Gen.frame m g, fun m g _ => Cert.Kernel27Ideal.Gen.frame m g, frame_reference27,
    fun m g _ => Cert.Kernel28.Gen.frame m g, fun m g _ => Cert.Kernel28Ideal.Gen.frame m g, frame_reference28,
    preserved, same, trivial, same2, trivial, same3, trivial, same4, trivial, same5, trivial, same6, trivial, same7,
    trivial, same8, trivial, same9, trivial, same10, trivial, same11, trivial, same12, trivial, same13, trivial, same14, trivial, same15, trivial, same16,
    trivial, same17, trivial, same18, trivial, same19, trivial, same20, trivial, same21, trivial, same22,
    trivial, same23, trivial, same24, trivial, same25, trivial, same26, trivial, same27, trivial, same28⟩

end Cert.Proof

end
